-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)) (v4 : (c : Dev Cert.KernelIdeal.nD) → Buf (Elt Ideal) ((c.tc : Thread Cert.KernelIdeal.nD Cert.KernelIdeal.τ).loc Cert.KernelIdeal.main_v4_3)) (v5 : (c : Dev Cert.KernelIdeal.nD) → Buf (Elt Ideal) ((c.tc : Thread Cert.KernelIdeal.nD Cert.KernelIdeal.τ).loc Cert.KernelIdeal.main_v4_4)) (v6 : (c : Dev Cert.KernelIdeal.nD) → Buf (Elt Ideal) ((c.tc : Thread Cert.KernelIdeal.nD Cert.KernelIdeal.τ).loc Cert.KernelIdeal.main_v4_5)) (v7 : (c : Dev Cert.KernelIdeal.nD) → Buf (Elt Ideal) ((c.tc : Thread Cert.KernelIdeal.nD Cert.KernelIdeal.τ).loc Cert.KernelIdeal.main_v4_6)) (v8 : (c : Dev Cert.KernelIdeal.nD) → Buf (Elt Ideal) ((c.tc : Thread Cert.KernelIdeal.nD Cert.KernelIdeal.τ).loc Cert.KernelIdeal.main_v4_7)) (v9 : (c : Dev Cert.KernelIdeal.nD) → Buf (Elt Ideal) ((c.tc : Thread Cert.KernelIdeal.nD Cert.KernelIdeal.τ).loc Cert.KernelIdeal.main_v4_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_v4_3) = v4 c
          ∧ r.2.mem ((c.tc : Thread Cert.KernelIdeal.nD Cert.KernelIdeal.τ).loc Cert.KernelIdeal.main_v4_4) = v5 c
          ∧ r.2.mem ((c.tc : Thread Cert.KernelIdeal.nD Cert.KernelIdeal.τ).loc Cert.KernelIdeal.main_v4_5) = v6 c
          ∧ r.2.mem ((c.tc : Thread Cert.KernelIdeal.nD Cert.KernelIdeal.τ).loc Cert.KernelIdeal.main_v4_6) = v7 c
          ∧ r.2.mem ((c.tc : Thread Cert.KernelIdeal.nD Cert.KernelIdeal.τ).loc Cert.KernelIdeal.main_v4_7) = v8 c
          ∧ r.2.mem ((c.tc : Thread Cert.KernelIdeal.nD Cert.KernelIdeal.τ).loc Cert.KernelIdeal.main_v4_8) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_v95) = v5 c
          ∧ r.2.mem ((c.tc : Thread Cert.ReferenceIdeal.nD Cert.ReferenceIdeal.τ).loc Cert.ReferenceIdeal.main_v93) = v6 c
          ∧ r.2.mem ((c.tc : Thread Cert.ReferenceIdeal.nD Cert.ReferenceIdeal.τ).loc Cert.ReferenceIdeal.main_v90) = v7 c
          ∧ r.2.mem ((c.tc : Thread Cert.ReferenceIdeal.nD Cert.ReferenceIdeal.τ).loc Cert.ReferenceIdeal.main_v81) = v8 c
          ∧ r.2.mem ((c.tc : Thread Cert.ReferenceIdeal.nD Cert.ReferenceIdeal.τ).loc Cert.ReferenceIdeal.main_v101) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_6)) (v7 : (c : Dev Cert.Kernel3Ideal.nD) → Buf (Elt Ideal) ((c.tc : Thread Cert.Kernel3Ideal.nD Cert.Kernel3Ideal.τ).loc Cert.Kernel3Ideal.main_v24_7)) (v8 : (c : Dev Cert.Kernel3Ideal.nD) → Buf (Elt Ideal) ((c.tc : Thread Cert.Kernel3Ideal.nD Cert.Kernel3Ideal.τ).loc Cert.Kernel3Ideal.main_v24_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_6) = v6 c
          ∧ r.2.mem ((c.tc : Thread Cert.Kernel3Ideal.nD Cert.Kernel3Ideal.τ).loc Cert.Kernel3Ideal.main_v24_7) = v7 c
          ∧ r.2.mem ((c.tc : Thread Cert.Kernel3Ideal.nD Cert.Kernel3Ideal.τ).loc Cert.Kernel3Ideal.main_v24_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v83) = v4 c
          ∧ r.2.mem ((c.tc : Thread Cert.Reference3Ideal.nD Cert.Reference3Ideal.τ).loc Cert.Reference3Ideal.main_v84) = v5 c
          ∧ r.2.mem ((c.tc : Thread Cert.Reference3Ideal.nD Cert.Reference3Ideal.τ).loc Cert.Reference3Ideal.main_v85) = v6 c
          ∧ r.2.mem ((c.tc : Thread Cert.Reference3Ideal.nD Cert.Reference3Ideal.τ).loc Cert.Reference3Ideal.main_v86) = v7 c
          ∧ r.2.mem ((c.tc : Thread Cert.Reference3Ideal.nD Cert.Reference3Ideal.τ).loc Cert.Reference3Ideal.main_v87) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v6)) (v4 : (c : Dev Cert.Kernel6Ideal.nD) → Buf (Elt Ideal) ((c.tc : Thread Cert.Kernel6Ideal.nD Cert.Kernel6Ideal.τ).loc Cert.Kernel6Ideal.main_v7)) (v5 : (c : Dev Cert.Kernel6Ideal.nD) → Buf (Elt Ideal) ((c.tc : Thread Cert.Kernel6Ideal.nD Cert.Kernel6Ideal.τ).loc Cert.Kernel6Ideal.main_v8)) (v6 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v6) = v3 c
          ∧ r.2.mem ((c.tc : Thread Cert.Kernel6Ideal.nD Cert.Kernel6Ideal.τ).loc Cert.Kernel6Ideal.main_v7) = v4 c
          ∧ r.2.mem ((c.tc : Thread Cert.Kernel6Ideal.nD Cert.Kernel6Ideal.τ).loc Cert.Kernel6Ideal.main_v8) = v5 c
          ∧ r.2.mem ((c.tc : Thread Cert.Kernel6Ideal.nD Cert.Kernel6Ideal.τ).loc Cert.Kernel6Ideal.main_v10) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v13) = v4 c
          ∧ r.2.mem ((c.tc : Thread Cert.Reference6Ideal.nD Cert.Reference6Ideal.τ).loc Cert.Reference6Ideal.main_v14) = v5 c
          ∧ r.2.mem ((c.tc : Thread Cert.Reference6Ideal.nD Cert.Reference6Ideal.τ).loc Cert.Reference6Ideal.main_v16) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x768 : Shape := ⟨2, ![8192, 768]⟩
abbrev S8192x512 : Shape := ⟨2, ![8192, 512]⟩
abbrev S8 : Shape := ⟨1, ![8]⟩
abbrev S8192x640 : Shape := ⟨2, ![8192, 640]⟩
abbrev S_ : Shape := ⟨0, ![]⟩

class Facts : Prop where
  slices_S8192x768_S8192x640_0_0 : S8192x768.Slices ![0, 0] S8192x640
  bitsLt_bf16_f32 : FTy.bits .bf16 < FTy.bits .f32
  bcast_S_S8192x640 : S_.BroadcastsInDim S8192x640 (![] : Fin 0 → Fin S8192x640.rank)
  bcast_S_S8 : S_.BroadcastsInDim S8 (![] : Fin 0 → Fin S8.rank)

variable [Facts]

def fn {F : FTy → Type} [FloatOps F] (main_arg0 : FVec F S8192x768 .bf16) (main_arg1 : FVec F S8192x512 .bf16) (main_arg2 : FVec F S8 .f32) : IVec S8192x640 1 × IVec S8 1 :=
  let main_v0 : FVec F S8192x640 .bf16 := (extractStridedSlice S8192x640 ![0, 0] · slices_S8192x768_S8192x640_0_0) main_arg0
  let main_v1 : FVec F S8192x640 .f32 := (extf .f32 · bitsLt_bf16_f32) main_v0
  let main_v2 : FVec F S8192x640 .f32 := Host.absf main_v1
  let main_cst : FVec F S_ .f32 := constant S_ .f32 0x7F800000#32
  let main_v3 : FVec F S8192x640 .f32 := broadcastInDim S8192x640 ![] bcast_S_S8192x640 main_cst
  let main_v4 : IVec S8192x640 1 := cmpf .olt main_v2 main_v3
  let main_cst_0 : FVec F S_ .f32 := constant S_ .f32 0x7F800000#32
  let main_v5 : FVec F S8 .f32 := broadcastInDim S8 ![] bcast_S_S8 main_cst_0
  let main_v6 : IVec S8 1 := cmpf .olt main_arg2 main_v5
  (main_v4, main_v6)
-- ==== Kernel.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S16x1024 : Shape := ⟨2, ![16, 1024]⟩
abbrev S8x1024 : Shape := ⟨2, ![8, 1024]⟩
abbrev S16 : Shape := ⟨1, ![16]⟩
abbrev S16x1 : Shape := ⟨2, ![16, 1]⟩
abbrev S_ : Shape := ⟨0, ![]⟩
abbrev S1 : Shape := ⟨1, ![1]⟩
abbrev S1x1 : Shape := ⟨2, ![1, 1]⟩

abbrev nBuf : Space → Nat
  | .hbm => 27
  | .vmem => 38
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S8192x1024, .bf16⟩
  | .hbm, ⟨15, _⟩ => ⟨S8192x512, .bf16⟩
  | .hbm, ⟨16, _⟩ => ⟨S8192x512, .bf16⟩
  | .hbm, ⟨17, _⟩ => ⟨S8192x1024, .bf16⟩
  | .hbm, ⟨18, _⟩ => ⟨S8192x1024, .bf16⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1, .f32⟩
  | .hbm, ⟨26, _⟩ => ⟨S1x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S1024x1024, .f32⟩
  | .local _ .vmem, ⟨29, _⟩ => ⟨S1x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev main_v4_9 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x512 : Shape := ⟨2, ![8192, 512]⟩
abbrev S8192x1024 : Shape := ⟨2, ![8192, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x512 : Shape := ⟨2, ![1024, 512]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S8192x512, .bf16⟩
  | 1 => ⟨S8192x512, .bf16⟩
  | 2 => ⟨S8192x1024, .bf16⟩
  | 3 => ⟨S8192x1024, .bf16⟩
  | 4 => ⟨S8192x1024, .f32⟩
  | 5 => ⟨S8192x1024, .f32⟩
  | 6 => ⟨S512x1024, .f32⟩
  | 7 => ⟨S512x1024, .f32⟩
  | 8 => ⟨S1024x1024, .f32⟩
  | 9 => ⟨S1024, .f32⟩
  | 10 => ⟨S8192x512, .f32⟩
  | 11 => ⟨S8192x512, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S1024x1024, .f32⟩
  | 114 => ⟨S1024x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S1024x512, .f32⟩
  | 123 => ⟨S512x1024, .f32⟩
  | 124 => ⟨S8192x512, .f32⟩
  | 125 => ⟨S1024x512, .f32⟩
  | 126 => ⟨S512x1024, .f32⟩
  | 127 => ⟨S8192x512, .f32⟩
  | _ => ⟨S8192x512, .bf16⟩

abbrev hbmTy0_1 (i : Nat) : BufTy := match i % 128 with
  | 0 => ⟨S8192x1024, .bf16⟩
  | 1 => ⟨S8192x1024, .bf16⟩
  | 2 => ⟨S8192x512, .bf16⟩
  | 3 => ⟨S8192x512, .bf16⟩
  | 4 => ⟨S1x1, .f32⟩
  | 5 => ⟨S8192x1024, .bf16⟩
  | 6 => ⟨S1x1024, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_cst_14 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== Kernel2.lean ====
abbrev S8192x768 : Shape := ⟨2, ![8192, 768]⟩
abbrev S8192x512 : Shape := ⟨2, ![8192, 512]⟩
abbrev S8192x16 : Shape := ⟨2, ![8192, 16]⟩
abbrev S8192x1024 : Shape := ⟨2, ![8192, 1024]⟩
abbrev S1024x4880 : Shape := ⟨2, ![1024, 4880]⟩
abbrev S1x1024 : Shape := ⟨2, ![1, 1024]⟩
abbrev S4880x1024 : Shape := ⟨2, ![4880, 1024]⟩
abbrev S_ : Shape := ⟨0, ![]⟩
abbrev S8192x128 : Shape := ⟨2, ![8192, 128]⟩
abbrev S8x128 : Shape := ⟨2, ![8, 128]⟩
abbrev S512x768 : Shape := ⟨2, ![512, 768]⟩
abbrev S512x512 : Shape := ⟨2, ![512, 512]⟩
abbrev S512x128 : Shape := ⟨2, ![512, 128]⟩
abbrev S512x1024 : Shape := ⟨2, ![512, 1024]⟩
abbrev S768x1024 : Shape := ⟨2, ![768, 1024]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 21
  | .vmem => 25
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x16, .bf16⟩
  | .hbm, ⟨6, _⟩ => ⟨S8192x1024, .bf16⟩
  | .hbm, ⟨7, _⟩ => ⟨S8192x1024, .bf16⟩
  | .hbm, ⟨8, _⟩ => ⟨S1024x4880, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S4880x1024, .f32⟩
  | .hbm, ⟨13, _⟩ => ⟨S4880x1024, .bf16⟩
  | .hbm, ⟨14, _⟩ => ⟨S_, .i32⟩
  | .hbm, ⟨15, _⟩ => ⟨S_, .bf16⟩
  | .hbm, ⟨16, _⟩ => ⟨S8192x128, .bf16⟩
  | .hbm, ⟨17, _⟩ => ⟨S_, .f32⟩
  | .hbm, ⟨18, _⟩ => ⟨S8x128, .f32⟩
  | .hbm, ⟨19, _⟩ => ⟨S8192x1024, .f32⟩
  | .hbm, ⟨20, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S4880x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4880x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x768 : Shape := ⟨2, ![8192, 768]⟩
abbrev S8192x512 : Shape := ⟨2, ![8192, 512]⟩
abbrev S8192x16 : Shape := ⟨2, ![8192, 16]⟩
abbrev S8192x1024 : Shape := ⟨2, ![8192, 1024]⟩
abbrev S1024x4880 : Shape := ⟨2, ![1024, 4880]⟩
abbrev S1x1024 : Shape := ⟨2, ![1, 1024]⟩
abbrev S8192x4880 : Shape := ⟨2, ![8192, 4880]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x16, .bf16⟩
  | .hbm, ⟨6, _⟩ => ⟨S8192x1024, .bf16⟩
  | .hbm, ⟨7, _⟩ => ⟨S8192x1024, .bf16⟩
  | .hbm, ⟨8, _⟩ => ⟨S1024x4880, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S8192x768, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x16, .f32⟩
  | .hbm, ⟨18, _⟩ => ⟨S8192x1024, .f32⟩
  | .hbm, ⟨19, _⟩ => ⟨S8192x1024, .f32⟩
  | .hbm, ⟨20, _⟩ => ⟨S8192x4880, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x4880, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel3.lean ====
abbrev S8192x1024 : Shape := ⟨2, ![8192, 1024]⟩
abbrev S8192 : Shape := ⟨1, ![8192]⟩
abbrev S1x1024 : Shape := ⟨2, ![1, 1024]⟩
abbrev S1024x4880 : Shape := ⟨2, ![1024, 4880]⟩
abbrev S4880x1024 : Shape := ⟨2, ![4880, 1024]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x128 : Shape := ⟨2, ![8192, 128]⟩
abbrev S8x128 : Shape := ⟨2, ![8, 128]⟩
abbrev S8192x768 : Shape := ⟨2, ![8192, 768]⟩
abbrev S8192x512 : Shape := ⟨2, ![8192, 512]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S768x1024 : Shape := ⟨2, ![768, 1024]⟩
abbrev S128x1024 : Shape := ⟨2, ![128, 1024]⟩
abbrev S1024x1024 : Shape := ⟨2, ![1024, 1024]⟩

abbrev nBuf : Space → Nat
  | .hbm => 43
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1x1024, .f32⟩
  | .hbm, ⟨3, _⟩ => ⟨S1024x4880, .f32⟩
  | .hbm, ⟨4, _⟩ => ⟨S4880x1024, .f32⟩
  | .hbm, ⟨5, _⟩ => ⟨S4880x1024, .bf16⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8192, .f32⟩
  | .hbm, ⟨15, _⟩ => ⟨S8192x1, .f32⟩
  | .hbm, ⟨16, _⟩ => ⟨S1x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192x48, .f32⟩
  | .hbm, ⟨24, _⟩ => ⟨S_, .f32⟩
  | .hbm, ⟨25, _⟩ => ⟨S8192x48, .f32⟩
  | .hbm, ⟨26, _⟩ => ⟨S_, .f32⟩
  | .hbm, ⟨27, _⟩ => ⟨S8192x8, .f32⟩
  | .hbm, ⟨28, _⟩ => ⟨S8192x128, .f32⟩
  | .hbm, ⟨29, _⟩ => ⟨S8192x8, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8x128, .f32⟩
  | .hbm, ⟨34, _⟩ => ⟨S8192x1024, .bf16⟩
  | .hbm, ⟨35, _⟩ => ⟨S8192x768, .bf16⟩
  | .hbm, ⟨36, _⟩ => ⟨S8192x512, .bf16⟩
  | .hbm, ⟨37, _⟩ => ⟨S8192x512, .f32⟩
  | .hbm, ⟨38, _⟩ => ⟨S8192x512, .bf16⟩
  | .hbm, ⟨39, _⟩ => ⟨S8192x512, .bf16⟩
  | .hbm, ⟨40, _⟩ => ⟨S8192x128, .bf16⟩
  | .hbm, ⟨41, _⟩ => ⟨S8192x1024, .bf16⟩
  | .hbm, ⟨42, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4880x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x768, .bf16⟩
  | .local _ .vmem, ⟨13, _⟩ => ⟨S512x768, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .bf16⟩
  | .local _ .vmem, ⟨23, _⟩ => ⟨S512x128, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev main_v24_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4880x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x1024 : Shape := ⟨2, ![8192, 1024]⟩
abbrev S8192 : Shape := ⟨1, ![8192]⟩
abbrev S1x1024 : Shape := ⟨2, ![1, 1024]⟩
abbrev S1024x4880 : Shape := ⟨2, ![1024, 4880]⟩
abbrev S_ : Shape := ⟨0, ![]⟩
abbrev S8192x1 : Shape := ⟨2, ![8192, 1]⟩
abbrev S8192x4880 : Shape := ⟨2, ![8192, 4880]⟩
abbrev S8192x512 : Shape := ⟨2, ![8192, 512]⟩
abbrev S8192x128 : Shape := ⟨2, ![8192, 128]⟩
abbrev S8192x16 : Shape := ⟨2, ![8192, 16]⟩
abbrev S8192x112 : Shape := ⟨2, ![8192, 112]⟩
abbrev S8 : Shape := ⟨1, ![8]⟩
abbrev S1x8 : Shape := ⟨2, ![1, 8]⟩
abbrev S8192x8 : Shape := ⟨2, ![8192, 8]⟩
abbrev S8192x8x64 : Shape := ⟨3, ![8192, 8, 64]⟩
abbrev S8192x1x8 : Shape := ⟨3, ![8192, 1, 8]⟩
abbrev S8192x8x16 : Shape := ⟨3, ![8192, 8, 16]⟩
abbrev S8192x8x8 : Shape := ⟨3, ![8192, 8, 8]⟩
abbrev S8192x8x48 : Shape := ⟨3, ![8192, 8, 48]⟩
abbrev S8192x2x64 : Shape := ⟨3, ![8192, 2, 64]⟩
abbrev S8192x2x16 : Shape := ⟨3, ![8192, 2, 16]⟩
abbrev S8192x2x8 : Shape := ⟨3, ![8192, 2, 8]⟩
abbrev S8192x2x48 : Shape := ⟨3, ![8192, 2, 48]⟩
abbrev S8192x768 : Shape := ⟨2, ![8192, 768]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1x1024, .f32⟩
  | .hbm, ⟨3, _⟩ => ⟨S1024x4880, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x4880, .f32⟩
  | .hbm, ⟨20, _⟩ => ⟨S8192x512, .f32⟩
  | .hbm, ⟨21, _⟩ => ⟨S8192x128, .f32⟩
  | .hbm, ⟨22, _⟩ => ⟨S8192x128, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x16, .f32⟩
  | .hbm, ⟨28, _⟩ => ⟨S8192x1024, .f32⟩
  | .hbm, ⟨29, _⟩ => ⟨S8192x1024, .f32⟩
  | .hbm, ⟨30, _⟩ => ⟨S8192x112, .f32⟩
  | .hbm, ⟨31, _⟩ => ⟨S8192x128, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S8192, .f32⟩
  | .hbm, ⟨41, _⟩ => ⟨S8192x1, .f32⟩
  | .hbm, ⟨42, _⟩ => ⟨S1x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8x64, .f32⟩
  | .hbm, ⟨49, _⟩ => ⟨S8192x1x8, .f32⟩
  | .hbm, ⟨50, _⟩ => ⟨S8192x1x8, .f32⟩
  | .hbm, ⟨51, _⟩ => ⟨S8192x8x16, .f32⟩
  | .hbm, ⟨52, _⟩ => ⟨S8192x8x8, .f32⟩
  | .hbm, ⟨53, _⟩ => ⟨S8192x8x8, .f32⟩
  | .hbm, ⟨54, _⟩ => ⟨S8192x8x8, .f32⟩
  | .hbm, ⟨55, _⟩ => ⟨S8192x8x8, .f32⟩
  | .hbm, ⟨56, _⟩ => ⟨S8192x8x8, .f32⟩
  | .hbm, ⟨57, _⟩ => ⟨S8192x8x8, .f32⟩
  | .hbm, ⟨58, _⟩ => ⟨S8192x8x8, .f32⟩
  | .hbm, ⟨59, _⟩ => ⟨S8192x8x8, .f32⟩
  | .hbm, ⟨60, _⟩ => ⟨S8192x8x8, .f32⟩
  | .hbm, ⟨61, _⟩ => ⟨S8192x8x8, .f32⟩
  | .hbm, ⟨62, _⟩ => ⟨S8192x8x8, .f32⟩
  | .hbm, ⟨63, _⟩ => ⟨S8192x8x8, .f32⟩
  | .hbm, ⟨64, _⟩ => ⟨S8192x8x16, .f32⟩
  | .hbm, ⟨65, _⟩ => ⟨S8192x8x48, .f32⟩
  | .hbm, ⟨66, _⟩ => ⟨S8192x8x64, .f32⟩
  | .hbm, ⟨67, _⟩ => ⟨S8192x512, .f32⟩
  | .hbm, ⟨68, _⟩ => ⟨S8192x2x64, .f32⟩
  | .hbm, ⟨69, _⟩ => ⟨S8192x1x8, .f32⟩
  | .hbm, ⟨70, _⟩ => ⟨S8192x1x8, .f32⟩
  | .hbm, ⟨71, _⟩ => ⟨S8192x2x16, .f32⟩
  | .hbm, ⟨72, _⟩ => ⟨S8192x2x8, .f32⟩
  | .hbm, ⟨73, _⟩ => ⟨S8192x2x8, .f32⟩
  | .hbm, ⟨74, _⟩ => ⟨S8192x2x8, .f32⟩
  | .hbm, ⟨75, _⟩ => ⟨S8192x2x8, .f32⟩
  | .hbm, ⟨76, _⟩ => ⟨S8192x2x8, .f32⟩
  | .hbm, ⟨77, _⟩ => ⟨S8192x2x8, .f32⟩
  | .hbm, ⟨78, _⟩ => ⟨S8192x2x8, .f32⟩
  | .hbm, ⟨79, _⟩ => ⟨S8192x2x8, .f32⟩
  | .hbm, ⟨80, _⟩ => ⟨S8192x2x8, .f32⟩
  | .hbm, ⟨81, _⟩ => ⟨S8192x2x8, .f32⟩
  | .hbm, ⟨82, _⟩ => ⟨S8192x2x8, .f32⟩
  | .hbm, ⟨83, _⟩ => ⟨S8192x2x8, .f32⟩
  | .hbm, ⟨84, _⟩ => ⟨S8192x2x16, .f32⟩
  | .hbm, ⟨85, _⟩ => ⟨S8192x2x48, .f32⟩
  | .hbm, ⟨86, _⟩ => ⟨S8192x2x64, .f32⟩
  | .hbm, ⟨87, _⟩ => ⟨S8192x128, .f32⟩
  | .hbm, ⟨88, _⟩ => ⟨S8192x1024, .bf16⟩
  | .hbm, ⟨89, _⟩ => ⟨S8192x768, .f32⟩
  | .hbm, ⟨90, _⟩ => ⟨S8192x768, .bf16⟩
  | .hbm, ⟨91, _⟩ => ⟨S8192x512, .bf16⟩
  | .hbm, ⟨92, _⟩ => ⟨S8192x512, .bf16⟩
  | .hbm, ⟨93, _⟩ => ⟨S8192x512, .bf16⟩
  | .hbm, ⟨94, _⟩ => ⟨S8192x128, .bf16⟩
  | .hbm, ⟨95, _⟩ => ⟨S8192x1024, .bf16⟩
  | .hbm, ⟨96, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩

abbrev nD : Nat := 1
abbrev τ : Topo := Topo.v7x

variable {F : FTy → Type} [FloatOps F]
-- ==== Kernel4.lean ====
abbrev S8192x768 : Shape := ⟨2, ![8192, 768]⟩
abbrev S8192x512 : Shape := ⟨2, ![8192, 512]⟩
abbrev S8 : Shape := ⟨1, ![8]⟩
abbrev S1024x768 : Shape := ⟨2, ![1024, 768]⟩
abbrev S128x256 : Shape := ⟨2, ![128, 256]⟩
abbrev S1024x512 : Shape := ⟨2, ![1024, 512]⟩
abbrev S128x128 : Shape := ⟨2, ![128, 128]⟩
abbrev S256x128 : Shape := ⟨2, ![256, 128]⟩
abbrev S1x128 : Shape := ⟨2, ![1, 128]⟩
abbrev S64x256 : Shape := ⟨2, ![64, 256]⟩
abbrev S256x256 : Shape := ⟨2, ![256, 256]⟩
abbrev S1 : Shape := ⟨1, ![1]⟩
abbrev S128 : Shape := ⟨1, ![128]⟩

abbrev nBuf : Space → Nat
  | .hbm => 4
  | .vmem => 8
  | .smem => 1
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8, .f32⟩
  | .hbm, ⟨3, _⟩ => ⟨S8192x512, .bf16⟩
  | .local _ .vmem, ⟨0, _⟩ => ⟨S1024x768, .bf16⟩
  | .local _ .vmem, ⟨1, _⟩ => ⟨S1024x768, .bf16⟩
  | .local _ .vmem, ⟨2, _⟩ => ⟨S128x256, .bf16⟩
  | .local _ .vmem, ⟨3, _⟩ => ⟨S128x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .smem, ⟨0, _⟩ => ⟨S8, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli c8_i32 v1
  let c1_i32 : BitVec 32 := 1#32
  let v3 : BitVec 32 := Scalar.minsi arg1 c1_i32
  let v4 : BitVec 32 := Scalar.subi v2 v3
  let c2_i32 : BitVec 32 := 2#32
  let c0_i32 : BitVec 32 := 0#32
  ![v4.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S8192x768 : Shape := ⟨2, ![8192, 768]⟩
abbrev S8192x512 : Shape := ⟨2, ![8192, 512]⟩
abbrev S8 : Shape := ⟨1, ![8]⟩
abbrev S2x4096x768 : Shape := ⟨3, ![2, 4096, 768]⟩
abbrev S2x4096x512 : Shape := ⟨3, ![2, 4096, 512]⟩
abbrev S2x4096x128 : Shape := ⟨3, ![2, 4096, 128]⟩
abbrev S2x4096x8x64 : Shape := ⟨4, ![2, 4096, 8, 64]⟩
abbrev S2x4096x2x64 : Shape := ⟨4, ![2, 4096, 2, 64]⟩
abbrev S2x32x128x2x4x64 : Shape := ⟨6, ![2, 32, 128, 2, 4, 64]⟩
abbrev S2x32x128x2x64 : Shape := ⟨5, ![2, 32, 128, 2, 64]⟩
abbrev S2x31x128x2x64 : Shape := ⟨5, ![2, 31, 128, 2, 64]⟩
abbrev S_ : Shape := ⟨0, ![]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8, .f32⟩
  | .hbm, ⟨3, _⟩ => ⟨S2x4096x768, .bf16⟩
  | .hbm, ⟨4, _⟩ => ⟨S2x4096x512, .bf16⟩
  | .hbm, ⟨5, _⟩ => ⟨S2x4096x128, .bf16⟩
  | .hbm, ⟨6, _⟩ => ⟨S2x4096x128, .bf16⟩
  | .hbm, ⟨7, _⟩ => ⟨S2x4096x8x64, .bf16⟩
  | .hbm, ⟨8, _⟩ => ⟨S2x4096x2x64, .bf16⟩
  | .hbm, ⟨9, _⟩ => ⟨S2x4096x2x64, .bf16⟩
  | .hbm, ⟨10, _⟩ => ⟨S2x32x128x2x4x64, .bf16⟩
  | .hbm, ⟨11, _⟩ => ⟨S2x32x128x2x4x64, .f32⟩
  | .hbm, ⟨12, _⟩ => ⟨S2x32x128x2x64, .bf16⟩
  | .hbm, ⟨13, _⟩ => ⟨S2x32x128x2x64, .f32⟩
  | .hbm, ⟨14, _⟩ => ⟨S2x32x128x2x64, .bf16⟩
  | .hbm, ⟨15, _⟩ => ⟨S2x32x128x2x64, .f32⟩
  | .hbm, ⟨16, _⟩ => ⟨S2x31x128x2x64, .f32⟩
  | .hbm, ⟨17, _⟩ => ⟨S_, .i32⟩
  | .hbm, ⟨18, _⟩ => ⟨S_, .f32⟩
  | .hbm, ⟨19, _⟩ => ⟨S2x32x128x2x64, .f32⟩
  | .hbm, ⟨20, _⟩ => ⟨S2x32x256x2x64, .f32⟩
  | .hbm, ⟨21, _⟩ => ⟨S2x31x128x2x64, .f32⟩
  | .hbm, ⟨22, _⟩ => ⟨S_, .i32⟩
  | .hbm, ⟨23, _⟩ => ⟨S_, .f32⟩
  | .hbm, ⟨24, _⟩ => ⟨S2x32x128x2x64, .f32⟩
  | .hbm, ⟨25, _⟩ => ⟨S2x32x256x2x64, .f32⟩
  | .hbm, ⟨26, _⟩ => ⟨S2x32x2x256x128x4, .f32⟩
  | .hbm, ⟨27, _⟩ => ⟨S2x32x2x4x128x256, .f32⟩
  | .hbm, ⟨28, _⟩ => ⟨S_, .f32⟩
  | .hbm, ⟨29, _⟩ => ⟨S2x32x2x4x128x256, .f32⟩
  | .hbm, ⟨30, _⟩ => ⟨S2x32x2x4x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S128x256, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S32, .i32⟩
  | .hbm, ⟨49, _⟩ => ⟨S32x1x1, .i32⟩
  | .hbm, ⟨50, _⟩ => ⟨S1x128x256, .i1⟩
  | .hbm, ⟨51, _⟩ => ⟨S_, .i32⟩
  | .hbm, ⟨52, _⟩ => ⟨S32x1x1, .i32⟩
  | .hbm, ⟨53, _⟩ => ⟨S32x1x1, .i1⟩
  | .hbm, ⟨54, _⟩ => ⟨S1x1x256, .i32⟩
  | .hbm, ⟨55, _⟩ => ⟨S_, .i32⟩
  | .hbm, ⟨56, _⟩ => ⟨S1x1x256, .i32⟩
  | .hbm, ⟨57, _⟩ => ⟨S1x1x256, .i1⟩
  | .hbm, ⟨58, _⟩ => ⟨S32x1x256, .i1⟩
  | .hbm, ⟨59, _⟩ => ⟨S32x1x256, .i1⟩
  | .hbm, ⟨60, _⟩ => ⟨S32x1x256, .i1⟩
  | .hbm, ⟨61, _⟩ => ⟨S32x128x256, .i1⟩
  | .hbm, ⟨62, _⟩ => ⟨S32x128x256, .i1⟩
  | .hbm, ⟨63, _⟩ => ⟨S32x128x256, .i1⟩
  | .hbm, ⟨64, _⟩ => ⟨S1x32x1x1x128x256, .i1⟩
  | .hbm, ⟨65, _⟩ => ⟨S_, .f32⟩
  | .hbm, ⟨66, _⟩ => ⟨S_, .f32⟩
  | .hbm, ⟨67, _⟩ => ⟨S2x32x2x4x128x256, .i1⟩
  | .hbm, ⟨68, _⟩ => ⟨S2x32x2x4x128x256, .f32⟩
  | .hbm, ⟨69, _⟩ => ⟨S2x32x2x4x128x256, .f32⟩
  | .hbm, ⟨70, _⟩ => ⟨S2x4, .f32⟩
  | .hbm, ⟨71, _⟩ => ⟨S1x1x2x4x1x1, .f32⟩
  | .hbm, ⟨72, _⟩ => ⟨S_, .f32⟩
  | .hbm, ⟨73, _⟩ => ⟨S2x32x2x4x128, .f32⟩
  | .hbm, ⟨74, _⟩ => ⟨S2x32x2x4x128x1, .f32⟩
  | .hbm, ⟨75, _⟩ => ⟨S2x32x2x4x128x1, .f32⟩
  | .hbm, ⟨76, _⟩ => ⟨S2x32x2x4x128x1, .f32⟩
  | .hbm, ⟨77, _⟩ => ⟨S2x32x2x4x128x256, .f32⟩
  | .hbm, ⟨78, _⟩ => ⟨S2x32x2x4x128x256, .f32⟩
  | .hbm, ⟨79, _⟩ => ⟨S2x32x2x4x128x256, .f32⟩
  | .hbm, ⟨80, _⟩ => ⟨S_, .f32⟩
  | .hbm, ⟨81, _⟩ => ⟨S2x32x2x4x128, .f32⟩
  | .hbm, ⟨82, _⟩ => ⟨S2x32x2x4x128x1, .f32⟩
  | .hbm, ⟨83, _⟩ => ⟨S2x32x2x4x128x1, .f32⟩
  | .hbm, ⟨84, _⟩ => ⟨S2x32x2x4x128x1, .f32⟩
  | .hbm, ⟨85, _⟩ => ⟨S2x32x2x4x128x1, .f32⟩
  | .hbm, ⟨86, _⟩ => ⟨S2x32x2x4x128x1, .f32⟩
  | .hbm, ⟨87, _⟩ => ⟨S2x32x2x4x128x256, .f32⟩
  | .hbm, ⟨88, _⟩ => ⟨S2x32x2x4x128x256, .f32⟩
  | .hbm, ⟨89, _⟩ => ⟨S2x32x2x64x4x128, .f32⟩
  | .hbm, ⟨90, _⟩ => ⟨S2x32x128x2x4x64, .f32⟩
  | .hbm, ⟨91, _⟩ => ⟨S2x4096x512, .f32⟩
  | .hbm, ⟨92, _⟩ => ⟨S8192x512, .f32⟩
  | .hbm, ⟨93, _⟩ => ⟨S2x4096x512, .f32⟩
  | .hbm, ⟨94, _⟩ => ⟨S2x4096x512, .f32⟩
  | .hbm, ⟨95, _⟩ => ⟨S2x4096x512, .f32⟩
  | .hbm, ⟨96, _⟩ => ⟨S_, .f32⟩
  | .hbm, ⟨97, _⟩ => ⟨S2x4096x512, .f32⟩
  | .hbm, ⟨98, _⟩ => ⟨S2x4096x512, .f32⟩
  | .hbm, ⟨99, _⟩ => ⟨S_, .f32⟩
  | .hbm, ⟨100, _⟩ => ⟨S2x4096x512, .f32⟩
  | .hbm, ⟨101, _⟩ => ⟨S2x4096x512, .f32⟩
  | .hbm, ⟨102, _⟩ => ⟨S2x4096x512, .f32⟩
  | .hbm, ⟨103, _⟩ => ⟨S2x4096x512, .f32⟩
  | .hbm, ⟨104, _⟩ => ⟨S8192x512, .f32⟩
  | .hbm, ⟨105, _⟩ => ⟨S8192x512, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Kernel5.lean ====
abbrev S1x512x256 : Shape := ⟨3, ![1, 512, 256]⟩
abbrev S1x256x1024 : Shape := ⟨3, ![1, 256, 1024]⟩
abbrev S512x256 : Shape := ⟨2, ![512, 256]⟩
abbrev S256x1024 : Shape := ⟨2, ![256, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S1x512x256, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference5Ideal.lean ====
abbrev S1x512x256 : Shape := ⟨3, ![1, 512, 256]⟩
abbrev S1x256x1024 : Shape := ⟨3, ![1, 256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S1x512x256, .f32⟩
  | .hbm, ⟨23, _⟩ => ⟨S_, .f32⟩
  | .hbm, ⟨24, _⟩ => ⟨S1x512x256, .f32⟩
  | .hbm, ⟨25, _⟩ => ⟨S1x512x256, .f32⟩
  | .hbm, ⟨26, _⟩ => ⟨S1x512x256, .f32⟩
  | .hbm, ⟨27, _⟩ => ⟨S_, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | .hbm, ⟨37, _⟩ => ⟨S1x512x256, .f32⟩
  | .hbm, ⟨38, _⟩ => ⟨S_, .f32⟩
  | .hbm, ⟨39, _⟩ => ⟨S1x512x256, .f32⟩
  | .hbm, ⟨40, _⟩ => ⟨S1x512x256, .f32⟩
  | .hbm, ⟨41, _⟩ => ⟨S1x512x256, .f32⟩
  | .hbm, ⟨42, _⟩ => ⟨S_, .f32⟩
  | .hbm, ⟨43, _⟩ => ⟨S1x512x256, .f32⟩
  | .hbm, ⟨44, _⟩ => ⟨S1x512x256, .f32⟩
  | .hbm, ⟨45, _⟩ => ⟨S_, .f32⟩
  | .hbm, ⟨46, _⟩ => ⟨S1x512x256, .f32⟩
  | .hbm, ⟨47, _⟩ => ⟨S1x512x256, .f32⟩
  | .hbm, ⟨48, _⟩ => ⟨S_, .f32⟩
  | .hbm, ⟨49, _⟩ => ⟨S1x512x256, .f32⟩
  | .hbm, ⟨50, _⟩ => ⟨S1x512x256, .f32⟩
  | .hbm, ⟨51, _⟩ => ⟨S1x512x256, .f32⟩
  | .hbm, ⟨52, _⟩ => ⟨S_, .f32⟩
  | .hbm, ⟨53, _⟩ => ⟨S1x512x256, .f32⟩
  | .hbm, ⟨54, _⟩ => ⟨S1x512x256, .f32⟩
  | .hbm, ⟨55, _⟩ => ⟨S1x512x256, .f32⟩
  | .hbm, ⟨56, _⟩ => ⟨S_, .f32⟩
  | .hbm, ⟨57, _⟩ => ⟨S1x512x256, .f32⟩
  | .hbm, ⟨58, _⟩ => ⟨S1x512x256, .f32⟩
  | .hbm, ⟨59, _⟩ => ⟨S1x512x256, .f32⟩
  | .hbm, ⟨60, _⟩ => ⟨S_, .f32⟩
  | .hbm, ⟨61, _⟩ => ⟨S1x512x256, .f32⟩
  | .hbm, ⟨62, _⟩ => ⟨S1x512x256, .f32⟩
  | .hbm, ⟨63, _⟩ => ⟨S_, .f32⟩
  | .hbm, ⟨64, _⟩ => ⟨S1x512x256, .f32⟩
  | .hbm, ⟨65, _⟩ => ⟨S1x512x256, .f32⟩
  | .hbm, ⟨66, _⟩ => ⟨S1x512x256, .f32⟩
  | .hbm, ⟨67, _⟩ => ⟨S_, .f32⟩
  | .hbm, ⟨68, _⟩ => ⟨S1x512x256, .f32⟩
  | .hbm, ⟨69, _⟩ => ⟨S1x512x256, .f32⟩
  | .hbm, ⟨70, _⟩ => ⟨S1x512x256, .f32⟩
  | .hbm, ⟨71, _⟩ => ⟨S_, .f32⟩
  | .hbm, ⟨72, _⟩ => ⟨S1x512x256, .f32⟩
  | .hbm, ⟨73, _⟩ => ⟨S1x512x256, .f32⟩
  | .hbm, ⟨74, _⟩ => ⟨S1x512x256, .f32⟩
  | .hbm, ⟨75, _⟩ => ⟨S_, .f32⟩
  | .hbm, ⟨76, _⟩ => ⟨S1x512x256, .f32⟩
  | .hbm, ⟨77, _⟩ => ⟨S1x512x256, .f32⟩
  | .hbm, ⟨78, _⟩ => ⟨S_, .f32⟩
  | .hbm, ⟨79, _⟩ => ⟨S1x256x1024, .f32⟩
  | .hbm, ⟨80, _⟩ => ⟨S1x256x1024, .f32⟩
  | .hbm, ⟨81, _⟩ => ⟨S_, .f32⟩
  | .hbm, ⟨82, _⟩ => ⟨S1x256x1024, .f32⟩
  | .hbm, ⟨83, _⟩ => ⟨S1x256x1024, .f32⟩
  | .hbm, ⟨84, _⟩ => ⟨S1x256x1024, .f32⟩
  | .hbm, ⟨85, _⟩ => ⟨S_, .f32⟩
  | .hbm, ⟨86, _⟩ => ⟨S1x256x1024, .f32⟩
  | .hbm, ⟨87, _⟩ => ⟨S1x256x1024, .f32⟩
  | .hbm, ⟨88, _⟩ => ⟨S1x256x1024, .f32⟩
  | .hbm, ⟨89, _⟩ => ⟨S_, .f32⟩
  | .hbm, ⟨90, _⟩ => ⟨S1x256x1024, .f32⟩
  | .hbm, ⟨91, _⟩ => ⟨S1x256x1024, .f32⟩
  | .hbm, ⟨92, _⟩ => ⟨S1x256x1024, .f32⟩
  | .hbm, ⟨93, _⟩ => ⟨S_, .f32⟩
  | .hbm, ⟨94, _⟩ => ⟨S1x256x1024, .f32⟩
  | .hbm, ⟨95, _⟩ => ⟨S1x256x1024, .f32⟩
  | .hbm, ⟨96, _⟩ => ⟨S_, .f32⟩
  | .hbm, ⟨97, _⟩ => ⟨S1x256x1024, .f32⟩
  | .hbm, ⟨98, _⟩ => ⟨S1x256x1024, .f32⟩
  | .hbm, ⟨99, _⟩ => ⟨S1x256x1024, .f32⟩
  | .hbm, ⟨100, _⟩ => ⟨S_, .f32⟩
  | .hbm, ⟨101, _⟩ => ⟨S1x256x1024, .f32⟩
  | .hbm, ⟨102, _⟩ => ⟨S1x256x1024, .f32⟩
  | .hbm, ⟨103, _⟩ => ⟨S1x256x1024, .f32⟩
  | .hbm, ⟨104, _⟩ => ⟨S_, .f32⟩
  | .hbm, ⟨105, _⟩ => ⟨S1x256x1024, .f32⟩
  | .hbm, ⟨106, _⟩ => ⟨S1x256x1024, .f32⟩
  | .hbm, ⟨107, _⟩ => ⟨S1x256x1024, .f32⟩
  | .hbm, ⟨108, _⟩ => ⟨S_, .f32⟩
  | .hbm, ⟨109, _⟩ => ⟨S1x256x1024, .f32⟩
  | .hbm, ⟨110, _⟩ => ⟨S1x256x1024, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel6.lean ====
abbrev S8x8x1024 : Shape := ⟨3, ![8, 8, 1024]⟩
abbrev S8x1024 : Shape := ⟨2, ![8, 1024]⟩
abbrev S1 : Shape := ⟨1, ![1]⟩
abbrev S1x8x1024 : Shape := ⟨3, ![1, 8, 1024]⟩
abbrev S4x1024 : Shape := ⟨2, ![4, 1024]⟩
abbrev S16x256 : Shape := ⟨2, ![16, 256]⟩
abbrev S1x1 : Shape := ⟨2, ![1, 1]⟩
abbrev S_ : Shape := ⟨0, ![]⟩
abbrev S1x1024 : Shape := ⟨2, ![1, 1024]⟩
abbrev S1x256 : Shape := ⟨2, ![1, 256]⟩
abbrev S1x8 : Shape := ⟨2, ![1, 8]⟩
abbrev S1x512 : Shape := ⟨2, ![1, 512]⟩
abbrev S1024 : Shape := ⟨1, ![1024]⟩

abbrev nBuf : Space → Nat
  | .hbm => 13
  | .vmem => 3
  | .smem => 1
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S4x1024, .f32⟩
  | .hbm, ⟨4, _⟩ => ⟨S16x256, .f32⟩
  | .hbm, ⟨5, _⟩ => ⟨S1x1, .f32⟩
  | .hbm, ⟨6, _⟩ => ⟨S_, .f32⟩
  | .hbm, ⟨7, _⟩ => ⟨S1x1024, .f32⟩
  | .hbm, ⟨8, _⟩ => ⟨S1x256, .f32⟩
  | .hbm, ⟨9, _⟩ => ⟨S1x8, .f32⟩
  | .hbm, ⟨10, _⟩ => ⟨S1x512, .f32⟩
  | .hbm, ⟨11, _⟩ => ⟨S1x1024, .f32⟩
  | .hbm, ⟨12, _⟩ => ⟨S1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .smem, ⟨0, _⟩ => ⟨S1, .i32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8x8x1024 : Shape := ⟨3, ![8, 8, 1024]⟩
abbrev S8x1024 : Shape := ⟨2, ![8, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x1 : Shape := ⟨2, ![1, 1]⟩
abbrev S1x1024 : Shape := ⟨2, ![1, 1024]⟩
abbrev S4x1024 : Shape := ⟨2, ![4, 1024]⟩
abbrev S16x256 : Shape := ⟨2, ![16, 256]⟩
abbrev S1x256 : Shape := ⟨2, ![1, 256]⟩
abbrev S1x8 : Shape := ⟨2, ![1, 8]⟩
abbrev S1x512 : Shape := ⟨2, ![1, 512]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S8x8x1024, .i1⟩
  | .hbm, ⟨9, _⟩ => ⟨S8x8x1024, .f32⟩
  | .hbm, ⟨10, _⟩ => ⟨S8x8x1024, .f32⟩
  | .hbm, ⟨11, _⟩ => ⟨S_, .f32⟩
  | .hbm, ⟨12, _⟩ => ⟨S8x1024, .f32⟩
  | .hbm, ⟨13, _⟩ => ⟨S1x1, .f32⟩
  | .hbm, ⟨14, _⟩ => ⟨S_, .f32⟩
  | .hbm, ⟨15, _⟩ => ⟨S1x1024, .f32⟩
  | .hbm, ⟨16, _⟩ => ⟨S4x1024, .f32⟩
  | .hbm, ⟨17, _⟩ => ⟨S16x256, .f32⟩
  | .hbm, ⟨18, _⟩ => ⟨S1x256, .f32⟩
  | .hbm, ⟨19, _⟩ => ⟨S1x8, .f32⟩
  | .hbm, ⟨20, _⟩ => ⟨S1x512, .f32⟩
  | .hbm, ⟨21, _⟩ => ⟨S1x1024, .f32⟩
  | .hbm, ⟨22, _⟩ => ⟨S1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.RowNorm.lean ====
/- The backward pass of a root-mean-square norm, on ONE row of extended reals.

   The row `h` is scaled by `r = 1/√ms` with `ms = (∑ h²)/1024 + ε`. The gradient that comes back through `h·r` for a
   cotangent row `d` is written in two ways: with one factor `r` outside and the normalised row inside, and as the sum of
   the three terms that differentiating the lines of the norm one by one gives. `norm_bwd` says that the two agree at
   EVERY row of extended reals: at a row of finite numbers `r` is a positive real number, so it moves through the sums;
   at a row with an infinite entry `ms` is infinite and `r` is zero, and both sides lose every term that `r` multiplies. -/
module

public import Idealize.ShloMosaic.PureOps.Ideal.Laws
public import Idealize.ShloMosaic.Lib.IdealHost

@[expose] public section

noncomputable section

namespace Cert.RowNorm

open Idealize.ShloMosaic

/-! ## The constants -/

/-- The row length, as the printed float word reads. -/
theorem ofBits_1024 : Ideal.ofBits .f32 0x44800000#32 = ((1024 : ℝ) : EReal) := by
  simp [Ideal.ofBits, Ideal.ieee, -EReal.coe_mul]; norm_num

/-- The word of `-0.5`. -/
theorem ofBits_neg_half : Ideal.ofBits .f32 0xBF000000#32 = ((-(1 / 2) : ℝ) : EReal) := by
  simp [Ideal.ofBits, Ideal.ieee, -EReal.coe_mul, -EReal.coe_neg]; norm_num

/-- The small number that is added to the mean square is a positive real number. -/
theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-! ## Factors that move through sums -/

/-- A real factor that is not negative moves through a finite sum of extended reals. -/
theorem mul_sum {ι : Type} (s : Finset ι) (f : ι → EReal) {a : ℝ} (ha : 0 ≤ a) :
    (a : EReal) * ∑ k ∈ s, f k = ∑ k ∈ s, (a : EReal) * f k := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The quotient by a nonzero real number is the product with its inverse. -/
theorem div_real {y : ℝ} (h : y ≠ 0) (x : EReal) : Ideal.div x (y : EReal) = x * ((y⁻¹ : ℝ) : EReal) := by
  rw [Ideal.div_coe h, one_div]

/-- Twice a term, as a product. -/
theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe a => norm_cast; ring_nf

/-- A sum of real numbers, read as an extended real. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

theorem mul_self_nonneg' (x : EReal) : 0 ≤ x * x := by
  induction x using EReal.rec with
  | bot => simp
  | top => simp
  | coe a => exact_mod_cast mul_self_nonneg a

/-! ## The scale of a row -/

variable {n : ℕ}

/-- The mean square of a row plus the small number. -/
def ms (h : Fin n → EReal) : EReal :=
  Ideal.div (∑ k, h k * h k) (Ideal.ofBits .f32 0x44800000#32) + Ideal.ofBits .f32 0x358637BD#32

/-- The scale of a row: one over the root of `ms`. -/
def rs (h : Fin n → EReal) : EReal := Ideal.rsqrt (ms h)

/-- A row of finite numbers has a positive real scale `ρ`, and `ρ/ms = ρ³`. -/
theorem rs_real (h : Fin n → ℝ) :
    ∃ ρ : ℝ, 0 < ρ ∧ rs (fun k => (h k : EReal)) = (ρ : EReal)
      ∧ Ideal.div (ρ : EReal) (ms fun k => (h k : EReal)) = ((ρ * ρ * ρ : ℝ) : EReal) := by
  obtain ⟨e, he, hE⟩ := eps_pos
  have hs : 0 ≤ ∑ k, h k * h k := Finset.sum_nonneg fun k _ => mul_self_nonneg (h k)
  have hm : ms (fun k => (h k : EReal)) = (((∑ k, h k * h k) * (1024 : ℝ)⁻¹ + e : ℝ) : EReal) := by
    unfold ms
    rw [ofBits_1024, hE, div_real (by norm_num), EReal.coe_add, EReal.coe_mul, coe_sum]
    simp only [EReal.coe_mul]
  have hp : 0 < (∑ k, h k * h k) * (1024 : ℝ)⁻¹ + e := by positivity
  refine ⟨(Real.sqrt ((∑ k, h k * h k) * (1024 : ℝ)⁻¹ + e))⁻¹, by positivity, ?_, ?_⟩
  · unfold rs
    rw [hm, Ideal.rsqrt_coe, if_neg (not_lt.mpr hp.le), if_neg hp.ne']
  · rw [hm, div_real hp.ne', ← EReal.coe_mul]
    congr 1
    generalize (∑ k, h k * h k) * (1024 : ℝ)⁻¹ + e = M at hp ⊢
    have h1 : (Real.sqrt M)⁻¹ * (Real.sqrt M)⁻¹ = M⁻¹ := by rw [← mul_inv, Real.mul_self_sqrt hp.le]
    rw [h1, mul_comm]

/-- A row with an infinite entry has infinite mean square and scale zero. -/
theorem rs_inf (h : Fin n → EReal) {i : Fin n} (hi : h i = ⊤ ∨ h i = ⊥) : ms h = ⊤ ∧ rs h = 0 := by
  obtain ⟨e, he, hE⟩ := eps_pos
  have hsum : ∑ k, h k * h k = ⊤ := by
    refine top_le_iff.mp (le_trans (le_of_eq ?_) (Finset.single_le_sum (f := fun k => h k * h k)
      (fun k _ => mul_self_nonneg' (h k)) (Finset.mem_univ i)))
    rcases hi with hi | hi <;> simp [hi]
  have hm : ms h = ⊤ := by
    unfold ms
    rw [hsum, ofBits_1024, hE, div_real (by norm_num), EReal.top_mul_coe_of_pos (by norm_num)]
    exact EReal.top_add_coe e
  exact ⟨hm, by unfold rs; rw [hm]; rfl⟩

/-! ## The gradient through the norm -/

/-- The term that the mean square contributes, the factor of the row: `(∑ h d)·(-½·r/ms)/1024`. -/
def tms (h d : Fin n → EReal) : EReal :=
  Ideal.div ((∑ k, h k * d k) * (Ideal.ofBits .f32 0xBF000000#32 * Ideal.div (rs h) (ms h)))
    (Ideal.ofBits .f32 0x44800000#32)

/-- THE GRADIENT THROUGH THE NORM, one factor outside, and term by term. -/
theorem norm_bwd (h d : Fin n → EReal) (e : EReal) (j : Fin n) :
    e + rs h * (d j - (h j * rs h) * Ideal.div (∑ k, d k * (h k * rs h)) (Ideal.ofBits .f32 0x44800000#32))
      = (e + d j * rs h) + h j * tms h d + tms h d * h j := by
  by_cases hf : ∃ i, h i = ⊤ ∨ h i = ⊥
  · obtain ⟨i, hi⟩ := hf
    obtain ⟨hm, hr⟩ := rs_inf h hi
    have ht : tms h d = 0 := by
      unfold tms
      rw [hm, hr, ofBits_1024, ofBits_neg_half, div_real (by norm_num)]
      simp [Ideal.div]
    rw [ht, hr]; simp
  · have hfin : ∀ k, ∃ x : ℝ, h k = (x : EReal) := fun k => by
      have h1 : h k ≠ ⊤ := fun e => hf ⟨k, .inl e⟩
      have h2 : h k ≠ ⊥ := fun e => hf ⟨k, .inr e⟩
      exact ⟨(h k).toReal, (EReal.coe_toReal h1 h2).symm⟩
    choose x hx using hfin
    obtain rfl : h = fun k => (x k : EReal) := funext hx
    obtain ⟨ρ, hρ, hr, hq⟩ := rs_real x
    have hS : ∑ k, d k * ((x k : EReal) * (ρ : EReal)) = (ρ : EReal) * ∑ k, (x k : EReal) * d k := by
      rw [mul_sum _ _ hρ.le]
      exact Finset.sum_congr rfl fun k _ => by rw [← mul_assoc, mul_comm, mul_comm (d k)]
    have ht : tms (fun k => (x k : EReal)) d
        = -((∑ k, (x k : EReal) * d k) * ((ρ * ρ * ρ * (2048 : ℝ)⁻¹ : ℝ) : EReal)) := by
      unfold tms
      rw [hr, hq, ofBits_1024, ofBits_neg_half, div_real (by norm_num), ← EReal.coe_mul, mul_assoc, ← EReal.coe_mul,
        show (-(1 / 2) * (ρ * ρ * ρ) * (1024 : ℝ)⁻¹ : ℝ) = -(ρ * ρ * ρ * (2048 : ℝ)⁻¹) by ring, EReal.coe_neg, mul_neg]
    rw [ht, hr, hS, ofBits_1024, div_real (by norm_num), mul_comm (-_) ((x j : ℝ) : EReal), add_assoc _ _ (_ * _),
      add_self, add_assoc]
    generalize (∑ k, (x k : EReal) * d k) = S
    congr 1
    rw [EReal.mul_sub_of_nonneg_of_ne_top (by exact_mod_cast hρ.le) (EReal.coe_ne_top ρ), sub_eq_add_neg, mul_comm (d j)]
    congr 1
    rw [mul_neg, mul_neg]
    congr 1
    have key : ∀ y : ℝ, ((y : ℝ) : EReal) * S = S * (y : EReal) := fun y => mul_comm _ _
    rw [← EReal.coe_mul, mul_comm (ρ : EReal) S, mul_assoc S, ← EReal.coe_mul]
    rw [mul_comm ((x j * ρ : ℝ) : EReal), mul_assoc S, ← EReal.coe_mul, mul_comm (ρ : EReal), mul_assoc S, ← EReal.coe_mul,
      mul_comm ((x j : ℝ) : EReal), mul_assoc S, ← EReal.coe_mul, mul_comm ((2 : ℝ) : EReal), mul_assoc S, ← EReal.coe_mul]
    congr 2
    ring

end Cert.RowNorm

end
-- ==== Proof.Sums.lean ====
/- Two regroupings of a finite sum of extended reals: a sum cut in two at a position, and a sum over all rows taken tile by
   tile. Both hold in every commutative monoid, so no term needs to be finite. -/
module

public import Mathlib.Data.EReal.Operations
public import Mathlib.Algebra.BigOperators.Fin

@[expose] public section

noncomputable section

namespace Cert.Sums

variable {M : Type} [AddCommMonoid M]

/-- A sum over `n = a + b` places is the sum over the first `a` plus the sum over the last `b`. -/
theorem cut {n : ℕ} (a b : ℕ) (h : n = a + b) (f : Fin n → M) :
    ∑ k, f k = ∑ i : Fin a, f ⟨i.val, by omega⟩ + ∑ i : Fin b, f ⟨a + i.val, by omega⟩ := by
  subst h
  rw [Fin.sum_univ_add]
  rfl

/-- A sum over `a * b` numbers, taken in `a` runs of `b`. -/
theorem tiles_range (a b : ℕ) (F : ℕ → M) :
    ∑ k ∈ Finset.range (a * b), F k = ∑ t ∈ Finset.range a, ∑ r ∈ Finset.range b, F (b * t + r) := by
  induction a with
  | zero => simp
  | succ a ih => rw [Nat.succ_mul, Finset.sum_range_add, ih, Finset.sum_range_succ, mul_comm a b]

/-- A function of the row, as a function of every number (zero past the last row). -/
def ext {n : ℕ} (f : Fin n → M) (k : ℕ) : M := if h : k < n then f ⟨k, h⟩ else 0

theorem ext_of_lt {n : ℕ} (f : Fin n → M) {k : ℕ} (h : k < n) : ext f k = f ⟨k, h⟩ := dif_pos h

/-- A sum over all `n = a * b` rows is the sum over the `a` tiles of the sums over each tile's `b` rows. -/
theorem tiles {n : ℕ} (a b : ℕ) (h : n = a * b) (f : Fin n → M) :
    ∑ k, f k = ∑ t ∈ Finset.range a, ∑ r : Fin b, ext f (b * t + r.val) := by
  subst h
  have h1 : ∑ k, f k = ∑ k : Fin (a * b), ext f k.val := Finset.sum_congr rfl fun k _ => (ext_of_lt f k.isLt).symm
  rw [h1, ← Finset.sum_range, tiles_range]
  exact Finset.sum_congr rfl fun t _ => Finset.sum_range _

end Cert.Sums

end
-- ==== Proof.ProjSpec.lean ====
/- What the backward pass of the input projection computes, as plain sums of extended reals.

   The forward lines are `x ↦ (x, rms_norm(x, g) · w)`. The cotangent of the product's result is handed over in eight
   pieces that stand side by side on its 4880 columns (`dh` sums over them piece by piece); the cotangent of the copy of
   `x` is `e`. `gx` is the gradient of `x` and `gg` the gradient of the gain `g`. -/
module

public import proofs.«01_k».proof.Proof.RowNorm
public import proofs.«01_k».proof.Proof.Sums
public import Idealize.ShloMosaic.Lib.Pointwise

@[expose] public section

noncomputable section

namespace Cert.Proj

open Idealize.ShloMosaic

/-- A matrix of extended reals of `a` rows and `b` columns. -/
abbrev Mat (a b : ℕ) : Type := (⟨2, ![a, b]⟩ : Shape).Idx → EReal

section

variable (a0 : Mat 8192 768) (a1 a2 a3 a4 : Mat 8192 512) (a5 : Mat 8192 16) (a6 a7 : Mat 8192 1024)
  (w : Mat 1024 4880) (x e : Mat 8192 1024) (g : Mat 1 1024)

/-- The cotangent of the normalised row: row `R` of the eight pieces against row `j` of `w`. -/
def dh (R : Fin 8192) (j : Fin 1024) : EReal :=
  ∑ k : Fin 768, a0 (ix2 R k) * w (ix2 j ⟨k.val, by omega⟩)
    + ∑ k : Fin 512, a1 (ix2 R k) * w (ix2 j ⟨768 + k.val, by omega⟩)
    + ∑ k : Fin 512, a2 (ix2 R k) * w (ix2 j ⟨1280 + k.val, by omega⟩)
    + ∑ k : Fin 512, a3 (ix2 R k) * w (ix2 j ⟨1792 + k.val, by omega⟩)
    + ∑ k : Fin 512, a4 (ix2 R k) * w (ix2 j ⟨2304 + k.val, by omega⟩)
    + ∑ k : Fin 16, a5 (ix2 R k) * w (ix2 j ⟨2816 + k.val, by omega⟩)
    + ∑ k : Fin 1024, a6 (ix2 R k) * w (ix2 j ⟨2832 + k.val, by omega⟩)
    + ∑ k : Fin 1024, a7 (ix2 R k) * w (ix2 j ⟨3856 + k.val, by omega⟩)

/-- Row `R` of `x`. -/
def row (R : Fin 8192) (k : Fin 1024) : EReal := x (ix2 R k)

/-- Row `R` of the cotangent of the norm's result before the gain is taken off. -/
def dn (R : Fin 8192) (k : Fin 1024) : EReal := dh a0 a1 a2 a3 a4 a5 a6 a7 w R k * g (ix2 0 k)

/-- The gradient of `x`. -/
def gx (R : Fin 8192) (j : Fin 1024) : EReal :=
  e (ix2 R j) + RowNorm.rs (row x R) * (dn a0 a1 a2 a3 a4 a5 a6 a7 w g R j - (x (ix2 R j) * RowNorm.rs (row x R))
    * Ideal.div (∑ k, dn a0 a1 a2 a3 a4 a5 a6 a7 w g R k * (row x R k * RowNorm.rs (row x R)))
        (Ideal.ofBits .f32 0x44800000#32))

/-- One row's share of the gradient of the gain. -/
def ggRow (R : Fin 8192) (j : Fin 1024) : EReal :=
  dh a0 a1 a2 a3 a4 a5 a6 a7 w R j * (x (ix2 R j) * RowNorm.rs (row x R))

/-- The gradient of the gain. -/
def gg (j : Fin 1024) : EReal := ∑ R : Fin 8192, ggRow a0 a1 a2 a3 a4 a5 a6 a7 w x R j

end

end Cert.Proj

end
-- ==== Proof.ProjKernel.lean ====
/- What the kernel of the input projection's backward pass leaves in its two results.

   The grid has sixteen points, one per tile of 512 rows. `blk_*` read the windows' blocks as elements of the arguments
   (the small piece padded with zero columns, the weights transposed); `point_gx` and `point_gg` are what one point stores;
   the first result is written tile by tile, the second is added up over all the points and written after the last. -/
module

public import proofs.«01_k».proof.Proof.ProjSpec
public import proofs.«01_k».proof.Proof.Gen.Kernel2Ideal.Value
public import Idealize.ShloMosaic.Lib.Pipeline.ValueKit
public import Idealize.ShloMosaic.Lib.StableHlo.ReadAt
public import Idealize.ShloMosaic.Lib.Claim
public import Idealize.ShloMosaic.Lib.KernelVsHost

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Proj

variable (m : (ℓ : Loc nD τ sig) → Buf (Elt Ideal) ℓ) (c : Dev nD)

/-! ## The arguments -/

abbrev A0 : Mat 8192 768 := m ((c : Thread nD τ).loc main_arg0)
abbrev A1 : Mat 8192 512 := m ((c : Thread nD τ).loc main_arg1)
abbrev A2 : Mat 8192 512 := m ((c : Thread nD τ).loc main_arg2)
abbrev A3 : Mat 8192 512 := m ((c : Thread nD τ).loc main_arg3)
abbrev A4 : Mat 8192 512 := m ((c : Thread nD τ).loc main_arg4)
abbrev A5 : Mat 8192 16 := m ((c : Thread nD τ).loc main_arg5)
abbrev A6 : Mat 8192 1024 := m ((c : Thread nD τ).loc main_arg6)
abbrev A7 : Mat 8192 1024 := m ((c : Thread nD τ).loc main_arg7)
abbrev W : Mat 1024 4880 := m ((c : Thread nD τ).loc main_arg8)
abbrev X : Mat 8192 1024 := m ((c : Thread nD τ).loc main_arg9)
abbrev E : Mat 8192 1024 := m ((c : Thread nD τ).loc main_arg10)
abbrev G : Mat 1 1024 := m ((c : Thread nD τ).loc main_arg11)

/-! ## The blocks the windows hold at a point -/

/-- Row `r` of the tile of point `t`. -/
def rowOf (t : Fin cfg0.N) (r : Fin 512) : Fin 8192 := ⟨512 * t.val + r.val, by
  have := t.isLt; have hN : cfg0.N = 16 := N_0; omega⟩

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![0, 0] := by decide +kernel
theorem index_9 : ∀ t : Fin cfg0.N, win0_9.index t = ![t.val, 0] := by decide +kernel
theorem index_10 : ∀ t : Fin cfg0.N, win0_10.index t = ![t.val, 0] := by decide +kernel
theorem index_11 : ∀ t : Fin cfg0.N, win0_11.index t = ![0, 0] := by decide +kernel
theorem index_12 : ∀ t : Fin cfg0.N, win0_12.index t = ![t.val, 0] := by decide +kernel
theorem index_13 : ∀ t : Fin cfg0.N, win0_13.index t = ![0, 0] := by decide +kernel

/-- Two elements of a matrix are one element if their coordinates are. -/
theorem congr2 {a b : ℕ} {α : Type} (v : (⟨2, ![a, b]⟩ : Shape).Idx → α) {i j : (⟨2, ![a, b]⟩ : Shape).Idx}
    (h0 : (i 0).val = (j 0).val) (h1 : (i 1).val = (j 1).val) : v i = v j :=
  congrArg v (funext fun x => Fin.ext (match x with | ⟨0, _⟩ => h0 | ⟨1, _⟩ => h1))

theorem blk_0 (t : Fin cfg0.N) (r : Fin 512) (k : Fin 768) :
    iblk m c 0 t (ix2 r k) = A0 m c (ix2 (rowOf t r) k) := by
  unfold iblk
  rw [View.read_apply]
  show V m c main_arg0 _ = _
  rw [V_main_arg0]
  exact congr2 (A0 m c) (by blk_simp [index_0]; simp [rowOf, mul_comm]) (by blk_simp [index_0])

theorem blk_1 (t : Fin cfg0.N) (r : Fin 512) (k : Fin 512) :
    iblk m c 1 t (ix2 r k) = A1 m c (ix2 (rowOf t r) k) := by
  unfold iblk
  rw [View.read_apply]
  show V m c main_arg1 _ = _
  rw [V_main_arg1]
  exact congr2 (A1 m c) (by blk_simp [index_1]; simp [rowOf, mul_comm]) (by blk_simp [index_1]; try simp)

theorem blk_2 (t : Fin cfg0.N) (r : Fin 512) (k : Fin 512) :
    iblk m c 2 t (ix2 r k) = A2 m c (ix2 (rowOf t r) k) := by
  unfold iblk
  rw [View.read_apply]
  show V m c main_arg2 _ = _
  rw [V_main_arg2]
  exact congr2 (A2 m c) (by blk_simp [index_2]; simp [rowOf, mul_comm]) (by blk_simp [index_2]; try simp)

theorem blk_3 (t : Fin cfg0.N) (r : Fin 512) (k : Fin 512) :
    iblk m c 3 t (ix2 r k) = A3 m c (ix2 (rowOf t r) k) := by
  unfold iblk
  rw [View.read_apply]
  show V m c main_arg3 _ = _
  rw [V_main_arg3]
  exact congr2 (A3 m c) (by blk_simp [index_3]; simp [rowOf, mul_comm]) (by blk_simp [index_3]; try simp)

theorem blk_4 (t : Fin cfg0.N) (r : Fin 512) (k : Fin 512) :
    iblk m c 4 t (ix2 r k) = A4 m c (ix2 (rowOf t r) k) := by
  unfold iblk
  rw [View.read_apply]
  show V m c main_arg4 _ = _
  rw [V_main_arg4]
  exact congr2 (A4 m c) (by blk_simp [index_4]; simp [rowOf, mul_comm]) (by blk_simp [index_4]; try simp)

theorem blk_5 (t : Fin cfg0.N) (r : Fin 512) (k : Fin 128) :
    iblk m c 5 t (ix2 r k) = if h : k.val < 16 then A5 m c (ix2 (rowOf t r) ⟨k.val, h⟩) else (0 : EReal) := by
  unfold iblk
  rw [View.read_apply]
  show V m c main_v2 _ = _
  unfold V
  have h0 : (((win0_5.blk t).view.emb (ix2 r k)) 0).val = (rowOf t r).val := by blk_simp [index_5]; simp [rowOf, mul_comm]
  have h1 : (((win0_5.blk t).view.emb (ix2 r k)) 1).val = k.val := by blk_simp [index_5]; try simp
  generalize ((win0_5.blk t).view.emb (ix2 r k)) = i at h0 h1 ⊢
  after_reads_at
  by_cases h : k.val < 16
  · rw [dif_pos (by omega), dif_pos h]
    exact congr2 (A5 m c) h0 h1
  · rw [dif_neg (by omega), dif_neg h]
    exact sitofp_zero (φ := .bf16)

theorem blk_6 (t : Fin cfg0.N) (r : Fin 512) (k : Fin 1024) :
    iblk m c 6 t (ix2 r k) = A6 m c (ix2 (rowOf t r) k) := by
  unfold iblk
  rw [View.read_apply]
  show V m c main_arg6 _ = _
  rw [V_main_arg6]
  exact congr2 (A6 m c) (by blk_simp [index_6]; simp [rowOf, mul_comm]) (by blk_simp [index_6]; try simp)

theorem blk_7 (t : Fin cfg0.N) (r : Fin 512) (k : Fin 1024) :
    iblk m c 7 t (ix2 r k) = A7 m c (ix2 (rowOf t r) k) := by
  unfold iblk
  rw [View.read_apply]
  show V m c main_arg7 _ = _
  rw [V_main_arg7]
  exact congr2 (A7 m c) (by blk_simp [index_7]; simp [rowOf, mul_comm]) (by blk_simp [index_7]; try simp)

theorem blk_8 (t : Fin cfg0.N) (k : Fin 4880) (j : Fin 1024) : iblk m c 8 t (ix2 k j) = W m c (ix2 j k) := by
  unfold iblk
  rw [View.read_apply]
  show V m c main_v1 _ = _
  unfold V
  have h0 : (((win0_8.blk t).view.emb (ix2 k j)) 0).val = k.val := by blk_simp [index_8]; try simp
  have h1 : (((win0_8.blk t).view.emb (ix2 k j)) 1).val = j.val := by blk_simp [index_8]; try simp
  generalize ((win0_8.blk t).view.emb (ix2 k j)) = i at h0 h1 ⊢
  after_reads_at
  exact congr2 (W m c) h1 h0

theorem blk_9 (t : Fin cfg0.N) (r : Fin 512) (k : Fin 1024) :
    iblk m c 9 t (ix2 r k) = X m c (ix2 (rowOf t r) k) := by
  unfold iblk
  rw [View.read_apply]
  show V m c main_arg9 _ = _
  rw [V_main_arg9]
  exact congr2 (X m c) (by blk_simp [index_9]; simp [rowOf, mul_comm]) (by blk_simp [index_9]; try simp)

theorem blk_10 (t : Fin cfg0.N) (r : Fin 512) (k : Fin 1024) :
    iblk m c 10 t (ix2 r k) = E m c (ix2 (rowOf t r) k) := by
  unfold iblk
  rw [View.read_apply]
  show V m c main_arg10 _ = _
  rw [V_main_arg10]
  exact congr2 (E m c) (by blk_simp [index_10]; simp [rowOf, mul_comm]) (by blk_simp [index_10]; try simp)

theorem blk_11 (t : Fin cfg0.N) (k : Fin 1024) : iblk m c 11 t (ix2 0 k) = G m c (ix2 0 k) := by
  unfold iblk
  rw [View.read_apply]
  show V m c main_arg11 _ = _
  rw [V_main_arg11]
  exact congr2 (G m c) (by blk_simp [index_11]; try simp) (by blk_simp [index_11]; try simp)

/-- The padded lanes of the small piece meet zeros: its product keeps the sixteen true columns. -/
theorem small_sum (R : Fin 8192) (j : Fin 1024) :
    ∑ k : Fin 128, (if h : k.val < 16 then A5 m c (ix2 R ⟨k.val, h⟩) else (0 : EReal)) * W m c (ix2 j ⟨2816 + k.val, by omega⟩)
      = ∑ k : Fin 16, A5 m c (ix2 R k) * W m c (ix2 j ⟨2816 + k.val, by omega⟩) := by
  rw [Sums.cut 16 112 rfl]
  have h0 : ∀ i : Fin 112, (if h : 16 + i.val < 16 then A5 m c (ix2 R ⟨16 + i.val, h⟩) else (0 : EReal))
      * W m c (ix2 j ⟨2816 + (16 + i.val), by omega⟩) = 0 := fun i => by rw [dif_neg (by omega), zero_mul]
  rw [Finset.sum_congr rfl (fun i _ => h0 i), Finset.sum_const_zero, add_zero]
  exact Finset.sum_congr rfl fun i _ => by rw [dif_pos i.isLt]

/-! ## What one point stores -/

/-- The first result's tile. -/
theorem point_gx (t : Fin cfg0.N) (r : Fin 512) (j : Fin 1024) :
    (outsAt0 m c t.val t.isLt).1 (ix2 r j)
      = gx (A0 m c) (A1 m c) (A2 m c) (A3 m c) (A4 m c) (A5 m c) (A6 m c) (A7 m c) (W m c) (X m c) (E m c) (G m c) (rowOf t r) j := by
  by_cases h0 : t.val % 16 = 0
  · rw [outsAt0_A m c t h0]; frame_out
    unfold_payloads; pointwise
    simp only [blk_0, blk_1, blk_2, blk_3, blk_4, blk_5, blk_6, blk_7, blk_8, blk_9, blk_10, blk_11, small_sum]
    rfl
  · rw [outsAt0_B m c t h0]; frame_out
    unfold_payloads; pointwise
    simp only [blk_0, blk_1, blk_2, blk_3, blk_4, blk_5, blk_6, blk_7, blk_8, blk_9, blk_10, blk_11, small_sum]
    rfl

/-- What a tile adds to the second result. -/
def tileGg (t : ℕ) (j : Fin 1024) : EReal :=
  ∑ r : Fin 512, Sums.ext (fun R => ggRow (A0 m c) (A1 m c) (A2 m c) (A3 m c) (A4 m c) (A5 m c) (A6 m c) (A7 m c) (W m c) (X m c) R j)
    (512 * t + r.val)

theorem tileGg_eq (t : Fin cfg0.N) (j : Fin 1024) : tileGg m c t.val j
    = ∑ r : Fin 512, ggRow (A0 m c) (A1 m c) (A2 m c) (A3 m c) (A4 m c) (A5 m c) (A6 m c) (A7 m c) (W m c) (X m c) (rowOf t r) j :=
  Finset.sum_congr rfl fun r _ => Sums.ext_of_lt _ (rowOf t r).isLt

/-- At the first point the second result is that tile's sum. -/
theorem point_gg_first (t : Fin cfg0.N) (h0 : t.val % 16 = 0) (j : Fin 1024) :
    (outsAt0 m c t.val t.isLt).2 (ix2 0 j) = (0 : EReal) + tileGg m c t.val j := by
  rw [tileGg_eq, zero_add, outsAt0_A m c t h0]; frame_out
  unfold_payloads; pointwise
  simp only [blk_0, blk_1, blk_2, blk_3, blk_4, blk_5, blk_6, blk_7, blk_8, blk_9, blk_10, blk_11, small_sum]
  rfl

/-- At every other point that tile's sum is added to what the point before left. -/
theorem point_gg_next (t : Fin cfg0.N) (h0 : ¬t.val % 16 = 0) (j : Fin 1024) :
    (outsAt0 m c t.val t.isLt).2 (ix2 0 j)
      = ((outsAt0 m c (t.val - 1) (Nat.lt_of_le_of_lt (Nat.sub_le _ _) t.isLt)).2 (ix2 0 j) : EReal) + tileGg m c t.val j := by
  rw [tileGg_eq, outsAt0_B m c t h0]; frame_out
  unfold_payloads; pointwise
  simp only [blk_0, blk_1, blk_2, blk_3, blk_4, blk_5, blk_6, blk_7, blk_8, blk_9, blk_10, blk_11, small_sum]
  rfl

/-- After the last point the second result is the sum over all rows. -/
theorem point_gg (t : Fin cfg0.N) (ht : t.val % 16 = 15) (j : Fin 1024) :
    (outsAt0 m c t.val t.isLt).2 (ix2 0 j)
      = gg (A0 m c) (A1 m c) (A2 m c) (A3 m c) (A4 m c) (A5 m c) (A6 m c) (A7 m c) (W m c) (X m c) j := by
  have h := Pipeline.eq_sum_of_reset_step_apply_single_of_mod (M := EReal)
    (fun n (hn : n < cfg0.N) j => (outsAt0 m c n hn).2 (ix2 0 j)) 16 (fun _ => 0) (fun n j => tileGg m c n j)
    (fun t h0 j => point_gg_first m c t h0 j) (fun t h0 j => point_gg_next m c t h0 j) (Nat.le_of_eq N_0) t ht j
  refine h.trans ?_
  rw [zero_add, gg, Sums.tiles 16 512 rfl]
  rfl

/-! ## The two result arrays -/

/-- The first result. -/
def outGx : Mat 8192 1024 := fun i =>
  gx (A0 m c) (A1 m c) (A2 m c) (A3 m c) (A4 m c) (A5 m c) (A6 m c) (A7 m c) (W m c) (X m c) (E m c) (G m c) (i 0) (i 1)

/-- The second result. -/
def outGg : Mat 1 1024 := fun i =>
  gg (A0 m c) (A1 m c) (A2 m c) (A3 m c) (A4 m c) (A5 m c) (A6 m c) (A7 m c) (W m c) (X m c) (i 1)

theorem final_gx : (dats m 0 c).arrAt 12 cfg0.N = outGx m c := by
  refine (dats m 0 c).arrAt_eq_of_covers 12 (outGx m c) (by decide +kernel) fun t hf y => ?_
  have e0 : (((cfg0.win 12).blk t).view.emb y 0).val = 512 * t.val + (y 0).val := by blk_simp [index_12]; simp [mul_comm]
  have e1 : (((cfg0.win 12).blk t).view.emb y 1).val = (y 1).val := by blk_simp [index_12]
  have hr : ∀ (r : Fin 512) (j : Fin 1024) (i : S8192x1024.Idx), (i 0).val = 512 * t.val + r.val → (i 1).val = j.val →
      (outsAt0 m c t.val t.isLt).1 (ix2 r j) = outGx m c i := fun r j i h0 h1 => by
    rw [point_gx]; unfold outGx
    rw [show i 0 = rowOf t r from Fin.ext h0, show i 1 = j from Fin.ext h1]
  refine Eq.trans ?_ (hr (y 0) (y 1) _ e0 e1)
  rw [after0_12]
  show (outsAt0 m c t.val t.isLt).1 _ = _
  exact congr2 (a := 512) (b := 1024) (outsAt0 m c t.val t.isLt).1 rfl rfl

theorem final_gg : (dats m 0 c).arrAt 13 cfg0.N = outGg m c := by
  refine (dats m 0 c).arrAt_eq_of_covers 13 (outGg m c) (by decide +kernel) fun t hf y => ?_
  have e1 : (((cfg0.win 13).blk t).view.emb y 1).val = (y 1).val := by blk_simp [index_13]
  have hr : ∀ (j : Fin 1024) (i : S1x1024.Idx), (i 1).val = j.val →
      (outsAt0 m c t.val t.isLt).2 (ix2 0 j) = outGg m c i := fun j i h1 => by
    rw [point_gg m c t ((flush0_13 t).mp hf)]; unfold outGg
    rw [show i 1 = j from Fin.ext h1]
  refine Eq.trans ?_ (hr (y 1) _ e1)
  rw [after0_13]
  show (outsAt0 m c t.val t.isLt).2 _ = _
  have h0 : (y 0).val = 0 := Nat.lt_one_iff.mp (y 0).isLt
  exact congr2 (a := 1) (b := 1024) (outsAt0 m c t.val t.isLt).2 h0 rfl

/-! ## The run -/

variable (ρ : Dev nD → PrngReg)

/-- The program ends with the two results at their sums and the arguments as they were. -/
theorem run : θ_run defs (onTc (τ := τ) (main (F := Ideal))) ⟨m, fun _ => 0, ρ⟩ fun r => ∀ c : Dev nD,
      r.2.mem ((c : Thread nD τ).loc main_v4_0) = outGx m c
      ∧ r.2.mem ((c : Thread nD τ).loc main_v4_1) = outGg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final_gx m c), (h c).2.1.trans (final_gg m c), (h c).2.2⟩)
    (Value.run_blocks m ρ)

end Cert.Kernel2Ideal.Proj

end
-- ==== Proof.ProjReference.lean ====
/- What the reference of the input projection's backward pass computes: the derivative of
   `x ↦ (x, rms_norm(x, g) · w)`, read element by element, is the kernel's sums.

   The cotangent of the product is one array of 4880 columns; its product with the weights is cut into the eight pieces'
   sums. The reference sends the cotangent of the mean square back through the mean twice (as the two factors of the
   square); `RowNorm.norm_bwd` brings this to the kernel's form. -/
module

public import proofs.«01_k».proof.Proof.ProjSpec
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Reference2Ideal.Proj

open Cert.Reference2Ideal Cert.Reference2Ideal.Read Idealize.ShloMosaic
open Cert.Proj

variable (a0 : Mat 8192 768) (a1 a2 a3 a4 : Mat 8192 512) (a5 : Mat 8192 16) (a6 a7 : Mat 8192 1024)
  (w : Mat 1024 4880) (x e : Mat 8192 1024) (g : Mat 1 1024)

/-- Columns of the eight pieces side by side: the first piece, … -/
theorem side_0 (R : Fin 8192) (k : Fin 768) :
    (val_main_v8 (F := Ideal) a0 a1 a2 a3 a4 a5 a6 a7 (ix2 R ⟨k.val, by omega⟩) : EReal) = a0 (ix2 R k) := by
  pointwise [val_main_v8, val_main_v0, val_main_v1, val_main_v2, val_main_v3, val_main_v4, val_main_v5, val_main_v6, val_main_v7]

/-- … and piece 2, from column 768 on. -/
theorem side_1 (R : Fin 8192) (k : Fin 512) :
    (val_main_v8 (F := Ideal) a0 a1 a2 a3 a4 a5 a6 a7 (ix2 R ⟨768 + k.val, by omega⟩) : EReal) = a1 (ix2 R k) := by
  pointwise [val_main_v8, val_main_v0, val_main_v1, val_main_v2, val_main_v3, val_main_v4, val_main_v5, val_main_v6, val_main_v7]

/-- … and piece 3, from column 1280 on. -/
theorem side_2 (R : Fin 8192) (k : Fin 512) :
    (val_main_v8 (F := Ideal) a0 a1 a2 a3 a4 a5 a6 a7 (ix2 R ⟨1280 + k.val, by omega⟩) : EReal) = a2 (ix2 R k) := by
  pointwise [val_main_v8, val_main_v0, val_main_v1, val_main_v2, val_main_v3, val_main_v4, val_main_v5, val_main_v6, val_main_v7]
  rw [dif_neg (by omega)]
  rw [dif_neg (by omega)]
  rw [dif_pos (by omega)]
  exact congrArg (fun q => a2 (ix2 R q)) (Fin.ext (by show _ = k.val; dsimp only; omega))

/-- … and piece 4, from column 1792 on. -/
theorem side_3 (R : Fin 8192) (k : Fin 512) :
    (val_main_v8 (F := Ideal) a0 a1 a2 a3 a4 a5 a6 a7 (ix2 R ⟨1792 + k.val, by omega⟩) : EReal) = a3 (ix2 R k) := by
  pointwise [val_main_v8, val_main_v0, val_main_v1, val_main_v2, val_main_v3, val_main_v4, val_main_v5, val_main_v6, val_main_v7]
  rw [dif_neg (by omega)]
  rw [dif_neg (by omega)]
  rw [dif_neg (by omega)]
  rw [dif_pos (by omega)]
  exact congrArg (fun q => a3 (ix2 R q)) (Fin.ext (by show _ = k.val; dsimp only; omega))

/-- … and piece 5, from column 2304 on. -/
theorem side_4 (R : Fin 8192) (k : Fin 512) :
    (val_main_v8 (F := Ideal) a0 a1 a2 a3 a4 a5 a6 a7 (ix2 R ⟨2304 + k.val, by omega⟩) : EReal) = a4 (ix2 R k) := by
  pointwise [val_main_v8, val_main_v0, val_main_v1, val_main_v2, val_main_v3, val_main_v4, val_main_v5, val_main_v6, val_main_v7]
  rw [dif_neg (by omega)]
  rw [dif_neg (by omega)]
  rw [dif_neg (by omega)]
  rw [dif_neg (by omega)]
  rw [dif_pos (by omega)]
  exact congrArg (fun q => a4 (ix2 R q)) (Fin.ext (by show _ = k.val; dsimp only; omega))

/-- … and piece 6, from column 2816 on. -/
theorem side_5 (R : Fin 8192) (k : Fin 16) :
    (val_main_v8 (F := Ideal) a0 a1 a2 a3 a4 a5 a6 a7 (ix2 R ⟨2816 + k.val, by omega⟩) : EReal) = a5 (ix2 R k) := by
  pointwise [val_main_v8, val_main_v0, val_main_v1, val_main_v2, val_main_v3, val_main_v4, val_main_v5, val_main_v6, val_main_v7]
  rw [dif_neg (by omega)]
  rw [dif_neg (by omega)]
  rw [dif_neg (by omega)]
  rw [dif_neg (by omega)]
  rw [dif_neg (by omega)]
  rw [dif_pos (by omega)]
  exact congrArg (fun q => a5 (ix2 R q)) (Fin.ext (by show _ = k.val; dsimp only; omega))

/-- … and piece 7, from column 2832 on. -/
theorem side_6 (R : Fin 8192) (k : Fin 1024) :
    (val_main_v8 (F := Ideal) a0 a1 a2 a3 a4 a5 a6 a7 (ix2 R ⟨2832 + k.val, by omega⟩) : EReal) = a6 (ix2 R k) := by
  pointwise [val_main_v8, val_main_v0, val_main_v1, val_main_v2, val_main_v3, val_main_v4, val_main_v5, val_main_v6, val_main_v7]
  rw [dif_neg (by omega)]
  rw [dif_neg (by omega)]
  rw [dif_neg (by omega)]
  rw [dif_neg (by omega)]
  rw [dif_neg (by omega)]
  rw [dif_neg (by omega)]
  rw [dif_pos (by omega)]
  exact congrArg (fun q => a6 (ix2 R q)) (Fin.ext (by show _ = k.val; dsimp only; omega))

/-- … and piece 8, from column 3856 on. -/
theorem side_7 (R : Fin 8192) (k : Fin 1024) :
    (val_main_v8 (F := Ideal) a0 a1 a2 a3 a4 a5 a6 a7 (ix2 R ⟨3856 + k.val, by omega⟩) : EReal) = a7 (ix2 R k) := by
  pointwise [val_main_v8, val_main_v0, val_main_v1, val_main_v2, val_main_v3, val_main_v4, val_main_v5, val_main_v6, val_main_v7]
  rw [dif_neg (by omega)]
  rw [dif_neg (by omega)]
  rw [dif_neg (by omega)]
  rw [dif_neg (by omega)]
  rw [dif_neg (by omega)]
  rw [dif_neg (by omega)]
  rw [dif_neg (by omega)]
  exact congrArg (fun q => a7 (ix2 R q)) (Fin.ext (by show _ = k.val; dsimp only; omega))

/-- The product with the weights, cut into the eight pieces' sums. -/
theorem dh_read (R : Fin 8192) (j : Fin 1024) :
    (val_main_v26 (F := Ideal) a0 a1 a2 a3 a4 a5 a6 a7 w (ix2 R j) : EReal) = dh a0 a1 a2 a3 a4 a5 a6 a7 w R j := by
  have h : (val_main_v26 (F := Ideal) a0 a1 a2 a3 a4 a5 a6 a7 w (ix2 R j) : EReal)
      = ∑ k : Fin 4880, (val_main_v8 (F := Ideal) a0 a1 a2 a3 a4 a5 a6 a7 (ix2 R k) : EReal) * w (ix2 j k) := by
    pointwise [val_main_v26]
  rw [h, Sums.cut 3856 1024 rfl, Sums.cut 2832 1024 rfl, Sums.cut 2816 16 rfl, Sums.cut 2304 512 rfl, Sums.cut 1792 512 rfl,
    Sums.cut 1280 512 rfl, Sums.cut 768 512 rfl]
  simp only [side_0, side_1, side_2, side_3, side_4, side_5, side_6, side_7]
  rfl

/-- The gradient of `x`. -/
theorem gx_read (R : Fin 8192) (j : Fin 1024) :
    (val_main_v46 (F := Ideal) a0 a1 a2 a3 a4 a5 a6 a7 w x e g (ix2 R j) : EReal)
      = gx a0 a1 a2 a3 a4 a5 a6 a7 w x e g R j := by
  pointwise [val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v25, val_main_v22, val_main_v23, val_main_v24,
    val_main_v19, val_main_v18, val_main_v17, val_main_v16, val_main_v15, val_main_v14, val_main_v13, val_main_v12, val_main_v11,
    val_main_v10, val_main_v9, val_main_cst, val_main_cst_0, val_main_cst_1, val_main_cst_2, val_main_cst_3, val_main_cst_4,
    val_main_cst_5, val_main_cst_6]
  simp only [dh_read, Fin.sum_univ_one]
  exact (RowNorm.norm_bwd (row x R) (dn a0 a1 a2 a3 a4 a5 a6 a7 w g R) (e (ix2 R j)) j).symm

/-- The gradient of the gain. -/
theorem gg_read (j : Fin 1024) :
    (val_main_v29 (F := Ideal) a0 a1 a2 a3 a4 a5 a6 a7 w x (ix2 0 j) : EReal) = gg a0 a1 a2 a3 a4 a5 a6 a7 w x j := by
  pointwise [val_main_v29, val_main_v28, val_main_v27, val_main_v21, val_main_v20,
    val_main_v16, val_main_v15, val_main_v14, val_main_v13, val_main_v12, val_main_v11,
    val_main_v10, val_main_v9, val_main_cst, val_main_cst_0, val_main_cst_1, val_main_cst_2, val_main_cst_3, val_main_cst_4,
    val_main_cst_5, val_main_cst_6]
  simp only [dh_read]
  exact Finset.sum_congr rfl fun R _ => mul_comm _ _

/-- The two results as whole arrays. -/
theorem gx_eq : val_main_v46 (F := Ideal) a0 a1 a2 a3 a4 a5 a6 a7 w x e g
    = fun i => gx a0 a1 a2 a3 a4 a5 a6 a7 w x e g (i 0) (i 1) := by
  funext i
  refine Eq.trans ?_ (gx_read a0 a1 a2 a3 a4 a5 a6 a7 w x e g (i 0) (i 1))
  exact congrArg _ (funext fun q => match q with | ⟨0, _⟩ => rfl | ⟨1, _⟩ => rfl)

theorem gg_eq : val_main_v29 (F := Ideal) a0 a1 a2 a3 a4 a5 a6 a7 w x = fun i => gg a0 a1 a2 a3 a4 a5 a6 a7 w x (i 1) := by
  funext i
  refine Eq.trans ?_ (gg_read a0 a1 a2 a3 a4 a5 a6 a7 w x (i 1))
  have h0 : (i 0).val = 0 := Nat.lt_one_iff.mp (i 0).isLt
  exact congrArg _ (funext fun q => match q with | ⟨0, _⟩ => Fin.ext h0 | ⟨1, _⟩ => rfl)

end Cert.Reference2Ideal.Proj

end
-- ==== Proof.ProjClaim.lean ====
/- The backward pass of the input projection: the kernel's two results are the reference's. -/
module

public import proofs.«01_k».proof.Defs
public import proofs.«01_k».proof.Proof.ProjKernel
public import proofs.«01_k».proof.Proof.ProjReference

@[expose] public section

noncomputable section

namespace Cert.Proj

open Idealize.ShloMosaic Idealize.SL.Sem

/-- From memories that agree on the arguments, both programs end with the gradient of `x` and the gradient of the gain. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Kernel2Ideal.Proj.outGx m c, fun c => Kernel2Ideal.Proj.outGg m c, Kernel2Ideal.Proj.run m ρ,
    (θ_run Cert.Reference2Ideal.defs _ _).mono (fun _ h c => ⟨(h c).1.trans ?_, (h c).2.1.trans ?_, (h c).2.2⟩)
      (Cert.Reference2Ideal.Value.run m' ρ')⟩
  · rw [Cert.Reference2Ideal.Read.val_main_v46_eq, Reference2Ideal.Proj.gx_eq]
    obtain ⟨h0, h1, h2, h3, h4, h5, h6, h7, h8, h9, h10, h11⟩ := hag c
    rw [h0, h1, h2, h3, h4, h5, h6, h7, h8, h9, h10, h11]
    rfl
  · rw [Cert.Reference2Ideal.Read.val_main_v29_eq, Reference2Ideal.Proj.gg_eq]
    obtain ⟨h0, h1, h2, h3, h4, h5, h6, h7, h8, h9, h10, h11⟩ := hag c
    rw [h0, h1, h2, h3, h4, h5, h6, h7, h8, h9]
    rfl

end Cert.Proj

end
-- ==== Proof.InSpec.lean ====
/- What the forward input projection computes, as plain sums of extended reals.

   Row `R` of `x` is normalised and scaled by the gain (`hn`), and multiplied with the 4880 columns of `w` (`proj`). The
   first 640 columns are ten heads of 64 lanes (eight of the queries, two of the keys): on each, the first sixteen lanes are
   turned by the angles of the row's position, as eight pairs of lanes eight apart (`turned`); the other lanes stay. -/
module

public import proofs.«01_k».proof.Proof.ProjSpec

@[expose] public section

noncomputable section

namespace Cert.In

open Idealize.ShloMosaic
open Cert.Proj

variable (x : Mat 8192 1024) (pos : (⟨1, ![8192]⟩ : Shape).Idx → BitVec 32) (g : Mat 1 1024) (w : Mat 1024 4880)

/-- Row `R` normalised and scaled by the gain. -/
def hn (R : Fin 8192) (k : Fin 1024) : EReal := x (ix2 R k) * RowNorm.rs (row x R) * g (ix2 0 k)

/-- Column `q` of the product with the weights. -/
def proj (R : Fin 8192) (q : Fin 4880) : EReal := ∑ k : Fin 1024, hn x g R k * w (ix2 k q)

/-- The angle of pair `j` at row `R`: the row's position times the pair's frequency, the exponential of minus the logarithm
    of the base times `j / 8`. -/
def ang (R : Fin 8192) (j : ℕ) : EReal :=
  FloatOps.sitofp (F := Ideal) FTy.f32 (pos (ix1 R)) *
    Ideal.exp (Ideal.ofBits FTy.f32 3243373875#32 * FloatOps.sitofp (F := Ideal) FTy.f32 (BitVec.ofNat 32 j)
      * Ideal.ofBits FTy.f32 1040187392#32)

/-- The cosine and the sine of that angle. -/
def cosv (R : Fin 8192) (j : ℕ) : EReal := Ideal.cos (ang pos R j)
def sinv (R : Fin 8192) (j : ℕ) : EReal := Ideal.sin (ang pos R j)

/-- Column `q` of the queries and the keys after the turn: lane `q % 64` of its head decides. -/
def turned (R : Fin 8192) (q : Fin 640) : EReal :=
  if q.val % 64 < 8 then
    proj x g w R ⟨q.val, by omega⟩ * cosv pos R (q.val % 64) - proj x g w R ⟨q.val + 8, by omega⟩ * sinv pos R (q.val % 64)
  else if q.val % 64 < 16 then
    proj x g w R ⟨q.val, by omega⟩ * cosv pos R (q.val % 64 - 8)
      + proj x g w R ⟨q.val - 8, by omega⟩ * sinv pos R (q.val % 64 - 8)
  else proj x g w R ⟨q.val, by omega⟩

/-- The queries, the keys and the values side by side: the values are not turned. -/
def qkv (R : Fin 8192) (q : Fin 768) : EReal :=
  if h : q.val < 640 then turned x pos g w R ⟨q.val, h⟩ else proj x g w R ⟨q.val, by omega⟩

/-- The `n` columns from `off` on: one of the other pieces the product is cut into. -/
def part {n : ℕ} (off : ℕ) (h : off + n ≤ 4880) (R : Fin 8192) (j : Fin n) : EReal :=
  proj x g w R ⟨off + j.val, by omega⟩

/-! ## The three tables of a row

    On 64 lanes: the factor of the lane itself, of the lane eight further, and of the lane eight before. -/

def tcos (R : Fin 8192) (p : ℕ) : EReal := if p < 8 then cosv pos R p else if p < 16 then cosv pos R (p - 8) else 1
def tnext (R : Fin 8192) (p : ℕ) : EReal := if p < 8 then -sinv pos R p else 0
def tprev (R : Fin 8192) (p : ℕ) : EReal := if p < 8 then 0 else if p < 16 then sinv pos R (p - 8) else 0

/-- A lane times its factor, plus the lane eight further and the lane eight before times theirs, is the turned lane. Where a
    neighbour lies outside the head its factor is zero, so any element may stand there. -/
theorem turned_eq (R : Fin 8192) (q : Fin 640) (a b : EReal)
    (ha : q.val % 64 < 8 → a = proj x g w R ⟨q.val + 8, by omega⟩)
    (hb : 8 ≤ q.val % 64 → q.val % 64 < 16 → b = proj x g w R ⟨q.val - 8, by omega⟩) :
    proj x g w R ⟨q.val, by omega⟩ * tcos pos R (q.val % 64)
      + (a * tnext pos R (q.val % 64) + b * tprev pos R (q.val % 64)) = turned x pos g w R q := by
  unfold tcos tnext tprev turned
  by_cases h8 : q.val % 64 < 8
  · simp only [if_pos h8, mul_zero, add_zero]
    rw [ha h8, mul_neg, ← sub_eq_add_neg]
  · by_cases h16 : q.val % 64 < 16
    · simp only [if_neg h8, if_pos h16, mul_zero, zero_add]
      rw [hb (by omega) h16]
    · simp only [if_neg h8, if_neg h16, mul_zero, add_zero, mul_one]

end Cert.In

end
-- ==== Proof.InKernel.lean ====
/- What the kernel of the forward input projection leaves in its nine results.

   The grid has sixteen points, one per tile of 512 rows. `blk_*` read the windows' blocks as elements of the arguments (the
   weights transposed, the three tables of the positions' angles on 128 lanes); `point_*` are what one point stores. -/
module

public import proofs.«01_k».proof.Proof.InSpec
public import proofs.«01_k».proof.Proof.Gen.Kernel3Ideal.Value
public import Idealize.ShloMosaic.Lib.Pipeline.ValueKit
public import Idealize.ShloMosaic.Lib.StableHlo.ReadAt
public import Idealize.ShloMosaic.Lib.Claim
public import Idealize.ShloMosaic.Lib.KernelVsHost

@[expose] public section

set_option maxRecDepth 16384

noncomputable section

namespace Cert.Kernel3Ideal.In

open Cert.Kernel3Ideal Cert.Kernel3Ideal.Gen Idealize.ShloMosaic Idealize.ShloMosaic.TcCoe Idealize.SL.Sem
open Cert.Proj Cert.In

variable (m : (ℓ : Loc nD τ sig) → Buf (Elt Ideal) ℓ) (c : Dev nD)

/-! ## The arguments -/

abbrev X : Mat 8192 1024 := m ((c : Thread nD τ).loc main_arg0)
abbrev Pos : (⟨1, ![8192]⟩ : Shape).Idx → BitVec 32 := m ((c : Thread nD τ).loc main_arg1)
abbrev G : Mat 1 1024 := m ((c : Thread nD τ).loc main_arg2)
abbrev W : Mat 1024 4880 := m ((c : Thread nD τ).loc main_arg3)

/-! ## The blocks the windows hold at a point -/

/-- Row `r` of the tile of point `t`. -/
def rowOf (t : Fin cfg0.N) (r : Fin 512) : Fin 8192 := ⟨512 * t.val + r.val, by
  have := t.isLt; have hN : cfg0.N = 16 := N_0; omega⟩

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![t.val, 0] := by decide +kernel
theorem index_9 : ∀ t : Fin cfg0.N, win0_9.index t = ![t.val, 0] := by decide +kernel
theorem index_10 : ∀ t : Fin cfg0.N, win0_10.index t = ![t.val, 0] := by decide +kernel
theorem index_11 : ∀ t : Fin cfg0.N, win0_11.index t = ![t.val, 0] := by decide +kernel
theorem index_12 : ∀ t : Fin cfg0.N, win0_12.index t = ![t.val, 0] := by decide +kernel
theorem index_13 : ∀ t : Fin cfg0.N, win0_13.index t = ![t.val, 0] := by decide +kernel
theorem index_14 : ∀ t : Fin cfg0.N, win0_14.index t = ![t.val, 0] := by decide +kernel

/-- Two elements of a matrix are one element if their coordinates are. -/
theorem congr2 {a b : ℕ} {α : Type} (v : (⟨2, ![a, b]⟩ : Shape).Idx → α) {i j : (⟨2, ![a, b]⟩ : Shape).Idx}
    (h0 : (i 0).val = (j 0).val) (h1 : (i 1).val = (j 1).val) : v i = v j :=
  congrArg v (funext fun x => Fin.ext (match x with | ⟨0, _⟩ => h0 | ⟨1, _⟩ => h1))

theorem blk_0 (t : Fin cfg0.N) (r : Fin 512) (k : Fin 1024) :
    iblk m c 0 t (ix2 r k) = X m c (ix2 (rowOf t r) k) := by
  unfold iblk
  rw [View.read_apply]
  show V m c main_arg0 _ = _
  rw [V_main_arg0]
  exact congr2 (X m c) (by blk_simp [index_0]; simp [rowOf, mul_comm]) (by blk_simp [index_0]; try simp)

theorem blk_1 (t : Fin cfg0.N) (k : Fin 1024) : iblk m c 1 t (ix2 0 k) = G m c (ix2 0 k) := by
  unfold iblk
  rw [View.read_apply]
  show V m c main_arg2 _ = _
  rw [V_main_arg2]
  exact congr2 (G m c) (by blk_simp [index_1]; try simp) (by blk_simp [index_1]; try simp)

theorem blk_2 (t : Fin cfg0.N) (k : Fin 4880) (j : Fin 1024) : iblk m c 2 t (ix2 k j) = W m c (ix2 j k) := by
  unfold iblk
  rw [View.read_apply]
  show V m c main_v1 _ = _
  unfold V
  have h0 : (((win0_2.blk t).view.emb (ix2 k j)) 0).val = k.val := by blk_simp [index_2]; try simp
  have h1 : (((win0_2.blk t).view.emb (ix2 k j)) 1).val = j.val := by blk_simp [index_2]; try simp
  generalize ((win0_2.blk t).view.emb (ix2 k j)) = i at h0 h1 ⊢
  after_reads_at
  exact congr2 (W m c) h1 h0

theorem blk_3 (t : Fin cfg0.N) (r : Fin 512) (l : Fin 128) :
    iblk m c 3 t (ix2 r l) = tcos (Pos m c) (rowOf t r) (l.val % 64) := by
  unfold iblk
  rw [View.read_apply]
  show V m c main_v19 _ = _
  unfold V
  have h0 : (((win0_3.blk t).view.emb (ix2 r l)) 0).val = (rowOf t r).val := by
    blk_simp [index_3]; simp [rowOf, mul_comm]
  have h1 : (((win0_3.blk t).view.emb (ix2 r l)) 1).val = l.val := by blk_simp [index_3]; try simp
  generalize ((win0_3.blk t).view.emb (ix2 r l)) = i at h0 h1 ⊢
  have hl := l.isLt
  rw [← (Fin.ext h0 : (i 0 : Fin 8192) = rowOf t r), ← h1]
  rw [← h1] at hl
  clear h0 h1
  unfold tcos
  after_reads_at
  by_cases h0 : (i 1).val < 8
  · rw [dif_pos h0]; refine Eq.trans ?_ (if_pos (by omega)).symm; after_reads_at
    exact congrArg (fun n => cosv (Pos m c) (i 0) n) (show (i 1).val = (i 1).val % 64 by omega)
  rw [dif_neg h0]
  by_cases h1 : (i 1).val - 8 < 8
  · rw [dif_pos h1]; refine Eq.trans ?_ ((if_neg (by omega)).trans (if_pos (by omega))).symm; after_reads_at
    exact congrArg (fun n => cosv (Pos m c) (i 0) n) (show (i 1).val - 8 = (i 1).val % 64 - 8 by omega)
  rw [dif_neg h1]
  by_cases h2 : (i 1).val - 8 - 8 < 48
  · rw [dif_pos h2]; refine Eq.trans ?_ ((if_neg (by omega)).trans (if_neg (by omega))).symm; after_reads_at
  rw [dif_neg h2]
  by_cases h3 : (i 1).val - 8 - 8 - 48 < 8
  · rw [dif_pos h3]; refine Eq.trans ?_ (if_pos (by omega)).symm; after_reads_at
    exact congrArg (fun n => cosv (Pos m c) (i 0) n) (show (i 1).val - 8 - 8 - 48 = (i 1).val % 64 by omega)
  rw [dif_neg h3]
  by_cases h4 : (i 1).val - 8 - 8 - 48 - 8 < 8
  · rw [dif_pos h4]; refine Eq.trans ?_ ((if_neg (by omega)).trans (if_pos (by omega))).symm; after_reads_at
    exact congrArg (fun n => cosv (Pos m c) (i 0) n) (show (i 1).val - 8 - 8 - 48 - 8 = (i 1).val % 64 - 8 by omega)
  rw [dif_neg h4]
  refine Eq.trans ?_ ((if_neg (by omega)).trans (if_neg (by omega))).symm; after_reads_at

theorem blk_4 (t : Fin cfg0.N) (r : Fin 512) (l : Fin 128) :
    iblk m c 4 t (ix2 r l) = tnext (Pos m c) (rowOf t r) (l.val % 64) := by
  unfold iblk
  rw [View.read_apply]
  show V m c main_v21 _ = _
  unfold V
  have h0 : (((win0_4.blk t).view.emb (ix2 r l)) 0).val = (rowOf t r).val := by
    blk_simp [index_4]; simp [rowOf, mul_comm]
  have h1 : (((win0_4.blk t).view.emb (ix2 r l)) 1).val = l.val := by blk_simp [index_4]; try simp
  generalize ((win0_4.blk t).view.emb (ix2 r l)) = i at h0 h1 ⊢
  have hl := l.isLt
  rw [← (Fin.ext h0 : (i 0 : Fin 8192) = rowOf t r), ← h1]
  rw [← h1] at hl
  clear h0 h1
  unfold tnext
  after_reads_at
  by_cases h0 : (i 1).val < 8
  · rw [dif_pos h0]; refine Eq.trans ?_ (if_pos (by omega)).symm; after_reads_at
    exact congrArg (fun n => -sinv (Pos m c) (i 0) n) (show (i 1).val = (i 1).val % 64 by omega)
  rw [dif_neg h0]
  by_cases h1 : (i 1).val - 8 < 8
  · rw [dif_pos h1]; refine Eq.trans ?_ (if_neg (by omega)).symm; after_reads_at
  rw [dif_neg h1]
  by_cases h2 : (i 1).val - 8 - 8 < 48
  · rw [dif_pos h2]; refine Eq.trans ?_ (if_neg (by omega)).symm; after_reads_at
  rw [dif_neg h2]
  by_cases h3 : (i 1).val - 8 - 8 - 48 < 8
  · rw [dif_pos h3]; refine Eq.trans ?_ (if_pos (by omega)).symm; after_reads_at
    exact congrArg (fun n => -sinv (Pos m c) (i 0) n) (show (i 1).val - 8 - 8 - 48 = (i 1).val % 64 by omega)
  rw [dif_neg h3]
  by_cases h4 : (i 1).val - 8 - 8 - 48 - 8 < 8
  · rw [dif_pos h4]; refine Eq.trans ?_ (if_neg (by omega)).symm; after_reads_at
  rw [dif_neg h4]
  refine Eq.trans ?_ (if_neg (by omega)).symm; after_reads_at

theorem blk_5 (t : Fin cfg0.N) (r : Fin 512) (l : Fin 128) :
    iblk m c 5 t (ix2 r l) = tprev (Pos m c) (rowOf t r) (l.val % 64) := by
  unfold iblk
  rw [View.read_apply]
  show V m c main_v22 _ = _
  unfold V
  have h0 : (((win0_5.blk t).view.emb (ix2 r l)) 0).val = (rowOf t r).val := by
    blk_simp [index_5]; simp [rowOf, mul_comm]
  have h1 : (((win0_5.blk t).view.emb (ix2 r l)) 1).val = l.val := by blk_simp [index_5]; try simp
  generalize ((win0_5.blk t).view.emb (ix2 r l)) = i at h0 h1 ⊢
  have hl := l.isLt
  rw [← (Fin.ext h0 : (i 0 : Fin 8192) = rowOf t r), ← h1]
  rw [← h1] at hl
  clear h0 h1
  unfold tprev
  after_reads_at
  by_cases h0 : (i 1).val < 8
  · rw [dif_pos h0]; refine Eq.trans ?_ (if_pos (by omega)).symm; after_reads_at
  rw [dif_neg h0]
  by_cases h1 : (i 1).val - 8 < 8
  · rw [dif_pos h1]; refine Eq.trans ?_ ((if_neg (by omega)).trans (if_pos (by omega))).symm; after_reads_at
    exact congrArg (fun n => sinv (Pos m c) (i 0) n) (show (i 1).val - 8 = (i 1).val % 64 - 8 by omega)
  rw [dif_neg h1]
  by_cases h2 : (i 1).val - 8 - 8 < 48
  · rw [dif_pos h2]; refine Eq.trans ?_ ((if_neg (by omega)).trans (if_neg (by omega))).symm; after_reads_at
  rw [dif_neg h2]
  by_cases h3 : (i 1).val - 8 - 8 - 48 < 8
  · rw [dif_pos h3]; refine Eq.trans ?_ (if_pos (by omega)).symm; after_reads_at
  rw [dif_neg h3]
  by_cases h4 : (i 1).val - 8 - 8 - 48 - 8 < 8
  · rw [dif_pos h4]; refine Eq.trans ?_ ((if_neg (by omega)).trans (if_pos (by omega))).symm; after_reads_at
    exact congrArg (fun n => sinv (Pos m c) (i 0) n) (show (i 1).val - 8 - 8 - 48 - 8 = (i 1).val % 64 - 8 by omega)
  rw [dif_neg h4]
  refine Eq.trans ?_ ((if_neg (by omega)).trans (if_neg (by omega))).symm; after_reads_at

/-! ## What one point stores -/

/-- Column `q` of a tile's rows, normalised and scaled, times the weights held with their columns as rows. -/
def tileProj {n : ℕ} (v : Mat 512 1024) (u : Mat 1 1024) (p : Mat n 1024) (r : Fin 512) (q : Fin n) : EReal :=
  ∑ k : Fin 1024, v (ix2 r k) * Ideal.rsqrt (Ideal.div (∑ k : Fin 1024, v (ix2 r k) * v (ix2 r k)) (Ideal.ofBits FTy.f32 1149239296#32)
    + Ideal.ofBits FTy.f32 897988541#32) * u (ix2 0 k) * p (ix2 q k)

/-- Column `q` of the point's product with all the weights. -/
theorem pay_proj (t : Fin cfg0.N) (r : Fin 512) (q : Fin 4880) :
    tileProj (iblk m c 0 t) (iblk m c 1 t) (iblk m c 2 t) r q = proj (X m c) (G m c) (W m c) (rowOf t r) q := by
  unfold tileProj
  simp only [blk_0, blk_1, blk_2]
  rfl

theorem point_h (t : Fin cfg0.N) (r : Fin 512) (j : Fin 1024) :
    ((outsAt0 m c t).1 (ix2 r j) : EReal) = hn (X m c) (G m c) (rowOf t r) j := by
  unfold outsAt0; frame_out; unfold_payloads; pointwise
  simp only [blk_0, blk_1]
  rfl

theorem point_za (t : Fin cfg0.N) (r : Fin 512) (j : Fin 512) :
    ((outsAt0 m c t).2.2.1 (ix2 r j) : EReal) = proj (X m c) (G m c) (W m c) (rowOf t r) ⟨768 + j.val, by omega⟩ := by
  unfold outsAt0; frame_out; unfold_payloads; pointwise
  simp only [blk_0, blk_1, blk_2]
  rfl

theorem point_qkb (t : Fin cfg0.N) (r : Fin 512) (j : Fin 512) :
    ((outsAt0 m c t).2.2.2.1 (ix2 r j) : EReal) = proj (X m c) (G m c) (W m c) (rowOf t r) ⟨1280 + j.val, by omega⟩ := by
  unfold outsAt0; frame_out; unfold_payloads; pointwise
  simp only [blk_0, blk_1, blk_2]
  rfl

theorem point_vb (t : Fin cfg0.N) (r : Fin 512) (j : Fin 512) :
    ((outsAt0 m c t).2.2.2.2.1 (ix2 r j) : EReal) = proj (X m c) (G m c) (W m c) (rowOf t r) ⟨1792 + j.val, by omega⟩ := by
  unfold outsAt0; frame_out; unfold_payloads; pointwise
  simp only [blk_0, blk_1, blk_2]
  rfl

theorem point_zb (t : Fin cfg0.N) (r : Fin 512) (j : Fin 512) :
    ((outsAt0 m c t).2.2.2.2.2.1 (ix2 r j) : EReal) = proj (X m c) (G m c) (W m c) (rowOf t r) ⟨2304 + j.val, by omega⟩ := by
  unfold outsAt0; frame_out; unfold_payloads; pointwise
  simp only [blk_0, blk_1, blk_2]
  rfl

theorem point_alr (t : Fin cfg0.N) (r : Fin 512) (j : Fin 128) :
    ((outsAt0 m c t).2.2.2.2.2.2.1 (ix2 r j) : EReal) = proj (X m c) (G m c) (W m c) (rowOf t r) ⟨2816 + j.val, by omega⟩ := by
  unfold outsAt0; frame_out; unfold_payloads; pointwise
  simp only [blk_0, blk_1, blk_2]
  rfl

theorem point_ga (t : Fin cfg0.N) (r : Fin 512) (j : Fin 1024) :
    ((outsAt0 m c t).2.2.2.2.2.2.2.1 (ix2 r j) : EReal) = proj (X m c) (G m c) (W m c) (rowOf t r) ⟨2832 + j.val, by omega⟩ := by
  unfold outsAt0; frame_out; unfold_payloads; pointwise
  simp only [blk_0, blk_1, blk_2]
  rfl

theorem point_gb (t : Fin cfg0.N) (r : Fin 512) (j : Fin 1024) :
    ((outsAt0 m c t).2.2.2.2.2.2.2.2 (ix2 r j) : EReal) = proj (X m c) (G m c) (W m c) (rowOf t r) ⟨3856 + j.val, by omega⟩ := by
  unfold outsAt0; frame_out; unfold_payloads; pointwise
  simp only [blk_0, blk_1, blk_2]
  rfl

/-- The first 768 columns before the turn. -/
theorem pay_base (t : Fin cfg0.N) (r : Fin 512) (q : Fin 768) (p : Mat 768 1024)
    (hp : ∀ k : Fin 1024, p (ix2 q k) = iblk m c 2 t (ix2 (⟨q.val, by omega⟩ : Fin 4880) k)) :
    (k0_pay6 (F := Ideal) (iblk m c 0 t) (iblk m c 1 t) p (ix2 r q) : EReal)
      = proj (X m c) (G m c) (W m c) (rowOf t r) ⟨q.val, by omega⟩ := by
  refine Eq.trans ?_ (pay_proj m c t r _)
  unfold_payloads; pointwise
  unfold tileProj
  simp only [hp]

/-- The queries: on 512 columns the lanes eight further and eight before are read from the product turned round. -/
theorem pay_q (r : Fin 512) (j : Fin 512) (v : Mat 512 1024) (u : Mat 1 1024) (p : Mat 768 1024) (a b d : Mat 512 128)
    (fa fb fd : ℕ → EReal) (ha : ∀ l : Fin 128, a (ix2 r l) = fa (l.val % 64)) (hb : ∀ l : Fin 128, b (ix2 r l) = fb (l.val % 64))
    (hd : ∀ l : Fin 128, d (ix2 r l) = fd (l.val % 64)) :
    (k0_pay13 (F := Ideal) (k0_pay11 v u p a) (k0_pay12 v u p b d) (ix2 r j) : EReal)
      = k0_pay6 (F := Ideal) v u p (ix2 r ⟨j.val, by omega⟩) * fa (j.val % 64)
        + (k0_pay6 (F := Ideal) v u p (ix2 r ⟨(j.val + 512 - 504) % 512, by omega⟩) * fb (j.val % 64)
          + k0_pay6 (F := Ideal) v u p (ix2 r ⟨(j.val + 512 - 8) % 512, by omega⟩) * fd (j.val % 64)) := by
  unfold k0_pay13 k0_pay11 k0_pay12 k0_pay10 k0_pay7 k0_pay8 k0_pay9; pointwise
  simp only [ha, hb, hd]
  have hj := j.isLt
  have e : ∀ f : ℕ → EReal, (if h : j.val < 128 then f (j.val % 64) else if h : j.val - 128 < 128 then f ((j.val - 128) % 64)
      else if h : j.val - 128 - 128 < 128 then f ((j.val - 128 - 128) % 64) else f ((j.val - 128 - 128 - 128) % 64)) = f (j.val % 64) := by
    intro f
    split_ifs
    · rfl
    · exact congrArg f (by omega)
    · exact congrArg f (by omega)
    · exact congrArg f (by omega)
  simp only [e]

/-- The keys: the same on their 128 columns. -/
theorem pay_k (r : Fin 512) (j : Fin 128) (v : Mat 512 768) (a b d : Mat 512 128)
    (fa fb fd : ℕ → EReal) (ha : ∀ l : Fin 128, a (ix2 r l) = fa (l.val % 64)) (hb : ∀ l : Fin 128, b (ix2 r l) = fb (l.val % 64))
    (hd : ∀ l : Fin 128, d (ix2 r l) = fd (l.val % 64)) :
    (k0_pay14 (F := Ideal) v (k0_pay7 a) (k0_pay8 b) (k0_pay9 d) (ix2 r j) : EReal)
      = v (ix2 r ⟨512 + j.val, by omega⟩) * fa (j.val % 64)
        + (v (ix2 r ⟨512 + (j.val + 128 - 120) % 128, by omega⟩) * fb (j.val % 64)
          + v (ix2 r ⟨512 + (j.val + 128 - 8) % 128, by omega⟩) * fd (j.val % 64)) := by
  unfold k0_pay14 k0_pay7 k0_pay8 k0_pay9; pointwise
  simp only [ha, hb, hd]

/-- The three pieces of the second result, on their own columns. -/
theorem piece_v (t : Fin cfg0.N) (r : Fin 512) (j : Fin 768) (l : Fin 128) (hl : j.val = 640 + l.val) (p : Mat 768 1024)
    (hp : ∀ (q : Fin 768) (k : Fin 1024), p (ix2 q k) = iblk m c 2 t (ix2 (⟨q.val, by omega⟩ : Fin 4880) k)) :
    ((k0_pay15 (F := Ideal) (k0_pay6 (F := Ideal) (iblk m c 0 t) (iblk m c 1 t) p)) (ix2 r l) : EReal) = qkv (X m c) (Pos m c) (G m c) (W m c) (rowOf t r) j := by
  unfold k0_pay15; pointwise
  rw [pay_base m c t r _ p (hp _)]; unfold qkv; rw [dif_neg (by omega)]
  exact congrArg _ (Fin.ext hl.symm)

theorem piece_k (t : Fin cfg0.N) (r : Fin 512) (j : Fin 768) (l : Fin 128) (hl : j.val = 512 + l.val) (p : Mat 768 1024)
    (hp : ∀ (q : Fin 768) (k : Fin 1024), p (ix2 q k) = iblk m c 2 t (ix2 (⟨q.val, by omega⟩ : Fin 4880) k)) :
    ((k0_pay14 (F := Ideal) (k0_pay6 (F := Ideal) (iblk m c 0 t) (iblk m c 1 t) p)
        (k0_pay7 (iblk m c 3 t)) (k0_pay8 (iblk m c 4 t)) (k0_pay9 (iblk m c 5 t))) (ix2 r l) : EReal)
      = qkv (X m c) (Pos m c) (G m c) (W m c) (rowOf t r) j := by
  have hlt := l.isLt
  have hb := fun q : Fin 768 => pay_base m c t r q p (hp q)
  rw [pay_k r l _ _ _ _ _ _ _ (blk_3 m c t r) (blk_4 m c t r) (blk_5 m c t r), hb, hb, hb]
  unfold qkv; rw [dif_pos (by omega)]
  have e1 : (⟨j.val, by omega⟩ : Fin 4880) = ⟨512 + l.val, by omega⟩ := Fin.ext hl
  have e2 : j.val % 64 = l.val % 64 := by omega
  have h := turned_eq (X m c) (Pos m c) (G m c) (W m c) (rowOf t r) ⟨j.val, by omega⟩
    (proj (X m c) (G m c) (W m c) (rowOf t r) ⟨512 + (l.val + 128 - 120) % 128, by omega⟩)
    (proj (X m c) (G m c) (W m c) (rowOf t r) ⟨512 + (l.val + 128 - 8) % 128, by omega⟩)
    (fun h => congrArg _ (Fin.ext (by dsimp only at h ⊢; omega))) (fun h h' => congrArg _ (Fin.ext (by dsimp only at h h' ⊢; omega)))
  dsimp only at h
  rw [e1, e2] at h
  exact h

theorem piece_q (t : Fin cfg0.N) (r : Fin 512) (j : Fin 768) (l : Fin 512) (hl : j.val = l.val) (p : Mat 768 1024)
    (hp : ∀ (q : Fin 768) (k : Fin 1024), p (ix2 q k) = iblk m c 2 t (ix2 (⟨q.val, by omega⟩ : Fin 4880) k)) :
    ((k0_pay13 (F := Ideal) (k0_pay11 (iblk m c 0 t) (iblk m c 1 t) p (iblk m c 3 t))
        (k0_pay12 (iblk m c 0 t) (iblk m c 1 t) p (iblk m c 4 t) (iblk m c 5 t))) (ix2 r l) : EReal)
      = qkv (X m c) (Pos m c) (G m c) (W m c) (rowOf t r) j := by
  have hlt := l.isLt
  have hb := fun q : Fin 768 => pay_base m c t r q p (hp q)
  rw [pay_q r l _ _ _ _ _ _ _ _ _ (blk_3 m c t r) (blk_4 m c t r) (blk_5 m c t r), hb, hb, hb]
  unfold qkv; rw [dif_pos (by omega)]
  have e1 : (⟨j.val, by omega⟩ : Fin 4880) = ⟨l.val, by omega⟩ := Fin.ext hl
  have e2 : j.val % 64 = l.val % 64 := by omega
  have h := turned_eq (X m c) (Pos m c) (G m c) (W m c) (rowOf t r) ⟨j.val, by omega⟩
    (proj (X m c) (G m c) (W m c) (rowOf t r) ⟨(l.val + 512 - 504) % 512, by omega⟩)
    (proj (X m c) (G m c) (W m c) (rowOf t r) ⟨(l.val + 512 - 8) % 512, by omega⟩)
    (fun h => congrArg _ (Fin.ext (by dsimp only at h ⊢; omega))) (fun h h' => congrArg _ (Fin.ext (by dsimp only at h h' ⊢; omega)))
  dsimp only at h
  rw [e1, e2] at h
  exact h

/-- Three stores side by side, read back: each column has the value its own store gave it. -/
theorem canon_three (r : Fin 512) (j : Fin 768) (v1 v2 : Mat 512 128) (v3 : Mat 512 512) (z : EReal)
    (e1 : ∀ l : Fin 128, j.val = 640 + l.val → v1 (ix2 r l) = z) (e2 : ∀ l : Fin 128, j.val = 512 + l.val → v2 (ix2 r l) = z)
    (e3 : ∀ l : Fin 512, j.val = l.val → v3 (ix2 r l) = z) :
    View.canon (Val := Elt Ideal) (s := S512x768) (e := EltTy.bf16)
      [⟨Rect.unit ![0, 640] ![512, 128] inb_S512x768_S512x128_0_640, v1⟩,
        ⟨Rect.unit ![0, 512] ![512, 128] inb_S512x768_S512x128_0_512, v2⟩,
        ⟨Rect.unit ![0, 0] ![512, 512] inb_S512x768_S512x512_0_0, v3⟩] (ix2 r j) = z := by
  refine View.canon_eq_of_allAt _ _ _ (View.cover_of_tiledBy _ ![512, 128] (by sl_kernel_rfl) _) ?_
  refine View.allAt_cons_unit _ _ _ _ _ ?_ (View.allAt_cons_unit _ _ _ _ _ ?_ (View.allAt_cons_unit _ _ _ _ _ ?_ (View.allAt_nil _ _)))
  · intro x hx
    have h0 : r.val = 0 + (x 0).val := hx 0
    have h1 : j.val = 640 + (x 1).val := hx 1
    exact (congr2 (a := 512) (b := 128) v1 (i := x) (j := ix2 r (x 1)) (h0.trans (Nat.zero_add _)).symm rfl).trans
      (e1 (x 1) h1)
  · intro x hx
    have h0 : r.val = 0 + (x 0).val := hx 0
    have h1 : j.val = 512 + (x 1).val := hx 1
    exact (congr2 (a := 512) (b := 128) v2 (i := x) (j := ix2 r (x 1)) (h0.trans (Nat.zero_add _)).symm rfl).trans
      (e2 (x 1) h1)
  · intro x hx
    have h0 : r.val = 0 + (x 0).val := hx 0
    have h1 : j.val = 0 + (x 1).val := hx 1
    exact (congr2 (a := 512) (b := 512) v3 (i := x) (j := ix2 r (x 1)) (h0.trans (Nat.zero_add _)).symm rfl).trans
      (e3 (x 1) (h1.trans (Nat.zero_add _)))

theorem point_qkv (t : Fin cfg0.N) (r : Fin 512) (j : Fin 768) :
    ((outsAt0 m c t).2.1 (ix2 r j) : EReal) = qkv (X m c) (Pos m c) (G m c) (W m c) (rowOf t r) j := by
  unfold outsAt0; frame_out
  have hp : ∀ (q : Fin 768) (k : Fin 1024), (View.ld (iblk m c 2 t) (Rect.unit ![0, 0] ![768, 1024] inb_S4880x1024_S768x1024_0_0)
      : Mat 768 1024) (ix2 q k) = iblk m c 2 t (ix2 (⟨q.val, by omega⟩ : Fin 4880) k) := fun q k =>
    congr2 (iblk m c 2 t) (by simp) (by simp)
  exact canon_three r j _ _ _ _ (fun l hl => piece_v m c t r j l hl _ hp) (fun l hl => piece_k m c t r j l hl _ hp)
    (fun l hl => piece_q m c t r j l hl _ hp)

/-! ## The results as whole arrays -/

def out_h : Mat 8192 1024 := fun i => hn (X m c) (G m c) (i 0) (i 1)
def out_qkv : Mat 8192 768 := fun i => qkv (X m c) (Pos m c) (G m c) (W m c) (i 0) (i 1)
def out_za : Mat 8192 512 := fun i => part (X m c) (G m c) (W m c) 768 (by omega : 768 + 512 ≤ 4880) (i 0) (i 1)
def out_qkb : Mat 8192 512 := fun i => part (X m c) (G m c) (W m c) 1280 (by omega : 1280 + 512 ≤ 4880) (i 0) (i 1)
def out_vb : Mat 8192 512 := fun i => part (X m c) (G m c) (W m c) 1792 (by omega : 1792 + 512 ≤ 4880) (i 0) (i 1)
def out_zb : Mat 8192 512 := fun i => part (X m c) (G m c) (W m c) 2304 (by omega : 2304 + 512 ≤ 4880) (i 0) (i 1)
def out_alr : Mat 8192 128 := fun i => part (X m c) (G m c) (W m c) 2816 (by omega : 2816 + 128 ≤ 4880) (i 0) (i 1)
def out_ga : Mat 8192 1024 := fun i => part (X m c) (G m c) (W m c) 2832 (by omega : 2832 + 1024 ≤ 4880) (i 0) (i 1)
def out_gb : Mat 8192 1024 := fun i => part (X m c) (G m c) (W m c) 3856 (by omega : 3856 + 1024 ≤ 4880) (i 0) (i 1)

theorem final_h : (dats m 0 c).arrAt 6 cfg0.N = out_h m c := by
  refine (dats m 0 c).arrAt_eq_of_covers 6 (out_h m c) (by decide +kernel) fun t hf y => ?_
  have e0 : (((cfg0.win 6).blk t).view.emb y 0).val = 512 * t.val + (y 0).val := by blk_simp [index_6]; simp [mul_comm]
  have e1 : (((cfg0.win 6).blk t).view.emb y 1).val = (y 1).val := by blk_simp [index_6]
  have hr : ∀ (r : Fin 512) (j : Fin 1024) (i : S8192x1024.Idx), (i 0).val = 512 * t.val + r.val → (i 1).val = j.val →
      (outsAt0 m c t).1 (ix2 r j) = out_h m c i := fun r j i h0 h1 => by
    rw [point_h]; unfold out_h
    rw [show i 0 = rowOf t r from Fin.ext h0, show i 1 = j from Fin.ext h1]
  refine Eq.trans ?_ (hr (y 0) (y 1) _ e0 e1)
  rw [after0_6]
  show (outsAt0 m c t).1 _ = _
  exact congr2 (a := 512) (b := 1024) (outsAt0 m c t).1 rfl rfl

theorem final_qkv : (dats m 0 c).arrAt 7 cfg0.N = out_qkv m c := by
  refine (dats m 0 c).arrAt_eq_of_covers 7 (out_qkv m c) (by decide +kernel) fun t hf y => ?_
  have e0 : (((cfg0.win 7).blk t).view.emb y 0).val = 512 * t.val + (y 0).val := by blk_simp [index_7]; simp [mul_comm]
  have e1 : (((cfg0.win 7).blk t).view.emb y 1).val = (y 1).val := by blk_simp [index_7]
  have hr : ∀ (r : Fin 512) (j : Fin 768) (i : S8192x768.Idx), (i 0).val = 512 * t.val + r.val → (i 1).val = j.val →
      (outsAt0 m c t).2.1 (ix2 r j) = out_qkv m c i := fun r j i h0 h1 => by
    rw [point_qkv]; unfold out_qkv
    rw [show i 0 = rowOf t r from Fin.ext h0, show i 1 = j from Fin.ext h1]
  refine Eq.trans ?_ (hr (y 0) (y 1) _ e0 e1)
  rw [after0_7]
  show (outsAt0 m c t).2.1 _ = _
  exact congr2 (a := 512) (b := 768) (outsAt0 m c t).2.1 rfl rfl

theorem final_za : (dats m 0 c).arrAt 8 cfg0.N = out_za m c := by
  refine (dats m 0 c).arrAt_eq_of_covers 8 (out_za m c) (by decide +kernel) fun t hf y => ?_
  have e0 : (((cfg0.win 8).blk t).view.emb y 0).val = 512 * t.val + (y 0).val := by blk_simp [index_8]; simp [mul_comm]
  have e1 : (((cfg0.win 8).blk t).view.emb y 1).val = (y 1).val := by blk_simp [index_8]
  have hr : ∀ (r : Fin 512) (j : Fin 512) (i : S8192x512.Idx), (i 0).val = 512 * t.val + r.val → (i 1).val = j.val →
      (outsAt0 m c t).2.2.1 (ix2 r j) = out_za m c i := fun r j i h0 h1 => by
    rw [point_za]; unfold out_za
    rw [show i 0 = rowOf t r from Fin.ext h0, show i 1 = j from Fin.ext h1]; rfl
  refine Eq.trans ?_ (hr (y 0) (y 1) _ e0 e1)
  rw [after0_8]
  show (outsAt0 m c t).2.2.1 _ = _
  exact congr2 (a := 512) (b := 512) (outsAt0 m c t).2.2.1 rfl rfl

theorem final_qkb : (dats m 0 c).arrAt 9 cfg0.N = out_qkb m c := by
  refine (dats m 0 c).arrAt_eq_of_covers 9 (out_qkb m c) (by decide +kernel) fun t hf y => ?_
  have e0 : (((cfg0.win 9).blk t).view.emb y 0).val = 512 * t.val + (y 0).val := by blk_simp [index_9]; simp [mul_comm]
  have e1 : (((cfg0.win 9).blk t).view.emb y 1).val = (y 1).val := by blk_simp [index_9]
  have hr : ∀ (r : Fin 512) (j : Fin 512) (i : S8192x512.Idx), (i 0).val = 512 * t.val + r.val → (i 1).val = j.val →
      (outsAt0 m c t).2.2.2.1 (ix2 r j) = out_qkb m c i := fun r j i h0 h1 => by
    rw [point_qkb]; unfold out_qkb
    rw [show i 0 = rowOf t r from Fin.ext h0, show i 1 = j from Fin.ext h1]; rfl
  refine Eq.trans ?_ (hr (y 0) (y 1) _ e0 e1)
  rw [after0_9]
  show (outsAt0 m c t).2.2.2.1 _ = _
  exact congr2 (a := 512) (b := 512) (outsAt0 m c t).2.2.2.1 rfl rfl

theorem final_vb : (dats m 0 c).arrAt 10 cfg0.N = out_vb m c := by
  refine (dats m 0 c).arrAt_eq_of_covers 10 (out_vb m c) (by decide +kernel) fun t hf y => ?_
  have e0 : (((cfg0.win 10).blk t).view.emb y 0).val = 512 * t.val + (y 0).val := by blk_simp [index_10]; simp [mul_comm]
  have e1 : (((cfg0.win 10).blk t).view.emb y 1).val = (y 1).val := by blk_simp [index_10]
  have hr : ∀ (r : Fin 512) (j : Fin 512) (i : S8192x512.Idx), (i 0).val = 512 * t.val + r.val → (i 1).val = j.val →
      (outsAt0 m c t).2.2.2.2.1 (ix2 r j) = out_vb m c i := fun r j i h0 h1 => by
    rw [point_vb]; unfold out_vb
    rw [show i 0 = rowOf t r from Fin.ext h0, show i 1 = j from Fin.ext h1]; rfl
  refine Eq.trans ?_ (hr (y 0) (y 1) _ e0 e1)
  rw [after0_10]
  show (outsAt0 m c t).2.2.2.2.1 _ = _
  exact congr2 (a := 512) (b := 512) (outsAt0 m c t).2.2.2.2.1 rfl rfl

theorem final_zb : (dats m 0 c).arrAt 11 cfg0.N = out_zb m c := by
  refine (dats m 0 c).arrAt_eq_of_covers 11 (out_zb m c) (by decide +kernel) fun t hf y => ?_
  have e0 : (((cfg0.win 11).blk t).view.emb y 0).val = 512 * t.val + (y 0).val := by blk_simp [index_11]; simp [mul_comm]
  have e1 : (((cfg0.win 11).blk t).view.emb y 1).val = (y 1).val := by blk_simp [index_11]
  have hr : ∀ (r : Fin 512) (j : Fin 512) (i : S8192x512.Idx), (i 0).val = 512 * t.val + r.val → (i 1).val = j.val →
      (outsAt0 m c t).2.2.2.2.2.1 (ix2 r j) = out_zb m c i := fun r j i h0 h1 => by
    rw [point_zb]; unfold out_zb
    rw [show i 0 = rowOf t r from Fin.ext h0, show i 1 = j from Fin.ext h1]; rfl
  refine Eq.trans ?_ (hr (y 0) (y 1) _ e0 e1)
  rw [after0_11]
  show (outsAt0 m c t).2.2.2.2.2.1 _ = _
  exact congr2 (a := 512) (b := 512) (outsAt0 m c t).2.2.2.2.2.1 rfl rfl

theorem final_alr : (dats m 0 c).arrAt 12 cfg0.N = out_alr m c := by
  refine (dats m 0 c).arrAt_eq_of_covers 12 (out_alr m c) (by decide +kernel) fun t hf y => ?_
  have e0 : (((cfg0.win 12).blk t).view.emb y 0).val = 512 * t.val + (y 0).val := by blk_simp [index_12]; simp [mul_comm]
  have e1 : (((cfg0.win 12).blk t).view.emb y 1).val = (y 1).val := by blk_simp [index_12]
  have hr : ∀ (r : Fin 512) (j : Fin 128) (i : S8192x128.Idx), (i 0).val = 512 * t.val + r.val → (i 1).val = j.val →
      (outsAt0 m c t).2.2.2.2.2.2.1 (ix2 r j) = out_alr m c i := fun r j i h0 h1 => by
    rw [point_alr]; unfold out_alr
    rw [show i 0 = rowOf t r from Fin.ext h0, show i 1 = j from Fin.ext h1]; rfl
  refine Eq.trans ?_ (hr (y 0) (y 1) _ e0 e1)
  rw [after0_12]
  show (outsAt0 m c t).2.2.2.2.2.2.1 _ = _
  exact congr2 (a := 512) (b := 128) (outsAt0 m c t).2.2.2.2.2.2.1 rfl rfl

theorem final_ga : (dats m 0 c).arrAt 13 cfg0.N = out_ga m c := by
  refine (dats m 0 c).arrAt_eq_of_covers 13 (out_ga m c) (by decide +kernel) fun t hf y => ?_
  have e0 : (((cfg0.win 13).blk t).view.emb y 0).val = 512 * t.val + (y 0).val := by blk_simp [index_13]; simp [mul_comm]
  have e1 : (((cfg0.win 13).blk t).view.emb y 1).val = (y 1).val := by blk_simp [index_13]
  have hr : ∀ (r : Fin 512) (j : Fin 1024) (i : S8192x1024.Idx), (i 0).val = 512 * t.val + r.val → (i 1).val = j.val →
      (outsAt0 m c t).2.2.2.2.2.2.2.1 (ix2 r j) = out_ga m c i := fun r j i h0 h1 => by
    rw [point_ga]; unfold out_ga
    rw [show i 0 = rowOf t r from Fin.ext h0, show i 1 = j from Fin.ext h1]; rfl
  refine Eq.trans ?_ (hr (y 0) (y 1) _ e0 e1)
  rw [after0_13]
  show (outsAt0 m c t).2.2.2.2.2.2.2.1 _ = _
  exact congr2 (a := 512) (b := 1024) (outsAt0 m c t).2.2.2.2.2.2.2.1 rfl rfl

theorem final_gb : (dats m 0 c).arrAt 14 cfg0.N = out_gb m c := by
  refine (dats m 0 c).arrAt_eq_of_covers 14 (out_gb m c) (by decide +kernel) fun t hf y => ?_
  have e0 : (((cfg0.win 14).blk t).view.emb y 0).val = 512 * t.val + (y 0).val := by blk_simp [index_14]; simp [mul_comm]
  have e1 : (((cfg0.win 14).blk t).view.emb y 1).val = (y 1).val := by blk_simp [index_14]
  have hr : ∀ (r : Fin 512) (j : Fin 1024) (i : S8192x1024.Idx), (i 0).val = 512 * t.val + r.val → (i 1).val = j.val →
      (outsAt0 m c t).2.2.2.2.2.2.2.2 (ix2 r j) = out_gb m c i := fun r j i h0 h1 => by
    rw [point_gb]; unfold out_gb
    rw [show i 0 = rowOf t r from Fin.ext h0, show i 1 = j from Fin.ext h1]; rfl
  refine Eq.trans ?_ (hr (y 0) (y 1) _ e0 e1)
  rw [after0_14]
  show (outsAt0 m c t).2.2.2.2.2.2.2.2 _ = _
  exact congr2 (a := 512) (b := 1024) (outsAt0 m c t).2.2.2.2.2.2.2.2 rfl rfl

/-! ## The run -/

variable (ρ : Dev nD → PrngReg)

/-- The program ends with the nine results at these arrays and the arguments as they were. -/
theorem run : θ_run defs (onTc (τ := τ) (main (F := Ideal))) ⟨m, fun _ => 0, ρ⟩ fun r => ∀ c : Dev nD,
      r.2.mem ((c : Thread nD τ).loc main_v24_0) = out_h m c
      ∧ r.2.mem ((c : Thread nD τ).loc main_v24_1) = out_qkv m c
      ∧ r.2.mem ((c : Thread nD τ).loc main_v24_2) = out_za m c
      ∧ r.2.mem ((c : Thread nD τ).loc main_v24_3) = out_qkb m c
      ∧ r.2.mem ((c : Thread nD τ).loc main_v24_4) = out_vb m c
      ∧ r.2.mem ((c : Thread nD τ).loc main_v24_5) = out_zb m c
      ∧ r.2.mem ((c : Thread nD τ).loc main_v24_6) = out_alr m c
      ∧ r.2.mem ((c : Thread nD τ).loc main_v24_7) = out_ga m c
      ∧ r.2.mem ((c : Thread nD τ).loc main_v24_8) = out_gb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_h m c),
    (h c).2.1.trans (final_qkv m c),
    (h c).2.2.1.trans (final_za m c),
    (h c).2.2.2.1.trans (final_qkb m c),
    (h c).2.2.2.2.1.trans (final_vb m c),
    (h c).2.2.2.2.2.1.trans (final_zb m c),
    (h c).2.2.2.2.2.2.1.trans (final_alr m c),
    (h c).2.2.2.2.2.2.2.1.trans (final_ga m c),
    (h c).2.2.2.2.2.2.2.2.1.trans (final_gb m c),
    (h c).2.2.2.2.2.2.2.2.2⟩)
    (Value.run_blocks m ρ)

end Cert.Kernel3Ideal.In

end
-- ==== Proof.InReference.lean ====
/- What the reference of the forward input projection computes, read as the sums of `InSpec`. -/
module

public import proofs.«01_k».proof.Proof.InSpec
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Reference3Ideal.In

open Cert.Reference3Ideal Cert.Reference3Ideal.Read Idealize.ShloMosaic
open Cert.Proj Cert.In

variable (x : Mat 8192 1024) (pos : (⟨1, ![8192]⟩ : Shape).Idx → BitVec 32) (g : Mat 1 1024) (w : Mat 1024 4880)

theorem proj_read (R : Fin 8192) (q : Fin 4880) :
    (val_main_v12 (F := Ideal) x g w (ix2 R q) : EReal) = proj x g w R q := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem cos_read (R : Fin 8192) (j : Fin 8) : (val_main_v37 (F := Ideal) pos (ix2 R j) : EReal) = cosv pos R j.val := by
  pointwise [val_main_v37, val_main_v36, val_main_v35, val_main_v34, val_main_v33, val_main_v32, val_main_v31, val_main_v30,
    val_main_v29, val_main_v28, val_main_v27, val_main_v26, val_main_v25, val_main_cst_2, val_main_cst_3]
  rfl

theorem sin_read (R : Fin 8192) (j : Fin 8) : (val_main_v38 (F := Ideal) pos (ix2 R j) : EReal) = sinv pos R j.val := by
  pointwise [val_main_v38, val_main_v36, val_main_v35, val_main_v34, val_main_v33, val_main_v32, val_main_v31, val_main_v30,
    val_main_v29, val_main_v28, val_main_v27, val_main_v26, val_main_v25, val_main_cst_2, val_main_cst_3]
  rfl

/-- The turn written with the lane of the head: for the head whose first column is `o`. -/
theorem turn_eq (R : Fin 8192) (q : Fin 640) (o l : ℕ) (ho : o % 64 = 0) (hl : l < 64) (hq : q.val = o + l) :
    (if _h : l < 16 then
      if _h : l < 8 then
        proj x g w R ⟨o + l, by omega⟩ * cosv pos R l - proj x g w R ⟨o + (8 + l), by omega⟩ * sinv pos R l
      else
        proj x g w R ⟨o + (8 + (l - 8)), by omega⟩ * cosv pos R (l - 8)
          + proj x g w R ⟨o + (l - 8), by omega⟩ * sinv pos R (l - 8)
    else proj x g w R ⟨o + (16 + (l - 16)), by omega⟩ : EReal) = turned x pos g w R q := by
  have e : q.val % 64 = l := by omega
  unfold turned
  rw [e]
  have at_ : ∀ n n' (h : n < 4880) (h' : n' < 4880), n = n' → proj x g w R ⟨n, h⟩ = proj x g w R ⟨n', h'⟩ :=
    fun n n' h h' e => congrArg _ (Fin.ext e)
  by_cases h8 : l < 8
  · rw [dif_pos (by omega), dif_pos h8, if_pos h8, at_ (o + l) q.val _ (by omega) (by omega),
      at_ (o + (8 + l)) (q.val + 8) _ (by omega) (by omega)]
  · by_cases h16 : l < 16
    · rw [dif_pos h16, dif_neg h8, if_neg h8, if_pos h16, at_ (o + (8 + (l - 8))) q.val _ (by omega) (by omega),
        at_ (o + (l - 8)) (q.val - 8) _ (by omega) (by omega)]
    · rw [dif_neg h16, if_neg h8, if_neg h16, at_ (o + (16 + (l - 16))) q.val _ (by omega) (by omega)]

/-- The queries, turned head by head. -/
theorem turn_q (R : Fin 8192) (h : Fin 8) (l : Fin 64) :
    (val_main_v57 (F := Ideal) x pos g w (ix3 R h l) : EReal) = turned x pos g w R ⟨h.val * 64 + l.val, by omega⟩ := by
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v13]
  simp only [proj_read, cos_read, sin_read]
  exact turn_eq x pos g w R _ (h.val * 64) l.val (by omega) l.isLt rfl

/-- The keys, turned head by head. -/
theorem turn_k (R : Fin 8192) (h : Fin 2) (l : Fin 64) :
    (val_main_v77 (F := Ideal) x pos g w (ix3 R h l) : EReal) = turned x pos g w R ⟨512 + (h.val * 64 + l.val), by omega⟩ := by
  pointwise [val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v14]
  simp only [proj_read, cos_read, sin_read]
  have e := turn_eq x pos g w R ⟨512 + (h.val * 64 + l.val), by omega⟩ (512 + h.val * 64) l.val (by omega) l.isLt
    (Nat.add_assoc _ _ _).symm
  simp only [Nat.add_assoc] at e
  exact e

theorem h_read (R : Fin 8192) (j : Fin 1024) : (val_main_v79 (F := Ideal) x g (ix2 R j) : EReal) = hn x g R j := by
  pointwise [val_main_v79, val_main_v11, val_main_v10, val_main_v9, val_main_v8, val_main_v7, val_main_v6, val_main_v5,
    val_main_v4, val_main_v3, val_main_v2, val_main_v1, val_main_v0, val_main_cst, val_main_cst_0, val_main_cst_1]
  rfl

theorem qkv_read (R : Fin 8192) (j : Fin 768) : (val_main_v81 (F := Ideal) x pos g w (ix2 R j) : EReal) = qkv x pos g w R j := by
  pointwise [val_main_v81, val_main_v80, val_main_v78, val_main_v58, val_main_v15]
  simp only [proj_read]
  unfold qkv
  by_cases h : j.val < 512
  · rw [dif_pos h, dif_pos (by omega), turn_q]
    exact congrArg _ (Fin.ext (by dsimp only; omega))
  · rw [dif_neg h]
    by_cases h' : j.val - 512 < 128
    · rw [dif_pos h', dif_pos (by omega), turn_k]
      exact congrArg _ (Fin.ext (by dsimp only; omega))
    · rw [dif_neg h', dif_neg (by omega)]
      exact congrArg _ (Fin.ext (by dsimp only; omega))

theorem za_read (R : Fin 8192) (j : Fin 512) : (val_main_v82 (F := Ideal) x g w (ix2 R j) : EReal) = part x g w 768 (by omega) R j := by
  pointwise [val_main_v82, val_main_v16]
  exact proj_read x g w R _

theorem alr_read (R : Fin 8192) (j : Fin 128) : (val_main_v85 (F := Ideal) x g w (ix2 R j) : EReal) = part x g w 2816 (by omega) R j := by
  pointwise [val_main_v85, val_main_v24, val_main_v23, val_main_v21, val_main_v20]
  simp only [proj_read]
  unfold part
  by_cases h : j.val < 16
  · rw [dif_pos h]
  · rw [dif_neg h]
    exact congrArg _ (Fin.ext (by dsimp only; omega))

theorem qkb_read (R : Fin 8192) (j : Fin 512) : (val_main_v17 (F := Ideal) x g w (ix2 R j) : EReal) = part x g w 1280 (by omega) R j := by
  pointwise [val_main_v17]
  exact proj_read x g w R _

theorem vb_read (R : Fin 8192) (j : Fin 512) : (val_main_v83 (F := Ideal) x g w (ix2 R j) : EReal) = part x g w 1792 (by omega) R j := by
  pointwise [val_main_v83, val_main_v18]
  exact proj_read x g w R _

theorem zb_read (R : Fin 8192) (j : Fin 512) : (val_main_v84 (F := Ideal) x g w (ix2 R j) : EReal) = part x g w 2304 (by omega) R j := by
  pointwise [val_main_v84, val_main_v19]
  exact proj_read x g w R _

theorem ga_read (R : Fin 8192) (j : Fin 1024) : (val_main_v86 (F := Ideal) x g w (ix2 R j) : EReal) = part x g w 2832 (by omega) R j := by
  pointwise [val_main_v86, val_main_v21]
  exact proj_read x g w R _

theorem gb_read (R : Fin 8192) (j : Fin 1024) : (val_main_v87 (F := Ideal) x g w (ix2 R j) : EReal) = part x g w 3856 (by omega) R j := by
  pointwise [val_main_v87, val_main_v22]
  exact proj_read x g w R _

/-! ## The results as whole arrays -/

/-- Two matrices that agree at every row and column are one. -/
theorem ext2 {a b : ℕ} {u v : (⟨2, ![a, b]⟩ : Shape).Idx → EReal} (h : ∀ (R : Fin a) (j : Fin b), u (ix2 R j) = v (ix2 R j)) : u = v := by
  funext i
  have e : i = ix2 (i 0) (i 1) := funext fun q => match q with | ⟨0, _⟩ => rfl | ⟨1, _⟩ => rfl
  rw [e]; exact h (i 0) (i 1)

theorem h_eq : val_main_v79 (F := Ideal) x g = fun i => hn x g (i 0) (i 1) := ext2 (h_read x g)
theorem qkv_eq : val_main_v81 (F := Ideal) x pos g w = fun i => qkv x pos g w (i 0) (i 1) := ext2 (qkv_read x pos g w)
theorem za_eq : val_main_v82 (F := Ideal) x g w = fun i => part x g w 768 (by omega : 768 + 512 ≤ 4880) (i 0) (i 1) :=
  ext2 (za_read x g w)
theorem qkb_eq : val_main_v17 (F := Ideal) x g w = fun i => part x g w 1280 (by omega : 1280 + 512 ≤ 4880) (i 0) (i 1) :=
  ext2 (qkb_read x g w)
theorem vb_eq : val_main_v83 (F := Ideal) x g w = fun i => part x g w 1792 (by omega : 1792 + 512 ≤ 4880) (i 0) (i 1) :=
  ext2 (vb_read x g w)
theorem zb_eq : val_main_v84 (F := Ideal) x g w = fun i => part x g w 2304 (by omega : 2304 + 512 ≤ 4880) (i 0) (i 1) :=
  ext2 (zb_read x g w)
theorem alr_eq : val_main_v85 (F := Ideal) x g w = fun i => part x g w 2816 (by omega : 2816 + 128 ≤ 4880) (i 0) (i 1) :=
  ext2 (alr_read x g w)
theorem ga_eq : val_main_v86 (F := Ideal) x g w = fun i => part x g w 2832 (by omega : 2832 + 1024 ≤ 4880) (i 0) (i 1) :=
  ext2 (ga_read x g w)
theorem gb_eq : val_main_v87 (F := Ideal) x g w = fun i => part x g w 3856 (by omega : 3856 + 1024 ≤ 4880) (i 0) (i 1) :=
  ext2 (gb_read x g w)

end Cert.Reference3Ideal.In

end
-- ==== Proof.InClaim.lean ====
/- The forward input projection: the kernel's nine results are the reference's. -/
module

public import proofs.«01_k».proof.Defs
public import proofs.«01_k».proof.Proof.InKernel
public import proofs.«01_k».proof.Proof.InReference

@[expose] public section

noncomputable section

namespace Cert.In

open Idealize.ShloMosaic Idealize.SL.Sem

/-- From memories that agree on the arguments, both programs end with the same nine arrays: the normalised input and the
    eight pieces of its projection, queries and keys turned by their positions. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Kernel3Ideal.In.out_h m c, fun c => Kernel3Ideal.In.out_qkv m c, fun c => Kernel3Ideal.In.out_za m c, fun c => Kernel3Ideal.In.out_qkb m c, fun c => Kernel3Ideal.In.out_vb m c, fun c => Kernel3Ideal.In.out_zb m c, fun c => Kernel3Ideal.In.out_alr m c, fun c => Kernel3Ideal.In.out_ga m c, fun c => Kernel3Ideal.In.out_gb m c,
    Kernel3Ideal.In.run m ρ,
    (θ_run Cert.Reference3Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference3Ideal.Value.run m' ρ')⟩
  · rw [Cert.Reference3Ideal.Read.val_main_v79_eq, Reference3Ideal.In.h_eq]
    obtain ⟨h0, h1, h2, h3⟩ := hag c
    rw [h0, h2]
    rfl
  · rw [Cert.Reference3Ideal.Read.val_main_v81_eq, Reference3Ideal.In.qkv_eq]
    obtain ⟨h0, h1, h2, h3⟩ := hag c
    rw [h0, h1, h2, h3]
    rfl
  · rw [Cert.Reference3Ideal.Read.val_main_v82_eq, Reference3Ideal.In.za_eq]
    obtain ⟨h0, h1, h2, h3⟩ := hag c
    rw [h0, h2, h3]
    rfl
  · rw [Cert.Reference3Ideal.Read.val_main_v17_eq, Reference3Ideal.In.qkb_eq]
    obtain ⟨h0, h1, h2, h3⟩ := hag c
    rw [h0, h2, h3]
    rfl
  · rw [Cert.Reference3Ideal.Read.val_main_v83_eq, Reference3Ideal.In.vb_eq]
    obtain ⟨h0, h1, h2, h3⟩ := hag c
    rw [h0, h2, h3]
    rfl
  · rw [Cert.Reference3Ideal.Read.val_main_v84_eq, Reference3Ideal.In.zb_eq]
    obtain ⟨h0, h1, h2, h3⟩ := hag c
    rw [h0, h2, h3]
    rfl
  · rw [Cert.Reference3Ideal.Read.val_main_v85_eq, Reference3Ideal.In.alr_eq]
    obtain ⟨h0, h1, h2, h3⟩ := hag c
    rw [h0, h2, h3]
    rfl
  · rw [Cert.Reference3Ideal.Read.val_main_v86_eq, Reference3Ideal.In.ga_eq]
    obtain ⟨h0, h1, h2, h3⟩ := hag c
    rw [h0, h2, h3]
    rfl
  · rw [Cert.Reference3Ideal.Read.val_main_v87_eq, Reference3Ideal.In.gb_eq]
    obtain ⟨h0, h1, h2, h3⟩ := hag c
    rw [h0, h2, h3]
    rfl

end Cert.In

end
-- ==== Proof.MergeSpec.lean ====
/- What the merge of the two branches and the loss compute, forward and backward, as plain sums of extended reals.

   Every quantity is a function of a row and a column of matrices of `n` rows: a tile of the kernel is the case of 512
   rows, the whole problem that of 8192. -/
module

public import proofs.«01_k».proof.Proof.ProjSpec

@[expose] public section

noncomputable section

namespace Cert.Merge

open Idealize.ShloMosaic
open Cert.Proj (Mat)

/-- The arguments, with `n` rows. -/
structure Args (n : ℕ) where
  oa : Mat n 512
  ob : Mat n 512
  ga : Mat n 1024
  gb : Mat n 1024
  x : Mat n 1024
  tgt : Mat n 1024
  wa : Mat 512 1024
  wb : Mat 512 1024
  wo : Mat 1024 1024
  gf : Mat 1 1024

/-- The gate: one half of a hyperbolic tangent, shifted by one half. -/
def gate (v : EReal) : EReal :=
  Ideal.ofBits .f32 0x3F000000#32 * Ideal.tanh (Ideal.ofBits .f32 0x3F000000#32 * v) + Ideal.ofBits .f32 0x3F000000#32

namespace Args

variable {n : ℕ} (A : Args n)

/-- The first branch's projection. -/
def ya (R : Fin n) (j : Fin 1024) : EReal := ∑ k : Fin 512, A.oa (ix2 R k) * A.wa (ix2 k j)
/-- The second branch's projection. -/
def yb (R : Fin n) (j : Fin 1024) : EReal := ∑ k : Fin 512, A.ob (ix2 R k) * A.wb (ix2 k j)
/-- The first branch's gate. -/
def sga (R : Fin n) (j : Fin 1024) : EReal := gate (A.ga (ix2 R j))
/-- The second branch's gate. -/
def sgb (R : Fin n) (j : Fin 1024) : EReal := gate (A.gb (ix2 R j))
/-- The gated sum of the branches. -/
def mrg (R : Fin n) (j : Fin 1024) : EReal := A.sga R j * A.ya R j + A.sgb R j * A.yb R j
/-- The residual stream after the block. -/
def out (R : Fin n) (j : Fin 1024) : EReal := A.x (ix2 R j) + ∑ k : Fin 1024, A.mrg R k * A.wo (ix2 k j)
/-- The row, normalised. -/
def nrm (R : Fin n) (j : Fin 1024) : EReal := A.out R j * RowNorm.rs (A.out R)
/-- The distance from the target. -/
def err (R : Fin n) (j : Fin 1024) : EReal := A.nrm R j * A.gf (ix2 0 j) - A.tgt (ix2 R j)
/-- The cotangent of the model's result. -/
def dy (R : Fin n) (j : Fin 1024) : EReal := A.err R j * Ideal.ofBits .f32 0x3A800000#32
/-- The cotangent of the normalised row. -/
def dn (R : Fin n) (j : Fin 1024) : EReal := A.dy R j * A.gf (ix2 0 j)
/-- The gradient of the residual stream. -/
def dh (R : Fin n) (j : Fin 1024) : EReal :=
  RowNorm.rs (A.out R) * (A.dn R j - A.nrm R j
    * Ideal.div (∑ k, A.dn R k * A.nrm R k) (Ideal.ofBits .f32 0x44800000#32))
/-- The cotangent of the gated sum. -/
def dmer (R : Fin n) (j : Fin 1024) : EReal := ∑ k : Fin 1024, A.dh R k * A.wo (ix2 j k)
/-- The cotangent of the first branch's projection. -/
def dya (R : Fin n) (j : Fin 1024) : EReal := A.dmer R j * A.sga R j
/-- The cotangent of the second branch's projection. -/
def dyb (R : Fin n) (j : Fin 1024) : EReal := A.dmer R j * A.sgb R j
/-- The gradient of the first gate's argument. -/
def dga (R : Fin n) (j : Fin 1024) : EReal := A.dya R j * A.ya R j * (1 - A.sga R j)
/-- The gradient of the second gate's argument. -/
def dgb (R : Fin n) (j : Fin 1024) : EReal := A.dyb R j * A.yb R j * (1 - A.sgb R j)
/-- The gradient of the first branch's result. -/
def doa (R : Fin n) (k : Fin 512) : EReal := ∑ j : Fin 1024, A.dya R j * A.wa (ix2 k j)
/-- The gradient of the second branch's result. -/
def dob (R : Fin n) (k : Fin 512) : EReal := ∑ j : Fin 1024, A.dyb R j * A.wb (ix2 k j)
/-- One row's share of the gradients of the weights, of the gain, and of the loss. -/
def dwaRow (k : Fin 512) (j : Fin 1024) (R : Fin n) : EReal := A.oa (ix2 R k) * A.dya R j
def dwbRow (k : Fin 512) (j : Fin 1024) (R : Fin n) : EReal := A.ob (ix2 R k) * A.dyb R j
def dwoRow (k j : Fin 1024) (R : Fin n) : EReal := A.mrg R k * A.dh R j
def dgfRow (j : Fin 1024) (R : Fin n) : EReal := A.dy R j * A.nrm R j
def lossRow (j : Fin 1024) (R : Fin n) : EReal := A.err R j * A.err R j

/-- The rows of `A` are rows of `B`, and what is not a matter of rows is the same. -/
structure Sub {n N : ℕ} (A : Args n) (B : Args N) (ρ : Fin n → Fin N) : Prop where
  oa : ∀ R k, A.oa (ix2 R k) = B.oa (ix2 (ρ R) k)
  ob : ∀ R k, A.ob (ix2 R k) = B.ob (ix2 (ρ R) k)
  ga : ∀ R k, A.ga (ix2 R k) = B.ga (ix2 (ρ R) k)
  gb : ∀ R k, A.gb (ix2 R k) = B.gb (ix2 (ρ R) k)
  x : ∀ R k, A.x (ix2 R k) = B.x (ix2 (ρ R) k)
  tgt : ∀ R k, A.tgt (ix2 R k) = B.tgt (ix2 (ρ R) k)
  wa : ∀ k j, A.wa (ix2 k j) = B.wa (ix2 k j)
  wb : ∀ k j, A.wb (ix2 k j) = B.wb (ix2 k j)
  wo : ∀ k j, A.wo (ix2 k j) = B.wo (ix2 k j)
  gf : ∀ j, A.gf (ix2 0 j) = B.gf (ix2 0 j)

namespace Sub

variable {n N : ℕ} {A : Args n} {B : Args N} {ρ : Fin n → Fin N} (h : Sub A B ρ)
include h

theorem ya_eq (R : Fin n) (j : Fin 1024) : A.ya R j = B.ya (ρ R) j := by
  unfold Args.ya
  simp only [h.oa, h.wa]

theorem yb_eq (R : Fin n) (j : Fin 1024) : A.yb R j = B.yb (ρ R) j := by
  unfold Args.yb
  simp only [h.ob, h.wb]

theorem sga_eq (R : Fin n) (j : Fin 1024) : A.sga R j = B.sga (ρ R) j := by
  unfold Args.sga
  simp only [h.ga]

theorem sgb_eq (R : Fin n) (j : Fin 1024) : A.sgb R j = B.sgb (ρ R) j := by
  unfold Args.sgb
  simp only [h.gb]

theorem mrg_eq (R : Fin n) (j : Fin 1024) : A.mrg R j = B.mrg (ρ R) j := by
  unfold Args.mrg
  simp only [h.sga_eq, h.sgb_eq, h.ya_eq, h.yb_eq]

theorem out_eq (R : Fin n) (j : Fin 1024) : A.out R j = B.out (ρ R) j := by
  unfold Args.out
  simp only [h.x, h.mrg_eq, h.wo]

theorem row_eq (R : Fin n) : A.out R = B.out (ρ R) := funext fun j => h.out_eq R j

theorem nrm_eq (R : Fin n) (j : Fin 1024) : A.nrm R j = B.nrm (ρ R) j := by
  unfold Args.nrm
  simp only [h.row_eq]

theorem err_eq (R : Fin n) (j : Fin 1024) : A.err R j = B.err (ρ R) j := by
  unfold Args.err
  simp only [h.nrm_eq, h.gf, h.tgt]

theorem dy_eq (R : Fin n) (j : Fin 1024) : A.dy R j = B.dy (ρ R) j := by
  unfold Args.dy
  simp only [h.err_eq]

theorem dn_eq (R : Fin n) (j : Fin 1024) : A.dn R j = B.dn (ρ R) j := by
  unfold Args.dn
  simp only [h.dy_eq, h.gf]

theorem dh_eq (R : Fin n) (j : Fin 1024) : A.dh R j = B.dh (ρ R) j := by
  unfold Args.dh
  simp only [h.row_eq, h.dn_eq, h.nrm_eq]

theorem dmer_eq (R : Fin n) (j : Fin 1024) : A.dmer R j = B.dmer (ρ R) j := by
  unfold Args.dmer
  simp only [h.dh_eq, h.wo]

theorem dya_eq (R : Fin n) (j : Fin 1024) : A.dya R j = B.dya (ρ R) j := by
  unfold Args.dya
  simp only [h.dmer_eq, h.sga_eq]

theorem dyb_eq (R : Fin n) (j : Fin 1024) : A.dyb R j = B.dyb (ρ R) j := by
  unfold Args.dyb
  simp only [h.dmer_eq, h.sgb_eq]

theorem dga_eq (R : Fin n) (j : Fin 1024) : A.dga R j = B.dga (ρ R) j := by
  unfold Args.dga
  simp only [h.dya_eq, h.ya_eq, h.sga_eq]

theorem dgb_eq (R : Fin n) (j : Fin 1024) : A.dgb R j = B.dgb (ρ R) j := by
  unfold Args.dgb
  simp only [h.dyb_eq, h.yb_eq, h.sgb_eq]

theorem doa_eq (R : Fin n) (j : Fin 512) : A.doa R j = B.doa (ρ R) j := by
  unfold Args.doa
  simp only [h.dya_eq, h.wa]

theorem dob_eq (R : Fin n) (j : Fin 512) : A.dob R j = B.dob (ρ R) j := by
  unfold Args.dob
  simp only [h.dyb_eq, h.wb]

theorem dwaRow_eq (k : Fin 512) (j : Fin 1024) (R : Fin n) : A.dwaRow k j R = B.dwaRow k j (ρ R) := by
  unfold Args.dwaRow
  simp only [h.oa, h.dya_eq]

theorem dwbRow_eq (k : Fin 512) (j : Fin 1024) (R : Fin n) : A.dwbRow k j R = B.dwbRow k j (ρ R) := by
  unfold Args.dwbRow
  simp only [h.ob, h.dyb_eq]

theorem dwoRow_eq (k j : Fin 1024) (R : Fin n) : A.dwoRow k j R = B.dwoRow k j (ρ R) := by
  unfold Args.dwoRow
  simp only [h.mrg_eq, h.dh_eq]

theorem dgfRow_eq (j : Fin 1024) (R : Fin n) : A.dgfRow j R = B.dgfRow j (ρ R) := by
  unfold Args.dgfRow
  simp only [h.dy_eq, h.nrm_eq]

theorem lossRow_eq (j : Fin 1024) (R : Fin n) : A.lossRow j R = B.lossRow j (ρ R) := by
  unfold Args.lossRow
  simp only [h.err_eq]

end Sub

end Args

end Cert.Merge

end
-- ==== Proof.AttnSpec.lean ====
/- What the forward pass of the windowed attention computes, as plain sums of extended reals.

   A row is a position; the 8192 rows are two sequences of 4096, each cut into 32 blocks of 128 rows. A row's queries are eight
   heads of 64 lanes (columns 0 to 511 of `q`), its keys two heads (columns 512 to 639) and its values two heads (columns 640
   to 767); four heads of queries share one head of keys and values. The candidates of row `R` are the 256 rows of its own
   block and the block before; of these it sees the last 128 up to itself that lie in its own sequence (`sees`). One more
   weight per head, that of the sink, is in the sum the weights are divided by and in nothing else. The result is gated by the
   columns of `z`. -/
module

public import proofs.«01_k».proof.Proof.ProjSpec
public import proofs.«01_k».proof.Proof.RowNorm
public import proofs.«01_k».proof.Proof.MergeSpec

@[expose] public section

noncomputable section

namespace Cert.Attn

open Idealize.ShloMosaic
open Cert.Proj (Mat)

variable (q : Mat 8192 768) (z : Mat 8192 512) (s : (⟨1, ![8]⟩ : Shape).Idx → EReal)

/-- Candidate `k` of row `R`: the block before its own starts 128 rows before its own. -/
def cand (R : Fin 8192) (k : Fin 256) : Fin 8192 := ⟨128 * (R.val / 128) + k.val - 128, by omega⟩

/-- Row `R` sees its candidate `k`: not later than itself, not 128 rows or more earlier, and not in the sequence before. -/
def sees (R : Fin 8192) (k : Fin 256) : Prop :=
  k.val ≤ R.val % 128 + 128 ∧ R.val % 128 < k.val ∧ (0 < R.val / 128 % 32 ∨ 128 ≤ k.val)

instance (R : Fin 8192) (k : Fin 256) : Decidable (sees R k) := by unfold sees; infer_instance

/-- The queries' and the keys' product, scaled by an eighth. -/
def dot (R : Fin 8192) (h : Fin 8) (k : Fin 256) : EReal :=
  (∑ e : Fin 64, q (ix2 R ⟨64 * h.val + e.val, by omega⟩) * q (ix2 (cand R k) ⟨512 + 64 * (h.val / 4) + e.val, by omega⟩))
    * Ideal.ofBits FTy.f32 1040187392#32

/-- The score of candidate `k`: minus infinity where it is not seen. -/
def score (R : Fin 8192) (h : Fin 8) (k : Fin 256) : EReal := if sees R k then dot q R h k else ⊥

/-- The greatest score, the sink's included. -/
def peak (R : Fin 8192) (h : Fin 8) : EReal :=
  max (Finset.fold max (Ideal.ofBits FTy.f32 4286578688#32) (fun k => score q R h k) Finset.univ) (s (ix1 h))

/-- The weight of candidate `k`, not yet divided. -/
def weight (R : Fin 8192) (h : Fin 8) (k : Fin 256) : EReal := Ideal.exp (score q R h k - peak q s R h)

/-- What the weights are divided by. -/
def denom (R : Fin 8192) (h : Fin 8) : EReal :=
  (∑ k : Fin 256, weight q s R h k) + Ideal.exp (s (ix1 h) - peak q s R h)

/-- Lane `d` of the value of candidate `k`, zero where it is not seen. -/
def value (R : Fin 8192) (h : Fin 8) (d : Fin 64) (k : Fin 256) : EReal :=
  if sees R k then q (ix2 (cand R k) ⟨640 + 64 * (h.val / 4) + d.val, by omega⟩) else 0

/-- Lane `d` of head `h`: the weighted values, divided once. -/
def mix (R : Fin 8192) (h : Fin 8) (d : Fin 64) : EReal :=
  (∑ k : Fin 256, value q R h d k * weight q s R h k) * Ideal.div 1 (denom q s R h)

/-- The result: column `j` is lane `j % 64` of head `j / 64`, gated. -/
def out (R : Fin 8192) (j : Fin 512) : EReal :=
  mix q s R ⟨j.val / 64, by omega⟩ ⟨j.val % 64, by omega⟩ * (z (ix2 R j) * Cert.Merge.gate (z (ix2 R j)))

/-! ## The same with every weight divided -/

/-- A candidate that is not seen has weight zero. -/
theorem weight_unseen {R : Fin 8192} {k : Fin 256} (h : Fin 8) (hk : ¬ sees R k) : weight q s R h k = 0 := by
  unfold weight score
  rw [if_neg hk, sub_eq_add_neg, EReal.bot_add, Ideal.exp_bot]

variable (hq : ∀ (R : Fin 8192) (C : Fin 768), C.val < 640 → ∃ r : ℝ, q (ix2 R C) = (r : EReal)) (hs : ∀ i, s i < ⊤)

include hq in
theorem dot_real (R : Fin 8192) (h : Fin 8) (k : Fin 256) : ∃ r : ℝ, dot q R h k = (r : EReal) := by
  have hp : ∀ e : Fin 64, ∃ r : ℝ, q (ix2 R ⟨64 * h.val + e.val, by omega⟩)
      * q (ix2 (cand R k) ⟨512 + 64 * (h.val / 4) + e.val, by omega⟩) = (r : EReal) := fun e => by
    obtain ⟨a, ha⟩ := hq R ⟨64 * h.val + e.val, by omega⟩ (by simp only []; omega)
    obtain ⟨b, hb⟩ := hq (cand R k) ⟨512 + 64 * (h.val / 4) + e.val, by omega⟩ (by simp only []; omega)
    exact ⟨a * b, by rw [ha, hb, EReal.coe_mul]⟩
  choose f hf using hp
  unfold dot
  simp only [hf, ← RowNorm.coe_sum]
  have h8 : ∃ e : ℝ, Ideal.ofBits FTy.f32 1040187392#32 = (e : EReal) := by
    refine ⟨1 / 8, ?_⟩
    simp [Ideal.ofBits, Ideal.ieee, -EReal.coe_mul]; norm_num
  obtain ⟨e, he⟩ := h8
  rw [he, ← EReal.coe_mul]
  exact ⟨_, rfl⟩

/-- The candidate that is the row itself, which it sees. -/
def own (R : Fin 8192) : Fin 256 := ⟨R.val % 128 + 128, by omega⟩

theorem sees_own (R : Fin 8192) : sees R (own R) := by unfold sees own; simp only []; omega

include hq hs in
theorem peak_real (R : Fin 8192) (h : Fin 8) : ∃ r : ℝ, peak q s R h = (r : EReal) := by
  have hlt : peak q s R h < ⊤ := by
    unfold peak
    refine max_lt ?_ (hs _)
    refine (Finset.fold_max_lt _).mpr ⟨?_, fun k _ => ?_⟩
    · simp [Ideal.ofBits, Ideal.ieee]
    · unfold score
      split_ifs
      · obtain ⟨r, hr⟩ := dot_real q hq R h k
        rw [hr]; exact EReal.coe_lt_top r
      · exact bot_lt_top
  have hgt : ⊥ < peak q s R h := by
    obtain ⟨r, hr⟩ := dot_real q hq R h (own R)
    refine lt_of_lt_of_le ?_ (le_max_left _ _)
    refine (Finset.lt_fold_max _).mpr (Or.inr ⟨own R, Finset.mem_univ _, ?_⟩)
    unfold score
    rw [if_pos (sees_own R), hr]; exact EReal.bot_lt_coe r
  exact ⟨_, (EReal.coe_toReal hlt.ne hgt.ne').symm⟩

include hq hs in
/-- The sum the weights are divided by is a positive real number: the row's own weight is, and the others are not negative. -/
theorem denom_real (R : Fin 8192) (h : Fin 8) : ∃ r : ℝ, 0 < r ∧ denom q s R h = (r : EReal) := by
  obtain ⟨p, hp⟩ := peak_real q s hq hs R h
  have hw : ∀ k, ∃ r : ℝ, 0 ≤ r ∧ (sees R k → 0 < r) ∧ weight q s R h k = (r : EReal) := fun k => by
    by_cases hk : sees R k
    · obtain ⟨r, hr⟩ := dot_real q hq R h k
      refine ⟨Real.exp (r - p), (Real.exp_pos _).le, fun _ => Real.exp_pos _, ?_⟩
      unfold weight score
      rw [if_pos hk, hr, hp, ← EReal.coe_sub, Ideal.exp_coe]
    · exact ⟨0, le_rfl, fun h' => absurd h' hk, (weight_unseen q s h hk).trans EReal.coe_zero.symm⟩
  choose f hf0 hf1 hf using hw
  have hsink : ∃ e : ℝ, 0 ≤ e ∧ Ideal.exp (s (ix1 h) - peak q s R h) = (e : EReal) := by
    have ht := hs (ix1 h)
    rw [hp]
    generalize s (ix1 h) = x at ht
    induction x with
    | bot => exact ⟨0, le_rfl, by rw [sub_eq_add_neg, EReal.bot_add, Ideal.exp_bot, EReal.coe_zero]⟩
    | top => exact absurd ht (lt_irrefl _)
    | coe r => exact ⟨Real.exp (r - p), (Real.exp_pos _).le, by rw [← EReal.coe_sub, Ideal.exp_coe]⟩
  obtain ⟨e, he0, he⟩ := hsink
  refine ⟨(∑ k : Fin 256, f k) + e, add_pos_of_pos_of_nonneg
    (Finset.sum_pos' (fun k _ => hf0 k) ⟨own R, Finset.mem_univ _, hf1 _ (sees_own R)⟩) he0, ?_⟩
  unfold denom
  simp only [hf]
  rw [← RowNorm.coe_sum, he, ← EReal.coe_add]

include hq hs in
/-- Dividing every weight by a positive number is dividing their sum: `v` may be any value where the candidate is not seen. -/
theorem mix_divided (R : Fin 8192) (h : Fin 8) (d : Fin 64) (v : Fin 256 → EReal)
    (hv : ∀ k, sees R k → v k = q (ix2 (cand R k) ⟨640 + 64 * (h.val / 4) + d.val, by omega⟩)) :
    (∑ k : Fin 256, v k * Ideal.div (weight q s R h k) (denom q s R h)) = mix q s R h d := by
  obtain ⟨r, hr, he⟩ := denom_real q s hq hs R h
  unfold mix
  rw [he, RowNorm.div_real hr.ne', one_mul, mul_comm _ ((r⁻¹ : ℝ) : EReal), RowNorm.mul_sum _ _ (inv_nonneg.mpr hr.le)]
  refine Finset.sum_congr rfl fun k _ => ?_
  rw [RowNorm.div_real hr.ne']
  by_cases hk : sees R k
  · unfold value
    rw [if_pos hk, hv k hk, mul_left_comm, mul_comm (weight q s R h k), mul_left_comm]
    ac_rfl
  · rw [weight_unseen q s h hk, zero_mul, mul_zero, mul_zero, mul_zero]

end Cert.Attn

end
-- ==== Proof.AttnTile.lean ====
/- What the kernel of the attention stores for one tile of 128 rows and two heads of queries.

   The kernel holds scores with the candidates as rows and the tile's rows as columns. The two heads lie side by side on 128
   lanes, so a head's product takes the keys on its own 64 lanes and zero on the others (`k0_pay6` to `k0_pay9`), and its values
   likewise on its own 64 rows of the result (`k0_pay14` to `k0_pay17`); the two halves are added. -/
module

public import proofs.«01_k».proof.Proof.AttnSpec
public import proofs.«01_k».proof.Proof.Sums
public import proofs.«01_k».proof.Proof.Gen.Kernel4Ideal.Value
public import Idealize.ShloMosaic.Lib.Pipeline.ValueKit
public import Idealize.ShloMosaic.Lib.StableHlo.ReadAt
public import Idealize.ShloMosaic.Lib.Claim
public import Idealize.ShloMosaic.Lib.KernelVsHost

@[expose] public section

set_option maxRecDepth 16384

noncomputable section

namespace Cert.Kernel4Ideal.Attn

open Cert.Kernel4Ideal Cert.Kernel4Ideal.Gen Idealize.ShloMosaic Idealize.ShloMosaic.TcCoe Idealize.SL.Sem
open Cert.Proj (Mat)
open Cert.Attn

/-! ## One head's half, as the kernel's operations -/

/-- The scores: the product where the mask lets a candidate be seen, minus infinity elsewhere. -/
def scoresOf (kl : FVec Ideal S256x128 .bf16) (valid : IVec S256x128 1) (q : FVec Ideal S128x128 .bf16) : FVec Ideal S256x128 .f32 :=
  select valid (matmul dot_S256x128_S128x128_S256x128_1_1_0_0_n_n none kl q (constant S256x128 .f32 0x00000000#32))
    (broadcast S256x128 (Named.named κ "mask" 0xF149F2CA#32))

/-- Each row's greatest score, the sink's included. -/
def peakOf (sc : FVec Ideal S256x128 .f32) (s : Ideal .f32) : FVec Ideal S1x128 .f32 :=
  maximumf (shapeCast S1x128 (multiReduction .maximumf [0] S128 sc 0xFF800000#32 reduces_S256x128_S128 (.inl rfl) rfl)
    shapeCasts_S128_S1x128) (broadcast S1x128 s)

def weightOf (sc : FVec Ideal S256x128 .f32) (s : Ideal .f32) : FVec Ideal S256x128 .f32 :=
  exp (subf sc (broadcastTo S256x128 (peakOf sc s) broadcasts_S1x128_S256x128))

/-- The values times the weights, times one over the weights' sum. -/
def halfOf (vr : FVec Ideal S128x256 .bf16) (sc : FVec Ideal S256x128 .f32) (s : Ideal .f32) : FVec Ideal S128x128 .f32 :=
  mulf (matmul dot_S128x256_S256x128_S128x128_1_0_0_1_n_n none vr (truncf .bf16 (weightOf sc s) bitsLt_bf16_f32)
      (constant S128x128 .f32 0x00000000#32))
    (broadcastTo S128x128
      (divf (broadcast S1x128 (Scalar.ofBits .f32 0x3F800000#32))
        (addf (shapeCast S1x128 (multiReduction .add [0] S128 (weightOf sc s) 0x00000000#32 reduces_S256x128_S128 (.inl rfl) rfl)
          shapeCasts_S128_S1x128) (exp (subf (broadcast S1x128 s) (peakOf sc s)))))
      broadcasts_S1x128_S128x128)

/-- The two halves turned back to rows, and gated. -/
def gateOf (o : FVec Ideal S128x128 .f32) (z : FVec Ideal S128x128 .bf16) : FVec Ideal S128x128 .bf16 :=
  truncf .bf16 (mulf (transpose S128x128 [1, 0] o transposes_S128x128_p1_0_S128x128)
    (mulf (extf .f32 z bitsLt_bf16_f32)
      (addf (mulf (broadcast S128x128 (Scalar.ofBits .f32 0x3F000000#32))
          (tanh (mulf (broadcast S128x128 (Scalar.ofBits .f32 0x3F000000#32)) (extf .f32 z bitsLt_bf16_f32))))
        (broadcast S128x128 (Scalar.ofBits .f32 0x3F000000#32))))) bitsLt_bf16_f32

/-- The mask of a tile: `w` is its block's number in its sequence. -/
def maskOf (w : BitVec 32) : IVec S256x128 1 := k0_pay18 w (iota .tc S256x256 32 [0] iota_S256x256_d0_w32)

/-- What is stored for two heads that share the first head of keys, and for two that share the second. -/
def unitLo (kp kc vp vc q z : FVec Ideal S128x128 .bf16) (w : BitVec 32) (s0 s1 : Ideal .f32) : FVec Ideal S128x128 .bf16 :=
  gateOf (addf (halfOf (k0_pay14 vp vc) (scoresOf (k0_pay6 kp kc) (maskOf w) q) s0)
    (halfOf (k0_pay15 vp vc) (scoresOf (k0_pay7 kp kc) (maskOf w) q) s1)) z

def unitHi (kp kc vp vc q z : FVec Ideal S128x128 .bf16) (w : BitVec 32) (s0 s1 : Ideal .f32) : FVec Ideal S128x128 .bf16 :=
  gateOf (addf (halfOf (k0_pay16 vp vc) (scoresOf (k0_pay8 kp kc) (maskOf w) q) s0)
    (halfOf (k0_pay17 vp vc) (scoresOf (k0_pay9 kp kc) (maskOf w) q) s1)) z

/-! ## The same read at an element -/

theorem scores_at (kl : FVec Ideal S256x128 .bf16) (valid : IVec S256x128 1) (q : FVec Ideal S128x128 .bf16) (k : Fin 256) (i : Fin 128) :
    (scoresOf kl valid q (ix2 k i) : EReal)
      = Scalar.select (valid (ix2 k i)) (∑ x : Fin 128, (kl (ix2 k x) : EReal) * q (ix2 i x)) (⊥ : EReal) := by
  unfold scoresOf; pointwise
  exact congrArg (Scalar.select (valid (ix2 k i)) _)
    (IdealRules.named_const.ideal_named_scalar κ "mask" (φ := .f32) 0xF149F2CA#32 ⊥ rfl)

theorem half_at (vr : FVec Ideal S128x256 .bf16) (sc : FVec Ideal S256x128 .f32) (s : EReal) (l i : Fin 128)
    (sp : Fin 256 → EReal) (hsc : ∀ k : Fin 256, sc (ix2 k i) = sp k) :
    (halfOf vr sc s (ix2 l i) : EReal)
      = (∑ k : Fin 256, (vr (ix2 l k) : EReal)
          * Ideal.exp (sp k - max (Finset.fold max (Ideal.ofBits FTy.f32 4286578688#32) (fun k => sp k) Finset.univ) s))
        * Ideal.div 1 ((∑ k : Fin 256, Ideal.exp (sp k - max (Finset.fold max (Ideal.ofBits FTy.f32 4286578688#32) (fun k => sp k) Finset.univ) s))
          + Ideal.exp (s - max (Finset.fold max (Ideal.ofBits FTy.f32 4286578688#32) (fun k => sp k) Finset.univ) s)) := by
  unfold halfOf weightOf peakOf; pointwise
  simp only [hsc]

theorem gate_at (o : FVec Ideal S128x128 .f32) (z : FVec Ideal S128x128 .bf16) (i l : Fin 128) :
    (gateOf o z (ix2 i l) : EReal) = (o (ix2 l i) : EReal) * ((z (ix2 i l) : EReal) * Cert.Merge.gate (z (ix2 i l))) := by
  unfold gateOf; pointwise
  rfl

/-! ## The mask -/

theorem near_bit : ∀ (k : Fin 256) (i : Fin 128),
    IntOp.andi
        (IntOp.cmpi CmpIPredicate.sle (IntOp.subi (BitVec.ofNat 32 k.val) 128#32) (IntOp.andi (BitVec.ofNat 32 i.val) 127#32))
        (IntOp.cmpi CmpIPredicate.slt
          (IntOp.subi (IntOp.andi (BitVec.ofNat 32 i.val) 127#32) (IntOp.subi (BitVec.ofNat 32 k.val) 128#32)) 128#32)
      = if k.val ≤ i.val + 128 ∧ i.val < k.val then 1#1 else 0#1 := by decide +kernel

theorem own_bit : ∀ k : Fin 256, IntOp.cmpi CmpIPredicate.sge (IntOp.subi (BitVec.ofNat 32 k.val) 128#32) 0#32
    = if 128 ≤ k.val then 1#1 else 0#1 := by decide +kernel

/-- The mask of a tile is whether the row sees the candidate. -/
theorem mask_at (w : BitVec 32) (R : Fin 8192) (i : Fin 128) (hi : R.val % 128 = i.val)
    (hw : Scalar.cmpi CmpIPredicate.sgt w 0#32 = if 0 < R.val / 128 % 32 then 1#1 else 0#1) (k : Fin 256) :
    maskOf w (ix2 k i) = if sees R k then 1#1 else 0#1 := by
  unfold maskOf; unfold_payloads; pointwise
  rw [near_bit, own_bit, hw]
  have hs : sees R k ↔ (k.val ≤ i.val + 128 ∧ i.val < k.val) ∧ (0 < R.val / 128 % 32 ∨ 128 ≤ k.val) := by
    unfold sees
    rw [hi, and_assoc]
  simp only [hs]
  by_cases h1 : k.val ≤ i.val + 128 ∧ i.val < k.val <;> by_cases h2 : 0 < R.val / 128 % 32 <;> by_cases h3 : 128 ≤ k.val <;>
    simp only [h1, h2, h3, if_true, if_false, and_true, true_and, and_false, false_and, or_true, true_or, or_false, false_or, and_self, or_self] <;> decide

/-! ## The keys on a head's own lanes -/

theorem lane_bit : ∀ x : Fin 128, IntOp.cmpi CmpIPredicate.slt (BitVec.ofNat 32 x.val) 64#32 = if x.val < 64 then 1#1 else 0#1 := by
  decide +kernel

/-- Candidate `k`'s row: of the block before, or of the tile's own. -/
def pick (p c : FVec Ideal S128x128 .bf16) (k : Fin 256) (x : Fin 128) : EReal :=
  if h : k.val < 128 then p (ix2 ⟨k.val, h⟩ x) else c (ix2 ⟨k.val - 128, by omega⟩ x)

theorem pick_eq (p c : FVec Ideal S128x128 .bf16) (k : Fin 256) (x y : Fin 128) (h : x.val = y.val) : pick p c k x = pick p c k y :=
  congrArg _ (Fin.ext h)

theorem keys_00 (kp kc : FVec Ideal S128x128 .bf16) (k : Fin 256) (x : Fin 128) :
    (k0_pay6 (F := Ideal) kp kc (ix2 k x) : EReal)
      = if x.val < 64 then pick kp kc k x * Ideal.ofBits FTy.f32 1040187392#32 else 0 := by
  unfold_payloads; pointwise
  rw [lane_bit]
  unfold pick
  by_cases hx : x.val < 64
  · rw [if_pos hx, if_pos hx]; rfl
  · rw [if_neg hx, if_neg hx]; rfl

theorem keys_01 (kp kc : FVec Ideal S128x128 .bf16) (k : Fin 256) (x : Fin 128) :
    (k0_pay7 (F := Ideal) kp kc (ix2 k x) : EReal)
      = if x.val < 64 then 0 else pick kp kc k ⟨(x.val + 128 - 64) % 128, Nat.mod_lt _ (by norm_num)⟩ * Ideal.ofBits FTy.f32 1040187392#32 := by
  unfold_payloads; pointwise
  rw [lane_bit]
  unfold pick
  by_cases hx : x.val < 64
  · rw [if_pos hx, if_pos hx]; rfl
  · rw [if_neg hx, if_neg hx]; rfl

theorem keys_10 (kp kc : FVec Ideal S128x128 .bf16) (k : Fin 256) (x : Fin 128) :
    (k0_pay8 (F := Ideal) kp kc (ix2 k x) : EReal)
      = if x.val < 64 then pick kp kc k ⟨(x.val + 128 - 64) % 128, Nat.mod_lt _ (by norm_num)⟩ * Ideal.ofBits FTy.f32 1040187392#32 else 0 := by
  unfold_payloads; pointwise
  rw [lane_bit]
  unfold pick
  by_cases hx : x.val < 64
  · rw [if_pos hx, if_pos hx]; rfl
  · rw [if_neg hx, if_neg hx]; rfl

theorem keys_11 (kp kc : FVec Ideal S128x128 .bf16) (k : Fin 256) (x : Fin 128) :
    (k0_pay9 (F := Ideal) kp kc (ix2 k x) : EReal)
      = if x.val < 64 then 0 else pick kp kc k x * Ideal.ofBits FTy.f32 1040187392#32 := by
  unfold_payloads; pointwise
  rw [lane_bit]
  unfold pick
  by_cases hx : x.val < 64
  · rw [if_pos hx, if_pos hx]; rfl
  · rw [if_neg hx, if_neg hx]; rfl

theorem vals_00 (vp vc : FVec Ideal S128x128 .bf16) (k : Fin 256) (l : Fin 128) :
    (k0_pay14 (F := Ideal) vp vc (ix2 l k) : EReal) = if l.val < 64 then pick vp vc k l else 0 := by
  unfold_payloads; pointwise
  rfl

theorem vals_01 (vp vc : FVec Ideal S128x128 .bf16) (k : Fin 256) (l : Fin 128) :
    (k0_pay15 (F := Ideal) vp vc (ix2 l k) : EReal) = if l.val < 64 then 0 else pick vp vc k ⟨l.val - 64, by omega⟩ := by
  unfold_payloads; pointwise
  rfl

theorem vals_10 (vp vc : FVec Ideal S128x128 .bf16) (k : Fin 256) (l : Fin 128) :
    (k0_pay16 (F := Ideal) vp vc (ix2 l k) : EReal) = if h : l.val < 64 then pick vp vc k ⟨64 + l.val, by omega⟩ else 0 := by
  unfold_payloads; pointwise
  rfl

theorem vals_11 (vp vc : FVec Ideal S128x128 .bf16) (k : Fin 256) (l : Fin 128) :
    (k0_pay17 (F := Ideal) vp vc (ix2 l k) : EReal) = if l.val < 64 then 0 else pick vp vc k ⟨64 + (l.val - 64), by omega⟩ := by
  unfold_payloads; pointwise
  rfl

/-! ## One head's half is the head's mix on its own lanes and zero on the others -/

theorem sum_lo (f : Fin 128 → EReal) (hf : ∀ x : Fin 128, ¬ x.val < 64 → f x = 0) :
    ∑ x, f x = ∑ e : Fin 64, f ⟨e.val, by omega⟩ := by
  rw [Sums.cut 64 64 (by norm_num) f, Finset.sum_eq_zero (s := (Finset.univ : Finset (Fin 64))) (f := fun e => f ⟨64 + e.val, by omega⟩)
    (fun e _ => hf _ (by simp only []; omega)), add_zero]

theorem sum_hi (f : Fin 128 → EReal) (hf : ∀ x : Fin 128, x.val < 64 → f x = 0) :
    ∑ x, f x = ∑ e : Fin 64, f ⟨64 + e.val, by omega⟩ := by
  rw [Sums.cut 64 64 (by norm_num) f, Finset.sum_eq_zero (s := (Finset.univ : Finset (Fin 64))) (f := fun e => f ⟨e.val, by omega⟩)
    (fun e _ => hf _ e.isLt), zero_add]

section
variable (Q : Mat 8192 768) (Z : Mat 8192 512) (S : (⟨1, ![8]⟩ : Shape).Idx → EReal)

/-- The scale moved from the keys to the sum. -/
theorem scaled_sum (f g : Fin 64 → EReal) :
    ∑ e, f e * Ideal.ofBits FTy.f32 1040187392#32 * g e = (∑ e, g e * f e) * Ideal.ofBits FTy.f32 1040187392#32 := by
  have h8 : Ideal.ofBits FTy.f32 1040187392#32 = ((1 / 8 : ℝ) : EReal) := by
    simp [Ideal.ofBits, Ideal.ieee, -EReal.coe_mul]; norm_num
  rw [h8, mul_comm (∑ e, g e * f e), RowNorm.mul_sum _ _ (by norm_num : (0 : ℝ) ≤ 1 / 8)]
  exact Finset.sum_congr rfl fun e _ => by ac_rfl

theorem score_of (kl : FVec Ideal S256x128 .bf16) (w : BitVec 32) (qv : FVec Ideal S128x128 .bf16) (R : Fin 8192) (h : Fin 8) (i : Fin 128)
    (hm : ∀ k, maskOf w (ix2 k i) = if sees R k then 1#1 else 0#1)
    (hs : ∀ k, sees R k → ∑ x : Fin 128, (kl (ix2 k x) : EReal) * qv (ix2 i x) = dot Q R h k) (k : Fin 256) :
    (scoresOf kl (maskOf w) qv (ix2 k i) : EReal) = score Q R h k := by
  rw [scores_at, hm]
  unfold score
  by_cases hk : sees R k
  · rw [if_pos hk, if_pos hk]; exact hs k hk
  · rw [if_neg hk, if_neg hk]; rfl

/-- A sum over the first 64 lanes, or over the last, is the scaled product of the head. -/
theorem dot_lo (kl : Fin 128 → EReal) (qv : Fin 128 → EReal) (R : Fin 8192) (h : Fin 8) (k : Fin 256)
    (h0 : ∀ x : Fin 128, ¬ x.val < 64 → kl x = 0)
    (h1 : ∀ e : Fin 64, kl ⟨e.val, by omega⟩ = Q (ix2 (cand R k) ⟨512 + 64 * (h.val / 4) + e.val, by omega⟩) * Ideal.ofBits FTy.f32 1040187392#32)
    (h2 : ∀ e : Fin 64, qv ⟨e.val, by omega⟩ = Q (ix2 R ⟨64 * h.val + e.val, by omega⟩)) :
    ∑ x, kl x * qv x = dot Q R h k := by
  rw [sum_lo _ (fun x hx => by rw [h0 x hx, zero_mul])]
  simp only [h1, h2]
  exact scaled_sum _ _

theorem dot_hi (kl : Fin 128 → EReal) (qv : Fin 128 → EReal) (R : Fin 8192) (h : Fin 8) (k : Fin 256)
    (h0 : ∀ x : Fin 128, x.val < 64 → kl x = 0)
    (h1 : ∀ e : Fin 64, kl ⟨64 + e.val, by omega⟩ = Q (ix2 (cand R k) ⟨512 + 64 * (h.val / 4) + e.val, by omega⟩) * Ideal.ofBits FTy.f32 1040187392#32)
    (h2 : ∀ e : Fin 64, qv ⟨64 + e.val, by omega⟩ = Q (ix2 R ⟨64 * h.val + e.val, by omega⟩)) :
    ∑ x, kl x * qv x = dot Q R h k := by
  rw [sum_hi _ (fun x hx => by rw [h0 x hx, zero_mul])]
  simp only [h1, h2]
  exact scaled_sum _ _

theorem half_mix (vr : FVec Ideal S128x256 .bf16) (sc : FVec Ideal S256x128 .f32) (s : EReal) (l i : Fin 128) (R : Fin 8192)
    (h : Fin 8) (d : Fin 64) (hsc : ∀ k : Fin 256, sc (ix2 k i) = score Q R h k) (hs : s = S (ix1 h))
    (hv : ∀ k : Fin 256, sees R k → vr (ix2 l k) = Q (ix2 (cand R k) ⟨640 + 64 * (h.val / 4) + d.val, by omega⟩)) :
    (halfOf vr sc s (ix2 l i) : EReal) = mix Q S R h d := by
  subst hs
  refine (half_at vr sc (S (ix1 h)) l i _ hsc).trans ?_
  unfold mix
  refine congrArg (fun y => y * Ideal.div 1 (denom Q S R h)) (Finset.sum_congr rfl fun k _ => ?_)
  show (vr (ix2 l k) : EReal) * weight Q S R h k = _
  by_cases hk : sees R k
  · unfold value; rw [if_pos hk, hv k hk]
  · rw [weight_unseen Q S h hk, mul_zero, mul_zero]

theorem half_zero (vr : FVec Ideal S128x256 .bf16) (sc : FVec Ideal S256x128 .f32) (s : EReal) (l i : Fin 128)
    (hv : ∀ k : Fin 256, vr (ix2 l k) = (0 : EReal)) : (halfOf vr sc s (ix2 l i) : EReal) = 0 := by
  refine (half_at vr sc s l i _ fun _ => rfl).trans ?_
  simp only [hv, zero_mul, Finset.sum_const_zero]

/-! ## What is stored for two heads -/

variable (kp kc vp vc qv zv : FVec Ideal S128x128 .bf16) (w : BitVec 32) (s0 s1 : EReal) (R : Fin 8192) (i l : Fin 128)
  (P : ℕ) (hP : P < 4)

/-- The arguments of a tile: candidates' keys and values, the row's two heads of queries, its gate and the two sinks. -/
structure Reads : Prop where
  mask : ∀ k, maskOf w (ix2 k i) = if sees R k then 1#1 else 0#1
  keys : ∀ (k : Fin 256) (x : Fin 128), sees R k → pick kp kc k x = Q (ix2 (cand R k) ⟨512 + x.val, by omega⟩)
  vals : ∀ (k : Fin 256) (x : Fin 128), sees R k → pick vp vc k x = Q (ix2 (cand R k) ⟨640 + x.val, by omega⟩)
  query : ∀ x : Fin 128, qv (ix2 i x) = Q (ix2 R ⟨128 * P + x.val, by omega⟩)
  gated : ∀ x : Fin 128, zv (ix2 i x) = Z (ix2 R ⟨128 * P + x.val, by omega⟩)
  sink0 : s0 = S (ix1 ⟨2 * P, by omega⟩)
  sink1 : s1 = S (ix1 ⟨2 * P + 1, by omega⟩)

theorem at_col (R : Fin 8192) (x y : Fin 768) (h : x.val = y.val) : Q (ix2 R x) = Q (ix2 R y) := by rw [Fin.ext h]

variable {Q Z S kp kc vp vc qv zv w s0 s1 R i P hP}

/-- The two halves of a row give the row's result. -/
theorem out_of_halves (A B : FVec Ideal S128x128 .f32) (H : Reads Q Z S kp kc vp vc qv zv w s0 s1 R i P hP)
    (hA : ∀ l d : ℕ, ∀ (hl : l < 128) (hd : d < 64), l = d → (A (ix2 ⟨l, hl⟩ i) : EReal) = mix Q S R ⟨2 * P, by omega⟩ ⟨d, hd⟩)
    (hA' : ∀ l : Fin 128, ¬ l.val < 64 → (A (ix2 l i) : EReal) = 0)
    (hB : ∀ l d : ℕ, ∀ (hl : l < 128) (hd : d < 64), l = 64 + d → (B (ix2 ⟨l, hl⟩ i) : EReal) = mix Q S R ⟨2 * P + 1, by omega⟩ ⟨d, hd⟩)
    (hB' : ∀ l : Fin 128, l.val < 64 → (B (ix2 l i) : EReal) = 0) (l : Fin 128) :
    (gateOf (addf A B) zv (ix2 i l) : EReal) = out Q Z S R ⟨128 * P + l.val, by omega⟩ := by
  rw [gate_at, H.gated l]
  unfold out
  refine congrArg (fun y => y * (Z (ix2 R ⟨128 * P + l.val, by omega⟩) * Cert.Merge.gate (Z (ix2 R ⟨128 * P + l.val, by omega⟩)))) ?_
  show (A (ix2 l i) : EReal) + B (ix2 l i) = _
  have at_ : ∀ (h h' : Fin 8) (d d' : Fin 64), h.val = h'.val → d.val = d'.val → mix Q S R h d = mix Q S R h' d' :=
    fun h h' d d' e e' => by rw [Fin.ext e, Fin.ext e']
  by_cases hl : l.val < 64
  · rw [hB' l hl, add_zero, hA l.val l.val l.isLt hl rfl]
    exact at_ _ _ _ _ (by simp only []; omega) (by simp only []; omega)
  · rw [hA' l hl, zero_add, hB l.val (l.val - 64) l.isLt (by omega) (by omega)]
    exact at_ _ _ _ _ (by simp only []; omega) (by simp only []; omega)

/-- The two heads share the first head of keys and values. -/
theorem unitLo_read (H : Reads Q Z S kp kc vp vc qv zv w s0 s1 R i P hP) (h2 : P < 2) (l : Fin 128) :
    (unitLo kp kc vp vc qv zv w s0 s1 (ix2 i l) : EReal) = out Q Z S R ⟨128 * P + l.val, by omega⟩ := by
  unfold unitLo
  have s_lo := score_of Q (k0_pay6 kp kc) w qv R ⟨2 * P, by omega⟩ i H.mask fun k hk => by
    refine dot_lo Q (fun x => k0_pay6 (F := Ideal) kp kc (ix2 k x)) (fun x => qv (ix2 i x)) R ⟨2 * P, by omega⟩ k (fun x hx => ?_) (fun e => ?_) (fun e => ?_)
    · exact (keys_00 kp kc k x).trans (if_neg hx)
    · refine (keys_00 kp kc k _).trans ((if_pos (by simp only []; omega)).trans (congrArg (fun y => y * _) ?_))
      exact (H.keys k _ hk).trans (at_col Q _ _ _ (by simp only []; omega))
    · exact (H.query _).trans (at_col Q _ _ _ (by simp only []; omega))
  have s_hi := score_of Q (k0_pay7 kp kc) w qv R ⟨2 * P + 1, by omega⟩ i H.mask fun k hk => by
    refine dot_hi Q (fun x => k0_pay7 (F := Ideal) kp kc (ix2 k x)) (fun x => qv (ix2 i x)) R ⟨2 * P + 1, by omega⟩ k (fun x hx => ?_) (fun e => ?_) (fun e => ?_)
    · exact (keys_01 kp kc k x).trans (if_pos hx)
    · refine (keys_01 kp kc k _).trans ((if_neg (by simp only []; omega)).trans (congrArg (fun y => y * _) ?_))
      exact (H.keys k _ hk).trans (at_col Q _ _ _ (by simp only []; omega))
    · exact (H.query _).trans (at_col Q _ _ _ (by simp only []; omega))
  refine out_of_halves _ _ H (fun l d hl hd e => ?_) (fun l hl => ?_) (fun l d hl hd e => ?_) (fun l hl => ?_) l
  · refine half_mix Q S _ _ _ _ _ _ _ _ s_lo H.sink0 fun k hk => ?_
    refine (vals_00 vp vc k _).trans ((if_pos (by simp only []; omega)).trans ?_)
    exact (H.vals k _ hk).trans (at_col Q _ _ _ (by simp only []; omega))
  · exact half_zero _ _ _ _ _ fun k => (vals_00 vp vc k l).trans (if_neg hl)
  · refine half_mix Q S _ _ _ _ _ _ _ _ s_hi H.sink1 fun k hk => ?_
    refine (vals_01 vp vc k _).trans ((if_neg (by simp only []; omega)).trans ?_)
    exact (H.vals k _ hk).trans (at_col Q _ _ _ (by simp only []; omega))
  · exact half_zero _ _ _ _ _ fun k => (vals_01 vp vc k l).trans (if_pos hl)

/-- The two heads share the second head of keys and values. -/
theorem unitHi_read (H : Reads Q Z S kp kc vp vc qv zv w s0 s1 R i P hP) (h2 : 2 ≤ P) (l : Fin 128) :
    (unitHi kp kc vp vc qv zv w s0 s1 (ix2 i l) : EReal) = out Q Z S R ⟨128 * P + l.val, by omega⟩ := by
  unfold unitHi
  have s_lo := score_of Q (k0_pay8 kp kc) w qv R ⟨2 * P, by omega⟩ i H.mask fun k hk => by
    refine dot_lo Q (fun x => k0_pay8 (F := Ideal) kp kc (ix2 k x)) (fun x => qv (ix2 i x)) R ⟨2 * P, by omega⟩ k (fun x hx => ?_) (fun e => ?_) (fun e => ?_)
    · exact (keys_10 kp kc k x).trans (if_neg hx)
    · refine (keys_10 kp kc k _).trans ((if_pos (by simp only []; omega)).trans (congrArg (fun y => y * _) ?_))
      exact (H.keys k _ hk).trans (at_col Q _ _ _ (by simp only []; omega))
    · exact (H.query _).trans (at_col Q _ _ _ (by simp only []; omega))
  have s_hi := score_of Q (k0_pay9 kp kc) w qv R ⟨2 * P + 1, by omega⟩ i H.mask fun k hk => by
    refine dot_hi Q (fun x => k0_pay9 (F := Ideal) kp kc (ix2 k x)) (fun x => qv (ix2 i x)) R ⟨2 * P + 1, by omega⟩ k (fun x hx => ?_) (fun e => ?_) (fun e => ?_)
    · exact (keys_11 kp kc k x).trans (if_pos hx)
    · refine (keys_11 kp kc k _).trans ((if_neg (by simp only []; omega)).trans (congrArg (fun y => y * _) ?_))
      exact (H.keys k _ hk).trans (at_col Q _ _ _ (by simp only []; omega))
    · exact (H.query _).trans (at_col Q _ _ _ (by simp only []; omega))
  refine out_of_halves _ _ H (fun l d hl hd e => ?_) (fun l hl => ?_) (fun l d hl hd e => ?_) (fun l hl => ?_) l
  · refine half_mix Q S _ _ _ _ _ _ _ _ s_lo H.sink0 fun k hk => ?_
    refine (vals_10 vp vc k _).trans ((dif_pos (by simp only []; omega)).trans ?_)
    exact (H.vals k _ hk).trans (at_col Q _ _ _ (by simp only []; omega))
  · exact half_zero _ _ _ _ _ fun k => (vals_10 vp vc k l).trans (dif_neg hl)
  · refine half_mix Q S _ _ _ _ _ _ _ _ s_hi H.sink1 fun k hk => ?_
    refine (vals_11 vp vc k _).trans ((if_neg (by simp only []; omega)).trans ?_)
    exact (H.vals k _ hk).trans (at_col Q _ _ _ (by simp only []; omega))
  · exact half_zero _ _ _ _ _ fun k => (vals_11 vp vc k l).trans (if_pos hl)

end

end Cert.Kernel4Ideal.Attn

end
-- ==== Proof.AttnKernel.lean ====
/- What the kernel of the attention leaves in its result.

   The grid has eight points, four per sequence, each of 1024 rows. `blk_*` read the windows' blocks as elements of the
   arguments; a point stores 32 tiles, one per block of 128 rows and pair of heads, each read by `tile_lo` or `tile_hi`. The
   first block's candidates before its own rows come from a window of their own (`prev_ld`), the others' from the tile's rows. -/
module

public import proofs.«01_k».proof.Proof.AttnTile
public import proofs.«01_k».proof.Proof.Gen.Kernel4Ideal.Value
public import Idealize.ShloMosaic.Lib.Pipeline.ValueKit
public import Idealize.ShloMosaic.Lib.StableHlo.ReadAt
public import Idealize.ShloMosaic.Lib.Claim
public import Idealize.ShloMosaic.Lib.KernelVsHost

@[expose] public section

set_option maxRecDepth 16384

noncomputable section

namespace Cert.Kernel4Ideal.Attn

open Cert.Kernel4Ideal Cert.Kernel4Ideal.Gen Idealize.ShloMosaic Idealize.ShloMosaic.TcCoe Idealize.SL.Sem
open Cert.Proj (Mat)
open Cert.Attn

variable (m : (ℓ : Loc nD τ sig) → Buf (Elt Ideal) ℓ) (c : Dev nD)

/-! ## The arguments -/

abbrev Qkv : Mat 8192 768 := m ((c : Thread nD τ).loc main_arg0)
abbrev Za : Mat 8192 512 := m ((c : Thread nD τ).loc main_arg1)
abbrev Sinks : (⟨1, ![8]⟩ : Shape).Idx → EReal := m ((c : Thread nD τ).loc main_arg2)

/-! ## The blocks the windows hold at a point -/

/-- Row `r` of the tile of point `t`. -/
def rowOf (t : Fin cfg0.N) (r : Fin 1024) : Fin 8192 := ⟨1024 * t.val + r.val, by
  have := t.isLt; have hN : cfg0.N = 8 := N_0; omega⟩

theorem index_0 : ∀ t : Fin cfg0.N, win0_0.index t = ![0] := by decide +kernel
theorem index_1 : ∀ t : Fin cfg0.N, win0_1.index t = ![t.val, 0] := by decide +kernel
theorem index_2 : ∀ t : Fin cfg0.N, win0_2.index t = ![8 * t.val - min (t.val % 4) 1, 2] := by decide +kernel
theorem index_3 : ∀ t : Fin cfg0.N, win0_3.index t = ![t.val, 0] := by decide +kernel
theorem index_4 : ∀ t : Fin cfg0.N, win0_4.index t = ![t.val, 0] := by decide +kernel

/-- Two elements of a matrix are one element if their coordinates are. -/
theorem congr2 {a b : ℕ} {α : Type} (v : (⟨2, ![a, b]⟩ : Shape).Idx → α) {i j : (⟨2, ![a, b]⟩ : Shape).Idx}
    (h0 : (i 0).val = (j 0).val) (h1 : (i 1).val = (j 1).val) : v i = v j :=
  congrArg v (funext fun x => Fin.ext (match x with | ⟨0, _⟩ => h0 | ⟨1, _⟩ => h1))

theorem blk_0 (t : Fin cfg0.N) (i : Fin 8) : iblk m c 0 t (ix1 i) = Sinks m c (ix1 i) := by
  unfold iblk
  rw [View.read_apply]
  show V m c main_arg2 _ = _
  rw [V_main_arg2]
  exact congrArg (Sinks m c) (funext fun x => Fin.ext (match x with | ⟨0, _⟩ => by blk_simp [index_0]; try simp))

theorem blk_1 (t : Fin cfg0.N) (r : Fin 1024) (k : Fin 768) : iblk m c 1 t (ix2 r k) = Qkv m c (ix2 (rowOf t r) k) := by
  unfold iblk
  rw [View.read_apply]
  show V m c main_arg0 _ = _
  rw [V_main_arg0]
  exact congr2 (Qkv m c) (by blk_simp [index_1]; simp [rowOf, mul_comm]) (by blk_simp [index_1]; try simp)

theorem blk_2 (t : Fin cfg0.N) (r : Fin 128) (k : Fin 256) (R : Fin 8192) (C : Fin 768)
    (hR : R.val = 128 * (8 * t.val - min (t.val % 4) 1) + r.val) (hC : C.val = 512 + k.val) :
    iblk m c 2 t (ix2 r k) = Qkv m c (ix2 R C) := by
  unfold iblk
  rw [View.read_apply]
  show V m c main_arg0 _ = _
  rw [V_main_arg0]
  exact congr2 (Qkv m c) (by blk_simp [index_2]; simp [hR, mul_comm]) (by blk_simp [index_2]; simp [hC])

theorem blk_3 (t : Fin cfg0.N) (r : Fin 1024) (k : Fin 512) : iblk m c 3 t (ix2 r k) = Za m c (ix2 (rowOf t r) k) := by
  unfold iblk
  rw [View.read_apply]
  show V m c main_arg1 _ = _
  rw [V_main_arg1]
  exact congr2 (Za m c) (by blk_simp [index_3]; simp [rowOf, mul_comm]) (by blk_simp [index_3]; try simp)

/-! ## What a load of 128 rows and 128 columns of a block holds -/

theorem cur_ld (t : Fin cfg0.N) (X : FVec Ideal S1024x768 .bf16) (hX : X = iblk m c 1 t) (a b : ℕ) (h) (R : Fin 8192) (C : Fin 768)
    (k x : Fin 128) (hR : R.val = 1024 * t.val + (a + k.val)) (hC : C.val = b + x.val) (ha : a ≤ 896) :
    (View.ld (Val := Elt Ideal) (e' := .bf16) X (Rect.unit (s := S1024x768) ![a, b] ![128, 128] h) (ix2 k x) : EReal) = Qkv m c (ix2 R C) := by
  subst hX
  have hC' := C.isLt
  refine Eq.trans (congr2 (a := 1024) (b := 768) (iblk m c 1 t) (j := ix2 ⟨a + k.val, by omega⟩ C) (by simp) (by simp [hC])) ?_
  rw [blk_1]
  exact congr2 (Qkv m c) hR.symm rfl

theorem gate_ld (t : Fin cfg0.N) (X : FVec Ideal S1024x512 .bf16) (hX : X = iblk m c 3 t) (a b : ℕ) (h) (R : Fin 8192) (C : Fin 512)
    (k x : Fin 128) (hR : R.val = 1024 * t.val + (a + k.val)) (hC : C.val = b + x.val) (ha : a ≤ 896) :
    (View.ld (Val := Elt Ideal) (e' := .bf16) X (Rect.unit (s := S1024x512) ![a, b] ![128, 128] h) (ix2 k x) : EReal) = Za m c (ix2 R C) := by
  subst hX
  have hC' := C.isLt
  refine Eq.trans (congr2 (a := 1024) (b := 512) (iblk m c 3 t) (j := ix2 ⟨a + k.val, by omega⟩ C) (by simp) (by simp [hC])) ?_
  rw [blk_3]
  exact congr2 (Za m c) hR.symm rfl

theorem prev_ld (t : Fin cfg0.N) (X : FVec Ideal S128x256 .bf16) (hX : X = iblk m c 2 t) (b : ℕ) (h) (R : Fin 8192) (C : Fin 768)
    (k x : Fin 128) (hR : R.val = 128 * (8 * t.val - min (t.val % 4) 1) + k.val) (hC : C.val = 512 + (b + x.val)) (hb : b ≤ 128) :
    (View.ld (Val := Elt Ideal) (e' := .bf16) X (Rect.unit (s := S128x256) ![0, b] ![128, 128] h) (ix2 k x) : EReal) = Qkv m c (ix2 R C) := by
  subst hX
  refine Eq.trans (congr2 (a := 128) (b := 256) (iblk m c 2 t) (j := ix2 k ⟨b + x.val, by omega⟩) (by simp) (by simp)) ?_
  exact blk_2 m c t k _ R C hR hC

theorem sink_ld (t : Fin cfg0.N) (a : ℕ) (h) (y) (I : Fin 8) (hI : I.val = a) :
    (View.ld (Val := Elt Ideal) (e' := .f32) (iblk m c 0 t) (Rect.unit (s := S8) ![a] ![1] h) y : EReal) = Sinks m c (ix1 I) := by
  refine Eq.trans (congrArg (iblk m c 0 t) (a₂ := ix1 I) (funext fun x => Fin.ext (match x with | ⟨0, _⟩ => ?_))) (blk_0 m c t I)
  have : (y 0).val < 1 := (y 0).isLt
  simp [hI]

/-! ## One tile -/

/-- A block's number in its sequence, as the kernel computes it, is positive but for the first. -/
theorem first_bit : ∀ (t : Fin cfg0.N) (J : Fin 8),
    Scalar.cmpi CmpIPredicate.sgt (Scalar.addi (Scalar.muli 8#32 (BitVec.ofNat 32 (grid0.coords t 1).val)) (BitVec.ofNat 32 J.val)) 0#32
      = if 0 < 8 * (t.val % 4) + J.val then 1#1 else 0#1 := by decide +kernel

/-- The row before block `J` of the tile that candidate `k` is. -/
def before (t : Fin cfg0.N) (J : ℕ) (hJ : J < 8) (k : Fin 128) : Fin 8192 :=
  ⟨if J = 0 then 128 * (8 * t.val - min (t.val % 4) 1) + k.val else 1024 * t.val + (128 * (J - 1) + k.val), by
    have := t.isLt; have hN : cfg0.N = 8 := N_0; split_ifs <;> omega⟩

/-- What the loads of block `J` and pair of heads `P` hold. -/
structure Tile (t : Fin cfg0.N) (J P : ℕ) (hJ : J < 8) (hP : P < 4) (kp kc vp vc qv zv : FVec Ideal S128x128 .bf16) (s0 s1 : EReal) : Prop where
  kprev : ∀ k x : Fin 128, kp (ix2 k x) = Qkv m c (ix2 (before t J hJ k) ⟨512 + x.val, by omega⟩)
  kcur : ∀ k x : Fin 128, kc (ix2 k x) = Qkv m c (ix2 (rowOf t ⟨128 * J + k.val, by omega⟩) ⟨512 + x.val, by omega⟩)
  vprev : ∀ k x : Fin 128, vp (ix2 k x) = Qkv m c (ix2 (before t J hJ k) ⟨640 + x.val, by omega⟩)
  vcur : ∀ k x : Fin 128, vc (ix2 k x) = Qkv m c (ix2 (rowOf t ⟨128 * J + k.val, by omega⟩) ⟨640 + x.val, by omega⟩)
  query : ∀ k x : Fin 128, qv (ix2 k x) = Qkv m c (ix2 (rowOf t ⟨128 * J + k.val, by omega⟩) ⟨128 * P + x.val, by omega⟩)
  gated : ∀ k x : Fin 128, zv (ix2 k x) = Za m c (ix2 (rowOf t ⟨128 * J + k.val, by omega⟩) ⟨128 * P + x.val, by omega⟩)
  sink0 : s0 = Sinks m c (ix1 ⟨2 * P, by omega⟩)
  sink1 : s1 = Sinks m c (ix1 ⟨2 * P + 1, by omega⟩)

section
variable {t : Fin cfg0.N} {J P : ℕ} {hJ : J < 8} {hP : P < 4} {kp kc vp vc qv zv : FVec Ideal S128x128 .bf16} {s0 s1 : EReal}

/-- Of the two blocks' 256 rows, a seen candidate is its own row. -/
theorem pick_read (X : Mat 8192 768) (p c' : FVec Ideal S128x128 .bf16) (C : Fin 768) (x i : Fin 128)
    (hp : ∀ k : Fin 128, p (ix2 k x) = X (ix2 (before t J hJ k) C))
    (hc : ∀ k : Fin 128, c' (ix2 k x) = X (ix2 (rowOf t ⟨128 * J + k.val, by omega⟩) C)) (k : Fin 256)
    (hs : sees (rowOf t ⟨128 * J + i.val, by omega⟩) k) :
    pick p c' k x = X (ix2 (cand (rowOf t ⟨128 * J + i.val, by omega⟩) k) C) := by
  have hN : t.val < 8 := by have := t.isLt; have hN : cfg0.N = 8 := N_0; omega
  obtain ⟨-, -, h3⟩ := hs
  simp only [rowOf] at h3
  unfold pick
  by_cases hk : k.val < 128
  · rw [dif_pos hk, hp]
    refine congr2 X ?_ rfl
    simp only [before, cand, rowOf]
    show (if J = 0 then 128 * (8 * t.val - min (t.val % 4) 1) + k.val else 1024 * t.val + (128 * (J - 1) + k.val))
      = 128 * ((1024 * t.val + (128 * J + i.val)) / 128) + k.val - 128
    by_cases hJ0 : J = 0
    · rw [if_pos hJ0]; subst hJ0; omega
    · rw [if_neg hJ0]; omega
  · rw [dif_neg hk, hc]
    refine congr2 X ?_ rfl
    show 1024 * t.val + (128 * J + (k.val - 128)) = 128 * ((1024 * t.val + (128 * J + i.val)) / 128) + k.val - 128
    omega

variable {m c}

theorem reads (T : Tile m c t J P hJ hP kp kc vp vc qv zv s0 s1) (i : Fin 128) :
    Reads (Qkv m c) (Za m c) (Sinks m c) kp kc vp vc qv zv
      (Scalar.addi (Scalar.muli 8#32 (BitVec.ofNat 32 (grid0.coords t 1).val)) (BitVec.ofNat 32 J)) s0 s1
      (rowOf t ⟨128 * J + i.val, by omega⟩) i P hP where
  mask := mask_at _ _ i (by simp only [rowOf]; omega) (by
    have hN : t.val < 8 := by have := t.isLt; have hN : cfg0.N = 8 := N_0; omega
    refine (first_bit t ⟨J, hJ⟩).trans ?_
    have e : (rowOf t ⟨128 * J + i.val, by omega⟩).val / 128 % 32 = 8 * (t.val % 4) + J := by simp only [rowOf]; omega
    rw [e])
  keys k x hs := pick_read (P := P) (Qkv m c) kp kc _ x i (fun k => T.kprev k x) (fun k => T.kcur k x) k hs
  vals k x hs := pick_read (P := P) (Qkv m c) vp vc _ x i (fun k => T.vprev k x) (fun k => T.vcur k x) k hs
  query x := T.query i x
  gated x := T.gated i x
  sink0 := T.sink0
  sink1 := T.sink1

theorem tile_lo (T : Tile m c t J P hJ hP kp kc vp vc qv zv s0 s1) (h2 : P < 2) (r : Fin 1024) (j : Fin 512) (x : S128x128.Idx)
    (h0 : r.val = 128 * J + (x 0).val) (h1 : j.val = 128 * P + (x 1).val) :
    (unitLo kp kc vp vc qv zv (Scalar.addi (Scalar.muli 8#32 (BitVec.ofNat 32 (grid0.coords t 1).val)) (BitVec.ofNat 32 J)) s0 s1 x : EReal)
      = out (Qkv m c) (Za m c) (Sinks m c) (rowOf t r) j := by
  obtain ⟨i, l, rfl⟩ : ∃ i l : Fin 128, x = ix2 i l := ⟨x 0, x 1, funext fun y => match y with | ⟨0, _⟩ => rfl | ⟨1, _⟩ => rfl⟩
  rw [unitLo_read (reads T i) h2 l]
  rw [show r = ⟨128 * J + i.val, by omega⟩ from Fin.ext h0, show j = ⟨128 * P + l.val, by omega⟩ from Fin.ext h1]

theorem tile_hi (T : Tile m c t J P hJ hP kp kc vp vc qv zv s0 s1) (h2 : 2 ≤ P) (r : Fin 1024) (j : Fin 512) (x : S128x128.Idx)
    (h0 : r.val = 128 * J + (x 0).val) (h1 : j.val = 128 * P + (x 1).val) :
    (unitHi kp kc vp vc qv zv (Scalar.addi (Scalar.muli 8#32 (BitVec.ofNat 32 (grid0.coords t 1).val)) (BitVec.ofNat 32 J)) s0 s1 x : EReal)
      = out (Qkv m c) (Za m c) (Sinks m c) (rowOf t r) j := by
  obtain ⟨i, l, rfl⟩ : ∃ i l : Fin 128, x = ix2 i l := ⟨x 0, x 1, funext fun y => match y with | ⟨0, _⟩ => rfl | ⟨1, _⟩ => rfl⟩
  rw [unitHi_read (reads T i) h2 l]
  rw [show r = ⟨128 * J + i.val, by omega⟩ from Fin.ext h0, show j = ⟨128 * P + l.val, by omega⟩ from Fin.ext h1]

end

/-! ## One point -/

/-- Element `(r, j)` of what point `t` stores. -/
theorem point (t : Fin cfg0.N) (r : Fin 1024) (j : Fin 512) :
    (outsAt0 m c t (ix2 r j) : EReal) = out (Qkv m c) (Za m c) (Sinks m c) (rowOf t r) j := by
  unfold outsAt0; frame_out
  refine View.canon_eq_of_allAt _ _ _ (View.cover_of_tiledBy _ ![128, 128] (by sl_kernel_rfl) _) ?_
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))))))))))))))))))))))))))
  · intro x hx
    refine Eq.trans (b := unitHi _ _ _ _ _ _ _ _ _ x) (by rfl) ?_
    exact tile_hi (J := 7) (P := 3) (hJ := by norm_num) (hP := by norm_num) ⟨fun k x => cur_ld m c t _ (by first | exact (hs0_1 t).read_unread _ | rfl) 768 512 _ _ _ k x rfl rfl (by norm_num),
      fun k x => cur_ld m c t _ (by first | exact (hs0_1 t).read_unread _ | rfl) 896 512 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 896 640 _ _ _ k x rfl rfl (by norm_num),
      fun k x => cur_ld m c t _ (by first | exact (hs0_1 t).read_unread _ | rfl) 896 384 _ _ _ k x rfl rfl (by norm_num),
      fun k x => gate_ld m c t _ (by first | rfl | exact (hs0_3 t).read_unread _) 896 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 7) (P := 2) (hJ := by norm_num) (hP := by norm_num) ⟨fun k x => cur_ld m c t _ (by first | exact (hs0_1 t).read_unread _ | rfl) 768 512 _ _ _ k x rfl rfl (by norm_num),
      fun k x => cur_ld m c t _ (by first | exact (hs0_1 t).read_unread _ | rfl) 896 512 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 896 640 _ _ _ k x rfl rfl (by norm_num),
      fun k x => cur_ld m c t _ (by first | exact (hs0_1 t).read_unread _ | rfl) 896 256 _ _ _ k x rfl rfl (by norm_num),
      fun k x => gate_ld m c t _ (by first | rfl | exact (hs0_3 t).read_unread _) 896 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 7) (P := 1) (hJ := by norm_num) (hP := by norm_num) ⟨fun k x => cur_ld m c t _ (by first | exact (hs0_1 t).read_unread _ | rfl) 768 512 _ _ _ k x rfl rfl (by norm_num),
      fun k x => cur_ld m c t _ (by first | exact (hs0_1 t).read_unread _ | rfl) 896 512 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 896 640 _ _ _ k x rfl rfl (by norm_num),
      fun k x => cur_ld m c t _ (by first | exact (hs0_1 t).read_unread _ | rfl) 896 128 _ _ _ k x rfl rfl (by norm_num),
      fun k x => gate_ld m c t _ (by first | rfl | exact (hs0_3 t).read_unread _) 896 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 7) (P := 0) (hJ := by norm_num) (hP := by norm_num) ⟨fun k x => cur_ld m c t _ (by first | exact (hs0_1 t).read_unread _ | rfl) 768 512 _ _ _ k x rfl rfl (by norm_num),
      fun k x => cur_ld m c t _ (by first | exact (hs0_1 t).read_unread _ | rfl) 896 512 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 896 640 _ _ _ k x rfl rfl (by norm_num),
      fun k x => cur_ld m c t _ (by first | exact (hs0_1 t).read_unread _ | rfl) 896 0 _ _ _ k x rfl rfl (by norm_num),
      fun k x => gate_ld m c t _ (by first | rfl | exact (hs0_3 t).read_unread _) 896 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 6) (P := 3) (hJ := by norm_num) (hP := by norm_num) ⟨fun k x => cur_ld m c t _ (by first | exact (hs0_1 t).read_unread _ | rfl) 640 512 _ _ _ k x rfl rfl (by norm_num),
      fun k x => cur_ld m c t _ (by first | exact (hs0_1 t).read_unread _ | rfl) 768 512 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 768 384 _ _ _ k x rfl rfl (by norm_num),
      fun k x => gate_ld m c t _ (by first | rfl | exact (hs0_3 t).read_unread _) 768 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 6) (P := 2) (hJ := by norm_num) (hP := by norm_num) ⟨fun k x => cur_ld m c t _ (by first | exact (hs0_1 t).read_unread _ | rfl) 640 512 _ _ _ k x rfl rfl (by norm_num),
      fun k x => cur_ld m c t _ (by first | exact (hs0_1 t).read_unread _ | rfl) 768 512 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 768 256 _ _ _ k x rfl rfl (by norm_num),
      fun k x => gate_ld m c t _ (by first | rfl | exact (hs0_3 t).read_unread _) 768 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 6) (P := 1) (hJ := by norm_num) (hP := by norm_num) ⟨fun k x => cur_ld m c t _ (by first | exact (hs0_1 t).read_unread _ | rfl) 640 512 _ _ _ k x rfl rfl (by norm_num),
      fun k x => cur_ld m c t _ (by first | exact (hs0_1 t).read_unread _ | rfl) 768 512 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 768 128 _ _ _ k x rfl rfl (by norm_num),
      fun k x => gate_ld m c t _ (by first | rfl | exact (hs0_3 t).read_unread _) 768 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 6) (P := 0) (hJ := by norm_num) (hP := by norm_num) ⟨fun k x => cur_ld m c t _ (by first | exact (hs0_1 t).read_unread _ | rfl) 640 512 _ _ _ k x rfl rfl (by norm_num),
      fun k x => cur_ld m c t _ (by first | exact (hs0_1 t).read_unread _ | rfl) 768 512 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 768 640 _ _ _ k x rfl rfl (by norm_num),
      fun k x => cur_ld m c t _ (by first | exact (hs0_1 t).read_unread _ | rfl) 768 0 _ _ _ k x rfl rfl (by norm_num),
      fun k x => gate_ld m c t _ (by first | rfl | exact (hs0_3 t).read_unread _) 768 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 5) (P := 3) (hJ := by norm_num) (hP := by norm_num) ⟨fun k x => cur_ld m c t _ (by first | exact (hs0_1 t).read_unread _ | rfl) 512 512 _ _ _ k x rfl rfl (by norm_num),
      fun k x => cur_ld m c t _ (by first | exact (hs0_1 t).read_unread _ | rfl) 640 512 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 640 384 _ _ _ k x rfl rfl (by norm_num),
      fun k x => gate_ld m c t _ (by first | rfl | exact (hs0_3 t).read_unread _) 640 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 5) (P := 2) (hJ := by norm_num) (hP := by norm_num) ⟨fun k x => cur_ld m c t _ (by first | exact (hs0_1 t).read_unread _ | rfl) 512 512 _ _ _ k x rfl rfl (by norm_num),
      fun k x => cur_ld m c t _ (by first | exact (hs0_1 t).read_unread _ | rfl) 640 512 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 640 256 _ _ _ k x rfl rfl (by norm_num),
      fun k x => gate_ld m c t _ (by first | rfl | exact (hs0_3 t).read_unread _) 640 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 5) (P := 1) (hJ := by norm_num) (hP := by norm_num) ⟨fun k x => cur_ld m c t _ (by first | exact (hs0_1 t).read_unread _ | rfl) 512 512 _ _ _ k x rfl rfl (by norm_num),
      fun k x => cur_ld m c t _ (by first | exact (hs0_1 t).read_unread _ | rfl) 640 512 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 640 128 _ _ _ k x rfl rfl (by norm_num),
      fun k x => gate_ld m c t _ (by first | rfl | exact (hs0_3 t).read_unread _) 640 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 5) (P := 0) (hJ := by norm_num) (hP := by norm_num) ⟨fun k x => cur_ld m c t _ (by first | exact (hs0_1 t).read_unread _ | rfl) 512 512 _ _ _ k x rfl rfl (by norm_num),
      fun k x => cur_ld m c t _ (by first | exact (hs0_1 t).read_unread _ | rfl) 640 512 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 640 640 _ _ _ k x rfl rfl (by norm_num),
      fun k x => cur_ld m c t _ (by first | exact (hs0_1 t).read_unread _ | rfl) 640 0 _ _ _ k x rfl rfl (by norm_num),
      fun k x => gate_ld m c t _ (by first | rfl | exact (hs0_3 t).read_unread _) 640 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 4) (P := 3) (hJ := by norm_num) (hP := by norm_num) ⟨fun k x => cur_ld m c t _ (by first | exact (hs0_1 t).read_unread _ | rfl) 384 512 _ _ _ k x rfl rfl (by norm_num),
      fun k x => cur_ld m c t _ (by first | exact (hs0_1 t).read_unread _ | rfl) 512 512 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 512 384 _ _ _ k x rfl rfl (by norm_num),
      fun k x => gate_ld m c t _ (by first | rfl | exact (hs0_3 t).read_unread _) 512 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 4) (P := 2) (hJ := by norm_num) (hP := by norm_num) ⟨fun k x => cur_ld m c t _ (by first | exact (hs0_1 t).read_unread _ | rfl) 384 512 _ _ _ k x rfl rfl (by norm_num),
      fun k x => cur_ld m c t _ (by first | exact (hs0_1 t).read_unread _ | rfl) 512 512 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 512 256 _ _ _ k x rfl rfl (by norm_num),
      fun k x => gate_ld m c t _ (by first | rfl | exact (hs0_3 t).read_unread _) 512 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 4) (P := 1) (hJ := by norm_num) (hP := by norm_num) ⟨fun k x => cur_ld m c t _ (by first | exact (hs0_1 t).read_unread _ | rfl) 384 512 _ _ _ k x rfl rfl (by norm_num),
      fun k x => cur_ld m c t _ (by first | exact (hs0_1 t).read_unread _ | rfl) 512 512 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 512 128 _ _ _ k x rfl rfl (by norm_num),
      fun k x => gate_ld m c t _ (by first | rfl | exact (hs0_3 t).read_unread _) 512 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 4) (P := 0) (hJ := by norm_num) (hP := by norm_num) ⟨fun k x => cur_ld m c t _ (by first | exact (hs0_1 t).read_unread _ | rfl) 384 512 _ _ _ k x rfl rfl (by norm_num),
      fun k x => cur_ld m c t _ (by first | exact (hs0_1 t).read_unread _ | rfl) 512 512 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 512 640 _ _ _ k x rfl rfl (by norm_num),
      fun k x => cur_ld m c t _ (by first | exact (hs0_1 t).read_unread _ | rfl) 512 0 _ _ _ k x rfl rfl (by norm_num),
      fun k x => gate_ld m c t _ (by first | rfl | exact (hs0_3 t).read_unread _) 512 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 3) (P := 3) (hJ := by norm_num) (hP := by norm_num) ⟨fun k x => cur_ld m c t _ (by first | exact (hs0_1 t).read_unread _ | rfl) 256 512 _ _ _ k x rfl rfl (by norm_num),
      fun k x => cur_ld m c t _ (by first | exact (hs0_1 t).read_unread _ | rfl) 384 512 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 384 384 _ _ _ k x rfl rfl (by norm_num),
      fun k x => gate_ld m c t _ (by first | rfl | exact (hs0_3 t).read_unread _) 384 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 3) (P := 2) (hJ := by norm_num) (hP := by norm_num) ⟨fun k x => cur_ld m c t _ (by first | exact (hs0_1 t).read_unread _ | rfl) 256 512 _ _ _ k x rfl rfl (by norm_num),
      fun k x => cur_ld m c t _ (by first | exact (hs0_1 t).read_unread _ | rfl) 384 512 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 384 256 _ _ _ k x rfl rfl (by norm_num),
      fun k x => gate_ld m c t _ (by first | rfl | exact (hs0_3 t).read_unread _) 384 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 3) (P := 1) (hJ := by norm_num) (hP := by norm_num) ⟨fun k x => cur_ld m c t _ (by first | exact (hs0_1 t).read_unread _ | rfl) 256 512 _ _ _ k x rfl rfl (by norm_num),
      fun k x => cur_ld m c t _ (by first | exact (hs0_1 t).read_unread _ | rfl) 384 512 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 384 128 _ _ _ k x rfl rfl (by norm_num),
      fun k x => gate_ld m c t _ (by first | rfl | exact (hs0_3 t).read_unread _) 384 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 3) (P := 0) (hJ := by norm_num) (hP := by norm_num) ⟨fun k x => cur_ld m c t _ (by first | exact (hs0_1 t).read_unread _ | rfl) 256 512 _ _ _ k x rfl rfl (by norm_num),
      fun k x => cur_ld m c t _ (by first | exact (hs0_1 t).read_unread _ | rfl) 384 512 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 384 640 _ _ _ k x rfl rfl (by norm_num),
      fun k x => cur_ld m c t _ (by first | exact (hs0_1 t).read_unread _ | rfl) 384 0 _ _ _ k x rfl rfl (by norm_num),
      fun k x => gate_ld m c t _ (by first | rfl | exact (hs0_3 t).read_unread _) 384 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 2) (P := 3) (hJ := by norm_num) (hP := by norm_num) ⟨fun k x => cur_ld m c t _ (by first | exact (hs0_1 t).read_unread _ | rfl) 128 512 _ _ _ k x rfl rfl (by norm_num),
      fun k x => cur_ld m c t _ (by first | exact (hs0_1 t).read_unread _ | rfl) 256 512 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 256 384 _ _ _ k x rfl rfl (by norm_num),
      fun k x => gate_ld m c t _ (by first | rfl | exact (hs0_3 t).read_unread _) 256 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 2) (P := 2) (hJ := by norm_num) (hP := by norm_num) ⟨fun k x => cur_ld m c t _ (by first | exact (hs0_1 t).read_unread _ | rfl) 128 512 _ _ _ k x rfl rfl (by norm_num),
      fun k x => cur_ld m c t _ (by first | exact (hs0_1 t).read_unread _ | rfl) 256 512 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 256 256 _ _ _ k x rfl rfl (by norm_num),
      fun k x => gate_ld m c t _ (by first | rfl | exact (hs0_3 t).read_unread _) 256 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 2) (P := 1) (hJ := by norm_num) (hP := by norm_num) ⟨fun k x => cur_ld m c t _ (by first | exact (hs0_1 t).read_unread _ | rfl) 128 512 _ _ _ k x rfl rfl (by norm_num),
      fun k x => cur_ld m c t _ (by first | exact (hs0_1 t).read_unread _ | rfl) 256 512 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 256 128 _ _ _ k x rfl rfl (by norm_num),
      fun k x => gate_ld m c t _ (by first | rfl | exact (hs0_3 t).read_unread _) 256 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 2) (P := 0) (hJ := by norm_num) (hP := by norm_num) ⟨fun k x => cur_ld m c t _ (by first | exact (hs0_1 t).read_unread _ | rfl) 128 512 _ _ _ k x rfl rfl (by norm_num),
      fun k x => cur_ld m c t _ (by first | exact (hs0_1 t).read_unread _ | rfl) 256 512 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 256 640 _ _ _ k x rfl rfl (by norm_num),
      fun k x => cur_ld m c t _ (by first | exact (hs0_1 t).read_unread _ | rfl) 256 0 _ _ _ k x rfl rfl (by norm_num),
      fun k x => gate_ld m c t _ (by first | rfl | exact (hs0_3 t).read_unread _) 256 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 1) (P := 3) (hJ := by norm_num) (hP := by norm_num) ⟨fun k x => cur_ld m c t _ (by first | exact (hs0_1 t).read_unread _ | rfl) 0 512 _ _ _ k x rfl rfl (by norm_num),
      fun k x => cur_ld m c t _ (by first | exact (hs0_1 t).read_unread _ | rfl) 128 512 _ _ _ k x rfl rfl (by norm_num),
      fun k x => cur_ld m c t _ (by first | exact (hs0_1 t).read_unread _ | rfl) 0 640 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 128 384 _ _ _ k x rfl rfl (by norm_num),
      fun k x => gate_ld m c t _ (by first | rfl | exact (hs0_3 t).read_unread _) 128 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 1) (P := 2) (hJ := by norm_num) (hP := by norm_num) ⟨fun k x => cur_ld m c t _ (by first | exact (hs0_1 t).read_unread _ | rfl) 0 512 _ _ _ k x rfl rfl (by norm_num),
      fun k x => cur_ld m c t _ (by first | exact (hs0_1 t).read_unread _ | rfl) 128 512 _ _ _ k x rfl rfl (by norm_num),
      fun k x => cur_ld m c t _ (by first | exact (hs0_1 t).read_unread _ | rfl) 0 640 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 128 256 _ _ _ k x rfl rfl (by norm_num),
      fun k x => gate_ld m c t _ (by first | rfl | exact (hs0_3 t).read_unread _) 128 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 1) (P := 1) (hJ := by norm_num) (hP := by norm_num) ⟨fun k x => cur_ld m c t _ (by first | exact (hs0_1 t).read_unread _ | rfl) 0 512 _ _ _ k x rfl rfl (by norm_num),
      fun k x => cur_ld m c t _ (by first | exact (hs0_1 t).read_unread _ | rfl) 128 512 _ _ _ k x rfl rfl (by norm_num),
      fun k x => cur_ld m c t _ (by first | exact (hs0_1 t).read_unread _ | rfl) 0 640 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 128 128 _ _ _ k x rfl rfl (by norm_num),
      fun k x => gate_ld m c t _ (by first | rfl | exact (hs0_3 t).read_unread _) 128 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 1) (P := 0) (hJ := by norm_num) (hP := by norm_num) ⟨fun k x => cur_ld m c t _ (by first | exact (hs0_1 t).read_unread _ | rfl) 0 512 _ _ _ k x rfl rfl (by norm_num),
      fun k x => cur_ld m c t _ (by first | exact (hs0_1 t).read_unread _ | rfl) 128 512 _ _ _ k x rfl rfl (by norm_num),
      fun k x => cur_ld m c t _ (by first | exact (hs0_1 t).read_unread _ | rfl) 0 640 _ _ _ k x rfl rfl (by norm_num),
      fun k x => cur_ld m c t _ (by first | exact (hs0_1 t).read_unread _ | rfl) 128 640 _ _ _ k x rfl rfl (by norm_num),
      fun k x => cur_ld m c t _ (by first | exact (hs0_1 t).read_unread _ | rfl) 128 0 _ _ _ k x rfl rfl (by norm_num),
      fun k x => gate_ld m c t _ (by first | rfl | exact (hs0_3 t).read_unread _) 128 0 _ _ _ k x rfl rfl (by norm_num),
      sink_ld m c t 0 _ _ _ rfl, sink_ld m c t 1 _ _ _ rfl⟩ (by norm_num) r j x (hx 0) (hx 1)
  · intro x hx
    refine Eq.trans (b := unitHi _ _ _ _ _ _ _ _ _ x) (by rfl) ?_
    exact tile_hi (J := 0) (P := 3) (hJ := by norm_num) (hP := by norm_num) ⟨fun k x => prev_ld m c t _ (by first | exact (hs0_2 t).read_unread _ | rfl) 0 _ _ _ k x rfl (by simp only []; omega) (by norm_num),
      fun k x => cur_ld m c t _ (by first | exact (hs0_1 t).read_unread _ | rfl) 0 512 _ _ _ k x rfl rfl (by norm_num),
      fun k x => prev_ld m c t _ (by first | exact (hs0_2 t).read_unread _ | rfl) 128 _ _ _ k x rfl (by simp only []; omega) (by norm_num),
      fun k x => cur_ld m c t _ (by first | exact (hs0_1 t).read_unread _ | rfl) 0 640 _ _ _ k x rfl rfl (by norm_num),
      fun k x => cur_ld m c t _ (by first | exact (hs0_1 t).read_unread _ | rfl) 0 384 _ _ _ k x rfl rfl (by norm_num),
      fun k x => gate_ld m c t _ (by first | rfl | exact (hs0_3 t).read_unread _) 0 384 _ _ _ k x rfl rfl (by norm_num),
      sink_ld m c t 6 _ _ _ rfl, sink_ld m c t 7 _ _ _ rfl⟩ (by norm_num) r j x (hx 0) (hx 1)
  · intro x hx
    refine Eq.trans (b := unitHi _ _ _ _ _ _ _ _ _ x) (by rfl) ?_
    exact tile_hi (J := 0) (P := 2) (hJ := by norm_num) (hP := by norm_num) ⟨fun k x => prev_ld m c t _ (by first | exact (hs0_2 t).read_unread _ | rfl) 0 _ _ _ k x rfl (by simp only []; omega) (by norm_num),
      fun k x => cur_ld m c t _ (by first | exact (hs0_1 t).read_unread _ | rfl) 0 512 _ _ _ k x rfl rfl (by norm_num),
      fun k x => prev_ld m c t _ (by first | exact (hs0_2 t).read_unread _ | rfl) 128 _ _ _ k x rfl (by simp only []; omega) (by norm_num),
      fun k x => cur_ld m c t _ (by first | exact (hs0_1 t).read_unread _ | rfl) 0 640 _ _ _ k x rfl rfl (by norm_num),
      fun k x => cur_ld m c t _ (by first | exact (hs0_1 t).read_unread _ | rfl) 0 256 _ _ _ k x rfl rfl (by norm_num),
      fun k x => gate_ld m c t _ (by first | rfl | exact (hs0_3 t).read_unread _) 0 256 _ _ _ k x rfl rfl (by norm_num),
      sink_ld m c t 4 _ _ _ rfl, sink_ld m c t 5 _ _ _ rfl⟩ (by norm_num) r j x (hx 0) (hx 1)
  · intro x hx
    refine Eq.trans (b := unitLo _ _ _ _ _ _ _ _ _ x) (by rfl) ?_
    exact tile_lo (J := 0) (P := 1) (hJ := by norm_num) (hP := by norm_num) ⟨fun k x => prev_ld m c t _ (by first | exact (hs0_2 t).read_unread _ | rfl) 0 _ _ _ k x rfl (by simp only []; omega) (by norm_num),
      fun k x => cur_ld m c t _ (by first | exact (hs0_1 t).read_unread _ | rfl) 0 512 _ _ _ k x rfl rfl (by norm_num),
      fun k x => prev_ld m c t _ (by first | exact (hs0_2 t).read_unread _ | rfl) 128 _ _ _ k x rfl (by simp only []; omega) (by norm_num),
      fun k x => cur_ld m c t _ (by first | exact (hs0_1 t).read_unread _ | rfl) 0 640 _ _ _ k x rfl rfl (by norm_num),
      fun k x => cur_ld m c t _ (by first | exact (hs0_1 t).read_unread _ | rfl) 0 128 _ _ _ k x rfl rfl (by norm_num),
      fun k x => gate_ld m c t _ (by first | rfl | exact (hs0_3 t).read_unread _) 0 128 _ _ _ k x rfl rfl (by norm_num),
      sink_ld m c t 2 _ _ _ rfl, sink_ld m c t 3 _ _ _ rfl⟩ (by norm_num) r j x (hx 0) (hx 1)
  · intro x hx
    refine Eq.trans (b := unitLo _ _ _ _ _ _ _ _ _ x) (by rfl) ?_
    exact tile_lo (J := 0) (P := 0) (hJ := by norm_num) (hP := by norm_num) ⟨fun k x => prev_ld m c t _ (by first | exact (hs0_2 t).read_unread _ | rfl) 0 _ _ _ k x rfl (by simp only []; omega) (by norm_num),
      fun k x => cur_ld m c t _ (by first | exact (hs0_1 t).read_unread _ | rfl) 0 512 _ _ _ k x rfl rfl (by norm_num),
      fun k x => prev_ld m c t _ (by first | exact (hs0_2 t).read_unread _ | rfl) 128 _ _ _ k x rfl (by simp only []; omega) (by norm_num),
      fun k x => cur_ld m c t _ (by first | exact (hs0_1 t).read_unread _ | rfl) 0 640 _ _ _ k x rfl rfl (by norm_num),
      fun k x => cur_ld m c t _ (by first | exact (hs0_1 t).read_unread _ | rfl) 0 0 _ _ _ k x rfl rfl (by norm_num),
      fun k x => gate_ld m c t _ (by first | rfl | exact (hs0_3 t).read_unread _) 0 0 _ _ _ k x rfl rfl (by norm_num),
      sink_ld m c t 0 _ _ _ rfl, sink_ld m c t 1 _ _ _ rfl⟩ (by norm_num) r j x (hx 0) (hx 1)

/-! ## The array and the run -/

def result : Mat 8192 512 := fun i => out (Qkv m c) (Za m c) (Sinks m c) (i 0) (i 1)

theorem final : (dats m 0 c).arrAt 4 cfg0.N = result m c := by
  refine (dats m 0 c).arrAt_eq_of_covers 4 (result m c) (by decide +kernel) fun t hf y => ?_
  have e0 : (((cfg0.win 4).blk t).view.emb y 0).val = 1024 * t.val + (y 0).val := by blk_simp [index_4]; simp [mul_comm]
  have e1 : (((cfg0.win 4).blk t).view.emb y 1).val = (y 1).val := by blk_simp [index_4]
  have hr : ∀ (r : Fin 1024) (j : Fin 512) (i : S8192x512.Idx), (i 0).val = 1024 * t.val + r.val → (i 1).val = j.val →
      outsAt0 m c t (ix2 r j) = result m c i := fun r j i h0 h1 => by
    rw [point]; unfold result
    rw [show i 0 = rowOf t r from Fin.ext h0, show i 1 = j from Fin.ext h1]
  refine Eq.trans ?_ (hr (y 0) (y 1) _ e0 e1)
  rw [after0_4]
  show outsAt0 m c t _ = _
  exact congr2 (a := 1024) (b := 512) (outsAt0 m c t) rfl rfl

variable (ρ : Dev nD → PrngReg)

/-- The program ends with the result at this array and the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel4Ideal.Attn

end
-- ==== Proof.MergeReference.lean ====
/- What the reference of the merge and the loss computes: the loss of the device's rows and its derivatives, read element by
   element, are the kernel's sums.

   The reference writes the gate as one over one plus an exponential, the kernel as a hyperbolic tangent; the two are the
   same function of every extended real. The reference differentiates the lines of the norm one by one;
   `RowNorm.norm_bwd` brings this to the kernel's form. -/
module

public import proofs.«01_k».proof.Proof.MergeSpec
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Merge

open Idealize.ShloMosaic

/-! ## The constants -/

theorem ofBits_half : Ideal.ofBits .f32 0x3F000000#32 = ((2⁻¹ : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- One over the row length. -/
theorem ofBits_mean : Ideal.ofBits .f32 0x3A800000#32 = ((1024⁻¹ : ℝ) : EReal) := by
  simp [Ideal.ofBits, Ideal.ieee, -EReal.coe_mul]; norm_num

/-- One half over the row length. -/
theorem ofBits_half_mean : Ideal.ofBits .f32 0x3A000000#32 = ((2048⁻¹ : ℝ) : EReal) := by
  simp [Ideal.ofBits, Ideal.ieee, -EReal.coe_mul]; norm_num

/-! ## The gate -/

/-- The logistic function of a real number is a shifted hyperbolic tangent of its half. -/
theorem logistic_real (r : ℝ) : (1 + Real.exp (-r))⁻¹ = 2⁻¹ * Real.tanh (2⁻¹ * r) + 2⁻¹ := by
  rw [Real.tanh_eq_sinh_div_cosh, Real.sinh_eq, Real.cosh_eq]
  have h : Real.exp (-r) = Real.exp (-(2⁻¹ * r)) * Real.exp (-(2⁻¹ * r)) := by rw [← Real.exp_add]; congr 1; ring
  have h2 : Real.exp (2⁻¹ * r) * Real.exp (-(2⁻¹ * r)) = 1 := by rw [← Real.exp_add]; simp
  have p1 := Real.exp_pos (2⁻¹ * r)
  have p2 := Real.exp_pos (-(2⁻¹ * r))
  rw [h]
  generalize Real.exp (2⁻¹ * r) = a at *
  generalize Real.exp (-(2⁻¹ * r)) = b at *
  have hb : 1 + b * b ≠ 0 := by positivity
  have hab : a + b ≠ 0 := by positivity
  field_simp
  nlinarith

/-- One over one plus the exponential of the negated argument is the gate, at the infinities too. -/
theorem logistic_gate (v : EReal) : Ideal.logistic v = gate v := by
  unfold gate
  rw [ofBits_half]
  induction v using EReal.rec with
  | bot =>
    rw [Ideal.logistic_bot, EReal.coe_mul_bot_of_pos (by norm_num), Ideal.tanh_bot, mul_neg, mul_one, ← EReal.coe_neg,
      ← EReal.coe_add]
    norm_num
  | top =>
    rw [Ideal.logistic_top, EReal.coe_mul_top_of_pos (by norm_num), Ideal.tanh_top]
    norm_cast; norm_num
  | coe r =>
    rw [Ideal.logistic_coe, ← EReal.coe_mul, Ideal.tanh_coe, ← EReal.coe_mul, ← EReal.coe_add, logistic_real]

theorem gate_read (v : EReal) : Ideal.div 1 (1 + Ideal.exp (-v)) = gate v := logistic_gate v

end Cert.Merge

namespace Cert.ReferenceIdeal.Merge

open Cert.ReferenceIdeal Cert.ReferenceIdeal.Read Idealize.ShloMosaic
open Cert.Proj (Mat)
open Cert.Merge

variable (a0 a1 : Mat 8192 512) (a2 a3 a4 a5 : Mat 8192 1024) (a6 a7 : Mat 512 1024) (a8 : Mat 1024 1024)
  (g : (⟨1, ![1024]⟩ : Shape).Idx → EReal)

/-- The arguments, as the kernel's sums take them. -/
def argsR : Cert.Merge.Args 8192 where
  oa := a0
  ob := a1
  ga := a2
  gb := a3
  x := a4
  tgt := a5
  wa := a6
  wb := a7
  wo := a8
  gf := fun i => g (ix1 (i 1))

/-! ## Forward -/

theorem ya_read (R : Fin 8192) (j : Fin 1024) :
    (val_main_v4 (F := Ideal) a0 a6 (ix2 R j) : EReal) = (argsR a0 a1 a2 a3 a4 a5 a6 a7 a8 g).ya R j := by
  pointwise [val_main_v4, val_main_v0, val_main_v2]
  rfl

theorem yb_read (R : Fin 8192) (j : Fin 1024) :
    (val_main_v5 (F := Ideal) a1 a7 (ix2 R j) : EReal) = (argsR a0 a1 a2 a3 a4 a5 a6 a7 a8 g).yb R j := by
  pointwise [val_main_v5, val_main_v1, val_main_v3]
  rfl

theorem sga_read (R : Fin 8192) (j : Fin 1024) :
    (val_main_v11 (F := Ideal) a2 (ix2 R j) : EReal) = (argsR a0 a1 a2 a3 a4 a5 a6 a7 a8 g).sga R j := by
  pointwise [val_main_v11, val_main_v10, val_main_v9, val_main_v8, val_main_v7, val_main_v6, val_main_v2, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  exact gate_read _

theorem sgb_read (R : Fin 8192) (j : Fin 1024) :
    (val_main_v21 (F := Ideal) a3 (ix2 R j) : EReal) = (argsR a0 a1 a2 a3 a4 a5 a6 a7 a8 g).sgb R j := by
  pointwise [val_main_v21, val_main_v20, val_main_v19, val_main_v18, val_main_v17, val_main_v16, val_main_v2, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  exact gate_read _

theorem mrg_read (R : Fin 8192) (j : Fin 1024) :
    (val_main_v26 (F := Ideal) a0 a1 a2 a3 a6 a7 (ix2 R j) : EReal) = (argsR a0 a1 a2 a3 a4 a5 a6 a7 a8 g).mrg R j := by
  pointwise [val_main_v26, val_main_v25, val_main_v15]
  simp only [ya_read a0 a1 a2 a3 a4 a5 a6 a7 a8 g, yb_read a0 a1 a2 a3 a4 a5 a6 a7 a8 g,
    sga_read a0 a1 a2 a3 a4 a5 a6 a7 a8 g, sgb_read a0 a1 a2 a3 a4 a5 a6 a7 a8 g]
  rfl

/-- The residual stream. -/
theorem out_read (R : Fin 8192) (j : Fin 1024) :
    (val_main_v28 (F := Ideal) a0 a1 a2 a3 a4 a6 a7 a8 (ix2 R j) : EReal)
      = (argsR a0 a1 a2 a3 a4 a5 a6 a7 a8 g).out R j := by
  pointwise [val_main_v28, val_main_v27, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [mrg_read a0 a1 a2 a3 a4 a5 a6 a7 a8 g]
  rfl

/-- The normalised row. -/
theorem nrm_read (R : Fin 8192) (j : Fin 1024) :
    (val_main_v41 (F := Ideal) a0 a1 a2 a3 a4 a6 a7 a8 (ix2 R j) : EReal)
      = (argsR a0 a1 a2 a3 a4 a5 a6 a7 a8 g).nrm R j := by
  pointwise [val_main_v41, val_main_v40, val_main_v36, val_main_v35, val_main_v34, val_main_v33, val_main_v32, val_main_v31, val_main_v30, val_main_v29, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [out_read a0 a1 a2 a3 a4 a5 a6 a7 a8 g]
  rfl

/-- The distance from the target. -/
theorem err_read (R : Fin 8192) (j : Fin 1024) :
    (val_main_v45 (F := Ideal) a0 a1 a2 a3 a4 a5 a6 a7 a8 g (ix2 R j) : EReal)
      = (argsR a0 a1 a2 a3 a4 a5 a6 a7 a8 g).err R j := by
  pointwise [val_main_v45, val_main_v44, val_main_v43, val_main_v42, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [nrm_read a0 a1 a2 a3 a4 a5 a6 a7 a8 g]
  rfl

/-- The cotangent of the model's result: one half, over the row length, times twice the distance. -/
theorem dy_read (R : Fin 8192) (j : Fin 1024) :
    (val_main_v59 (F := Ideal) a0 a1 a2 a3 a4 a5 a6 a7 a8 g (ix2 R j) : EReal)
      = (argsR a0 a1 a2 a3 a4 a5 a6 a7 a8 g).dy R j := by
  pointwise [val_main_v59, val_main_v58, val_main_v57, val_main_v56, val_main_v55, val_main_v54, val_main_v48, val_main_v47, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [err_read a0 a1 a2 a3 a4 a5 a6 a7 a8 g]
  unfold Cert.Merge.Args.dy
  rw [ofBits_half, ofBits_two, ofBits_mean, RowNorm.ofBits_1024, RowNorm.div_real (by norm_num), ← mul_assoc, mul_comm,
    ← EReal.coe_mul, ← EReal.coe_mul]
  congr 2
  norm_num

/-- The cotangent of the normalised row. -/
theorem dn_read (R : Fin 8192) (j : Fin 1024) :
    (val_main_v64 (F := Ideal) a0 a1 a2 a3 a4 a5 a6 a7 a8 g (ix2 R j) : EReal)
      = (argsR a0 a1 a2 a3 a4 a5 a6 a7 a8 g).dn R j := by
  pointwise [val_main_v64, val_main_v63, val_main_v62, val_main_v42, val_main_v43, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dy_read a0 a1 a2 a3 a4 a5 a6 a7 a8 g]
  rfl

/-- The gradient of the residual stream. -/
theorem dh_read (R : Fin 8192) (j : Fin 1024) :
    (val_main_v79 (F := Ideal) a0 a1 a2 a3 a4 a5 a6 a7 a8 g (ix2 R j) : EReal)
      = (argsR a0 a1 a2 a3 a4 a5 a6 a7 a8 g).dh R j := by
  pointwise [val_main_v79, val_main_v78, val_main_v77, val_main_v76, val_main_v75, val_main_v74, val_main_v73, val_main_v72, val_main_v71, val_main_v70, val_main_v69, val_main_v68, val_main_v67, val_main_v66, val_main_v65, val_main_v40, val_main_v39, val_main_v38, val_main_v37, val_main_v36, val_main_v35, val_main_v34, val_main_v33, val_main_v32, val_main_v31, val_main_v30, val_main_v29, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dn_read a0 a1 a2 a3 a4 a5 a6 a7 a8 g, out_read a0 a1 a2 a3 a4 a5 a6 a7 a8 g, Fin.sum_univ_one]
  have h := RowNorm.norm_bwd ((argsR a0 a1 a2 a3 a4 a5 a6 a7 a8 g).out R) ((argsR a0 a1 a2 a3 a4 a5 a6 a7 a8 g).dn R) 0 j
  rw [zero_add, zero_add] at h
  exact h.symm

/-! ## Backward through the branches -/

/-- The cotangent of the gated sum. -/
theorem dmer_read (R : Fin 8192) (j : Fin 1024) :
    (val_main_v82 (F := Ideal) a0 a1 a2 a3 a4 a5 a6 a7 a8 g (ix2 R j) : EReal)
      = (argsR a0 a1 a2 a3 a4 a5 a6 a7 a8 g).dmer R j := by
  pointwise [val_main_v82, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dh_read a0 a1 a2 a3 a4 a5 a6 a7 a8 g]
  rfl

/-- The cotangents of the projections. -/
theorem dyb_read (R : Fin 8192) (j : Fin 1024) :
    (val_main_v83 (F := Ideal) a0 a1 a2 a3 a4 a5 a6 a7 a8 g (ix2 R j) : EReal)
      = (argsR a0 a1 a2 a3 a4 a5 a6 a7 a8 g).dyb R j := by
  pointwise [val_main_v83, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dmer_read a0 a1 a2 a3 a4 a5 a6 a7 a8 g, sgb_read a0 a1 a2 a3 a4 a5 a6 a7 a8 g]
  exact mul_comm _ _

theorem dya_read (R : Fin 8192) (j : Fin 1024) :
    (val_main_v86 (F := Ideal) a0 a1 a2 a3 a4 a5 a6 a7 a8 g (ix2 R j) : EReal)
      = (argsR a0 a1 a2 a3 a4 a5 a6 a7 a8 g).dya R j := by
  pointwise [val_main_v86, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dmer_read a0 a1 a2 a3 a4 a5 a6 a7 a8 g, sga_read a0 a1 a2 a3 a4 a5 a6 a7 a8 g]
  exact mul_comm _ _

/-- The gradients of the gates' arguments. -/
theorem dga_read (R : Fin 8192) (j : Fin 1024) :
    (val_main_v96 (F := Ideal) a0 a1 a2 a3 a4 a5 a6 a7 a8 g (ix2 R j) : EReal)
      = (argsR a0 a1 a2 a3 a4 a5 a6 a7 a8 g).dga R j := by
  pointwise [val_main_v96, val_main_v88, val_main_v87, val_main_v14, val_main_v13, val_main_v12, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dmer_read a0 a1 a2 a3 a4 a5 a6 a7 a8 g, sga_read a0 a1 a2 a3 a4 a5 a6 a7 a8 g, ya_read a0 a1 a2 a3 a4 a5 a6 a7 a8 g]
  unfold Cert.Merge.Args.dga Cert.Merge.Args.dya
  rw [← mul_assoc]
  congr 1
  rw [mul_assoc, mul_assoc, mul_comm (Cert.Merge.Args.ya _ _ _)]

theorem dgb_read (R : Fin 8192) (j : Fin 1024) :
    (val_main_v95 (F := Ideal) a0 a1 a2 a3 a4 a5 a6 a7 a8 g (ix2 R j) : EReal)
      = (argsR a0 a1 a2 a3 a4 a5 a6 a7 a8 g).dgb R j := by
  pointwise [val_main_v95, val_main_v85, val_main_v84, val_main_v24, val_main_v23, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dmer_read a0 a1 a2 a3 a4 a5 a6 a7 a8 g, sgb_read a0 a1 a2 a3 a4 a5 a6 a7 a8 g, yb_read a0 a1 a2 a3 a4 a5 a6 a7 a8 g]
  unfold Cert.Merge.Args.dgb Cert.Merge.Args.dyb
  rw [← mul_assoc]
  congr 1
  rw [mul_assoc, mul_assoc, mul_comm (Cert.Merge.Args.yb _ _ _)]

/-- The gradients of the branches' results. -/
theorem doa_read (R : Fin 8192) (k : Fin 512) :
    (val_main_v98 (F := Ideal) a0 a1 a2 a3 a4 a5 a6 a7 a8 g (ix2 R k) : EReal)
      = (argsR a0 a1 a2 a3 a4 a5 a6 a7 a8 g).doa R k := by
  pointwise [val_main_v98, val_main_v94, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dya_read a0 a1 a2 a3 a4 a5 a6 a7 a8 g]
  rfl

theorem dob_read (R : Fin 8192) (k : Fin 512) :
    (val_main_v97 (F := Ideal) a0 a1 a2 a3 a4 a5 a6 a7 a8 g (ix2 R k) : EReal)
      = (argsR a0 a1 a2 a3 a4 a5 a6 a7 a8 g).dob R k := by
  pointwise [val_main_v97, val_main_v91, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dyb_read a0 a1 a2 a3 a4 a5 a6 a7 a8 g]
  rfl

/-- The gradients of the weights and of the gain. -/
theorem dwa_read (k : Fin 512) (j : Fin 1024) :
    (val_main_v93 (F := Ideal) a0 a1 a2 a3 a4 a5 a6 a7 a8 g (ix2 k j) : EReal)
      = ∑ R : Fin 8192, (argsR a0 a1 a2 a3 a4 a5 a6 a7 a8 g).dwaRow k j R := by
  pointwise [val_main_v93, val_main_v92, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dya_read a0 a1 a2 a3 a4 a5 a6 a7 a8 g]
  exact Finset.sum_congr rfl fun R _ => mul_comm _ _

theorem dwb_read (k : Fin 512) (j : Fin 1024) :
    (val_main_v90 (F := Ideal) a0 a1 a2 a3 a4 a5 a6 a7 a8 g (ix2 k j) : EReal)
      = ∑ R : Fin 8192, (argsR a0 a1 a2 a3 a4 a5 a6 a7 a8 g).dwbRow k j R := by
  pointwise [val_main_v90, val_main_v89, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dyb_read a0 a1 a2 a3 a4 a5 a6 a7 a8 g]
  exact Finset.sum_congr rfl fun R _ => mul_comm _ _

theorem dwo_read (k j : Fin 1024) :
    (val_main_v81 (F := Ideal) a0 a1 a2 a3 a4 a5 a6 a7 a8 g (ix2 k j) : EReal)
      = ∑ R : Fin 8192, (argsR a0 a1 a2 a3 a4 a5 a6 a7 a8 g).dwoRow k j R := by
  pointwise [val_main_v81, val_main_v80, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dh_read a0 a1 a2 a3 a4 a5 a6 a7 a8 g, mrg_read a0 a1 a2 a3 a4 a5 a6 a7 a8 g]
  exact Finset.sum_congr rfl fun R _ => mul_comm _ _

theorem dgf_read (j : Fin 1024) :
    (val_main_v101 (F := Ideal) a0 a1 a2 a3 a4 a5 a6 a7 a8 g (ix2 0 j) : EReal)
      = ∑ R : Fin 8192, (argsR a0 a1 a2 a3 a4 a5 a6 a7 a8 g).dgfRow j R := by
  pointwise [val_main_v101, val_main_v65, val_main_v62, val_main_v61, val_main_v60, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [dy_read a0 a1 a2 a3 a4 a5 a6 a7 a8 g, nrm_read a0 a1 a2 a3 a4 a5 a6 a7 a8 g, Fin.sum_univ_one]
  exact Finset.sum_congr rfl fun R _ => mul_comm _ _

/-- One half of the rows' mean squares, as a sum over the columns. -/
theorem loss_read (i : (⟨2, ![1, 1]⟩ : Shape).Idx) :
    (val_main_v99 (F := Ideal) a0 a1 a2 a3 a4 a5 a6 a7 a8 g i : EReal)
      = ∑ q : Fin 1024, ((2048⁻¹ : ℝ) : EReal) * ∑ R : Fin 8192, (argsR a0 a1 a2 a3 a4 a5 a6 a7 a8 g).lossRow q R := by
  pointwise [val_main_v99, val_main_v53, val_main_v52, val_main_v51, val_main_v50, val_main_v49, val_main_v46, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21]
  simp only [err_read a0 a1 a2 a3 a4 a5 a6 a7 a8 g]
  rw [RowNorm.ofBits_1024, ofBits_half]
  simp only [RowNorm.div_real (y := 1024) (by norm_num)]
  rw [RowNorm.mul_sum _ _ (by norm_num)]
  simp only [RowNorm.mul_sum _ _ (show (0 : ℝ) ≤ 2048⁻¹ by norm_num)]
  rw [Finset.sum_comm]
  refine Finset.sum_congr rfl fun R _ => ?_
  rw [mul_comm _ ((1024⁻¹ : ℝ) : EReal), ← mul_assoc, ← EReal.coe_mul, show (2⁻¹ * 1024⁻¹ : ℝ) = 2048⁻¹ by norm_num,
    RowNorm.mul_sum _ _ (by norm_num)]
  rfl

/-- The same with the rows taken in sixteen tiles of 512. -/
theorem loss_tiles (i : (⟨2, ![1, 1]⟩ : Shape).Idx) :
    (val_main_v99 (F := Ideal) a0 a1 a2 a3 a4 a5 a6 a7 a8 g i : EReal)
      = ∑ q : Fin 1024, ∑ t ∈ Finset.range 16, Ideal.ofBits .f32 0x3A000000#32
        * ∑ r : Fin 512, Sums.ext ((argsR a0 a1 a2 a3 a4 a5 a6 a7 a8 g).lossRow q) (512 * t + r.val) := by
  rw [loss_read]
  refine Finset.sum_congr rfl fun q _ => ?_
  rw [Sums.tiles 16 512 (by norm_num), RowNorm.mul_sum _ _ (by norm_num), ofBits_half_mean]

/-! ## The results as whole arrays -/

theorem dh_eq : val_main_v100 (F := Ideal) a0 a1 a2 a3 a4 a5 a6 a7 a8 g
    = fun i => (argsR a0 a1 a2 a3 a4 a5 a6 a7 a8 g).dh (i 0) (i 1) := by
  funext i
  refine Eq.trans ?_ (dh_read a0 a1 a2 a3 a4 a5 a6 a7 a8 g (i 0) (i 1))
  exact congrArg _ (eq_ix2 i)

theorem doa_eq : val_main_v98 (F := Ideal) a0 a1 a2 a3 a4 a5 a6 a7 a8 g
    = fun i => (argsR a0 a1 a2 a3 a4 a5 a6 a7 a8 g).doa (i 0) (i 1) := by
  funext i
  refine Eq.trans ?_ (doa_read a0 a1 a2 a3 a4 a5 a6 a7 a8 g (i 0) (i 1))
  exact congrArg _ (eq_ix2 i)

theorem dob_eq : val_main_v97 (F := Ideal) a0 a1 a2 a3 a4 a5 a6 a7 a8 g
    = fun i => (argsR a0 a1 a2 a3 a4 a5 a6 a7 a8 g).dob (i 0) (i 1) := by
  funext i
  refine Eq.trans ?_ (dob_read a0 a1 a2 a3 a4 a5 a6 a7 a8 g (i 0) (i 1))
  exact congrArg _ (eq_ix2 i)

theorem dga_eq : val_main_v96 (F := Ideal) a0 a1 a2 a3 a4 a5 a6 a7 a8 g
    = fun i => (argsR a0 a1 a2 a3 a4 a5 a6 a7 a8 g).dga (i 0) (i 1) := by
  funext i
  refine Eq.trans ?_ (dga_read a0 a1 a2 a3 a4 a5 a6 a7 a8 g (i 0) (i 1))
  exact congrArg _ (eq_ix2 i)

theorem dgb_eq : val_main_v95 (F := Ideal) a0 a1 a2 a3 a4 a5 a6 a7 a8 g
    = fun i => (argsR a0 a1 a2 a3 a4 a5 a6 a7 a8 g).dgb (i 0) (i 1) := by
  funext i
  refine Eq.trans ?_ (dgb_read a0 a1 a2 a3 a4 a5 a6 a7 a8 g (i 0) (i 1))
  exact congrArg _ (eq_ix2 i)

theorem dwa_eq : val_main_v93 (F := Ideal) a0 a1 a2 a3 a4 a5 a6 a7 a8 g
    = fun i => ∑ R : Fin 8192, (argsR a0 a1 a2 a3 a4 a5 a6 a7 a8 g).dwaRow (i 0) (i 1) R := by
  funext i
  refine Eq.trans ?_ (dwa_read a0 a1 a2 a3 a4 a5 a6 a7 a8 g (i 0) (i 1))
  exact congrArg _ (eq_ix2 i)

theorem dwb_eq : val_main_v90 (F := Ideal) a0 a1 a2 a3 a4 a5 a6 a7 a8 g
    = fun i => ∑ R : Fin 8192, (argsR a0 a1 a2 a3 a4 a5 a6 a7 a8 g).dwbRow (i 0) (i 1) R := by
  funext i
  refine Eq.trans ?_ (dwb_read a0 a1 a2 a3 a4 a5 a6 a7 a8 g (i 0) (i 1))
  exact congrArg _ (eq_ix2 i)

theorem dwo_eq : val_main_v81 (F := Ideal) a0 a1 a2 a3 a4 a5 a6 a7 a8 g
    = fun i => ∑ R : Fin 8192, (argsR a0 a1 a2 a3 a4 a5 a6 a7 a8 g).dwoRow (i 0) (i 1) R := by
  funext i
  refine Eq.trans ?_ (dwo_read a0 a1 a2 a3 a4 a5 a6 a7 a8 g (i 0) (i 1))
  exact congrArg _ (eq_ix2 i)

theorem dgf_eq : val_main_v101 (F := Ideal) a0 a1 a2 a3 a4 a5 a6 a7 a8 g
    = fun i => ∑ R : Fin 8192, (argsR a0 a1 a2 a3 a4 a5 a6 a7 a8 g).dgfRow (i 1) R := by
  funext i
  refine Eq.trans ?_ (dgf_read a0 a1 a2 a3 a4 a5 a6 a7 a8 g (i 1))
  have h0 : (i 0).val = 0 := Nat.lt_one_iff.mp (i 0).isLt
  exact congrArg _ (funext fun q => match q with | ⟨0, _⟩ => Fin.ext h0 | ⟨1, _⟩ => rfl)

end Cert.ReferenceIdeal.Merge

end
-- ==== Proof.AttnReference.lean ====
/- What the reference of the attention computes, read as the sums of `AttnSpec`.

   The reference keeps the sequence, the block, the head of keys, the head of queries among its four, the row and the candidate
   on axes of their own (`a`, `n`, `g`, `j`, `i`, `k`). -/
module

public import proofs.«01_k».proof.Proof.AttnSpec
public import proofs.«01_k».proof.Proof.MergeReference
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Reference4Ideal.Attn

open Cert.Reference4Ideal Cert.Reference4Ideal.Read Idealize.ShloMosaic
open Cert.Proj (Mat)
open Cert.Attn

variable (q : Mat 8192 768) (z : Mat 8192 512) (s : (⟨1, ![8]⟩ : Shape).Idx → EReal)

/-- Row `i` of block `n` of sequence `a`, and head `j` of the four that share head `g` of keys. -/
def rowAt (a : Fin 2) (n : Fin 32) (i : Fin 128) : Fin 8192 := ⟨a.val * 4096 + n.val * 128 + i.val, by omega⟩
def headAt (g : Fin 2) (j : Fin 4) : Fin 8 := ⟨g.val * 4 + j.val, by omega⟩

/-! ## The mask -/

theorem near_bit : ∀ (k : Fin 256) (i : Fin 128),
    IntOp.andi (IntOp.cmpi CmpIPredicate.sle (IntOp.subi (BitVec.ofNat 32 k.val) 128#32) (BitVec.ofNat 32 i.val))
        (IntOp.cmpi CmpIPredicate.slt (IntOp.subi (BitVec.ofNat 32 i.val) (IntOp.subi (BitVec.ofNat 32 k.val) 128#32)) 128#32)
      = if k.val ≤ i.val + 128 ∧ i.val < k.val then 1#1 else 0#1 := by decide +kernel

theorem block_bit : ∀ n : Fin 32, IntOp.cmpi CmpIPredicate.sgt (BitVec.ofNat 32 n.val) 0#32 = if 0 < n.val then 1#1 else 0#1 := by
  decide +kernel

theorem own_bit : ∀ k : Fin 256, IntOp.cmpi CmpIPredicate.sge (IntOp.subi (BitVec.ofNat 32 k.val) 128#32) 0#32
    = if 128 ≤ k.val then 1#1 else 0#1 := by decide +kernel

theorem mask_read (a : Fin 2) (n : Fin 32) (i : Fin 128) (k : Fin 256) :
    val_main_v51 (F := Ideal) (ix3 n i k) = if sees (rowAt a n i) k then 1#1 else 0#1 := by
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_c_1, val_main_c_2, val_main_c_3, val_main_c_4]
  rw [near_bit, block_bit, own_bit]
  have hs : sees (rowAt a n i) k ↔ (k.val ≤ i.val + 128 ∧ i.val < k.val) ∧ (0 < n.val ∨ 128 ≤ k.val) := by
    have h1 : (rowAt a n i).val % 128 = i.val := by have := i.isLt; simp only [rowAt]; omega
    have h2 : (rowAt a n i).val / 128 % 32 = n.val := by have := i.isLt; have := n.isLt; simp only [rowAt]; omega
    unfold sees
    rw [h1, h2, and_assoc]
  simp only [hs]
  by_cases h1 : k.val ≤ i.val + 128 ∧ i.val < k.val <;> by_cases h2 : 0 < n.val <;> by_cases h3 : 128 ≤ k.val <;>
    simp only [h1, h2, h3, if_true, if_false, and_true, true_and, and_false, false_and, or_true, true_or, or_false, false_or, and_self, or_self] <;> decide

/-! ## Keys and values of the candidates -/

theorem keys_read (a : Fin 2) (n : Fin 32) (i : Fin 128) (k : Fin 256) (g : Fin 2) (d : Fin 64) (h : sees (rowAt a n i) k) :
    (val_main_v15 (F := Ideal) q (ix5 a n k g d) : EReal) = q (ix2 (cand (rowAt a n i) k) ⟨512 + 64 * g.val + d.val, by omega⟩) := by
  have h2 : (rowAt a n i).val / 128 = a.val * 32 + n.val := by have := i.isLt; simp only [rowAt]; omega
  obtain ⟨-, -, h⟩ := h
  have hn := n.isLt
  have hk := k.isLt
  rw [h2] at h
  pointwise [val_main_v15, val_main_v14, val_main_v13, val_main_v10, val_main_v9, val_main_v5, val_main_v2, val_main_v0]
  have at_ : ∀ (r r' : Fin 8192) (c c' : Fin 768), r.val = r'.val → c.val = c'.val → q (ix2 r c) = q (ix2 r' c') :=
    fun r r' c c' e e' => by rw [Fin.ext e, Fin.ext e']
  by_cases h1 : k.val < 128
  · rw [dif_pos h1, dif_pos (by omega)]
    exact at_ _ _ _ _ (by simp only [cand, h2]; omega) (by simp only []; omega)
  · rw [dif_neg h1]
    exact at_ _ _ _ _ (by simp only [cand, h2]; omega) (by simp only []; omega)

theorem values_read (a : Fin 2) (n : Fin 32) (i : Fin 128) (k : Fin 256) (g : Fin 2) (d : Fin 64) (h : sees (rowAt a n i) k) :
    (val_main_v18 (F := Ideal) q (ix5 a n k g d) : EReal) = q (ix2 (cand (rowAt a n i) k) ⟨640 + 64 * g.val + d.val, by omega⟩) := by
  have h2 : (rowAt a n i).val / 128 = a.val * 32 + n.val := by have := i.isLt; simp only [rowAt]; omega
  obtain ⟨-, -, h⟩ := h
  have hn := n.isLt
  have hk := k.isLt
  rw [h2] at h
  pointwise [val_main_v18, val_main_v17, val_main_v16, val_main_v12, val_main_v11, val_main_v6, val_main_v3, val_main_v0]
  have at_ : ∀ (r r' : Fin 8192) (c c' : Fin 768), r.val = r'.val → c.val = c'.val → q (ix2 r c) = q (ix2 r' c') :=
    fun r r' c c' e e' => by rw [Fin.ext e, Fin.ext e']
  by_cases h1 : k.val < 128
  · rw [dif_pos h1, dif_pos (by omega)]
    exact at_ _ _ _ _ (by simp only [cand, h2]; omega) (by simp only []; omega)
  · rw [dif_neg h1]
    exact at_ _ _ _ _ (by simp only [cand, h2]; omega) (by simp only []; omega)

/-! ## Scores, weights and their sum -/

theorem score_read (a : Fin 2) (n : Fin 32) (g : Fin 2) (j : Fin 4) (i : Fin 128) (k : Fin 256) :
    (val_main_v53 (F := Ideal) q (ix6 a n g j i k) : EReal) = score q (rowAt a n i) (headAt g j) k := by
  pointwise [val_main_v53, val_main_v22, val_main_v21, val_main_v20, val_main_v19, val_main_cst, val_main_call2_v0,
    val_main_call2_v1, val_main_call2_v2, val_main_cst_5, val_main_v52, val_main_v8, val_main_v7, val_main_v4, val_main_v1,
    val_main_v0]
  rw [mask_read a n i k]
  unfold score
  by_cases hs : sees (rowAt a n i) k
  · rw [if_pos hs, if_pos hs]
    refine (show Scalar.select 1#1 _ _ = _ from rfl).trans ?_
    unfold dot
    refine congrArg (· * _) (Finset.sum_congr rfl fun e _ => ?_)
    rw [keys_read q a n i k g e hs, mul_comm]
    have at_ : ∀ (r r' r'' : Fin 8192) (c c' c'' c''' : Fin 768), r.val = r'.val → c.val = c'.val → c''.val = c'''.val →
        q (ix2 r c) * q (ix2 r'' c'') = q (ix2 r' c') * q (ix2 r'' c''') :=
      fun r r' r'' c c' c'' c''' e e' e'' => by rw [Fin.ext e, Fin.ext e', Fin.ext e'']
    have hj := j.isLt
    exact at_ _ _ _ _ _ _ _ (by simp only [rowAt]; omega) (by simp only [headAt]; omega) (by simp only [headAt]; omega)
  · rw [if_neg hs, if_neg hs]
    refine (show Scalar.select 0#1 _ _ = _ from rfl).trans ?_
    show Ideal.ofBits FTy.f32 4286578688#32 = ⊥
    simp [Ideal.ofBits, Ideal.ieee]

/-- The greatest over the last axis. -/
theorem host_max (y : S2x32x2x4x128x256.Idx → EReal) (e : S_.Idx → EReal) (a : Fin 2) (n : Fin 32) (g : Fin 2) (j : Fin 4) (i : Fin 128) :
    Host.reduce (α := EReal) max y e Gen.reducesTo_S2x32x2x4x128x256_S2x32x2x4x128_d5 Gen.h_S_ (ix5 a n g j i)
      = Finset.fold max (e (Shape.Idx.first Gen.h_S_)) (fun k : Fin 256 => y (ix6 a n g j i k)) Finset.univ := by
  rw [Host.reduce_eq_fold_single (α := EReal) max y e Gen.reducesTo_S2x32x2x4x128x256_S2x32x2x4x128_d5 (by decide)]
  refine Finset.fold_congr fun k _ => ?_
  exact congrArg y (funext fun x => Fin.ext (by match x with | ⟨0, _⟩ => rfl | ⟨1, _⟩ => rfl | ⟨2, _⟩ => rfl | ⟨3, _⟩ => rfl | ⟨4, _⟩ => rfl | ⟨5, _⟩ => rfl))

theorem max_read (a : Fin 2) (n : Fin 32) (g : Fin 2) (j : Fin 4) (i : Fin 128) :
    (val_main_v56 (F := Ideal) q (ix5 a n g j i) : EReal)
      = Finset.fold max (Ideal.ofBits FTy.f32 4286578688#32) (fun k => score q (rowAt a n i) (headAt g j) k) Finset.univ := by
  refine Eq.trans ?_ ((host_max (val_main_v53 (F := Ideal) q) (val_main_cst_6 (F := Ideal)) a n g j i).trans ?_)
  · unfold val_main_v56
    generalize val_main_v53 (F := Ideal) q = y
    exact congrFun (congrArg (fun f => Host.reduce (α := EReal) f y (val_main_cst_6 (F := Ideal))
      Gen.reducesTo_S2x32x2x4x128x256_S2x32x2x4x128_d5 Gen.h_S_)
      (show (FloatOps.maximumf : Ideal .f32 → Ideal .f32 → Ideal .f32) = max from rfl)) (ix5 a n g j i)
  · simp only [score_read]
    rfl

theorem peak_read (a : Fin 2) (n : Fin 32) (g : Fin 2) (j : Fin 4) (i : Fin 128) :
    (val_main_v59 (F := Ideal) q s (ix6 a n g j i 0) : EReal) = peak q s (rowAt a n i) (headAt g j) := by
  have h57 : (val_main_v57 (F := Ideal) q (ix6 a n g j i 0) : EReal) = val_main_v56 (F := Ideal) q (ix5 a n g j i) := by
    rw [val_main_v57_apply]
    exact congrArg (val_main_v56 (F := Ideal) q) (funext fun x => match x with | ⟨0, _⟩ => rfl | ⟨1, _⟩ => rfl | ⟨2, _⟩ => rfl | ⟨3, _⟩ => rfl | ⟨4, _⟩ => rfl)
  have h58 : (val_main_v58 (F := Ideal) s (ix6 a n g j i 0) : EReal) = s (ix1 (headAt g j)) := by
    pointwise [val_main_v58, val_main_v55, val_main_v54]
    rfl
  rw [val_main_v59_apply, h57, h58, max_read]
  rfl

theorem weight_read (a : Fin 2) (n : Fin 32) (g : Fin 2) (j : Fin 4) (i : Fin 128) (k : Fin 256) :
    (val_main_v62 (F := Ideal) q s (ix6 a n g j i k) : EReal) = weight q s (rowAt a n i) (headAt g j) k := by
  pointwise [val_main_v62, val_main_v61, val_main_v60]
  rw [score_read, peak_read]
  rfl

theorem denom_read (a : Fin 2) (n : Fin 32) (g : Fin 2) (j : Fin 4) (i : Fin 128) :
    (val_main_v68 (F := Ideal) q s (ix6 a n g j i 0) : EReal) = denom q s (rowAt a n i) (headAt g j) := by
  have hm : (val_main_v63 (F := Ideal) q s (ix5 a n g j i) : EReal)
      = ∑ k : Fin 256, weight q s (rowAt a n i) (headAt g j) k := by
    rw [val_main_v63_apply]
    simp only [← weight_read]
    refine Eq.trans (congrArg (· + _) (?_ : _ = (0 : EReal))) ((zero_add _).trans (Finset.sum_congr rfl fun k _ => ?_))
    · pointwise [val_main_cst_7]
    · exact congrArg (val_main_v62 (F := Ideal) q s) (funext fun x => Fin.ext (by match x with | ⟨0, _⟩ => rfl | ⟨1, _⟩ => rfl | ⟨2, _⟩ => rfl | ⟨3, _⟩ => rfl | ⟨4, _⟩ => rfl | ⟨5, _⟩ => rfl))
  pointwise [val_main_v68, val_main_v67, val_main_v66, val_main_v65, val_main_v64, val_main_v55, val_main_v54]
  rw [hm, peak_read]
  rfl

end Cert.Reference4Ideal.Attn

end
-- ==== Proof.AttnResult.lean ====
/- The result of the reference of the attention, element by element.

   The reference keeps the sequence, the block, the head of keys, the head of queries among its four, the row and the candidate
   on axes of their own (`a`, `n`, `g`, `j`, `i`, `k`). -/
module

public import proofs.«01_k».proof.Proof.AttnReference
public import proofs.«01_k».proof.Proof.AttnSpec
public import proofs.«01_k».proof.Proof.MergeReference
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Reference4Ideal.Attn

open Cert.Reference4Ideal Cert.Reference4Ideal.Read Idealize.ShloMosaic
open Cert.Proj (Mat)
open Cert.Attn

variable (q : Mat 8192 768) (z : Mat 8192 512) (s : (⟨1, ![8]⟩ : Shape).Idx → EReal)

variable (hq : ∀ (R : Fin 8192) (C : Fin 768), C.val < 640 → ∃ r : ℝ, q (ix2 R C) = (r : EReal)) (hs : ∀ i, s i < ⊤)

/-- The reference's result at an element, its operands not yet read. -/
theorem out_form (R : Fin 8192) (c : Fin 512) : (val_main_v79 (F := Ideal) q z s (ix2 R c) : EReal) =
    (∑ k : Fin 256, val_main_v18 (F := Ideal) q (ix5 (⟨R.val / 4096, by omega⟩ : Fin 2) (⟨R.val % 4096 / 128, by omega⟩ : Fin 32) k
      (⟨c.val / 256, by omega⟩ : Fin 2) (⟨c.val % 64, by omega⟩ : Fin 64))
      * Ideal.div (val_main_v62 (F := Ideal) q s (ix6 (⟨R.val / 4096, by omega⟩ : Fin 2) (⟨R.val % 4096 / 128, by omega⟩ : Fin 32)
          (⟨c.val / 256, by omega⟩ : Fin 2) (⟨c.val / 64 % 4, by omega⟩ : Fin 4) (⟨R.val % 4096 % 128, by omega⟩ : Fin 128) k))
        (val_main_v68 (F := Ideal) q s (ix6 (⟨R.val / 4096, by omega⟩ : Fin 2) (⟨R.val % 4096 / 128, by omega⟩ : Fin 32)
          (⟨c.val / 256, by omega⟩ : Fin 2) (⟨c.val / 64 % 4, by omega⟩ : Fin 4) (⟨R.val % 4096 % 128, by omega⟩ : Fin 128) 0)))
      * (z (ix2 R c) * Ideal.div 1 (1 + Ideal.exp (-z (ix2 R c)))) := by
  pointwise [val_main_v79, val_main_v78, val_main_v77, val_main_v76, val_main_v75, val_main_v74, val_main_call3_v5,
    val_main_call3_v4, val_main_call3_v3, val_main_call3_v2, val_main_call3_v1, val_main_call3_v0, val_main_call3_cst,
    val_main_call3_cst_0, val_main_v73, val_main_v72, val_main_v71, val_main_v70, val_main_v69]

/-- The same for a row and a column given by their parts. -/
theorem out_parts (a : Fin 2) (n : Fin 32) (i : Fin 128) (g : Fin 2) (j : Fin 4) (d : Fin 64)
    (hq : ∀ (R : Fin 8192) (C : Fin 768), C.val < 640 → ∃ r : ℝ, q (ix2 R C) = (r : EReal)) (hs : ∀ i, s i < ⊤) :
    (∑ k : Fin 256, val_main_v18 (F := Ideal) q (ix5 a n k g d)
      * Ideal.div (val_main_v62 (F := Ideal) q s (ix6 a n g j i k)) (val_main_v68 (F := Ideal) q s (ix6 a n g j i 0)) : EReal)
      = mix q s (rowAt a n i) (headAt g j) d := by
  simp only [weight_read, denom_read]
  refine mix_divided q s hq hs (rowAt a n i) (headAt g j) d (fun k => val_main_v18 (F := Ideal) q (ix5 a n k g d)) fun k hk => ?_
  rw [values_read q a n i k g d hk]
  have at_ : ∀ x x' : Fin 768, x.val = x'.val → q (ix2 (cand (rowAt a n i) k) x) = q (ix2 (cand (rowAt a n i) k) x') :=
    fun x x' e => by rw [Fin.ext e]
  have hj := j.isLt
  exact at_ _ _ (by simp only [headAt]; omega)

include hq hs in
theorem out_read (R : Fin 8192) (c : Fin 512) : (val_main_v79 (F := Ideal) q z s (ix2 R c) : EReal) = out q z s R c := by
  rw [out_form, out_parts q s _ _ _ _ _ _ hq hs, Cert.Merge.gate_read]
  have at_ : ∀ (R' : Fin 8192) (h h' : Fin 8) (d : Fin 64), R'.val = R.val → h.val = h'.val → mix q s R' h d = mix q s R h' d :=
    fun R' h h' d e e' => by rw [Fin.ext e, Fin.ext e']
  unfold out
  refine congrArg (fun y => y * (z (ix2 R c) * Cert.Merge.gate (z (ix2 R c)))) ?_
  exact at_ _ _ _ _ (by simp only [rowAt]; omega) (by simp only [headAt]; omega)

include hq hs in
theorem out_eq : (val_main_v79 (F := Ideal) q z s : Mat 8192 512) = fun i => out q z s (i 0) (i 1) := by
  funext i
  obtain ⟨R, c, rfl⟩ : ∃ (R : Fin 8192) (c : Fin 512), i = ix2 R c :=
    ⟨i 0, i 1, funext fun x => match x with | ⟨0, _⟩ => rfl | ⟨1, _⟩ => rfl⟩
  exact out_read q z s hq hs R c

end Cert.Reference4Ideal.Attn

end
-- ==== Proof.AttnClaim.lean ====
/- The windowed attention: from finite queries and keys, and sinks below infinity, the kernel's result is the reference's. -/
module

public import proofs.«01_k».proof.Defs
public import proofs.«01_k».proof.Proof.AttnKernel
public import proofs.«01_k».proof.Proof.AttnResult
public import proofs.«01_k».proof.Proof.Gen.Kernel4.Frame

@[expose] public section

noncomputable section

namespace Cert.Attn

open Idealize.ShloMosaic Idealize.SL.Sem

theorem pre_facts : Cert.Pre_finite.Facts where
  slices_S8192x768_S8192x640_0_0 := by decide
  bitsLt_bf16_f32 := by decide
  bcast_S_S8192x640 := by decide
  bcast_S_S8 := by decide

/-- An element whose magnitude is below infinity is a real. -/
theorem real_of_below {x : EReal} (h : Ideal.cmp CmpFPredicate.olt (max x (-x)) (Ideal.ofBits FTy.f32 2139095040#32) = 1#1) :
    ∃ r : ℝ, x = (r : EReal) := by
  have htop : Ideal.ofBits FTy.f32 2139095040#32 = ⊤ := by simp [Ideal.ofBits, Ideal.ieee]
  rw [htop] at h
  induction x with
  | bot => simp [Ideal.cmp] at h
  | top => simp [Ideal.cmp] at h
  | coe r => exact ⟨r, rfl⟩

/-- An element below infinity is. -/
theorem below_top {x : EReal} (h : Ideal.cmp CmpFPredicate.olt x (Ideal.ofBits FTy.f32 2139095040#32) = 1#1) : x < ⊤ := by
  have htop : Ideal.ofBits FTy.f32 2139095040#32 = ⊤ := by simp [Ideal.ofBits, Ideal.ieee]
  rw [htop] at h
  by_contra hx
  simp [Ideal.cmp, not_lt_top_iff.mp hx] at h

/-- What the precondition says of the queries and keys, and of the sinks. -/
theorem qk_real (q : Cert.Proj.Mat 8192 768) (z : Cert.Proj.Mat 8192 512) (s : (⟨1, ![8]⟩ : Shape).Idx → EReal)
    (h : (@Cert.Pre_finite.fn pre_facts Ideal _ q z s).1 = fun _ => 1#1) (R : Fin 8192) (C : Fin 768) (hC : C.val < 640) :
    ∃ r : ℝ, q (ix2 R C) = (r : EReal) := by
  obtain ⟨r, hr⟩ := real_of_below (congrFun h (ix2 R (⟨C.val, hC⟩ : Fin 640)))
  refine ⟨r, Eq.trans (congrArg q (funext fun x => Fin.ext ?_)) hr⟩
  match x with
  | ⟨0, _⟩ => simp
  | ⟨1, _⟩ => simp

theorem sinks_below (q : Cert.Proj.Mat 8192 768) (z : Cert.Proj.Mat 8192 512) (s : (⟨1, ![8]⟩ : Shape).Idx → EReal)
    (h : (@Cert.Pre_finite.fn pre_facts Ideal _ q z s).2 = fun _ => 1#1) : ∀ i, s i < ⊤ := fun i =>
  below_top ((congrFun h i : _))

/-- From memories that agree on the arguments, both programs end with the same array. -/
theorem algebraic : Cert.algebraic_Kernel4Ideal_Reference4Ideal_pre_finite (hKernel4Ideal := Cert.Kernel4Ideal.Gen.facts)
    (hReference4Ideal := Cert.Reference4Ideal.Gen.facts) (hPre_finite := pre_facts) := by
  intro m ρ m' ρ' hpre hag
  refine ⟨fun c => Kernel4Ideal.Attn.result m c, Kernel4Ideal.Attn.run m ρ,
    (θ_run Cert.Reference4Ideal.defs _ _).mono (fun _ h c => ⟨(h c).1.trans ?_, (h c).2⟩) (Cert.Reference4Ideal.Value.run m' ρ')⟩
  obtain ⟨h0, h1, h2⟩ := hag c
  obtain ⟨f0, f2⟩ := hpre c
  rw [Cert.Reference4Ideal.Read.val_main_v79_eq, h0, h1, h2]
  exact Reference4Ideal.Attn.out_eq _ _ _ (qk_real _ _ _ f0) (sinks_below _ _ _ f2)

end Cert.Attn

end
-- ==== Proof.AdamClaim.lean ====
/- The optimiser's call for the three output weights: the kernel's nine results are the reference's. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value

@[expose] public section

noncomputable section

namespace Cert.Adam

open Idealize.ShloMosaic Idealize.SL.Sem

/-- The new first moment: 0.9 of the old and 0.1 of the gradient. -/
def first (g m : Ideal .f32) : Ideal .f32 :=
  FloatOps.addf (FloatOps.mulf (Scalar.ofBits .f32 0x3F666666#32) m) (FloatOps.mulf (Scalar.ofBits .f32 0x3DCCCCCD#32) g)

/-- The new second moment: 0.999 of the old and 0.001 of the gradient's square. -/
def second (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight: both moments corrected for the step, their quotient and the weight's decay, times minus the
    learning rate. -/
def delta (w g m v : Ideal .f32) : Ideal .f32 :=
  FloatOps.mulf (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32)))
          (Scalar.ofBits .f32 0x322BCC77#32)))
      (FloatOps.mulf (Scalar.ofBits .f32 0x3C23D70A#32) w))

/-- A function of four arrays, each reshaped first and the outcome reshaped back, is that function at every index. -/
theorem there_and_back {s t : Shape} {α β : Type} (f : α → α → α → α → β) (w g m v : s.Idx → α) (h : s.ShapeCasts t)
    (h' : t.ShapeCasts s) :
    shapeCast s (fun j => f (shapeCast t w h j) (shapeCast t g h j) (shapeCast t m h j) (shapeCast t v h j)) h'
      = fun i => f (w i) (g i) (m i) (v i) := by
  funext i
  have e : ∀ x : s.Idx → α, shapeCast t x h (Shape.reshapeEquiv h' i) = x i := fun x =>
    congrFun (shapeCast_shapeCast x h h') i
  show f _ _ _ _ = _
  rw [e w, e g, e m, e v]

section

open Cert.Kernel5Ideal Cert.Kernel5Ideal.Gen

/-- The change of the first output weight, as the kernel computes it. -/
theorem out_a_delta (w g m v : Vec Ideal S1x512x256 .f32) :
    k0_pay8 w g m v = fun i => delta (w i) (g i) (m i) (v i) :=
  there_and_back (fun w g m v => delta w g m v) w g m v shapeCasts_S1x512x256_S512x256 shapeCasts_S512x256_S1x512x256

/-- The first moment of the first output weight, as the kernel computes it. -/
theorem out_a_first (g m : Vec Ideal S1x512x256 .f32) :
    k0_pay9 (k0_pay6 g m) = fun i => first (g i) (m i) :=
  there_and_back (fun _ g m _ => first g m) g g m g shapeCasts_S1x512x256_S512x256 shapeCasts_S512x256_S1x512x256

/-- The second moment of the first output weight, as the kernel computes it. -/
theorem out_a_second (g v : Vec Ideal S1x512x256 .f32) :
    k0_pay10 (k0_pay7 g v) = fun i => second (g i) (v i) :=
  there_and_back (fun _ g _ v => second g v) g g g v shapeCasts_S1x512x256_S512x256 shapeCasts_S512x256_S1x512x256

/-- The change of the second output weight, as the kernel computes it. -/
theorem out_b_delta (w g m v : Vec Ideal S1x512x256 .f32) :
    k0_pay17 (k0_pay11 w) (k0_pay15 g m) (k0_pay16 g v) = fun i => delta (w i) (g i) (m i) (v i) :=
  there_and_back (fun w g m v => delta w g m v) w g m v shapeCasts_S1x512x256_S512x256 shapeCasts_S512x256_S1x512x256

/-- The first moment of the second output weight, as the kernel computes it. -/
theorem out_b_first (g m : Vec Ideal S1x512x256 .f32) :
    k0_pay18 (k0_pay13 g m) = fun i => first (g i) (m i) :=
  there_and_back (fun _ g m _ => first g m) g g m g shapeCasts_S1x512x256_S512x256 shapeCasts_S512x256_S1x512x256

/-- The second moment of the second output weight, as the kernel computes it. -/
theorem out_b_second (g v : Vec Ideal S1x512x256 .f32) :
    k0_pay19 (k0_pay14 g v) = fun i => second (g i) (v i) :=
  there_and_back (fun _ g _ v => second g v) g g g v shapeCasts_S1x512x256_S512x256 shapeCasts_S512x256_S1x512x256

/-- The change of the last output weight, as the kernel computes it. -/
theorem out_o_delta (w g m v : Vec Ideal S1x256x1024 .f32) :
    k0_pay2 (k0_pay20 w) (k0_pay22 g m) (k0_pay23 v) (k0_pay24 g) = fun i => delta (w i) (g i) (m i) (v i) :=
  there_and_back (fun w g m v => delta w g m v) w g m v shapeCasts_S1x256x1024_S256x1024 shapeCasts_S256x1024_S1x256x1024

/-- The first moment of the last output weight, as the kernel computes it. -/
theorem out_o_first (g m : Vec Ideal S1x256x1024 .f32) :
    k0_pay3 (k0_pay22 g m) = fun i => first (g i) (m i) :=
  there_and_back (fun _ g m _ => first g m) g g m g shapeCasts_S1x256x1024_S256x1024 shapeCasts_S256x1024_S1x256x1024

/-- The second moment of the last output weight, as the kernel computes it. -/
theorem out_o_second (g v : Vec Ideal S1x256x1024 .f32) :
    k0_pay4 (k0_pay23 v) (k0_pay24 g) = fun i => second (g i) (v i) :=
  there_and_back (fun _ g _ v => second g v) g g g v shapeCasts_S1x256x1024_S256x1024 shapeCasts_S256x1024_S1x256x1024

/-- A load of the whole of an array is the array. -/
theorem load_whole (x : Vec Ideal S1x256x1024 .f32) : View.ld x r0_1 = x :=
  View.ld_unit_zero (S := S1x256x1024) (funext fun a => by fin_cases a <;> rfl) _ x

/-- The same of the array the kernel leaves. -/
theorem left_delta (a0 a1 a2 a3 a4 a5 a6 a7 : Vec Ideal S1x512x256 .f32) (a8 a9 a10 a11 : Vec Ideal S1x256x1024 .f32) :
    Cert.Kernel5Ideal.Value.G18 a0 a1 a2 a3 a4 a5 a6 a7 a8 a9 a10 a11 = fun i => delta (a8 i) (a9 i) (a10 i) (a11 i) := by
  unfold Cert.Kernel5Ideal.Value.G18 k0_pay25 k0_pay26 k0_pay27
  rw [load_whole a9, load_whole a10, load_whole a11]
  exact out_o_delta a8 a9 a10 a11

/-- The same of the array the kernel leaves. -/
theorem left_first (a0 a1 a2 a3 a4 a5 a6 a7 : Vec Ideal S1x512x256 .f32) (a8 a9 a10 a11 : Vec Ideal S1x256x1024 .f32) :
    Cert.Kernel5Ideal.Value.G19 a0 a1 a2 a3 a4 a5 a6 a7 a8 a9 a10 a11 = fun i => first (a9 i) (a10 i) := by
  unfold Cert.Kernel5Ideal.Value.G19 k0_pay25
  rw [load_whole a9, load_whole a10]
  exact out_o_first a9 a10

/-- The same of the array the kernel leaves. -/
theorem left_second (a0 a1 a2 a3 a4 a5 a6 a7 : Vec Ideal S1x512x256 .f32) (a8 a9 a10 a11 : Vec Ideal S1x256x1024 .f32) :
    Cert.Kernel5Ideal.Value.G20 a0 a1 a2 a3 a4 a5 a6 a7 a8 a9 a10 a11 = fun i => second (a9 i) (a11 i) := by
  unfold Cert.Kernel5Ideal.Value.G20 k0_pay26 k0_pay27
  rw [load_whole a9, load_whole a11]
  exact out_o_second a9 a11

end

set_option maxHeartbeats 2000000 in
/-- From memories that agree on the arguments, both programs end with the same nine arrays: for each of the three weights its
    change and its two moments. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.Kernel5Ideal.Value.G12 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G13 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G14 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G15 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G16 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G17 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G18 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G19 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    fun c => Cert.Kernel5Ideal.Value.G20 (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)),
    Cert.Kernel5Ideal.Value.run m ρ,
    (θ_run Cert.Reference5Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference5Ideal.Value.run m' ρ')⟩
  · rw [Cert.Reference5Ideal.Read.val_main_v23_eq]
    obtain ⟨h0, h1, h2, h3, h4, h5, h6, h7, h8, h9, h10, h11⟩ := hag c
    rw [h0, h1, h2, h3]
    exact (out_a_delta _ _ _ _).symm
  · rw [Cert.Reference5Ideal.Read.val_main_v4_eq]
    obtain ⟨h0, h1, h2, h3, h4, h5, h6, h7, h8, h9, h10, h11⟩ := hag c
    rw [h1, h2]
    exact (out_a_first _ _).symm
  · rw [Cert.Reference5Ideal.Read.val_main_v10_eq]
    obtain ⟨h0, h1, h2, h3, h4, h5, h6, h7, h8, h9, h10, h11⟩ := hag c
    rw [h1, h3]
    exact (out_a_second _ _).symm
  · rw [Cert.Reference5Ideal.Read.val_main_v47_eq]
    obtain ⟨h0, h1, h2, h3, h4, h5, h6, h7, h8, h9, h10, h11⟩ := hag c
    rw [h4, h5, h6, h7]
    exact (out_b_delta _ _ _ _).symm
  · rw [Cert.Reference5Ideal.Read.val_main_v28_eq]
    obtain ⟨h0, h1, h2, h3, h4, h5, h6, h7, h8, h9, h10, h11⟩ := hag c
    rw [h5, h6]
    exact (out_b_first _ _).symm
  · rw [Cert.Reference5Ideal.Read.val_main_v34_eq]
    obtain ⟨h0, h1, h2, h3, h4, h5, h6, h7, h8, h9, h10, h11⟩ := hag c
    rw [h5, h7]
    exact (out_b_second _ _).symm
  · rw [Cert.Reference5Ideal.Read.val_main_v71_eq]
    obtain ⟨h0, h1, h2, h3, h4, h5, h6, h7, h8, h9, h10, h11⟩ := hag c
    rw [h8, h9, h10, h11]
    exact (left_delta _ _ _ _ _ _ _ _ _ _ _ _).symm
  · rw [Cert.Reference5Ideal.Read.val_main_v52_eq]
    obtain ⟨h0, h1, h2, h3, h4, h5, h6, h7, h8, h9, h10, h11⟩ := hag c
    rw [h9, h10]
    exact (left_first _ _ _ _ _ _ _ _ _ _ _ _).symm
  · rw [Cert.Reference5Ideal.Read.val_main_v58_eq]
    obtain ⟨h0, h1, h2, h3, h4, h5, h6, h7, h8, h9, h10, h11⟩ := hag c
    rw [h9, h11]
    exact (left_second _ _ _ _ _ _ _ _ _ _ _ _).symm

end Cert.Adam

end
-- ==== Proof.SumKernel.lean ====
/- The sum over the devices: what the kernel leaves. -/
module

public import proofs.«01_k».proof.Defs
public import proofs.«01_k».proof.Proof.Gen.Kernel6Ideal.Frame
public import Idealize.ShloMosaic.Lib.Pipeline.Value
public import Idealize.ShloMosaic.Lib.Pipeline.ValueKit

@[expose] public section

noncomputable section

namespace Cert.Sum

open Idealize.ShloMosaic Idealize.SL.Sem

/-- Eight devices' parts. -/
abbrev Parts : Type := (⟨3, ![8, 8, 1024]⟩ : Shape).Idx → Ideal .f32

/-- One device's part. -/
abbrev Part : Type := (⟨2, ![8, 1024]⟩ : Shape).Idx → Ideal .f32

/-- The place `i` of device `k`'s part. -/
abbrev at_ (k : Fin 8) (i : (⟨2, ![8, 1024]⟩ : Shape).Idx) : (⟨3, ![8, 8, 1024]⟩ : Shape).Idx := fun a => match a with
  | ⟨0, _⟩ => ⟨k.val, k.isLt⟩
  | ⟨1, _⟩ => ⟨(i 0).val, (i 0).isLt⟩
  | ⟨2, _⟩ => ⟨(i 1).val, (i 1).isLt⟩

/-- What device `k` adds on device `d`: its received part, and the device's own part in its own place. -/
def term (x : Parts) (o : Part) (d : BitVec 32) (k : Fin 8) (i : (⟨2, ![8, 1024]⟩ : Shape).Idx) : Ideal .f32 :=
  Scalar.select (IntOp.cmpi .eq d (BitVec.ofNat 32 k.val)) (o i) (x (at_ k i))

/-- The sum over the devices. -/
def total (x : Parts) (o : Part) (d : BitVec 32) : Part := fun i => ∑ k : Fin 8, (term x o d k i : EReal)

end Cert.Sum

namespace Cert.Kernel6Ideal.Sum

open Idealize.ShloMosaic Idealize.ShloMosaic.TcCoe Idealize.ShloMosaic.Tactic Idealize.SL.Sem Cert.Kernel6Ideal.Gen Cert.Sum

theorem hz2 : (![0, 0] : Fin 2 → Nat) = fun _ => 0 := funext fun a => by fin_cases a <;> rfl

/-- Choosing between two arrays by one bit chooses at every place. -/
theorem select_apply {s : Shape} (c : BitVec 1) (a b : s.Idx → Ideal .f32) (i : s.Idx) :
    (Scalar.select c a b) i = Scalar.select c (a i) (b i) := by
  unfold Scalar.select; split <;> rfl

/-- Device `k`'s part, read out of the eight. -/
theorem slab (x : Vec Ideal S8x8x1024 .f32) (n : ℕ) (hn : n < 8) (inb) (i : S8x1024.Idx) :
    shapeCast S8x1024 (View.ld x (Rect.unit (s := S8x8x1024) ![n, 0, 0] ![1, 8, 1024] inb) : Vec Ideal S1x8x1024 .f32)
      shapeCasts_S1x8x1024_S8x1024 i = x (at_ ⟨n, hn⟩ i) := by
  refine (shapeCast_apply _ shapeCasts_S1x8x1024_S8x1024 i
    (fun a => match a with | ⟨0, _⟩ => ⟨0, Nat.one_pos⟩ | ⟨1, _⟩ => ⟨(i 0).val, (i 0).isLt⟩ | ⟨2, _⟩ => ⟨(i 1).val, (i 1).isLt⟩)
    (by rewrite [Shape.rowMajor_val_three, Shape.rowMajor_val_two]
        show (0 * 8 + (i 0).val) * 1024 + (i 1).val = (i 0).val * 1024 + (i 1).val; omega)).trans ?_
  exact View.ld_unit_apply_of x _ _ inb _ _ fun a => match a with
    | ⟨0, _⟩ => rfl
    | ⟨1, _⟩ => (Nat.zero_add _).symm
    | ⟨2, _⟩ => (Nat.zero_add _).symm

theorem pay_eq (x : Vec Ideal S8x8x1024 .f32) (o : Vec Ideal S8x1024 .f32) (d : BitVec 32) :
    k0_pay1 (F := Ideal)
      (k0_pay2 d o (View.ld x (Rect.unit ![0, 0, 0] ![1, 8, 1024] inb_S8x8x1024_S1x8x1024_0_0_0))
        d o (View.ld x (Rect.unit ![1, 0, 0] ![1, 8, 1024] inb_S8x8x1024_S1x8x1024_1_0_0))
        d o (View.ld x (Rect.unit ![2, 0, 0] ![1, 8, 1024] inb_S8x8x1024_S1x8x1024_2_0_0))
        d o (View.ld x (Rect.unit ![3, 0, 0] ![1, 8, 1024] inb_S8x8x1024_S1x8x1024_3_0_0)))
      (Scalar.cmpi CmpIPredicate.eq d 4#32) o (View.ld x (Rect.unit ![4, 0, 0] ![1, 8, 1024] inb_S8x8x1024_S1x8x1024_4_0_0))
      d o (View.ld x (Rect.unit ![5, 0, 0] ![1, 8, 1024] inb_S8x8x1024_S1x8x1024_5_0_0))
      d o (View.ld x (Rect.unit ![6, 0, 0] ![1, 8, 1024] inb_S8x8x1024_S1x8x1024_6_0_0))
      d o (View.ld x (Rect.unit ![7, 0, 0] ![1, 8, 1024] inb_S8x8x1024_S1x8x1024_7_0_0)) = total x o d := by
  funext i
  unfold total
  rw [Fin.sum_univ_eight]
  unfold k0_pay1 k0_pay2
  have e : ∀ (n : ℕ) (hn : n < 8) (inb), (Scalar.select (Scalar.cmpi .eq d (BitVec.ofNat 32 n)) o
      (shapeCast S8x1024 (View.ld x (Rect.unit (s := S8x8x1024) ![n, 0, 0] ![1, 8, 1024] inb) : Vec Ideal S1x8x1024 .f32)
        shapeCasts_S1x8x1024_S8x1024)) i = term x o d ⟨n, hn⟩ i := fun n hn inb => by
    rw [select_apply, slab x n hn]; rfl
  show FloatOps.addf (FloatOps.addf (FloatOps.addf (FloatOps.addf (FloatOps.addf (FloatOps.addf (FloatOps.addf _ _) _) _) _) _) _) _ = _
  exact congr (congrArg _ (congr (congrArg _ (congr (congrArg _ (congr (congrArg _ (congr (congrArg _ (congr (congrArg _
    (congr (congrArg _ (e 0 (by decide) _)) (e 1 (by decide) _)))
    (e 2 (by decide) _))) (e 3 (by decide) _))) (e 4 (by decide) _))) (e 5 (by decide) _))) (e 6 (by decide) _))) (e 7 (by decide) _)

/-- The one place of the device's number. -/
abbrev one : S1.Idx := fun a => match a with
  | ⟨0, _⟩ => ⟨0, Nat.one_pos⟩

theorem idx_one (i : S1.Idx) : i = one := funext fun a => Fin.ext (by
  match a with
  | ⟨0, _⟩ => exact Nat.lt_one_iff.mp (i 0).isLt)

set_option maxHeartbeats 2000000 in
theorem out_eq (c : Dev nD) (i : grid0.Coords) (arg2 : Memref sig .tc .vmem S8x8x1024 .f32) (harg2 : arg2.IsWhole)
    (arg3 : Memref sig .tc .vmem S8x1024 .f32) (harg3 : arg3.IsWhole) (arg4 : Memref sig .tc .vmem S8x1024 .f32)
    (harg4 : arg4.IsWhole) (x0 : Vec Ideal S8x8x1024 .f32) (x1 : Vec Ideal S8x1024 .f32) (xt0 : S1.Idx → BitVec 32) :
    out0_A_2 (F := Ideal) c i arg2 harg2 arg3 harg3 arg4 harg4 x0 x1 xt0 = total x0 x1 (xt0 one) := by
  unfold out0_A_2
  rw [View.read_writes_eq_canon _ _ _ (cover0_A_2 c i arg2 harg2 arg3 harg3 arg4 harg4 x0 x1 xt0)]
  unfold kernelRun0_A
  dsimp only
  sl_unfold_words
  simp only [View.readAt_eq_ld, harg2.read_unread, harg3.read_unread]
  rw [View.canon_unit_zero hz2]
  simp only [View.ld_unit_zero (S := S8x1024) hz2]
  have hd : ∀ h, (View.ld (View.read (Elt Ideal) (View.whole main_arg2) xt0) (Rect.unit ![0] ![1] inb_S1_S1_0)
      (Shape.Idx.first h) : BitVec 32) = xt0 one := fun h => congrArg xt0 (idx_one _)
  simp only [hd]
  exact pay_eq x0 x1 _

variable (m : (ℓ : Loc nD τ sig) → Buf (Elt Ideal) ℓ) (ρ : Dev nD → PrngReg)

theorem ok : Ok m := trivial

theorem emb0 (t : Fin (cfgM m (ok m)).N) (j : S8x8x1024.Idx) : (((cfgM m (ok m)).win 0).blk t).view.emb j = j := by
  funext a; apply Fin.ext
  match a with
  | ⟨0, _⟩ => show 0 * 8 + 1 * (j 0).val = (j 0).val; omega
  | ⟨1, _⟩ => show 0 * 8 + 1 * (j 1).val = (j 1).val; omega
  | ⟨2, _⟩ => show 0 * 1024 + 1 * (j 2).val = (j 2).val; omega

theorem emb1 (t : Fin (cfgM m (ok m)).N) (j : S8x1024.Idx) : (((cfgM m (ok m)).win 1).blk t).view.emb j = j := by
  funext a; apply Fin.ext
  match a with
  | ⟨0, _⟩ => show 0 * 8 + 1 * (j 0).val = (j 0).val; omega
  | ⟨1, _⟩ => show 0 * 1024 + 1 * (j 1).val = (j 1).val; omega

theorem emb2 (t : Fin (cfgM m (ok m)).N) (j : S8x1024.Idx) : (((cfgM m (ok m)).win 2).blk t).view.emb j = j := by
  funext a; apply Fin.ext
  match a with
  | ⟨0, _⟩ => show 0 * 8 + 1 * (j 0).val = (j 0).val; omega
  | ⟨1, _⟩ => show 0 * 1024 + 1 * (j 1).val = (j 1).val; omega

theorem iblk0_eq (c : Dev nD) (t : Fin (cfgM m (ok m)).N) : iblk m (ok m) c 0 t = V m c main_arg0 := by
  funext j; exact congrArg (V m c main_arg0) (emb0 m t j)

theorem iblk1_eq (c : Dev nD) (t : Fin (cfgM m (ok m)).N) : iblk m (ok m) c 1 t = V m c main_arg1 := by
  funext j; exact congrArg (V m c main_arg1) (emb1 m t j)

/-- The sum of the arguments as launched. -/
def res (c : Dev nD) : Vec Ideal S8x1024 .f32 :=
  total (m ((c : Thread nD τ).loc main_arg0)) (m ((c : Thread nD τ).loc main_arg1))
    ((m ((c : Thread nD τ).loc main_arg2) : S1.Idx → BitVec 32) one)

theorem outsAt_eq (c : Dev nD) (t : Fin (cfgM m (ok m)).N) : outsAt0 m (ok m) c t = res m c := by
  obtain rfl : c = 0 := Subsingleton.elim _ _
  unfold outsAt0
  rw [iblk0_eq, iblk1_eq]
  exact out_eq ..

theorem cut_eq (t : Fin (cfgM m (ok m)).N) (X : Vec Ideal S8x1024 .f32) :
    ((cfgM m (ok m)).win 2).cut (grid0.coords t) X = (((cfgM m (ok m)).win 2).blk t).view.read (Elt Ideal) X := by
  funext j
  exact congrArg X (emb2 m t j).symm

theorem final (c : Dev nD) : (dats m (ok m) 0 c).arrAt 2 (cfgM m (ok m)).N = res m c :=
  (dats m (ok m) 0 c).arrAt_eq_of_cover 2 (res m c)
    (fun t _ => by
      show ((cfgM m (ok m)).win 2).cut (grid0.coords t) ((dats m (ok m) 0 c).after 2 t) = _
      rw [after0_2, outsAt_eq]
      exact cut_eq m t _)
    (fun i => ⟨t0_0, flush0_2 _ _, by
      have h := (((cfgM m (ok m)).win 2).blk t0_0).view.emb_mem_set i
      have e := emb2 m t0_0 i
      exact e ▸ h⟩)

/-- The buffers as the program ends. -/
abbrev left (c : Dev nD) (b : Ref sig .tc) : Buf (Elt Ideal) ((c.tc : Thread nD τ).loc b) :=
  Pipeline.afterTail pcfgs (fun _ => adm m (ok m)) (dats m (ok m)) 0 (V0 m) [hostOps1] c b

/-- The seven results, cut out of the sum. -/
def loss (x : Vec Ideal S8x1024 .f32) : Vec Ideal S_ .f32 :=
  shapeCast _ (extractStridedSlice S1x1 ![2, 896] x slices_S8x1024_S1x1_2_896) shapeCasts_S1x1_S_
def gIn (x : Vec Ideal S8x1024 .f32) : Vec Ideal S1x1024 .f32 := extractStridedSlice S1x1024 ![0, 0] x slices_S8x1024_S1x1024_0_0
def wUp (x : Vec Ideal S8x1024 .f32) : Vec Ideal S16x256 .f32 :=
  shapeCast _ (extractStridedSlice S4x1024 ![3, 0] x slices_S8x1024_S4x1024_3_0) shapeCasts_S4x1024_S16x256
def bAlpha (x : Vec Ideal S8x1024 .f32) : Vec Ideal S1x256 .f32 := extractStridedSlice S1x256 ![2, 512] x slices_S8x1024_S1x256_2_512
def sinks (x : Vec Ideal S8x1024 .f32) : Vec Ideal S1x8 .f32 := extractStridedSlice S1x8 ![2, 768] x slices_S8x1024_S1x8_2_768
def gNorm (x : Vec Ideal S8x1024 .f32) : Vec Ideal S1x512 .f32 := extractStridedSlice S1x512 ![2, 0] x slices_S8x1024_S1x512_2_0
def gFinal (x : Vec Ideal S8x1024 .f32) : Vec Ideal S1024 .f32 :=
  shapeCast _ (extractStridedSlice S1x1024 ![1, 0] x slices_S8x1024_S1x1024_1_0) shapeCasts_S1x1024_S1024

theorem arr_eq (c : Dev nD) : Pipeline.withArrays spec0 c (V0 m c)
    (fun w => (dats m (ok m) 0 c).arrAt w (cfgM m (ok m)).N) (Proc.devRef .tc main_v0) = res m c :=
  (Pipeline.withArrays_arr spec0 (by decide +kernel) c (V0 m c) (fun w => (dats m (ok m) 0 c).arrAt w (cfgM m (ok m)).N) 2).trans
    (final m c)

theorem left_loss (c : Dev nD) : left m c main_v4 = loss (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_gIn (c : Dev nD) : left m c main_v5 = gIn (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_wUp (c : Dev nD) : left m c main_v2 = wUp (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_bAlpha (c : Dev nD) : left m c main_v6 = bAlpha (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_sinks (c : Dev nD) : left m c main_v7 = sinks (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_gNorm (c : Dev nD) : left m c main_v8 = gNorm (res m c) := by
  unfold left Pipeline.afterTail
  have e := arr_eq m c
  generalize Pipeline.withArrays spec0 c (V0 m c) (fun w => (dats m (ok m) 0 c).arrAt w (cfgM m (ok m)).N) = W at e ⊢
  rw [← e]
  rfl

theorem left_gFinal (c : Dev nD) : left m c main_v10 = gFinal (res m c) := by
  unfold left Pipeline.afterTail
  have e := arr_eq m c
  generalize Pipeline.withArrays spec0 c (V0 m c) (fun w => (dats m (ok m) 0 c).arrAt w (cfgM m (ok m)).N) = W at e ⊢
  rw [← e]
  rfl

/-- The program ends with the seven results and the arguments as they were. -/
theorem run_value : θ_run defs (onTc (τ := τ) (main (F := Ideal))) ⟨m, fun _ => 0, ρ⟩ fun r => ∀ c : Dev nD,
      r.2.mem ((c : Thread nD τ).loc main_v4) = loss (res m c)
      ∧ r.2.mem ((c : Thread nD τ).loc main_v5) = gIn (res m c)
      ∧ r.2.mem ((c : Thread nD τ).loc main_v2) = wUp (res m c)
      ∧ r.2.mem ((c : Thread nD τ).loc main_v6) = bAlpha (res m c)
      ∧ r.2.mem ((c : Thread nD τ).loc main_v7) = sinks (res m c)
      ∧ r.2.mem ((c : Thread nD τ).loc main_v8) = gNorm (res m c)
      ∧ r.2.mem ((c : Thread nD τ).loc main_v10) = gFinal (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.2 c).2 main_v4 (by decide : main_v4 ∈ Pipeline.restRefs sig spec0)).trans (left_loss m c),
    ((h.2 c).2 main_v5 (by decide : main_v5 ∈ Pipeline.restRefs sig spec0)).trans (left_gIn m c),
    ((h.2 c).2 main_v2 (by decide : main_v2 ∈ Pipeline.restRefs sig spec0)).trans (left_wUp m c),
    ((h.2 c).2 main_v6 (by decide : main_v6 ∈ Pipeline.restRefs sig spec0)).trans (left_bAlpha m c),
    ((h.2 c).2 main_v7 (by decide : main_v7 ∈ Pipeline.restRefs sig spec0)).trans (left_sinks m c),
    ((h.2 c).2 main_v8 (by decide : main_v8 ∈ Pipeline.restRefs sig spec0)).trans (left_gNorm m c),
    ((h.2 c).2 main_v10 (by decide : main_v10 ∈ Pipeline.restRefs sig spec0)).trans (left_gFinal m c),
    h.1 c⟩) (θ_run_and (unchanged m ρ (ok m)) (run_main m ρ (ok m)))

end Cert.Kernel6Ideal.Sum

end
-- ==== Proof.SumClaim.lean ====
/- The sum over the devices: the kernel's seven results are the reference's. -/
module

public import proofs.«01_k».proof.Defs
public import proofs.«01_k».proof.Proof.Gen.Kernel6.Frame
public import proofs.«01_k».proof.Proof.Gen.Reference6Ideal.Run
public import proofs.«01_k».proof.Proof.Gen.Reference6Ideal.Read
public import proofs.«01_k».proof.Proof.SumKernel

@[expose] public section

noncomputable section

namespace Cert.Sum

open Idealize.ShloMosaic Idealize.SL.Sem

section

open Cert.Reference6Ideal Cert.Reference6Ideal.Gen Cert.Reference6Ideal.Read

/-- Two numbers compare equal in either order. -/
theorem eq_swap (a b : BitVec 32) : IntOp.cmpi .eq a b = IntOp.cmpi .eq b a := by
  unfold IntOp.cmpi; exact congrArg _ Bool.beq_comm

/-- The reference's sum over the devices. -/
theorem reference_total (x : Vec Ideal S8x8x1024 .f32) (o : Vec Ideal S8x1024 .f32) (d : S1.Idx → BitVec 32) :
    val_main_v6 (F := Ideal) x o d = total x o (d Cert.Kernel6Ideal.Sum.one) := by
  funext i
  rw [val_main_v6_apply]
  have z : (val_main_cst (F := Ideal) (Shape.Idx.first h_S_) : EReal) = 0 := Ideal.ofBits_zero_f32
  rw [z, zero_add]
  unfold total
  refine Finset.sum_congr rfl fun k _ => ?_
  rw [val_main_v5_apply, val_main_call0_v0_apply, val_main_call0_v1_apply, val_main_v4_apply, val_main_v1_apply,
    val_main_v0_apply, val_main_v3_apply, eq_swap]
  have hd : ∀ j, (val_main_v2 (F := Ideal) d j : BitVec 32) = d Cert.Kernel6Ideal.Sum.one := fun j =>
    congrArg d (Cert.Kernel6Ideal.Sum.idx_one _)
  rw [hd]
  unfold term
  have hk : ((idx_main_v1 (idx_main_call0_v0 (idx_main_v6 i k))) 0).val = k.val := by
    show (k.val * 1 + 0) * 1 + 0 = k.val; omega
  rw [hk]
  refine congr (congrArg _ (congrArg o ?_)) (congrArg x ?_)
  · funext a; exact Fin.ext (by match a with | ⟨0, _⟩ => rfl | ⟨1, _⟩ => rfl)
  · funext a; exact Fin.ext (by match a with | ⟨0, _⟩ => rfl | ⟨1, _⟩ => rfl | ⟨2, _⟩ => rfl)

end

/-- From memories that agree on the arguments, both programs end with the loss and six derivatives, each the sum of the
    devices' parts. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => Kernel6Ideal.Sum.loss (Kernel6Ideal.Sum.res m c),
    fun c => Kernel6Ideal.Sum.gIn (Kernel6Ideal.Sum.res m c),
    fun c => Kernel6Ideal.Sum.wUp (Kernel6Ideal.Sum.res m c),
    fun c => Kernel6Ideal.Sum.bAlpha (Kernel6Ideal.Sum.res m c),
    fun c => Kernel6Ideal.Sum.sinks (Kernel6Ideal.Sum.res m c),
    fun c => Kernel6Ideal.Sum.gNorm (Kernel6Ideal.Sum.res m c),
    fun c => Kernel6Ideal.Sum.gFinal (Kernel6Ideal.Sum.res m c),
    Kernel6Ideal.Sum.run_value m ρ,
    (θ_run Cert.Reference6Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_,
        (h c).2.2.2.2.2.2.2⟩)
      (Cert.Reference6Ideal.Value.run m' ρ')⟩
  · rw [Cert.Reference6Ideal.Read.val_main_v8_eq]
    obtain ⟨h0, h1, h2⟩ := hag c
    rw [h0, h1, h2]
    exact congrArg Kernel6Ideal.Sum.loss (reference_total _ _ _)
  · rw [Cert.Reference6Ideal.Read.val_main_v9_eq]
    obtain ⟨h0, h1, h2⟩ := hag c
    rw [h0, h1, h2]
    exact congrArg Kernel6Ideal.Sum.gIn (reference_total _ _ _)
  · rw [Cert.Reference6Ideal.Read.val_main_v11_eq]
    obtain ⟨h0, h1, h2⟩ := hag c
    rw [h0, h1, h2]
    exact congrArg Kernel6Ideal.Sum.wUp (reference_total _ _ _)
  · rw [Cert.Reference6Ideal.Read.val_main_v12_eq]
    obtain ⟨h0, h1, h2⟩ := hag c
    rw [h0, h1, h2]
    exact congrArg Kernel6Ideal.Sum.bAlpha (reference_total _ _ _)
  · rw [Cert.Reference6Ideal.Read.val_main_v13_eq]
    obtain ⟨h0, h1, h2⟩ := hag c
    rw [h0, h1, h2]
    exact congrArg Kernel6Ideal.Sum.sinks (reference_total _ _ _)
  · rw [Cert.Reference6Ideal.Read.val_main_v14_eq]
    obtain ⟨h0, h1, h2⟩ := hag c
    rw [h0, h1, h2]
    exact congrArg Kernel6Ideal.Sum.gNorm (reference_total _ _ _)
  · rw [Cert.Reference6Ideal.Read.val_main_v16_eq]
    obtain ⟨h0, h1, h2⟩ := hag c
    rw [h0, h1, h2]
    exact congrArg Kernel6Ideal.Sum.gFinal (reference_total _ _ _)

end Cert.Sum

end
-- ==== Proof.MergeRun.lean ====
/- The body of the merge-and-loss kernel at one grid point, run once from its first load to its last store.

   The body is the same at every grid point: an accumulator is read back through a choice between zero (at the first
   point) and what the buffer holds, so one run over arbitrary running contents serves every point. -/

module

public import proofs.«01_k».proof.Proof.Gen.KernelIdeal.Frame
public import proofs.«01_k».proof.Proof.Gen.KernelIdeal.Skeleton
public import Idealize.ShloMosaic.Lib.Exec

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The buffers the body is called with: the ten inputs' blocks, the ten outputs' and seven scratch buffers. -/
structure Bufs where
  oa : Memref sig .tc .vmem S512x512 .bf16
  ob : Memref sig .tc .vmem S512x512 .bf16
  ga : Memref sig .tc .vmem S512x1024 .bf16
  gb : Memref sig .tc .vmem S512x1024 .bf16
  x : Memref sig .tc .vmem S512x1024 .f32
  tgt : Memref sig .tc .vmem S512x1024 .f32
  wa : Memref sig .tc .vmem S512x1024 .bf16
  wb : Memref sig .tc .vmem S512x1024 .bf16
  wo : Memref sig .tc .vmem S1024x1024 .bf16
  gf : Memref sig .tc .vmem S1x1024 .f32
  dh : Memref sig .tc .vmem S512x1024 .bf16
  doa : Memref sig .tc .vmem S512x512 .bf16
  dob : Memref sig .tc .vmem S512x512 .bf16
  dga : Memref sig .tc .vmem S512x1024 .bf16
  dgb : Memref sig .tc .vmem S512x1024 .bf16
  dwa : Memref sig .tc .vmem S512x1024 .f32
  dwb : Memref sig .tc .vmem S512x1024 .f32
  dwo : Memref sig .tc .vmem S1024x1024 .f32
  dgf : Memref sig .tc .vmem S1x1024 .f32
  loss : Memref sig .tc .vmem S1x1024 .f32
  yaS : Memref sig .tc .vmem S512x1024 .f32
  ybS : Memref sig .tc .vmem S512x1024 .f32
  outS : Memref sig .tc .vmem S512x1024 .f32
  dmerS : Memref sig .tc .vmem S512x1024 .f32
  mrgS : Memref sig .tc .vmem S512x1024 .bf16
  dyaS : Memref sig .tc .vmem S512x1024 .bf16
  dybS : Memref sig .tc .vmem S512x1024 .bf16

/-- Each of them is a whole buffer. -/
structure Whole (b : Bufs) : Prop where
  oa : b.oa.IsWhole
  ob : b.ob.IsWhole
  ga : b.ga.IsWhole
  gb : b.gb.IsWhole
  x : b.x.IsWhole
  tgt : b.tgt.IsWhole
  wa : b.wa.IsWhole
  wb : b.wb.IsWhole
  wo : b.wo.IsWhole
  gf : b.gf.IsWhole
  dh : b.dh.IsWhole
  doa : b.doa.IsWhole
  dob : b.dob.IsWhole
  dga : b.dga.IsWhole
  dgb : b.dgb.IsWhole
  dwa : b.dwa.IsWhole
  dwb : b.dwb.IsWhole
  dwo : b.dwo.IsWhole
  dgf : b.dgf.IsWhole
  loss : b.loss.IsWhole
  yaS : b.yaS.IsWhole
  ybS : b.ybS.IsWhole
  outS : b.outS.IsWhole
  dmerS : b.dmerS.IsWhole
  mrgS : b.mrgS.IsWhole
  dyaS : b.dyaS.IsWhole
  dybS : b.dybS.IsWhole

/-- What the ten input blocks hold. -/
structure Ins (F : FTy → Type) where
  oa : Vec F S512x512 .bf16
  ob : Vec F S512x512 .bf16
  ga : Vec F S512x1024 .bf16
  gb : Vec F S512x1024 .bf16
  x : Vec F S512x1024 .f32
  tgt : Vec F S512x1024 .f32
  wa : Vec F S512x1024 .bf16
  wb : Vec F S512x1024 .bf16
  wo : Vec F S1024x1024 .bf16
  gf : Vec F S1x1024 .f32

/-- What the five accumulators hold when the body starts. -/
structure Accs (F : FTy → Type) where
  dwa : Vec F S512x1024 .f32
  dwb : Vec F S512x1024 .f32
  dwo : Vec F S1024x1024 .f32
  dgf : Vec F S1x1024 .f32
  loss : Vec F S1x1024 .f32

/-- The body, called with the buffers `b`. -/
abbrev body (i : grid0.Coords) (b : Bufs) (h : Whole b) : Prog (TpuEff nD τ sig (Elt F) Λ₀ .tc) PUnit :=
  cc0_merge_loss i b.oa h.oa b.ob h.ob b.ga h.ga b.gb h.gb b.x h.x b.tgt h.tgt b.wa h.wa b.wb h.wb b.wo h.wo b.gf h.gf b.dh h.dh b.doa h.doa b.dob h.dob b.dga h.dga b.dgb h.dgb b.dwa h.dwa b.dwb h.dwb b.dwo h.dwo b.dgf h.dgf b.loss h.loss b.yaS h.yaS b.ybS h.ybS b.outS h.outS b.dmerS h.dmerS b.mrgS h.mrgS b.dyaS h.dyaS b.dybS h.dybS

set_option maxHeartbeats 6000000 in
/-- The run. From the inputs at the contents `x`, the accumulators at the contents `o`, and everything else at any
    contents, the body ends with the inputs as they were and each output holding a list of stored pieces (the last one
    first); the lists are what the run itself finds. -/
noncomputable def run (c : Dev nD) (i : grid0.Coords) (b : Bufs) (h : Whole b) (x : Ins F) (o : Accs F) :
    Σ' (Ldh : List (View.Piece (Elt F) S512x1024 .bf16)), Σ' (Ldoa : List (View.Piece (Elt F) S512x512 .bf16)), Σ' (Ldob : List (View.Piece (Elt F) S512x512 .bf16)), Σ' (Ldga : List (View.Piece (Elt F) S512x1024 .bf16)), Σ' (Ldgb : List (View.Piece (Elt F) S512x1024 .bf16)), Σ' (Ldwa : List (View.Piece (Elt F) S512x1024 .f32)), Σ' (Ldwb : List (View.Piece (Elt F) S512x1024 .f32)), Σ' (Ldwo : List (View.Piece (Elt F) S1024x1024 .f32)), Σ' (Ldgf : List (View.Piece (Elt F) S1x1024 .f32)), { Lloss : List (View.Piece (Elt F) S1x1024 .f32) //
      ∀ (E : Set ℕ) (K : PUnit → sProp 𝕄),
        iprop(owns (c : Thread nD τ) b.oa fullShare x.oa
      ∗ owns (c : Thread nD τ) b.ob fullShare x.ob
      ∗ owns (c : Thread nD τ) b.ga fullShare x.ga
      ∗ owns (c : Thread nD τ) b.gb fullShare x.gb
      ∗ owns (c : Thread nD τ) b.x fullShare x.x
      ∗ owns (c : Thread nD τ) b.tgt fullShare x.tgt
      ∗ owns (c : Thread nD τ) b.wa fullShare x.wa
      ∗ owns (c : Thread nD τ) b.wb fullShare x.wb
      ∗ owns (c : Thread nD τ) b.wo fullShare x.wo
      ∗ owns (c : Thread nD τ) b.gf fullShare x.gf
      ∗ (∃ d, owns (c : Thread nD τ) b.dh fullShare d) ∗ (∃ d, owns (c : Thread nD τ) b.doa fullShare d) ∗ (∃ d, owns (c : Thread nD τ) b.dob fullShare d) ∗ (∃ d, owns (c : Thread nD τ) b.dga fullShare d) ∗ (∃ d, owns (c : Thread nD τ) b.dgb fullShare d)
      ∗ owns (c : Thread nD τ) b.dwa fullShare o.dwa ∗ owns (c : Thread nD τ) b.dwb fullShare o.dwb ∗ owns (c : Thread nD τ) b.dwo fullShare o.dwo ∗ owns (c : Thread nD τ) b.dgf fullShare o.dgf ∗ owns (c : Thread nD τ) b.loss fullShare o.loss
      ∗ (∃ d, owns (c : Thread nD τ) b.yaS fullShare d) ∗ (∃ d, owns (c : Thread nD τ) b.ybS fullShare d) ∗ (∃ d, owns (c : Thread nD τ) b.outS fullShare d) ∗ (∃ d, owns (c : Thread nD τ) b.dmerS fullShare d) ∗ (∃ d, owns (c : Thread nD τ) b.mrgS fullShare d) ∗ (∃ d, owns (c : Thread nD τ) b.dyaS fullShare d) ∗ (∃ d, owns (c : Thread nD τ) b.dybS fullShare d)
      ∗ (iprop(owns (c : Thread nD τ) b.oa fullShare x.oa
      ∗ owns (c : Thread nD τ) b.ob fullShare x.ob
      ∗ owns (c : Thread nD τ) b.ga fullShare x.ga
      ∗ owns (c : Thread nD τ) b.gb fullShare x.gb
      ∗ owns (c : Thread nD τ) b.x fullShare x.x
      ∗ owns (c : Thread nD τ) b.tgt fullShare x.tgt
      ∗ owns (c : Thread nD τ) b.wa fullShare x.wa
      ∗ owns (c : Thread nD τ) b.wb fullShare x.wb
      ∗ owns (c : Thread nD τ) b.wo fullShare x.wo
      ∗ owns (c : Thread nD τ) b.gf fullShare x.gf
      ∗ (∃ f, b.dh.view.loc (c : Thread nD τ) ↦[b.dh.view.set]{fullShare} b.dh.view.writes (Elt F) f Ldh)
      ∗ (∃ f, b.doa.view.loc (c : Thread nD τ) ↦[b.doa.view.set]{fullShare} b.doa.view.writes (Elt F) f Ldoa)
      ∗ (∃ f, b.dob.view.loc (c : Thread nD τ) ↦[b.dob.view.set]{fullShare} b.dob.view.writes (Elt F) f Ldob)
      ∗ (∃ f, b.dga.view.loc (c : Thread nD τ) ↦[b.dga.view.set]{fullShare} b.dga.view.writes (Elt F) f Ldga)
      ∗ (∃ f, b.dgb.view.loc (c : Thread nD τ) ↦[b.dgb.view.set]{fullShare} b.dgb.view.writes (Elt F) f Ldgb)
      ∗ (∃ f, b.dwa.view.loc (c : Thread nD τ) ↦[b.dwa.view.set]{fullShare} b.dwa.view.writes (Elt F) f Ldwa)
      ∗ (∃ f, b.dwb.view.loc (c : Thread nD τ) ↦[b.dwb.view.set]{fullShare} b.dwb.view.writes (Elt F) f Ldwb)
      ∗ (∃ f, b.dwo.view.loc (c : Thread nD τ) ↦[b.dwo.view.set]{fullShare} b.dwo.view.writes (Elt F) f Ldwo)
      ∗ (∃ f, b.dgf.view.loc (c : Thread nD τ) ↦[b.dgf.view.set]{fullShare} b.dgf.view.writes (Elt F) f Ldgf)
      ∗ (∃ f, b.loss.view.loc (c : Thread nD τ) ↦[b.loss.view.set]{fullShare} b.loss.view.writes (Elt F) f Lloss)
      ∗ (∃ d, owns (c : Thread nD τ) b.yaS fullShare d) ∗ (∃ d, owns (c : Thread nD τ) b.ybS fullShare d) ∗ (∃ d, owns (c : Thread nD τ) b.outS fullShare d) ∗ (∃ d, owns (c : Thread nD τ) b.dmerS fullShare d) ∗ (∃ d, owns (c : Thread nD τ) b.mrgS fullShare d) ∗ (∃ d, owns (c : Thread nD τ) b.dyaS fullShare d) ∗ (∃ d, owns (c : Thread nD τ) b.dybS fullShare d)) -∗ K ⟨⟩))
          ⊢ wp frame (wpE (defs₀ (F := F)) Variants.none c none) E (body i b h) K } := by
  refine ⟨?_, ?_, ?_, ?_, ?_, ?_, ?_, ?_, ?_, ?_, fun E K => ?run⟩
  case run =>
    simp only [body, cc0_merge_loss_eq_skeleton]; unfold cc0_merge_loss_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%foa, %eoa, Hoa⟩, ⟨%fob, %eob, Hob⟩, ⟨%fga, %ega, Hga⟩, ⟨%fgb, %egb, Hgb⟩, ⟨%fx, %ex, Hx⟩, ⟨%ftgt, %etgt, Htgt⟩, ⟨%fwa, %ewa, Hwa⟩, ⟨%fwb, %ewb, Hwb⟩, ⟨%fwo, %ewo, Hwo⟩, ⟨%fgf, %egf, Hgf⟩, ⟨%ddh, %fdh, -, Hdh⟩, ⟨%ddoa, %fdoa, -, Hdoa⟩, ⟨%ddob, %fdob, -, Hdob⟩, ⟨%ddga, %fdga, -, Hdga⟩, ⟨%ddgb, %fdgb, -, Hdgb⟩, ⟨%fdwa, %edwa, Hdwa⟩, ⟨%fdwb, %edwb, Hdwb⟩, ⟨%fdwo, %edwo, Hdwo⟩, ⟨%fdgf, %edgf, Hdgf⟩, ⟨%floss, %eloss, Hloss⟩, ⟨%dyaS, %fyaS, -, HyaS⟩, ⟨%dybS, %fybS, -, HybS⟩, ⟨%doutS, %foutS, -, HoutS⟩, ⟨%ddmerS, %fdmerS, -, HdmerS⟩, ⟨%dmrgS, %fmrgS, -, HmrgS⟩, ⟨%ddyaS, %fdyaS, -, HdyaS⟩, ⟨%ddybS, %fdybS, -, HdybS⟩, Hk⟩
    obtain rfl := h.oa.eq_unread eoa; obtain rfl := h.ob.eq_unread eob; obtain rfl := h.ga.eq_unread ega; obtain rfl := h.gb.eq_unread egb; obtain rfl := h.x.eq_unread ex; obtain rfl := h.tgt.eq_unread etgt; obtain rfl := h.wa.eq_unread ewa; obtain rfl := h.wb.eq_unread ewb; obtain rfl := h.wo.eq_unread ewo; obtain rfl := h.gf.eq_unread egf; obtain rfl := h.dwa.eq_unread edwa; obtain rfl := h.dwb.eq_unread edwb; obtain rfl := h.dwo.eq_unread edwo; obtain rfl := h.dgf.eq_unread edgf; obtain rfl := h.loss.eq_unread eloss
    sl_exec
    sl_step
    iapply Hk
    isplitl [Hoa]
    · iexists _; isplitr; · ipureintro; exact h.oa.read_unread _
      iexact Hoa
    isplitl [Hob]
    · iexists _; isplitr; · ipureintro; exact h.ob.read_unread _
      iexact Hob
    isplitl [Hga]
    · iexists _; isplitr; · ipureintro; exact h.ga.read_unread _
      iexact Hga
    isplitl [Hgb]
    · iexists _; isplitr; · ipureintro; exact h.gb.read_unread _
      iexact Hgb
    isplitl [Hx]
    · iexists _; isplitr; · ipureintro; exact h.x.read_unread _
      iexact Hx
    isplitl [Htgt]
    · iexists _; isplitr; · ipureintro; exact h.tgt.read_unread _
      iexact Htgt
    isplitl [Hwa]
    · iexists _; isplitr; · ipureintro; exact h.wa.read_unread _
      iexact Hwa
    isplitl [Hwb]
    · iexists _; isplitr; · ipureintro; exact h.wb.read_unread _
      iexact Hwb
    isplitl [Hwo]
    · iexists _; isplitr; · ipureintro; exact h.wo.read_unread _
      iexact Hwo
    isplitl [Hgf]
    · iexists _; isplitr; · ipureintro; exact h.gf.read_unread _
      iexact Hgf
    isplitl [Hdh]; · iexists _; iexact Hdh
    isplitl [Hdoa]; · iexists _; iexact Hdoa
    isplitl [Hdob]; · iexists _; iexact Hdob
    isplitl [Hdga]; · iexists _; iexact Hdga
    isplitl [Hdgb]; · iexists _; iexact Hdgb
    isplitl [Hdwa]; · iexists _; iexact Hdwa
    isplitl [Hdwb]; · iexists _; iexact Hdwb
    isplitl [Hdwo]; · iexists _; iexact Hdwo
    isplitl [Hdgf]; · iexists _; iexact Hdgf
    isplitl [Hloss]; · iexists _; iexact Hloss
    isplitl [HyaS]
    · iexists _, _; isplitr
      swap; · iexact HyaS
      ipureintro; rfl
    isplitl [HybS]
    · iexists _, _; isplitr
      swap; · iexact HybS
      ipureintro; rfl
    isplitl [HoutS]
    · iexists _, _; isplitr
      swap; · iexact HoutS
      ipureintro; rfl
    isplitl [HdmerS]
    · iexists _, _; isplitr
      swap; · iexact HdmerS
      ipureintro; rfl
    isplitl [HmrgS]
    · iexists _, _; isplitr
      swap; · iexact HmrgS
      ipureintro; rfl
    isplitl [HdyaS]
    · iexists _, _; isplitr
      swap; · iexact HdyaS
      ipureintro; rfl
    iexists _, _; isplitr
    swap; · iexact HdybS
    ipureintro; rfl

end Cert.KernelIdeal.Merge

end
-- ==== Proof.MergeMix.lean ====
/- What the body's loads and scratch buffers hold, tile by tile: the two projections, the gated sum and the residual
   stream after it. -/

module

public import proofs.«01_k».proof.Proof.MergeRun
public import proofs.«01_k».proof.Proof.MergeSpec
public import Idealize.ShloMosaic.Lib.Pipeline.ValueKit
public import Idealize.ShloMosaic.Lib.Pointwise

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The blocks a grid point holds, as the arguments of the mathematics. -/
def argsOf (x : Ins Ideal) : Cert.Merge.Args 512 where
  oa := x.oa
  ob := x.ob
  ga := x.ga
  gb := x.gb
  x := x.x
  tgt := x.tgt
  wa := x.wa
  wb := x.wb
  wo := x.wo
  gf := x.gf

theorem idx_eq {a b : ℕ} (i : (⟨2, ![a, b]⟩ : Shape).Idx) : ∃ (p : Fin a) (q : Fin b), i = ix2 p q :=
  ⟨i 0, i 1, funext fun k => match k with | ⟨0, _⟩ => rfl | ⟨1, _⟩ => rfl⟩

/-- A load of 16 rows of a whole buffer. -/
theorem read_slab {e : EltTy} {v : Memref sig .tc .vmem S512x1024 e} (hv : v.IsWhole) (X : Vec Ideal S512x1024 e) (off : ℕ)
    (inb : ∀ a, (![off, 0] : Fin 2 → ℕ) a + S16x1024.size a ≤ S512x1024.size a) (p : Fin 16) (q : Fin 1024) :
    View.readAt (Elt Ideal) v.view (Rect.unit (s := S512x1024) ![off, 0] (no_index S16x1024.size) inb).toLoadRect (hv.unread X) (ix2 p q)
      = X (ix2 ⟨off + p.val, lt_of_lt_of_le (Nat.add_lt_add_left p.isLt off) (inb 0)⟩ q) := by
  rw [View.readAt_eq_ld, hv.read_unread]
  exact View.ld_unit_apply_of _ _ _ _ _ _ fun a => match a with | ⟨0, _⟩ => rfl | ⟨1, _⟩ => (Nat.zero_add _).symm

/-- A load of a whole buffer. -/
theorem read_S512x1024 {e : EltTy} {v : Memref sig .tc .vmem S512x1024 e} (hv : v.IsWhole) (X : Vec Ideal S512x1024 e)
    (inb : ∀ a, (![0, 0] : Fin 2 → ℕ) a + S512x1024.size a ≤ S512x1024.size a) :
    View.readAt (Elt Ideal) v.view (Rect.unit (s := S512x1024) ![0, 0] (no_index S512x1024.size) inb).toLoadRect (hv.unread X) = X := by
  rw [View.readAt_eq_ld, hv.read_unread]
  exact View.ld_unit_lit' _ _ (by decide)

/-- A load of a whole buffer. -/
theorem read_S512x512 {e : EltTy} {v : Memref sig .tc .vmem S512x512 e} (hv : v.IsWhole) (X : Vec Ideal S512x512 e)
    (inb : ∀ a, (![0, 0] : Fin 2 → ℕ) a + S512x512.size a ≤ S512x512.size a) :
    View.readAt (Elt Ideal) v.view (Rect.unit (s := S512x512) ![0, 0] (no_index S512x512.size) inb).toLoadRect (hv.unread X) = X := by
  rw [View.readAt_eq_ld, hv.read_unread]
  exact View.ld_unit_lit' _ _ (by decide)

/-- A load of a whole buffer. -/
theorem read_S1024x1024 {e : EltTy} {v : Memref sig .tc .vmem S1024x1024 e} (hv : v.IsWhole) (X : Vec Ideal S1024x1024 e)
    (inb : ∀ a, (![0, 0] : Fin 2 → ℕ) a + S1024x1024.size a ≤ S1024x1024.size a) :
    View.readAt (Elt Ideal) v.view (Rect.unit (s := S1024x1024) ![0, 0] (no_index S1024x1024.size) inb).toLoadRect (hv.unread X) = X := by
  rw [View.readAt_eq_ld, hv.read_unread]
  exact View.ld_unit_lit' _ _ (by decide)

/-- A load of a whole buffer. -/
theorem read_S1x1024 {e : EltTy} {v : Memref sig .tc .vmem S1x1024 e} (hv : v.IsWhole) (X : Vec Ideal S1x1024 e)
    (inb : ∀ a, (![0, 0] : Fin 2 → ℕ) a + S1x1024.size a ≤ S1x1024.size a) :
    View.readAt (Elt Ideal) v.view (Rect.unit (s := S1x1024) ![0, 0] (no_index S1x1024.size) inb).toLoadRect (hv.unread X) = X := by
  rw [View.readAt_eq_ld, hv.read_unread]
  exact View.ld_unit_lit' _ _ (by decide)

/-- A load of 16 rows of stores whose contents are known. -/
theorem cov_slab {e : EltTy} (v : View sig .tc .vmem S512x1024 e) {L : List (View.Piece (Elt Ideal) S512x1024 e)}
    {f : Fin 512 → Fin 1024 → Elt Ideal e} (hL : ∀ i : S512x1024.Idx, View.canon L i = f (i 0) (i 1)) (off : ℕ)
    (inb : ∀ a, (![off, 0] : Fin 2 → ℕ) a + S16x1024.size a ≤ S512x1024.size a) (p : Fin 16) (q : Fin 1024) :
    v.readCov L (Rect.unit (s := S512x1024) ![off, 0] (no_index S16x1024.size) inb).toLoadRect (ix2 p q)
      = f ⟨off + p.val, lt_of_lt_of_le (Nat.add_lt_add_left p.isLt off) (inb 0)⟩ q := by
  rw [View.readCov_eq_canon']
  refine (hL _).trans (congr (congrArg f (Fin.ext ?_)) (Fin.ext ?_))
  · exact Rect.idx_unit_val _ _ _ _ _
  · exact (Rect.idx_unit_val _ _ _ _ _).trans (Nat.zero_add _)

/-- A load of the whole of stores whose contents are known. -/
theorem cov_whole {e : EltTy} (v : View sig .tc .vmem S512x1024 e) {L : List (View.Piece (Elt Ideal) S512x1024 e)}
    {f : Fin 512 → Fin 1024 → Elt Ideal e} (hL : ∀ i : S512x1024.Idx, View.canon L i = f (i 0) (i 1))
    (inb : ∀ a, (![0, 0] : Fin 2 → ℕ) a + S512x1024.size a ≤ S512x1024.size a) (p : Fin 512) (q : Fin 1024) :
    v.readCov L (Rect.unit (s := S512x1024) ![0, 0] (no_index S512x1024.size) inb).toLoadRect (ix2 p q) = f p q := by
  rw [View.readCov_eq_canon']
  refine (hL _).trans (congr (congrArg f (Fin.ext ?_)) (Fin.ext ?_))
  · exact (Rect.idx_unit_val _ _ _ _ _).trans (Nat.zero_add _)
  · exact (Rect.idx_unit_val _ _ _ _ _).trans (Nat.zero_add _)

/-- Where a stored slab sits. -/
theorem at_slab (f : Fin 512 → Fin 1024 → EReal) {w : S16x1024.Idx → EReal} (off : ℕ) (hoff : off + 16 ≤ 512)
    (hw : ∀ (p : Fin 16) (q : Fin 1024), w (ix2 p q) = f ⟨off + p.val, lt_of_lt_of_le (Nat.add_lt_add_left p.isLt off) hoff⟩ q)
    (y : S16x1024.Idx) {i : S512x1024.Idx} (h0 : (i 0).val = off + (y 0).val) (h1 : (i 1).val = (y 1).val) :
    w y = f (i 0) (i 1) := by
  have e0 : y = ix2 (y 0) (y 1) := funext fun a => match a with | ⟨0, _⟩ => rfl | ⟨1, _⟩ => rfl
  rw [e0]
  exact (hw _ _).trans (congr (congrArg f (Fin.ext h0.symm)) (Fin.ext h1.symm))

variable (c : Dev nD) (b : Bufs) (h : Whole b) (x : Ins Ideal)

theorem canon_ya (i : S512x1024.Idx) : View.canon (run.sl.HyaS_1 c b h x) i = (argsOf x).ya (i 0) (i 1) := by
  unfold run.sl.HyaS_1
  refine (congrFun (View.canon_cons_unit_lit' _ _ _ (by decide)) i).trans ?_
  obtain ⟨p, q, rfl⟩ := idx_eq i
  unfold_payloads
  pointwise
  simp only [read_S512x1024, read_S512x512, read_S1024x1024, read_S1x1024]
  rfl

theorem canon_yb (i : S512x1024.Idx) : View.canon (run.sl.HybS_1 c b h x) i = (argsOf x).yb (i 0) (i 1) := by
  unfold run.sl.HybS_1
  refine (congrFun (View.canon_cons_unit_lit' _ _ _ (by decide)) i).trans ?_
  obtain ⟨p, q, rfl⟩ := idx_eq i
  unfold_payloads
  pointwise
  simp only [read_S512x1024, read_S512x512, read_S1024x1024, read_S1x1024]
  rfl

theorem mrg_0 (p : Fin 16) (q : Fin 1024) :
    k0_pay6 (run.sl.r c b h x) (run.sl.r_1 c b h x) k0_pay5 (run.sl.v33 c b h x) (run.sl.v35 c b h x) (ix2 p q)
      = (argsOf x).mrg ⟨0 + p.val, by omega⟩ q := by
  unfold run.sl.r run.sl.r_1
  unfold_payloads
  pointwise
  simp only [run.sl.v33, run.sl.v35, read_slab, cov_slab _ (canon_ya c b h x), cov_slab _ (canon_yb c b h x), Nat.zero_add]
  rfl

theorem mrg_1 (p : Fin 16) (q : Fin 1024) :
    run.sl.r_2 c b h x (ix2 p q)
      = (argsOf x).mrg ⟨16 + p.val, by omega⟩ q := by
  unfold run.sl.r_2
  unfold_payloads
  pointwise
  simp only [run.sl.v60, run.sl.v62, read_slab, cov_slab _ (canon_ya c b h x), cov_slab _ (canon_yb c b h x), Nat.zero_add]
  rfl

theorem mrg_2 (p : Fin 16) (q : Fin 1024) :
    k0_pay8 (View.readAt (Elt Ideal) b.ga.view (Rect.unit (s := S512x1024) ![32, 0] S16x1024.size inb_S512x1024_S16x1024_32_0).toLoadRect (h.ga.unread x.ga)) (View.readAt (Elt Ideal) b.gb.view (Rect.unit (s := S512x1024) ![32, 0] S16x1024.size inb_S512x1024_S16x1024_32_0).toLoadRect (h.gb.unread x.gb)) (run.sl.v87 c b h x) (run.sl.v89 c b h x) (ix2 p q)
      = (argsOf x).mrg ⟨32 + p.val, by omega⟩ q := by
  unfold_payloads
  pointwise
  simp only [run.sl.v87, run.sl.v89, read_slab, cov_slab _ (canon_ya c b h x), cov_slab _ (canon_yb c b h x), Nat.zero_add]
  rfl

theorem mrg_3 (p : Fin 16) (q : Fin 1024) :
    k0_pay10 (run.sl.r_3 c b h x) (View.readAt (Elt Ideal) b.gb.view (Rect.unit (s := S512x1024) ![48, 0] S16x1024.size inb_S512x1024_S16x1024_48_0).toLoadRect (h.gb.unread x.gb)) (run.sl.v114 c b h x) (run.sl.v116 c b h x) (ix2 p q)
      = (argsOf x).mrg ⟨48 + p.val, by omega⟩ q := by
  unfold run.sl.r_3
  unfold_payloads
  pointwise
  simp only [run.sl.v114, run.sl.v116, read_slab, cov_slab _ (canon_ya c b h x), cov_slab _ (canon_yb c b h x), Nat.zero_add]
  rfl

theorem mrg_4 (p : Fin 16) (q : Fin 1024) :
    k0_pay13 (run.sl.r_4 c b h x) (run.sl.r_5 c b h x) (run.sl.v141 c b h x) (run.sl.v143 c b h x) (ix2 p q)
      = (argsOf x).mrg ⟨64 + p.val, by omega⟩ q := by
  unfold run.sl.r_4 run.sl.r_5
  unfold_payloads
  pointwise
  simp only [run.sl.v141, run.sl.v143, read_slab, cov_slab _ (canon_ya c b h x), cov_slab _ (canon_yb c b h x), Nat.zero_add]
  rfl

theorem mrg_5 (p : Fin 16) (q : Fin 1024) :
    k0_pay14 (View.readAt (Elt Ideal) b.ga.view (Rect.unit (s := S512x1024) ![80, 0] S16x1024.size inb_S512x1024_S16x1024_80_0).toLoadRect (h.ga.unread x.ga)) (View.readAt (Elt Ideal) b.gb.view (Rect.unit (s := S512x1024) ![80, 0] S16x1024.size inb_S512x1024_S16x1024_80_0).toLoadRect (h.gb.unread x.gb)) (run.sl.v168 c b h x) (run.sl.v170 c b h x) (ix2 p q)
      = (argsOf x).mrg ⟨80 + p.val, by omega⟩ q := by
  unfold_payloads
  pointwise
  simp only [run.sl.v168, run.sl.v170, read_slab, cov_slab _ (canon_ya c b h x), cov_slab _ (canon_yb c b h x), Nat.zero_add]
  rfl

theorem mrg_6 (p : Fin 16) (q : Fin 1024) :
    k0_pay15 (run.sl.r_6 c b h x) (View.readAt (Elt Ideal) b.gb.view (Rect.unit (s := S512x1024) ![96, 0] S16x1024.size inb_S512x1024_S16x1024_96_0).toLoadRect (h.gb.unread x.gb)) (run.sl.v195 c b h x) (run.sl.v197 c b h x) (ix2 p q)
      = (argsOf x).mrg ⟨96 + p.val, by omega⟩ q := by
  unfold run.sl.r_6
  unfold_payloads
  pointwise
  simp only [run.sl.v195, run.sl.v197, read_slab, cov_slab _ (canon_ya c b h x), cov_slab _ (canon_yb c b h x), Nat.zero_add]
  rfl

theorem mrg_7 (p : Fin 16) (q : Fin 1024) :
    k0_pay18 (run.sl.r_7 c b h x) (run.sl.r_8 c b h x) run.sl.cst_124 (run.sl.v222 c b h x) (run.sl.v224 c b h x) (ix2 p q)
      = (argsOf x).mrg ⟨112 + p.val, by omega⟩ q := by
  unfold run.sl.r_7 run.sl.r_8 run.sl.cst_124
  unfold_payloads
  pointwise
  simp only [run.sl.v222, run.sl.v224, read_slab, cov_slab _ (canon_ya c b h x), cov_slab _ (canon_yb c b h x), Nat.zero_add]
  rfl

theorem mrg_8 (p : Fin 16) (q : Fin 1024) :
    k0_pay21 (run.sl.r_9 c b h x) (run.sl.r_10 c b h x) (run.sl.v251 c b h x) (ix2 p q)
      = (argsOf x).mrg ⟨128 + p.val, by omega⟩ q := by
  unfold run.sl.r_9 run.sl.r_10
  unfold_payloads
  pointwise
  simp only [run.sl.v251, run.sl.v249, read_slab, cov_slab _ (canon_ya c b h x), cov_slab _ (canon_yb c b h x), Nat.zero_add]
  rfl

theorem mrg_9 (p : Fin 16) (q : Fin 1024) :
    k0_pay22 (View.readAt (Elt Ideal) b.ga.view (Rect.unit (s := S512x1024) ![144, 0] S16x1024.size inb_S512x1024_S16x1024_144_0).toLoadRect (h.ga.unread x.ga)) (View.readAt (Elt Ideal) b.gb.view (Rect.unit (s := S512x1024) ![144, 0] S16x1024.size inb_S512x1024_S16x1024_144_0).toLoadRect (h.gb.unread x.gb)) (run.sl.v276 c b h x) (run.sl.v278 c b h x) (ix2 p q)
      = (argsOf x).mrg ⟨144 + p.val, by omega⟩ q := by
  unfold_payloads
  pointwise
  simp only [run.sl.v276, run.sl.v278, read_slab, cov_slab _ (canon_ya c b h x), cov_slab _ (canon_yb c b h x), Nat.zero_add]
  rfl

theorem mrg_10 (p : Fin 16) (q : Fin 1024) :
    k0_pay24 (run.sl.r_11 c b h x) (View.readAt (Elt Ideal) b.gb.view (Rect.unit (s := S512x1024) ![160, 0] S16x1024.size inb_S512x1024_S16x1024_160_0).toLoadRect (h.gb.unread x.gb)) (run.sl.v303 c b h x) (run.sl.v305 c b h x) (ix2 p q)
      = (argsOf x).mrg ⟨160 + p.val, by omega⟩ q := by
  unfold run.sl.r_11
  unfold_payloads
  pointwise
  simp only [run.sl.v303, run.sl.v305, read_slab, cov_slab _ (canon_ya c b h x), cov_slab _ (canon_yb c b h x), Nat.zero_add]
  rfl

theorem mrg_11 (p : Fin 16) (q : Fin 1024) :
    k0_pay27 (run.sl.r_12 c b h x) (run.sl.r_13 c b h x) run.sl.cst_124 (run.sl.v330 c b h x) (run.sl.v332 c b h x) (ix2 p q)
      = (argsOf x).mrg ⟨176 + p.val, by omega⟩ q := by
  unfold run.sl.r_12 run.sl.r_13 run.sl.cst_124
  unfold_payloads
  pointwise
  simp only [run.sl.v330, run.sl.v332, read_slab, cov_slab _ (canon_ya c b h x), cov_slab _ (canon_yb c b h x), Nat.zero_add]
  rfl

theorem mrg_12 (p : Fin 16) (q : Fin 1024) :
    k0_pay29 (run.sl.r_14 c b h x) (ix2 p q)
      = (argsOf x).mrg ⟨192 + p.val, by omega⟩ q := by
  unfold run.sl.r_14
  unfold_payloads
  pointwise
  simp only [run.sl.v357, run.sl.v359, read_slab, cov_slab _ (canon_ya c b h x), cov_slab _ (canon_yb c b h x), Nat.zero_add]
  rfl

theorem mrg_13 (p : Fin 16) (q : Fin 1024) :
    k0_pay30 (View.readAt (Elt Ideal) b.ga.view (Rect.unit (s := S512x1024) ![208, 0] S16x1024.size inb_S512x1024_S16x1024_208_0).toLoadRect (h.ga.unread x.ga)) (View.readAt (Elt Ideal) b.gb.view (Rect.unit (s := S512x1024) ![208, 0] S16x1024.size inb_S512x1024_S16x1024_208_0).toLoadRect (h.gb.unread x.gb)) (run.sl.v384 c b h x) (run.sl.v386 c b h x) (ix2 p q)
      = (argsOf x).mrg ⟨208 + p.val, by omega⟩ q := by
  unfold_payloads
  pointwise
  simp only [run.sl.v384, run.sl.v386, read_slab, cov_slab _ (canon_ya c b h x), cov_slab _ (canon_yb c b h x), Nat.zero_add]
  rfl

theorem mrg_14 (p : Fin 16) (q : Fin 1024) :
    k0_pay32 (run.sl.r_15 c b h x) (View.readAt (Elt Ideal) b.gb.view (Rect.unit (s := S512x1024) ![224, 0] S16x1024.size inb_S512x1024_S16x1024_224_0).toLoadRect (h.gb.unread x.gb)) (run.sl.v411 c b h x) (run.sl.v413 c b h x) (ix2 p q)
      = (argsOf x).mrg ⟨224 + p.val, by omega⟩ q := by
  unfold run.sl.r_15
  unfold_payloads
  pointwise
  simp only [run.sl.v411, run.sl.v413, read_slab, cov_slab _ (canon_ya c b h x), cov_slab _ (canon_yb c b h x), Nat.zero_add]
  rfl

theorem mrg_15 (p : Fin 16) (q : Fin 1024) :
    k0_pay36 (run.sl.r_16 c b h x) (run.sl.r_17 c b h x) k0_pay35 (run.sl.v438 c b h x) (run.sl.v440 c b h x) (ix2 p q)
      = (argsOf x).mrg ⟨240 + p.val, by omega⟩ q := by
  unfold run.sl.r_16 run.sl.r_17
  unfold_payloads
  pointwise
  simp only [run.sl.v438, run.sl.v440, read_slab, cov_slab _ (canon_ya c b h x), cov_slab _ (canon_yb c b h x), Nat.zero_add]
  rfl

theorem mrg_16 (p : Fin 16) (q : Fin 1024) :
    run.sl.r_18 c b h x (ix2 p q)
      = (argsOf x).mrg ⟨256 + p.val, by omega⟩ q := by
  unfold run.sl.r_18
  unfold_payloads
  pointwise
  simp only [run.sl.v465, run.sl.v467, read_slab, cov_slab _ (canon_ya c b h x), cov_slab _ (canon_yb c b h x), Nat.zero_add]
  rfl

theorem mrg_17 (p : Fin 16) (q : Fin 1024) :
    k0_pay38 (View.readAt (Elt Ideal) b.ga.view (Rect.unit (s := S512x1024) ![272, 0] S16x1024.size inb_S512x1024_S16x1024_272_0).toLoadRect (h.ga.unread x.ga)) (View.readAt (Elt Ideal) b.gb.view (Rect.unit (s := S512x1024) ![272, 0] S16x1024.size inb_S512x1024_S16x1024_272_0).toLoadRect (h.gb.unread x.gb)) (run.sl.v492 c b h x) (run.sl.v494 c b h x) (ix2 p q)
      = (argsOf x).mrg ⟨272 + p.val, by omega⟩ q := by
  unfold_payloads
  pointwise
  simp only [run.sl.v492, run.sl.v494, read_slab, cov_slab _ (canon_ya c b h x), cov_slab _ (canon_yb c b h x), Nat.zero_add]
  rfl

theorem mrg_18 (p : Fin 16) (q : Fin 1024) :
    k0_pay40 (run.sl.r_19 c b h x) (View.readAt (Elt Ideal) b.gb.view (Rect.unit (s := S512x1024) ![288, 0] S16x1024.size inb_S512x1024_S16x1024_288_0).toLoadRect (h.gb.unread x.gb)) (run.sl.v519 c b h x) (run.sl.v521 c b h x) (ix2 p q)
      = (argsOf x).mrg ⟨288 + p.val, by omega⟩ q := by
  unfold run.sl.r_19
  unfold_payloads
  pointwise
  simp only [run.sl.v519, run.sl.v521, read_slab, cov_slab _ (canon_ya c b h x), cov_slab _ (canon_yb c b h x), Nat.zero_add]
  rfl

theorem mrg_19 (p : Fin 16) (q : Fin 1024) :
    k0_pay43 (run.sl.r_20 c b h x) (run.sl.r_21 c b h x) (run.sl.v546 c b h x) (run.sl.v548 c b h x) (ix2 p q)
      = (argsOf x).mrg ⟨304 + p.val, by omega⟩ q := by
  unfold run.sl.r_20 run.sl.r_21
  unfold_payloads
  pointwise
  simp only [run.sl.v546, run.sl.v548, read_slab, cov_slab _ (canon_ya c b h x), cov_slab _ (canon_yb c b h x), Nat.zero_add]
  rfl

theorem mrg_20 (p : Fin 16) (q : Fin 1024) :
    k0_pay44 (View.readAt (Elt Ideal) b.ga.view (Rect.unit (s := S512x1024) ![320, 0] S16x1024.size inb_S512x1024_S16x1024_320_0).toLoadRect (h.ga.unread x.ga)) (View.readAt (Elt Ideal) b.gb.view (Rect.unit (s := S512x1024) ![320, 0] S16x1024.size inb_S512x1024_S16x1024_320_0).toLoadRect (h.gb.unread x.gb)) (run.sl.v573 c b h x) (run.sl.v575 c b h x) (ix2 p q)
      = (argsOf x).mrg ⟨320 + p.val, by omega⟩ q := by
  unfold_payloads
  pointwise
  simp only [run.sl.v573, run.sl.v575, read_slab, cov_slab _ (canon_ya c b h x), cov_slab _ (canon_yb c b h x), Nat.zero_add]
  rfl

theorem mrg_21 (p : Fin 16) (q : Fin 1024) :
    k0_pay45 (run.sl.r_22 c b h x) (View.readAt (Elt Ideal) b.gb.view (Rect.unit (s := S512x1024) ![336, 0] S16x1024.size inb_S512x1024_S16x1024_336_0).toLoadRect (h.gb.unread x.gb)) (run.sl.v600 c b h x) (run.sl.v602 c b h x) (ix2 p q)
      = (argsOf x).mrg ⟨336 + p.val, by omega⟩ q := by
  unfold run.sl.r_22
  unfold_payloads
  pointwise
  simp only [run.sl.v600, run.sl.v602, read_slab, cov_slab _ (canon_ya c b h x), cov_slab _ (canon_yb c b h x), Nat.zero_add]
  rfl

theorem mrg_22 (p : Fin 16) (q : Fin 1024) :
    k0_pay48 (run.sl.r_23 c b h x) (run.sl.r_24 c b h x) run.sl.cst_124 (run.sl.v627 c b h x) (run.sl.v629 c b h x) (ix2 p q)
      = (argsOf x).mrg ⟨352 + p.val, by omega⟩ q := by
  unfold run.sl.r_23 run.sl.r_24 run.sl.cst_124
  unfold_payloads
  pointwise
  simp only [run.sl.v627, run.sl.v629, read_slab, cov_slab _ (canon_ya c b h x), cov_slab _ (canon_yb c b h x), Nat.zero_add]
  rfl

theorem mrg_23 (p : Fin 16) (q : Fin 1024) :
    k0_pay51 (run.sl.r_25 c b h x) (run.sl.r_26 c b h x) (run.sl.v656 c b h x) (ix2 p q)
      = (argsOf x).mrg ⟨368 + p.val, by omega⟩ q := by
  unfold run.sl.r_25 run.sl.r_26
  unfold_payloads
  pointwise
  simp only [run.sl.v656, run.sl.v654, read_slab, cov_slab _ (canon_ya c b h x), cov_slab _ (canon_yb c b h x), Nat.zero_add]
  rfl

theorem mrg_24 (p : Fin 16) (q : Fin 1024) :
    k0_pay52 (View.readAt (Elt Ideal) b.ga.view (Rect.unit (s := S512x1024) ![384, 0] S16x1024.size inb_S512x1024_S16x1024_384_0).toLoadRect (h.ga.unread x.ga)) (View.readAt (Elt Ideal) b.gb.view (Rect.unit (s := S512x1024) ![384, 0] S16x1024.size inb_S512x1024_S16x1024_384_0).toLoadRect (h.gb.unread x.gb)) (run.sl.v681 c b h x) (run.sl.v683 c b h x) (ix2 p q)
      = (argsOf x).mrg ⟨384 + p.val, by omega⟩ q := by
  unfold_payloads
  pointwise
  simp only [run.sl.v681, run.sl.v683, read_slab, cov_slab _ (canon_ya c b h x), cov_slab _ (canon_yb c b h x), Nat.zero_add]
  rfl

theorem mrg_25 (p : Fin 16) (q : Fin 1024) :
    k0_pay54 (run.sl.r_27 c b h x) (View.readAt (Elt Ideal) b.gb.view (Rect.unit (s := S512x1024) ![400, 0] S16x1024.size inb_S512x1024_S16x1024_400_0).toLoadRect (h.gb.unread x.gb)) (run.sl.v708 c b h x) (run.sl.v710 c b h x) (ix2 p q)
      = (argsOf x).mrg ⟨400 + p.val, by omega⟩ q := by
  unfold run.sl.r_27
  unfold_payloads
  pointwise
  simp only [run.sl.v708, run.sl.v710, read_slab, cov_slab _ (canon_ya c b h x), cov_slab _ (canon_yb c b h x), Nat.zero_add]
  rfl

theorem mrg_26 (p : Fin 16) (q : Fin 1024) :
    k0_pay57 (run.sl.r_28 c b h x) (run.sl.r_29 c b h x) run.sl.cst_124 (run.sl.v735 c b h x) (run.sl.v737 c b h x) (ix2 p q)
      = (argsOf x).mrg ⟨416 + p.val, by omega⟩ q := by
  unfold run.sl.r_28 run.sl.r_29 run.sl.cst_124
  unfold_payloads
  pointwise
  simp only [run.sl.v735, run.sl.v737, read_slab, cov_slab _ (canon_ya c b h x), cov_slab _ (canon_yb c b h x), Nat.zero_add]
  rfl

theorem mrg_27 (p : Fin 16) (q : Fin 1024) :
    k0_pay59 (run.sl.r_30 c b h x) (ix2 p q)
      = (argsOf x).mrg ⟨432 + p.val, by omega⟩ q := by
  unfold run.sl.r_30
  unfold_payloads
  pointwise
  simp only [run.sl.v762, run.sl.v764, read_slab, cov_slab _ (canon_ya c b h x), cov_slab _ (canon_yb c b h x), Nat.zero_add]
  rfl

theorem mrg_28 (p : Fin 16) (q : Fin 1024) :
    k0_pay60 (View.readAt (Elt Ideal) b.ga.view (Rect.unit (s := S512x1024) ![448, 0] S16x1024.size inb_S512x1024_S16x1024_448_0).toLoadRect (h.ga.unread x.ga)) (View.readAt (Elt Ideal) b.gb.view (Rect.unit (s := S512x1024) ![448, 0] S16x1024.size inb_S512x1024_S16x1024_448_0).toLoadRect (h.gb.unread x.gb)) (run.sl.v789 c b h x) (run.sl.v791 c b h x) (ix2 p q)
      = (argsOf x).mrg ⟨448 + p.val, by omega⟩ q := by
  unfold_payloads
  pointwise
  simp only [run.sl.v789, run.sl.v791, read_slab, cov_slab _ (canon_ya c b h x), cov_slab _ (canon_yb c b h x), Nat.zero_add]
  rfl

theorem mrg_29 (p : Fin 16) (q : Fin 1024) :
    k0_pay62 (run.sl.r_31 c b h x) (View.readAt (Elt Ideal) b.gb.view (Rect.unit (s := S512x1024) ![464, 0] S16x1024.size inb_S512x1024_S16x1024_464_0).toLoadRect (h.gb.unread x.gb)) (run.sl.v816 c b h x) (run.sl.v818 c b h x) (ix2 p q)
      = (argsOf x).mrg ⟨464 + p.val, by omega⟩ q := by
  unfold run.sl.r_31
  unfold_payloads
  pointwise
  simp only [run.sl.v816, run.sl.v818, read_slab, cov_slab _ (canon_ya c b h x), cov_slab _ (canon_yb c b h x), Nat.zero_add]
  rfl

theorem mrg_30 (p : Fin 16) (q : Fin 1024) :
    k0_pay66 (run.sl.r_32 c b h x) (run.sl.r_33 c b h x) k0_pay65 (run.sl.v843 c b h x) (run.sl.v845 c b h x) (ix2 p q)
      = (argsOf x).mrg ⟨480 + p.val, by omega⟩ q := by
  unfold run.sl.r_32 run.sl.r_33
  unfold_payloads
  pointwise
  simp only [run.sl.v843, run.sl.v845, read_slab, cov_slab _ (canon_ya c b h x), cov_slab _ (canon_yb c b h x), Nat.zero_add]
  rfl

theorem mrg_31 (p : Fin 16) (q : Fin 1024) :
    run.sl.r_34 c b h x (ix2 p q)
      = (argsOf x).mrg ⟨496 + p.val, by omega⟩ q := by
  unfold run.sl.r_34
  unfold_payloads
  pointwise
  simp only [run.sl.v870, run.sl.v872, read_slab, cov_slab _ (canon_ya c b h x), cov_slab _ (canon_yb c b h x), Nat.zero_add]
  rfl

theorem canon_mrg (i : S512x1024.Idx) : View.canon (run.sl.HmrgS_32 c b h x) i = (argsOf x).mrg (i 0) (i 1) := by
  unfold run.sl.HmrgS_32
  canon_tiles y hy
  · exact at_slab (argsOf x).mrg 496 (by decide) (mrg_31 c b h x) y hy0 hy1
  · exact at_slab (argsOf x).mrg 480 (by decide) (mrg_30 c b h x) y hy0 hy1
  · exact at_slab (argsOf x).mrg 464 (by decide) (mrg_29 c b h x) y hy0 hy1
  · exact at_slab (argsOf x).mrg 448 (by decide) (mrg_28 c b h x) y hy0 hy1
  · exact at_slab (argsOf x).mrg 432 (by decide) (mrg_27 c b h x) y hy0 hy1
  · exact at_slab (argsOf x).mrg 416 (by decide) (mrg_26 c b h x) y hy0 hy1
  · exact at_slab (argsOf x).mrg 400 (by decide) (mrg_25 c b h x) y hy0 hy1
  · exact at_slab (argsOf x).mrg 384 (by decide) (mrg_24 c b h x) y hy0 hy1
  · exact at_slab (argsOf x).mrg 368 (by decide) (mrg_23 c b h x) y hy0 hy1
  · exact at_slab (argsOf x).mrg 352 (by decide) (mrg_22 c b h x) y hy0 hy1
  · exact at_slab (argsOf x).mrg 336 (by decide) (mrg_21 c b h x) y hy0 hy1
  · exact at_slab (argsOf x).mrg 320 (by decide) (mrg_20 c b h x) y hy0 hy1
  · exact at_slab (argsOf x).mrg 304 (by decide) (mrg_19 c b h x) y hy0 hy1
  · exact at_slab (argsOf x).mrg 288 (by decide) (mrg_18 c b h x) y hy0 hy1
  · exact at_slab (argsOf x).mrg 272 (by decide) (mrg_17 c b h x) y hy0 hy1
  · exact at_slab (argsOf x).mrg 256 (by decide) (mrg_16 c b h x) y hy0 hy1
  · exact at_slab (argsOf x).mrg 240 (by decide) (mrg_15 c b h x) y hy0 hy1
  · exact at_slab (argsOf x).mrg 224 (by decide) (mrg_14 c b h x) y hy0 hy1
  · exact at_slab (argsOf x).mrg 208 (by decide) (mrg_13 c b h x) y hy0 hy1
  · exact at_slab (argsOf x).mrg 192 (by decide) (mrg_12 c b h x) y hy0 hy1
  · exact at_slab (argsOf x).mrg 176 (by decide) (mrg_11 c b h x) y hy0 hy1
  · exact at_slab (argsOf x).mrg 160 (by decide) (mrg_10 c b h x) y hy0 hy1
  · exact at_slab (argsOf x).mrg 144 (by decide) (mrg_9 c b h x) y hy0 hy1
  · exact at_slab (argsOf x).mrg 128 (by decide) (mrg_8 c b h x) y hy0 hy1
  · exact at_slab (argsOf x).mrg 112 (by decide) (mrg_7 c b h x) y hy0 hy1
  · exact at_slab (argsOf x).mrg 96 (by decide) (mrg_6 c b h x) y hy0 hy1
  · exact at_slab (argsOf x).mrg 80 (by decide) (mrg_5 c b h x) y hy0 hy1
  · exact at_slab (argsOf x).mrg 64 (by decide) (mrg_4 c b h x) y hy0 hy1
  · exact at_slab (argsOf x).mrg 48 (by decide) (mrg_3 c b h x) y hy0 hy1
  · exact at_slab (argsOf x).mrg 32 (by decide) (mrg_2 c b h x) y hy0 hy1
  · exact at_slab (argsOf x).mrg 16 (by decide) (mrg_1 c b h x) y hy0 hy1
  · exact at_slab (argsOf x).mrg 0 (by decide) (mrg_0 c b h x) y (hy0.trans (Nat.zero_add _).symm) hy1

theorem canon_out (i : S512x1024.Idx) : View.canon (run.sl.HoutS_1 c b h x) i = (argsOf x).out (i 0) (i 1) := by
  unfold run.sl.HoutS_1
  refine (congrFun (View.canon_cons_unit_lit' _ _ _ (by decide)) i).trans ?_
  obtain ⟨p, q, rfl⟩ := idx_eq i
  unfold_payloads
  pointwise
  simp only [read_S512x1024, read_S512x512, read_S1024x1024, read_S1x1024, run.sl.v880, cov_whole _ (canon_mrg c b h x)]
  rfl

end Cert.KernelIdeal.Merge

end
-- ==== Proof.MergeNorm.lean ====
/- What the body computes from the residual stream, slab by slab: the gradient of the stream, and the running sums of
   the squared errors and of the gain's gradient. -/

module

public import proofs.«01_k».proof.Proof.MergeMix
public import Idealize.ShloMosaic.Lib.Pipeline.ValueKit
public import Idealize.ShloMosaic.Lib.Pointwise

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- Sixteen rows folded into eight. -/
def fold (f : Fin 512 → EReal) (k : ℕ) (p : Fin 8) : EReal :=
  Sums.ext f (16 * k + p.val) + Sums.ext f (16 * k + (8 + p.val))

/-- The running sum of the folded slabs. -/
def part (f : Fin 512 → EReal) : ℕ → Fin 8 → EReal
  | 0, p => fold f 0 p
  | k + 1, p => part f k p + fold f (k + 1) p

theorem fold_eq (f : Fin 512 → EReal) (k off : ℕ) (e : 16 * k = off) (h : off + 16 ≤ 512) (p : Fin 8) :
    fold f k p = f ⟨off + p.val, by omega⟩ + f ⟨off + (8 + p.val), by omega⟩ := by
  subst e
  unfold fold
  rw [Sums.ext_of_lt, Sums.ext_of_lt]

theorem part_succ (f : Fin 512 → EReal) (k off : ℕ) (e : 16 * (k + 1) = off) (h : off + 16 ≤ 512) (p : Fin 8) :
    part f (k + 1) p = part f k p + (f ⟨off + p.val, by omega⟩ + f ⟨off + (8 + p.val), by omega⟩) := by
  rw [part, fold_eq f (k + 1) off e h]

variable (c : Dev nD) (b : Bufs) (h : Whole b) (x : Ins Ideal)

theorem dh_0 (p : Fin 16) (q : Fin 1024) :
    k0_pay78 (run.sl.r_35 c b h x) (run.sl.r_36 c b h x) (run.sl.r_37 c b h x) (run.sl.r_39 c b h x) (ix2 p q)
      = (argsOf x).dh ⟨0 + p.val, by omega⟩ q := by
  unfold run.sl.r_39 run.sl.r_37 run.sl.r_36 run.sl.r_35
  unfold_payloads
  pointwise
  simp only [run.sl.v892, read_slab, read_S1x1024, cov_slab _ (canon_out c b h x), Nat.zero_add]
  rfl

theorem dh_1 (p : Fin 16) (q : Fin 1024) :
    k0_pay87 (run.sl.r_42 c b h x) (run.sl.r_43 c b h x) (run.sl.r_46 c b h x) (run.sl.r_47 c b h x) (ix2 p q)
      = (argsOf x).dh ⟨16 + p.val, by omega⟩ q := by
  unfold run.sl.r_47 run.sl.r_46 run.sl.r_35 run.sl.r_43 run.sl.r_42
  unfold_payloads
  pointwise
  simp only [run.sl.v933, read_slab, read_S1x1024, cov_slab _ (canon_out c b h x), Nat.zero_add]
  rfl

theorem dh_2 (p : Fin 16) (q : Fin 1024) :
    k0_pay96 (run.sl.r_48 c b h x) (run.sl.r_49 c b h x) (run.sl.r_52 c b h x) (run.sl.r_53 c b h x) (ix2 p q)
      = (argsOf x).dh ⟨32 + p.val, by omega⟩ q := by
  unfold run.sl.r_53 run.sl.r_52 run.sl.r_35 run.sl.r_49 run.sl.r_48
  unfold_payloads
  pointwise
  simp only [run.sl.v974, read_slab, read_S1x1024, cov_slab _ (canon_out c b h x), Nat.zero_add]
  rfl

theorem dh_3 (p : Fin 16) (q : Fin 1024) :
    run.sl.r_56 c b h x (ix2 p q)
      = (argsOf x).dh ⟨48 + p.val, by omega⟩ q := by
  unfold run.sl.r_56 run.sl.r_35
  unfold_payloads
  pointwise
  simp only [run.sl.v1015, read_slab, read_S1x1024, cov_slab _ (canon_out c b h x), Nat.zero_add]
  rfl

theorem dh_4 (p : Fin 16) (q : Fin 1024) :
    k0_pay110 (run.sl.r_35 c b h x) (run.sl.v1056 c b h x) (View.readAt (Elt Ideal) b.tgt.view (Rect.unit (s := S512x1024) ![64, 0] S16x1024.size inb_S512x1024_S16x1024_64_0).toLoadRect (h.tgt.unread x.tgt)) (ix2 p q)
      = (argsOf x).dh ⟨64 + p.val, by omega⟩ q := by
  unfold run.sl.r_35
  unfold_payloads
  pointwise
  simp only [run.sl.v1056, read_slab, read_S1x1024, cov_slab _ (canon_out c b h x), Nat.zero_add]
  rfl

theorem dh_5 (p : Fin 16) (q : Fin 1024) :
    k0_pay117 (run.sl.r_35 c b h x) (run.sl.v1097 c b h x) (View.readAt (Elt Ideal) b.tgt.view (Rect.unit (s := S512x1024) ![80, 0] S16x1024.size inb_S512x1024_S16x1024_80_0).toLoadRect (h.tgt.unread x.tgt)) (ix2 p q)
      = (argsOf x).dh ⟨80 + p.val, by omega⟩ q := by
  unfold run.sl.r_35
  unfold_payloads
  pointwise
  simp only [run.sl.v1097, read_slab, read_S1x1024, cov_slab _ (canon_out c b h x), Nat.zero_add]
  rfl

theorem dh_6 (p : Fin 16) (q : Fin 1024) :
    k0_pay125 (run.sl.r_35 c b h x) (run.sl.v1138 c b h x) (run.sl.r_61 c b h x) run.sl.cst_581 (View.readAt (Elt Ideal) b.tgt.view (Rect.unit (s := S512x1024) ![96, 0] S16x1024.size inb_S512x1024_S16x1024_96_0).toLoadRect (h.tgt.unread x.tgt)) (ix2 p q)
      = (argsOf x).dh ⟨96 + p.val, by omega⟩ q := by
  unfold run.sl.cst_581 run.sl.r_61 run.sl.r_35
  unfold_payloads
  pointwise
  simp only [run.sl.v1138, read_slab, read_S1x1024, cov_slab _ (canon_out c b h x), Nat.zero_add]
  rfl

theorem dh_7 (p : Fin 16) (q : Fin 1024) :
    k0_pay132 (run.sl.r_35 c b h x) (run.sl.v1179 c b h x) (run.sl.r_64 c b h x) (View.readAt (Elt Ideal) b.tgt.view (Rect.unit (s := S512x1024) ![112, 0] S16x1024.size inb_S512x1024_S16x1024_112_0).toLoadRect (h.tgt.unread x.tgt)) (ix2 p q)
      = (argsOf x).dh ⟨112 + p.val, by omega⟩ q := by
  unfold run.sl.r_64 run.sl.r_35
  unfold_payloads
  pointwise
  simp only [run.sl.v1179, read_slab, read_S1x1024, cov_slab _ (canon_out c b h x), Nat.zero_add]
  rfl

theorem dh_8 (p : Fin 16) (q : Fin 1024) :
    k0_pay140 (run.sl.r_35 c b h x) (run.sl.r_67 c b h x) (run.sl.r_68 c b h x) (run.sl.r_69 c b h x) (View.readAt (Elt Ideal) b.tgt.view (Rect.unit (s := S512x1024) ![128, 0] S16x1024.size inb_S512x1024_S16x1024_128_0).toLoadRect (h.tgt.unread x.tgt)) (ix2 p q)
      = (argsOf x).dh ⟨128 + p.val, by omega⟩ q := by
  unfold run.sl.r_69 run.sl.r_68 run.sl.r_67 run.sl.r_35
  unfold_payloads
  pointwise
  simp only [run.sl.v1220, read_slab, read_S1x1024, cov_slab _ (canon_out c b h x), Nat.zero_add]
  rfl

theorem dh_9 (p : Fin 16) (q : Fin 1024) :
    k0_pay147 (run.sl.r_35 c b h x) (run.sl.r_72 c b h x) (run.sl.r_73 c b h x) (run.sl.r_74 c b h x) (ix2 p q)
      = (argsOf x).dh ⟨144 + p.val, by omega⟩ q := by
  unfold run.sl.r_74 run.sl.r_73 run.sl.r_72 run.sl.r_35
  unfold_payloads
  pointwise
  simp only [run.sl.v1261, read_slab, read_S1x1024, cov_slab _ (canon_out c b h x), Nat.zero_add]
  rfl

theorem dh_10 (p : Fin 16) (q : Fin 1024) :
    k0_pay155 (run.sl.r_35 c b h x) (run.sl.r_77 c b h x) (run.sl.r_78 c b h x) (run.sl.r_80 c b h x) (ix2 p q)
      = (argsOf x).dh ⟨160 + p.val, by omega⟩ q := by
  unfold run.sl.r_80 run.sl.r_78 run.sl.r_77 run.sl.r_35
  unfold_payloads
  pointwise
  simp only [run.sl.v1302, read_slab, read_S1x1024, cov_slab _ (canon_out c b h x), Nat.zero_add]
  rfl

theorem dh_11 (p : Fin 16) (q : Fin 1024) :
    k0_pay164 (run.sl.r_83 c b h x) (run.sl.r_84 c b h x) (run.sl.r_87 c b h x) (run.sl.r_88 c b h x) (ix2 p q)
      = (argsOf x).dh ⟨176 + p.val, by omega⟩ q := by
  unfold run.sl.r_88 run.sl.r_87 run.sl.r_35 run.sl.r_84 run.sl.r_83
  unfold_payloads
  pointwise
  simp only [run.sl.v1343, read_slab, read_S1x1024, cov_slab _ (canon_out c b h x), Nat.zero_add]
  rfl

theorem dh_12 (p : Fin 16) (q : Fin 1024) :
    k0_pay173 (run.sl.r_89 c b h x) (run.sl.r_90 c b h x) (run.sl.r_93 c b h x) (run.sl.r_94 c b h x) (ix2 p q)
      = (argsOf x).dh ⟨192 + p.val, by omega⟩ q := by
  unfold run.sl.r_94 run.sl.r_93 run.sl.r_35 run.sl.r_90 run.sl.r_89
  unfold_payloads
  pointwise
  simp only [run.sl.v1384, read_slab, read_S1x1024, cov_slab _ (canon_out c b h x), Nat.zero_add]
  rfl

theorem dh_13 (p : Fin 16) (q : Fin 1024) :
    run.sl.r_97 c b h x (ix2 p q)
      = (argsOf x).dh ⟨208 + p.val, by omega⟩ q := by
  unfold run.sl.r_97 run.sl.r_35
  unfold_payloads
  pointwise
  simp only [run.sl.v1425, read_slab, read_S1x1024, cov_slab _ (canon_out c b h x), Nat.zero_add]
  rfl

theorem dh_14 (p : Fin 16) (q : Fin 1024) :
    k0_pay187 (run.sl.r_35 c b h x) (run.sl.v1466 c b h x) (View.readAt (Elt Ideal) b.tgt.view (Rect.unit (s := S512x1024) ![224, 0] S16x1024.size inb_S512x1024_S16x1024_224_0).toLoadRect (h.tgt.unread x.tgt)) (ix2 p q)
      = (argsOf x).dh ⟨224 + p.val, by omega⟩ q := by
  unfold run.sl.r_35
  unfold_payloads
  pointwise
  simp only [run.sl.v1466, read_slab, read_S1x1024, cov_slab _ (canon_out c b h x), Nat.zero_add]
  rfl

theorem dh_15 (p : Fin 16) (q : Fin 1024) :
    k0_pay194 (run.sl.r_35 c b h x) (run.sl.v1507 c b h x) (View.readAt (Elt Ideal) b.tgt.view (Rect.unit (s := S512x1024) ![240, 0] S16x1024.size inb_S512x1024_S16x1024_240_0).toLoadRect (h.tgt.unread x.tgt)) (ix2 p q)
      = (argsOf x).dh ⟨240 + p.val, by omega⟩ q := by
  unfold run.sl.r_35
  unfold_payloads
  pointwise
  simp only [run.sl.v1507, read_slab, read_S1x1024, cov_slab _ (canon_out c b h x), Nat.zero_add]
  rfl

theorem dh_16 (p : Fin 16) (q : Fin 1024) :
    k0_pay202 (run.sl.r_35 c b h x) (run.sl.v1548 c b h x) (run.sl.r_102 c b h x) run.sl.cst_581 (View.readAt (Elt Ideal) b.tgt.view (Rect.unit (s := S512x1024) ![256, 0] S16x1024.size inb_S512x1024_S16x1024_256_0).toLoadRect (h.tgt.unread x.tgt)) (ix2 p q)
      = (argsOf x).dh ⟨256 + p.val, by omega⟩ q := by
  unfold run.sl.cst_581 run.sl.r_102 run.sl.r_35
  unfold_payloads
  pointwise
  simp only [run.sl.v1548, read_slab, read_S1x1024, cov_slab _ (canon_out c b h x), Nat.zero_add]
  rfl

theorem dh_17 (p : Fin 16) (q : Fin 1024) :
    k0_pay209 (run.sl.r_35 c b h x) (run.sl.v1589 c b h x) (run.sl.r_105 c b h x) (View.readAt (Elt Ideal) b.tgt.view (Rect.unit (s := S512x1024) ![272, 0] S16x1024.size inb_S512x1024_S16x1024_272_0).toLoadRect (h.tgt.unread x.tgt)) (ix2 p q)
      = (argsOf x).dh ⟨272 + p.val, by omega⟩ q := by
  unfold run.sl.r_105 run.sl.r_35
  unfold_payloads
  pointwise
  simp only [run.sl.v1589, read_slab, read_S1x1024, cov_slab _ (canon_out c b h x), Nat.zero_add]
  rfl

theorem dh_18 (p : Fin 16) (q : Fin 1024) :
    k0_pay217 (run.sl.r_35 c b h x) (run.sl.r_108 c b h x) (run.sl.r_109 c b h x) (run.sl.r_110 c b h x) (View.readAt (Elt Ideal) b.tgt.view (Rect.unit (s := S512x1024) ![288, 0] S16x1024.size inb_S512x1024_S16x1024_288_0).toLoadRect (h.tgt.unread x.tgt)) (ix2 p q)
      = (argsOf x).dh ⟨288 + p.val, by omega⟩ q := by
  unfold run.sl.r_110 run.sl.r_109 run.sl.r_108 run.sl.r_35
  unfold_payloads
  pointwise
  simp only [run.sl.v1630, read_slab, read_S1x1024, cov_slab _ (canon_out c b h x), Nat.zero_add]
  rfl

theorem dh_19 (p : Fin 16) (q : Fin 1024) :
    k0_pay224 (run.sl.r_35 c b h x) (run.sl.r_113 c b h x) (run.sl.r_114 c b h x) (run.sl.r_115 c b h x) (ix2 p q)
      = (argsOf x).dh ⟨304 + p.val, by omega⟩ q := by
  unfold run.sl.r_115 run.sl.r_114 run.sl.r_113 run.sl.r_35
  unfold_payloads
  pointwise
  simp only [run.sl.v1671, read_slab, read_S1x1024, cov_slab _ (canon_out c b h x), Nat.zero_add]
  rfl

theorem dh_20 (p : Fin 16) (q : Fin 1024) :
    k0_pay232 (run.sl.r_35 c b h x) (run.sl.r_118 c b h x) (run.sl.r_119 c b h x) (run.sl.r_121 c b h x) (ix2 p q)
      = (argsOf x).dh ⟨320 + p.val, by omega⟩ q := by
  unfold run.sl.r_121 run.sl.r_119 run.sl.r_118 run.sl.r_35
  unfold_payloads
  pointwise
  simp only [run.sl.v1712, read_slab, read_S1x1024, cov_slab _ (canon_out c b h x), Nat.zero_add]
  rfl

theorem dh_21 (p : Fin 16) (q : Fin 1024) :
    k0_pay241 (run.sl.r_124 c b h x) (run.sl.r_125 c b h x) (run.sl.r_128 c b h x) (run.sl.r_129 c b h x) (ix2 p q)
      = (argsOf x).dh ⟨336 + p.val, by omega⟩ q := by
  unfold run.sl.r_129 run.sl.r_128 run.sl.r_35 run.sl.r_125 run.sl.r_124
  unfold_payloads
  pointwise
  simp only [run.sl.v1753, read_slab, read_S1x1024, cov_slab _ (canon_out c b h x), Nat.zero_add]
  rfl

theorem dh_22 (p : Fin 16) (q : Fin 1024) :
    k0_pay250 (run.sl.r_130 c b h x) (run.sl.r_131 c b h x) (run.sl.r_134 c b h x) (run.sl.r_135 c b h x) (ix2 p q)
      = (argsOf x).dh ⟨352 + p.val, by omega⟩ q := by
  unfold run.sl.r_135 run.sl.r_134 run.sl.r_35 run.sl.r_131 run.sl.r_130
  unfold_payloads
  pointwise
  simp only [run.sl.v1794, read_slab, read_S1x1024, cov_slab _ (canon_out c b h x), Nat.zero_add]
  rfl

theorem dh_23 (p : Fin 16) (q : Fin 1024) :
    run.sl.r_138 c b h x (ix2 p q)
      = (argsOf x).dh ⟨368 + p.val, by omega⟩ q := by
  unfold run.sl.r_138 run.sl.r_35
  unfold_payloads
  pointwise
  simp only [run.sl.v1835, read_slab, read_S1x1024, cov_slab _ (canon_out c b h x), Nat.zero_add]
  rfl

theorem dh_24 (p : Fin 16) (q : Fin 1024) :
    k0_pay264 (run.sl.r_35 c b h x) (run.sl.v1876 c b h x) (View.readAt (Elt Ideal) b.tgt.view (Rect.unit (s := S512x1024) ![384, 0] S16x1024.size inb_S512x1024_S16x1024_384_0).toLoadRect (h.tgt.unread x.tgt)) (ix2 p q)
      = (argsOf x).dh ⟨384 + p.val, by omega⟩ q := by
  unfold run.sl.r_35
  unfold_payloads
  pointwise
  simp only [run.sl.v1876, read_slab, read_S1x1024, cov_slab _ (canon_out c b h x), Nat.zero_add]
  rfl

theorem dh_25 (p : Fin 16) (q : Fin 1024) :
    k0_pay271 (run.sl.r_35 c b h x) (run.sl.v1917 c b h x) (View.readAt (Elt Ideal) b.tgt.view (Rect.unit (s := S512x1024) ![400, 0] S16x1024.size inb_S512x1024_S16x1024_400_0).toLoadRect (h.tgt.unread x.tgt)) (ix2 p q)
      = (argsOf x).dh ⟨400 + p.val, by omega⟩ q := by
  unfold run.sl.r_35
  unfold_payloads
  pointwise
  simp only [run.sl.v1917, read_slab, read_S1x1024, cov_slab _ (canon_out c b h x), Nat.zero_add]
  rfl

theorem dh_26 (p : Fin 16) (q : Fin 1024) :
    k0_pay279 (run.sl.r_35 c b h x) (run.sl.v1958 c b h x) (run.sl.r_143 c b h x) run.sl.cst_581 (View.readAt (Elt Ideal) b.tgt.view (Rect.unit (s := S512x1024) ![416, 0] S16x1024.size inb_S512x1024_S16x1024_416_0).toLoadRect (h.tgt.unread x.tgt)) (ix2 p q)
      = (argsOf x).dh ⟨416 + p.val, by omega⟩ q := by
  unfold run.sl.cst_581 run.sl.r_143 run.sl.r_35
  unfold_payloads
  pointwise
  simp only [run.sl.v1958, read_slab, read_S1x1024, cov_slab _ (canon_out c b h x), Nat.zero_add]
  rfl

theorem dh_27 (p : Fin 16) (q : Fin 1024) :
    k0_pay286 (run.sl.r_35 c b h x) (run.sl.v1999 c b h x) (run.sl.r_146 c b h x) (View.readAt (Elt Ideal) b.tgt.view (Rect.unit (s := S512x1024) ![432, 0] S16x1024.size inb_S512x1024_S16x1024_432_0).toLoadRect (h.tgt.unread x.tgt)) (ix2 p q)
      = (argsOf x).dh ⟨432 + p.val, by omega⟩ q := by
  unfold run.sl.r_146 run.sl.r_35
  unfold_payloads
  pointwise
  simp only [run.sl.v1999, read_slab, read_S1x1024, cov_slab _ (canon_out c b h x), Nat.zero_add]
  rfl

theorem dh_28 (p : Fin 16) (q : Fin 1024) :
    k0_pay294 (run.sl.r_35 c b h x) (run.sl.r_149 c b h x) (run.sl.r_150 c b h x) (run.sl.r_151 c b h x) (View.readAt (Elt Ideal) b.tgt.view (Rect.unit (s := S512x1024) ![448, 0] S16x1024.size inb_S512x1024_S16x1024_448_0).toLoadRect (h.tgt.unread x.tgt)) (ix2 p q)
      = (argsOf x).dh ⟨448 + p.val, by omega⟩ q := by
  unfold run.sl.r_151 run.sl.r_150 run.sl.r_149 run.sl.r_35
  unfold_payloads
  pointwise
  simp only [run.sl.v2040, read_slab, read_S1x1024, cov_slab _ (canon_out c b h x), Nat.zero_add]
  rfl

theorem dh_29 (p : Fin 16) (q : Fin 1024) :
    k0_pay301 (run.sl.r_35 c b h x) (run.sl.r_154 c b h x) (run.sl.r_155 c b h x) (run.sl.r_156 c b h x) (ix2 p q)
      = (argsOf x).dh ⟨464 + p.val, by omega⟩ q := by
  unfold run.sl.r_156 run.sl.r_155 run.sl.r_154 run.sl.r_35
  unfold_payloads
  pointwise
  simp only [run.sl.v2081, read_slab, read_S1x1024, cov_slab _ (canon_out c b h x), Nat.zero_add]
  rfl

theorem dh_30 (p : Fin 16) (q : Fin 1024) :
    k0_pay309 (run.sl.r_35 c b h x) (run.sl.r_159 c b h x) (run.sl.r_160 c b h x) (run.sl.r_162 c b h x) (ix2 p q)
      = (argsOf x).dh ⟨480 + p.val, by omega⟩ q := by
  unfold run.sl.r_162 run.sl.r_160 run.sl.r_159 run.sl.r_35
  unfold_payloads
  pointwise
  simp only [run.sl.v2122, read_slab, read_S1x1024, cov_slab _ (canon_out c b h x), Nat.zero_add]
  rfl

theorem dh_31 (p : Fin 16) (q : Fin 1024) :
    k0_pay318 (run.sl.r_165 c b h x) (run.sl.r_166 c b h x) (run.sl.r_169 c b h x) (run.sl.r_170 c b h x) (ix2 p q)
      = (argsOf x).dh ⟨496 + p.val, by omega⟩ q := by
  unfold run.sl.r_170 run.sl.r_169 run.sl.r_35 run.sl.r_166 run.sl.r_165
  unfold_payloads
  pointwise
  simp only [run.sl.v2163, read_slab, read_S1x1024, cov_slab _ (canon_out c b h x), Nat.zero_add]
  rfl

theorem canon_dh (i : S512x1024.Idx) : View.canon (run.sl.Hdh_32 c b h x) i = (argsOf x).dh (i 0) (i 1) := by
  unfold run.sl.Hdh_32
  canon_tiles y hy
  · exact at_slab (argsOf x).dh 496 (by decide) (dh_31 c b h x) y hy0 hy1
  · exact at_slab (argsOf x).dh 480 (by decide) (dh_30 c b h x) y hy0 hy1
  · exact at_slab (argsOf x).dh 464 (by decide) (dh_29 c b h x) y hy0 hy1
  · exact at_slab (argsOf x).dh 448 (by decide) (dh_28 c b h x) y hy0 hy1
  · exact at_slab (argsOf x).dh 432 (by decide) (dh_27 c b h x) y hy0 hy1
  · exact at_slab (argsOf x).dh 416 (by decide) (dh_26 c b h x) y hy0 hy1
  · exact at_slab (argsOf x).dh 400 (by decide) (dh_25 c b h x) y hy0 hy1
  · exact at_slab (argsOf x).dh 384 (by decide) (dh_24 c b h x) y hy0 hy1
  · exact at_slab (argsOf x).dh 368 (by decide) (dh_23 c b h x) y hy0 hy1
  · exact at_slab (argsOf x).dh 352 (by decide) (dh_22 c b h x) y hy0 hy1
  · exact at_slab (argsOf x).dh 336 (by decide) (dh_21 c b h x) y hy0 hy1
  · exact at_slab (argsOf x).dh 320 (by decide) (dh_20 c b h x) y hy0 hy1
  · exact at_slab (argsOf x).dh 304 (by decide) (dh_19 c b h x) y hy0 hy1
  · exact at_slab (argsOf x).dh 288 (by decide) (dh_18 c b h x) y hy0 hy1
  · exact at_slab (argsOf x).dh 272 (by decide) (dh_17 c b h x) y hy0 hy1
  · exact at_slab (argsOf x).dh 256 (by decide) (dh_16 c b h x) y hy0 hy1
  · exact at_slab (argsOf x).dh 240 (by decide) (dh_15 c b h x) y hy0 hy1
  · exact at_slab (argsOf x).dh 224 (by decide) (dh_14 c b h x) y hy0 hy1
  · exact at_slab (argsOf x).dh 208 (by decide) (dh_13 c b h x) y hy0 hy1
  · exact at_slab (argsOf x).dh 192 (by decide) (dh_12 c b h x) y hy0 hy1
  · exact at_slab (argsOf x).dh 176 (by decide) (dh_11 c b h x) y hy0 hy1
  · exact at_slab (argsOf x).dh 160 (by decide) (dh_10 c b h x) y hy0 hy1
  · exact at_slab (argsOf x).dh 144 (by decide) (dh_9 c b h x) y hy0 hy1
  · exact at_slab (argsOf x).dh 128 (by decide) (dh_8 c b h x) y hy0 hy1
  · exact at_slab (argsOf x).dh 112 (by decide) (dh_7 c b h x) y hy0 hy1
  · exact at_slab (argsOf x).dh 96 (by decide) (dh_6 c b h x) y hy0 hy1
  · exact at_slab (argsOf x).dh 80 (by decide) (dh_5 c b h x) y hy0 hy1
  · exact at_slab (argsOf x).dh 64 (by decide) (dh_4 c b h x) y hy0 hy1
  · exact at_slab (argsOf x).dh 48 (by decide) (dh_3 c b h x) y hy0 hy1
  · exact at_slab (argsOf x).dh 32 (by decide) (dh_2 c b h x) y hy0 hy1
  · exact at_slab (argsOf x).dh 16 (by decide) (dh_1 c b h x) y hy0 hy1
  · exact at_slab (argsOf x).dh 0 (by decide) (dh_0 c b h x) y (hy0.trans (Nat.zero_add _).symm) hy1

theorem loss_0 (p : Fin 8) (q : Fin 1024) :
    run.sl.r_38 c b h x (ix2 p q) = part ((argsOf x).lossRow q) 0 p := by
  rw [part, fold_eq _ 0 0 rfl (by decide)]
  unfold run.sl.r_38
  unfold_payloads
  pointwise
  simp only [run.sl.v892, read_slab, read_S1x1024, cov_slab _ (canon_out c b h x), Nat.zero_add, Ideal.ofBits_zero, zero_add]
  rfl

theorem loss_1 (p : Fin 8) (q : Fin 1024) :
    run.sl.r_44 c b h x (ix2 p q) = part ((argsOf x).lossRow q) 1 p := by
  rw [part_succ _ 0 16 rfl (by decide)]
  unfold run.sl.r_44 run.sl.r_35
  unfold_payloads
  pointwise
  simp only [loss_0, run.sl.v933, read_slab, read_S1x1024, cov_slab _ (canon_out c b h x), Nat.zero_add]
  rfl

theorem loss_2 (p : Fin 8) (q : Fin 1024) :
    run.sl.r_50 c b h x (ix2 p q) = part ((argsOf x).lossRow q) 2 p := by
  rw [part_succ _ 1 32 rfl (by decide)]
  unfold run.sl.r_50 run.sl.r_35
  unfold_payloads
  pointwise
  simp only [loss_1, run.sl.v974, read_slab, read_S1x1024, cov_slab _ (canon_out c b h x), Nat.zero_add]
  rfl

theorem loss_3 (p : Fin 8) (q : Fin 1024) :
    run.sl.r_54 c b h x (ix2 p q) = part ((argsOf x).lossRow q) 3 p := by
  rw [part_succ _ 2 48 rfl (by decide)]
  unfold run.sl.r_54 run.sl.r_35
  unfold_payloads
  pointwise
  simp only [loss_2, run.sl.v1015, read_slab, read_S1x1024, cov_slab _ (canon_out c b h x), Nat.zero_add]
  rfl

theorem loss_4 (p : Fin 8) (q : Fin 1024) :
    run.sl.r_57 c b h x (ix2 p q) = part ((argsOf x).lossRow q) 4 p := by
  rw [part_succ _ 3 64 rfl (by decide)]
  unfold run.sl.r_57 run.sl.r_35
  unfold_payloads
  pointwise
  simp only [loss_3, run.sl.v1056, read_slab, read_S1x1024, cov_slab _ (canon_out c b h x), Nat.zero_add]
  rfl

theorem loss_5 (p : Fin 8) (q : Fin 1024) :
    run.sl.r_59 c b h x (ix2 p q) = part ((argsOf x).lossRow q) 5 p := by
  rw [part_succ _ 4 80 rfl (by decide)]
  unfold run.sl.r_59 run.sl.r_35
  unfold_payloads
  pointwise
  simp only [loss_4, run.sl.v1097, read_slab, read_S1x1024, cov_slab _ (canon_out c b h x), Nat.zero_add]
  rfl

theorem loss_6 (p : Fin 8) (q : Fin 1024) :
    run.sl.r_62 c b h x (ix2 p q) = part ((argsOf x).lossRow q) 6 p := by
  rw [part_succ _ 5 96 rfl (by decide)]
  unfold run.sl.r_62 run.sl.cst_581 run.sl.r_61 run.sl.r_35
  unfold_payloads
  pointwise
  simp only [loss_5, run.sl.v1138, read_slab, read_S1x1024, cov_slab _ (canon_out c b h x), Nat.zero_add]
  rfl

theorem loss_7 (p : Fin 8) (q : Fin 1024) :
    run.sl.r_65 c b h x (ix2 p q) = part ((argsOf x).lossRow q) 7 p := by
  rw [part_succ _ 6 112 rfl (by decide)]
  unfold run.sl.r_65 run.sl.r_64 run.sl.r_35
  unfold_payloads
  pointwise
  simp only [loss_6, run.sl.v1179, read_slab, read_S1x1024, cov_slab _ (canon_out c b h x), Nat.zero_add]
  rfl

theorem loss_8 (p : Fin 8) (q : Fin 1024) :
    run.sl.r_70 c b h x (ix2 p q) = part ((argsOf x).lossRow q) 8 p := by
  rw [part_succ _ 7 128 rfl (by decide)]
  unfold run.sl.r_70 run.sl.r_69 run.sl.r_35
  unfold_payloads
  pointwise
  simp only [loss_7, run.sl.v1220, read_slab, read_S1x1024, cov_slab _ (canon_out c b h x), Nat.zero_add]
  rfl

theorem loss_10 (p : Fin 8) (q : Fin 1024) :
    run.sl.r_79 c b h x (ix2 p q) = part ((argsOf x).lossRow q) 10 p := by
  rw [part_succ _ 9 160 rfl (by decide), part_succ _ 8 144 rfl (by decide)]
  unfold run.sl.r_79 run.sl.r_75 run.sl.r_35
  unfold_payloads
  pointwise
  simp only [loss_8, run.sl.v1302, run.sl.v1261, read_slab, read_S1x1024, cov_slab _ (canon_out c b h x), Nat.zero_add]
  rfl

theorem loss_11 (p : Fin 8) (q : Fin 1024) :
    run.sl.r_85 c b h x (ix2 p q) = part ((argsOf x).lossRow q) 11 p := by
  rw [part_succ _ 10 176 rfl (by decide)]
  unfold run.sl.r_85 run.sl.r_35
  unfold_payloads
  pointwise
  simp only [loss_10, run.sl.v1343, read_slab, read_S1x1024, cov_slab _ (canon_out c b h x), Nat.zero_add]
  rfl

theorem loss_12 (p : Fin 8) (q : Fin 1024) :
    run.sl.r_91 c b h x (ix2 p q) = part ((argsOf x).lossRow q) 12 p := by
  rw [part_succ _ 11 192 rfl (by decide)]
  unfold run.sl.r_91 run.sl.r_35
  unfold_payloads
  pointwise
  simp only [loss_11, run.sl.v1384, read_slab, read_S1x1024, cov_slab _ (canon_out c b h x), Nat.zero_add]
  rfl

theorem loss_13 (p : Fin 8) (q : Fin 1024) :
    run.sl.r_95 c b h x (ix2 p q) = part ((argsOf x).lossRow q) 13 p := by
  rw [part_succ _ 12 208 rfl (by decide)]
  unfold run.sl.r_95 run.sl.r_35
  unfold_payloads
  pointwise
  simp only [loss_12, run.sl.v1425, read_slab, read_S1x1024, cov_slab _ (canon_out c b h x), Nat.zero_add]
  rfl

theorem loss_14 (p : Fin 8) (q : Fin 1024) :
    run.sl.r_98 c b h x (ix2 p q) = part ((argsOf x).lossRow q) 14 p := by
  rw [part_succ _ 13 224 rfl (by decide)]
  unfold run.sl.r_98 run.sl.r_35
  unfold_payloads
  pointwise
  simp only [loss_13, run.sl.v1466, read_slab, read_S1x1024, cov_slab _ (canon_out c b h x), Nat.zero_add]
  rfl

theorem loss_15 (p : Fin 8) (q : Fin 1024) :
    run.sl.r_100 c b h x (ix2 p q) = part ((argsOf x).lossRow q) 15 p := by
  rw [part_succ _ 14 240 rfl (by decide)]
  unfold run.sl.r_100 run.sl.r_35
  unfold_payloads
  pointwise
  simp only [loss_14, run.sl.v1507, read_slab, read_S1x1024, cov_slab _ (canon_out c b h x), Nat.zero_add]
  rfl

theorem loss_16 (p : Fin 8) (q : Fin 1024) :
    run.sl.r_103 c b h x (ix2 p q) = part ((argsOf x).lossRow q) 16 p := by
  rw [part_succ _ 15 256 rfl (by decide)]
  unfold run.sl.r_103 run.sl.cst_581 run.sl.r_102 run.sl.r_35
  unfold_payloads
  pointwise
  simp only [loss_15, run.sl.v1548, read_slab, read_S1x1024, cov_slab _ (canon_out c b h x), Nat.zero_add]
  rfl

theorem loss_17 (p : Fin 8) (q : Fin 1024) :
    run.sl.r_106 c b h x (ix2 p q) = part ((argsOf x).lossRow q) 17 p := by
  rw [part_succ _ 16 272 rfl (by decide)]
  unfold run.sl.r_106 run.sl.r_105 run.sl.r_35
  unfold_payloads
  pointwise
  simp only [loss_16, run.sl.v1589, read_slab, read_S1x1024, cov_slab _ (canon_out c b h x), Nat.zero_add]
  rfl

theorem loss_18 (p : Fin 8) (q : Fin 1024) :
    run.sl.r_111 c b h x (ix2 p q) = part ((argsOf x).lossRow q) 18 p := by
  rw [part_succ _ 17 288 rfl (by decide)]
  unfold run.sl.r_111 run.sl.r_110 run.sl.r_35
  unfold_payloads
  pointwise
  simp only [loss_17, run.sl.v1630, read_slab, read_S1x1024, cov_slab _ (canon_out c b h x), Nat.zero_add]
  rfl

theorem loss_20 (p : Fin 8) (q : Fin 1024) :
    run.sl.r_120 c b h x (ix2 p q) = part ((argsOf x).lossRow q) 20 p := by
  rw [part_succ _ 19 320 rfl (by decide), part_succ _ 18 304 rfl (by decide)]
  unfold run.sl.r_120 run.sl.r_116 run.sl.r_35
  unfold_payloads
  pointwise
  simp only [loss_18, run.sl.v1712, run.sl.v1671, read_slab, read_S1x1024, cov_slab _ (canon_out c b h x), Nat.zero_add]
  rfl

theorem loss_21 (p : Fin 8) (q : Fin 1024) :
    run.sl.r_126 c b h x (ix2 p q) = part ((argsOf x).lossRow q) 21 p := by
  rw [part_succ _ 20 336 rfl (by decide)]
  unfold run.sl.r_126 run.sl.r_35
  unfold_payloads
  pointwise
  simp only [loss_20, run.sl.v1753, read_slab, read_S1x1024, cov_slab _ (canon_out c b h x), Nat.zero_add]
  rfl

theorem loss_22 (p : Fin 8) (q : Fin 1024) :
    run.sl.r_132 c b h x (ix2 p q) = part ((argsOf x).lossRow q) 22 p := by
  rw [part_succ _ 21 352 rfl (by decide)]
  unfold run.sl.r_132 run.sl.r_35
  unfold_payloads
  pointwise
  simp only [loss_21, run.sl.v1794, read_slab, read_S1x1024, cov_slab _ (canon_out c b h x), Nat.zero_add]
  rfl

theorem loss_23 (p : Fin 8) (q : Fin 1024) :
    run.sl.r_136 c b h x (ix2 p q) = part ((argsOf x).lossRow q) 23 p := by
  rw [part_succ _ 22 368 rfl (by decide)]
  unfold run.sl.r_136 run.sl.r_35
  unfold_payloads
  pointwise
  simp only [loss_22, run.sl.v1835, read_slab, read_S1x1024, cov_slab _ (canon_out c b h x), Nat.zero_add]
  rfl

theorem loss_24 (p : Fin 8) (q : Fin 1024) :
    run.sl.r_139 c b h x (ix2 p q) = part ((argsOf x).lossRow q) 24 p := by
  rw [part_succ _ 23 384 rfl (by decide)]
  unfold run.sl.r_139 run.sl.r_35
  unfold_payloads
  pointwise
  simp only [loss_23, run.sl.v1876, read_slab, read_S1x1024, cov_slab _ (canon_out c b h x), Nat.zero_add]
  rfl

theorem loss_25 (p : Fin 8) (q : Fin 1024) :
    run.sl.r_141 c b h x (ix2 p q) = part ((argsOf x).lossRow q) 25 p := by
  rw [part_succ _ 24 400 rfl (by decide)]
  unfold run.sl.r_141 run.sl.r_35
  unfold_payloads
  pointwise
  simp only [loss_24, run.sl.v1917, read_slab, read_S1x1024, cov_slab _ (canon_out c b h x), Nat.zero_add]
  rfl

theorem loss_26 (p : Fin 8) (q : Fin 1024) :
    run.sl.r_144 c b h x (ix2 p q) = part ((argsOf x).lossRow q) 26 p := by
  rw [part_succ _ 25 416 rfl (by decide)]
  unfold run.sl.r_144 run.sl.cst_581 run.sl.r_143 run.sl.r_35
  unfold_payloads
  pointwise
  simp only [loss_25, run.sl.v1958, read_slab, read_S1x1024, cov_slab _ (canon_out c b h x), Nat.zero_add]
  rfl

theorem loss_27 (p : Fin 8) (q : Fin 1024) :
    run.sl.r_147 c b h x (ix2 p q) = part ((argsOf x).lossRow q) 27 p := by
  rw [part_succ _ 26 432 rfl (by decide)]
  unfold run.sl.r_147 run.sl.r_146 run.sl.r_35
  unfold_payloads
  pointwise
  simp only [loss_26, run.sl.v1999, read_slab, read_S1x1024, cov_slab _ (canon_out c b h x), Nat.zero_add]
  rfl

theorem loss_28 (p : Fin 8) (q : Fin 1024) :
    run.sl.r_152 c b h x (ix2 p q) = part ((argsOf x).lossRow q) 28 p := by
  rw [part_succ _ 27 448 rfl (by decide)]
  unfold run.sl.r_152 run.sl.r_151 run.sl.r_35
  unfold_payloads
  pointwise
  simp only [loss_27, run.sl.v2040, read_slab, read_S1x1024, cov_slab _ (canon_out c b h x), Nat.zero_add]
  rfl

theorem loss_30 (p : Fin 8) (q : Fin 1024) :
    run.sl.r_161 c b h x (ix2 p q) = part ((argsOf x).lossRow q) 30 p := by
  rw [part_succ _ 29 480 rfl (by decide), part_succ _ 28 464 rfl (by decide)]
  unfold run.sl.r_161 run.sl.r_157 run.sl.r_35
  unfold_payloads
  pointwise
  simp only [loss_28, run.sl.v2122, run.sl.v2081, read_slab, read_S1x1024, cov_slab _ (canon_out c b h x), Nat.zero_add]
  rfl

theorem loss_31 (p : Fin 8) (q : Fin 1024) :
    run.sl.r_167 c b h x (ix2 p q) = part ((argsOf x).lossRow q) 31 p := by
  rw [part_succ _ 30 496 rfl (by decide)]
  unfold run.sl.r_167 run.sl.r_35
  unfold_payloads
  pointwise
  simp only [loss_30, run.sl.v2163, read_slab, read_S1x1024, cov_slab _ (canon_out c b h x), Nat.zero_add]
  rfl

theorem dgf_1 (p : Fin 8) (q : Fin 1024) :
    run.sl.r_45 c b h x (ix2 p q) = part ((argsOf x).dgfRow q) 1 p := by
  rw [part_succ _ 0 16 rfl (by decide), part, fold_eq _ 0 0 rfl (by decide)]
  unfold run.sl.r_45 run.sl.r_41 run.sl.r_40 run.sl.r_35
  unfold_payloads
  pointwise
  simp only [run.sl.v933, run.sl.v892, read_slab, read_S1x1024, cov_slab _ (canon_out c b h x), Nat.zero_add, Ideal.ofBits_zero, zero_add]
  rfl

theorem dgf_2 (p : Fin 8) (q : Fin 1024) :
    run.sl.r_51 c b h x (ix2 p q) = part ((argsOf x).dgfRow q) 2 p := by
  rw [part_succ _ 1 32 rfl (by decide)]
  unfold run.sl.r_51 run.sl.r_35
  unfold_payloads
  pointwise
  simp only [dgf_1, run.sl.v974, read_slab, read_S1x1024, cov_slab _ (canon_out c b h x), Nat.zero_add]
  rfl

theorem dgf_3 (p : Fin 8) (q : Fin 1024) :
    run.sl.r_55 c b h x (ix2 p q) = part ((argsOf x).dgfRow q) 3 p := by
  rw [part_succ _ 2 48 rfl (by decide)]
  unfold run.sl.r_55 run.sl.r_35
  unfold_payloads
  pointwise
  simp only [dgf_2, run.sl.v1015, read_slab, read_S1x1024, cov_slab _ (canon_out c b h x), Nat.zero_add]
  rfl

theorem dgf_4 (p : Fin 8) (q : Fin 1024) :
    run.sl.r_58 c b h x (ix2 p q) = part ((argsOf x).dgfRow q) 4 p := by
  rw [part_succ _ 3 64 rfl (by decide)]
  unfold run.sl.r_58 run.sl.r_35
  unfold_payloads
  pointwise
  simp only [dgf_3, run.sl.v1056, read_slab, read_S1x1024, cov_slab _ (canon_out c b h x), Nat.zero_add]
  rfl

theorem dgf_5 (p : Fin 8) (q : Fin 1024) :
    run.sl.r_60 c b h x (ix2 p q) = part ((argsOf x).dgfRow q) 5 p := by
  rw [part_succ _ 4 80 rfl (by decide)]
  unfold run.sl.r_60 run.sl.r_35
  unfold_payloads
  pointwise
  simp only [dgf_4, run.sl.v1097, read_slab, read_S1x1024, cov_slab _ (canon_out c b h x), Nat.zero_add]
  rfl

theorem dgf_6 (p : Fin 8) (q : Fin 1024) :
    run.sl.r_63 c b h x (ix2 p q) = part ((argsOf x).dgfRow q) 6 p := by
  rw [part_succ _ 5 96 rfl (by decide)]
  unfold run.sl.r_63 run.sl.cst_581 run.sl.r_61 run.sl.r_35
  unfold_payloads
  pointwise
  simp only [dgf_5, run.sl.v1138, read_slab, read_S1x1024, cov_slab _ (canon_out c b h x), Nat.zero_add]
  rfl

theorem dgf_7 (p : Fin 8) (q : Fin 1024) :
    run.sl.r_66 c b h x (ix2 p q) = part ((argsOf x).dgfRow q) 7 p := by
  rw [part_succ _ 6 112 rfl (by decide)]
  unfold run.sl.r_66 run.sl.r_64 run.sl.r_35
  unfold_payloads
  pointwise
  simp only [dgf_6, run.sl.v1179, read_slab, read_S1x1024, cov_slab _ (canon_out c b h x), Nat.zero_add]
  rfl

theorem dgf_8 (p : Fin 8) (q : Fin 1024) :
    run.sl.r_71 c b h x (ix2 p q) = part ((argsOf x).dgfRow q) 8 p := by
  rw [part_succ _ 7 128 rfl (by decide)]
  unfold run.sl.r_71 run.sl.r_69 run.sl.r_35 run.sl.r_68
  unfold_payloads
  pointwise
  simp only [dgf_7, run.sl.v1220, read_slab, read_S1x1024, cov_slab _ (canon_out c b h x), Nat.zero_add]
  rfl

theorem dgf_9 (p : Fin 8) (q : Fin 1024) :
    run.sl.r_76 c b h x (ix2 p q) = part ((argsOf x).dgfRow q) 9 p := by
  rw [part_succ _ 8 144 rfl (by decide)]
  unfold run.sl.r_76 run.sl.r_74 run.sl.r_35 run.sl.r_73
  unfold_payloads
  pointwise
  simp only [dgf_8, run.sl.v1261, read_slab, read_S1x1024, cov_slab _ (canon_out c b h x), Nat.zero_add]
  rfl

theorem dgf_11 (p : Fin 8) (q : Fin 1024) :
    run.sl.r_86 c b h x (ix2 p q) = part ((argsOf x).dgfRow q) 11 p := by
  rw [part_succ _ 10 176 rfl (by decide), part_succ _ 9 160 rfl (by decide)]
  unfold run.sl.r_86 run.sl.r_82 run.sl.r_81 run.sl.r_35
  unfold_payloads
  pointwise
  simp only [dgf_9, run.sl.v1343, run.sl.v1302, read_slab, read_S1x1024, cov_slab _ (canon_out c b h x), Nat.zero_add]
  rfl

theorem dgf_12 (p : Fin 8) (q : Fin 1024) :
    run.sl.r_92 c b h x (ix2 p q) = part ((argsOf x).dgfRow q) 12 p := by
  rw [part_succ _ 11 192 rfl (by decide)]
  unfold run.sl.r_92 run.sl.r_35
  unfold_payloads
  pointwise
  simp only [dgf_11, run.sl.v1384, read_slab, read_S1x1024, cov_slab _ (canon_out c b h x), Nat.zero_add]
  rfl

theorem dgf_13 (p : Fin 8) (q : Fin 1024) :
    run.sl.r_96 c b h x (ix2 p q) = part ((argsOf x).dgfRow q) 13 p := by
  rw [part_succ _ 12 208 rfl (by decide)]
  unfold run.sl.r_96 run.sl.r_35
  unfold_payloads
  pointwise
  simp only [dgf_12, run.sl.v1425, read_slab, read_S1x1024, cov_slab _ (canon_out c b h x), Nat.zero_add]
  rfl

theorem dgf_14 (p : Fin 8) (q : Fin 1024) :
    run.sl.r_99 c b h x (ix2 p q) = part ((argsOf x).dgfRow q) 14 p := by
  rw [part_succ _ 13 224 rfl (by decide)]
  unfold run.sl.r_99 run.sl.r_35
  unfold_payloads
  pointwise
  simp only [dgf_13, run.sl.v1466, read_slab, read_S1x1024, cov_slab _ (canon_out c b h x), Nat.zero_add]
  rfl

theorem dgf_15 (p : Fin 8) (q : Fin 1024) :
    run.sl.r_101 c b h x (ix2 p q) = part ((argsOf x).dgfRow q) 15 p := by
  rw [part_succ _ 14 240 rfl (by decide)]
  unfold run.sl.r_101 run.sl.r_35
  unfold_payloads
  pointwise
  simp only [dgf_14, run.sl.v1507, read_slab, read_S1x1024, cov_slab _ (canon_out c b h x), Nat.zero_add]
  rfl

theorem dgf_16 (p : Fin 8) (q : Fin 1024) :
    run.sl.r_104 c b h x (ix2 p q) = part ((argsOf x).dgfRow q) 16 p := by
  rw [part_succ _ 15 256 rfl (by decide)]
  unfold run.sl.r_104 run.sl.cst_581 run.sl.r_102 run.sl.r_35
  unfold_payloads
  pointwise
  simp only [dgf_15, run.sl.v1548, read_slab, read_S1x1024, cov_slab _ (canon_out c b h x), Nat.zero_add]
  rfl

theorem dgf_17 (p : Fin 8) (q : Fin 1024) :
    run.sl.r_107 c b h x (ix2 p q) = part ((argsOf x).dgfRow q) 17 p := by
  rw [part_succ _ 16 272 rfl (by decide)]
  unfold run.sl.r_107 run.sl.r_105 run.sl.r_35
  unfold_payloads
  pointwise
  simp only [dgf_16, run.sl.v1589, read_slab, read_S1x1024, cov_slab _ (canon_out c b h x), Nat.zero_add]
  rfl

theorem dgf_18 (p : Fin 8) (q : Fin 1024) :
    run.sl.r_112 c b h x (ix2 p q) = part ((argsOf x).dgfRow q) 18 p := by
  rw [part_succ _ 17 288 rfl (by decide)]
  unfold run.sl.r_112 run.sl.r_110 run.sl.r_35 run.sl.r_109
  unfold_payloads
  pointwise
  simp only [dgf_17, run.sl.v1630, read_slab, read_S1x1024, cov_slab _ (canon_out c b h x), Nat.zero_add]
  rfl

theorem dgf_19 (p : Fin 8) (q : Fin 1024) :
    run.sl.r_117 c b h x (ix2 p q) = part ((argsOf x).dgfRow q) 19 p := by
  rw [part_succ _ 18 304 rfl (by decide)]
  unfold run.sl.r_117 run.sl.r_115 run.sl.r_35 run.sl.r_114
  unfold_payloads
  pointwise
  simp only [dgf_18, run.sl.v1671, read_slab, read_S1x1024, cov_slab _ (canon_out c b h x), Nat.zero_add]
  rfl

theorem dgf_21 (p : Fin 8) (q : Fin 1024) :
    run.sl.r_127 c b h x (ix2 p q) = part ((argsOf x).dgfRow q) 21 p := by
  rw [part_succ _ 20 336 rfl (by decide), part_succ _ 19 320 rfl (by decide)]
  unfold run.sl.r_127 run.sl.r_123 run.sl.r_122 run.sl.r_35
  unfold_payloads
  pointwise
  simp only [dgf_19, run.sl.v1753, run.sl.v1712, read_slab, read_S1x1024, cov_slab _ (canon_out c b h x), Nat.zero_add]
  rfl

theorem dgf_22 (p : Fin 8) (q : Fin 1024) :
    run.sl.r_133 c b h x (ix2 p q) = part ((argsOf x).dgfRow q) 22 p := by
  rw [part_succ _ 21 352 rfl (by decide)]
  unfold run.sl.r_133 run.sl.r_35
  unfold_payloads
  pointwise
  simp only [dgf_21, run.sl.v1794, read_slab, read_S1x1024, cov_slab _ (canon_out c b h x), Nat.zero_add]
  rfl

theorem dgf_23 (p : Fin 8) (q : Fin 1024) :
    run.sl.r_137 c b h x (ix2 p q) = part ((argsOf x).dgfRow q) 23 p := by
  rw [part_succ _ 22 368 rfl (by decide)]
  unfold run.sl.r_137 run.sl.r_35
  unfold_payloads
  pointwise
  simp only [dgf_22, run.sl.v1835, read_slab, read_S1x1024, cov_slab _ (canon_out c b h x), Nat.zero_add]
  rfl

theorem dgf_24 (p : Fin 8) (q : Fin 1024) :
    run.sl.r_140 c b h x (ix2 p q) = part ((argsOf x).dgfRow q) 24 p := by
  rw [part_succ _ 23 384 rfl (by decide)]
  unfold run.sl.r_140 run.sl.r_35
  unfold_payloads
  pointwise
  simp only [dgf_23, run.sl.v1876, read_slab, read_S1x1024, cov_slab _ (canon_out c b h x), Nat.zero_add]
  rfl

theorem dgf_25 (p : Fin 8) (q : Fin 1024) :
    run.sl.r_142 c b h x (ix2 p q) = part ((argsOf x).dgfRow q) 25 p := by
  rw [part_succ _ 24 400 rfl (by decide)]
  unfold run.sl.r_142 run.sl.r_35
  unfold_payloads
  pointwise
  simp only [dgf_24, run.sl.v1917, read_slab, read_S1x1024, cov_slab _ (canon_out c b h x), Nat.zero_add]
  rfl

theorem dgf_26 (p : Fin 8) (q : Fin 1024) :
    run.sl.r_145 c b h x (ix2 p q) = part ((argsOf x).dgfRow q) 26 p := by
  rw [part_succ _ 25 416 rfl (by decide)]
  unfold run.sl.r_145 run.sl.cst_581 run.sl.r_143 run.sl.r_35
  unfold_payloads
  pointwise
  simp only [dgf_25, run.sl.v1958, read_slab, read_S1x1024, cov_slab _ (canon_out c b h x), Nat.zero_add]
  rfl

theorem dgf_27 (p : Fin 8) (q : Fin 1024) :
    run.sl.r_148 c b h x (ix2 p q) = part ((argsOf x).dgfRow q) 27 p := by
  rw [part_succ _ 26 432 rfl (by decide)]
  unfold run.sl.r_148 run.sl.r_146 run.sl.r_35
  unfold_payloads
  pointwise
  simp only [dgf_26, run.sl.v1999, read_slab, read_S1x1024, cov_slab _ (canon_out c b h x), Nat.zero_add]
  rfl

theorem dgf_28 (p : Fin 8) (q : Fin 1024) :
    run.sl.r_153 c b h x (ix2 p q) = part ((argsOf x).dgfRow q) 28 p := by
  rw [part_succ _ 27 448 rfl (by decide)]
  unfold run.sl.r_153 run.sl.r_151 run.sl.r_35 run.sl.r_150
  unfold_payloads
  pointwise
  simp only [dgf_27, run.sl.v2040, read_slab, read_S1x1024, cov_slab _ (canon_out c b h x), Nat.zero_add]
  rfl

theorem dgf_29 (p : Fin 8) (q : Fin 1024) :
    run.sl.r_158 c b h x (ix2 p q) = part ((argsOf x).dgfRow q) 29 p := by
  rw [part_succ _ 28 464 rfl (by decide)]
  unfold run.sl.r_158 run.sl.r_156 run.sl.r_35 run.sl.r_155
  unfold_payloads
  pointwise
  simp only [dgf_28, run.sl.v2081, read_slab, read_S1x1024, cov_slab _ (canon_out c b h x), Nat.zero_add]
  rfl

theorem dgf_31 (p : Fin 8) (q : Fin 1024) :
    run.sl.r_168 c b h x (ix2 p q) = part ((argsOf x).dgfRow q) 31 p := by
  rw [part_succ _ 30 496 rfl (by decide), part_succ _ 29 480 rfl (by decide)]
  unfold run.sl.r_168 run.sl.r_164 run.sl.r_163 run.sl.r_35
  unfold_payloads
  pointwise
  simp only [dgf_29, run.sl.v2163, run.sl.v2122, read_slab, read_S1x1024, cov_slab _ (canon_out c b h x), Nat.zero_add]
  rfl

end Cert.KernelIdeal.Merge

end
-- ==== Proof.MergeBack.lean ====
/- The backward half of the body: the cotangent of the gated sum and, slab by slab, those of the projections and of the
   gates' arguments. -/

module

public import proofs.«01_k».proof.Proof.MergeNorm
public import Idealize.ShloMosaic.Lib.Pipeline.ValueKit
public import Idealize.ShloMosaic.Lib.Pointwise

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (c : Dev nD) (b : Bufs) (h : Whole b) (x : Ins Ideal)

theorem canon_dmer (i : S512x1024.Idx) : View.canon (run.sl.HdmerS_1 c b h x) i = (argsOf x).dmer (i 0) (i 1) := by
  unfold run.sl.HdmerS_1
  refine (congrFun (View.canon_cons_unit_lit' _ _ _ (by decide)) i).trans ?_
  obtain ⟨p, q, rfl⟩ := idx_eq i
  unfold run.sl.r_171
  unfold_payloads
  pointwise
  simp only [read_S512x1024, read_S512x512, read_S1024x1024, read_S1x1024, run.sl.v2222, cov_whole _ (canon_dh c b h x)]
  rfl

theorem dya_0 (p : Fin 16) (q : Fin 1024) :
    k0_pay329 (run.sl.r_176 c b h x) (ix2 p q)
      = (argsOf x).dya ⟨0 + p.val, by omega⟩ q := by
  unfold run.sl.r_176
  unfold_payloads
  pointwise
  simp only [run.sl.v2258, read_slab, cov_slab _ (canon_dmer c b h x), cov_slab _ (canon_ya c b h x), cov_slab _ (canon_yb c b h x), Nat.zero_add]
  rfl

theorem dya_1 (p : Fin 16) (q : Fin 1024) :
    k0_pay338 (run.sl.r_177 c b h x) (run.sl.v2301 c b h x) (ix2 p q)
      = (argsOf x).dya ⟨16 + p.val, by omega⟩ q := by
  unfold run.sl.r_177
  unfold_payloads
  pointwise
  simp only [run.sl.v2301, read_slab, cov_slab _ (canon_dmer c b h x), cov_slab _ (canon_ya c b h x), cov_slab _ (canon_yb c b h x), Nat.zero_add]
  rfl

theorem dya_2 (p : Fin 16) (q : Fin 1024) :
    k0_pay347 (run.sl.r_179 c b h x) (run.sl.v2344 c b h x) (ix2 p q)
      = (argsOf x).dya ⟨32 + p.val, by omega⟩ q := by
  unfold run.sl.r_179
  unfold_payloads
  pointwise
  simp only [run.sl.v2344, read_slab, cov_slab _ (canon_dmer c b h x), cov_slab _ (canon_ya c b h x), cov_slab _ (canon_yb c b h x), Nat.zero_add]
  rfl

theorem dya_3 (p : Fin 16) (q : Fin 1024) :
    k0_pay356 (View.readAt (Elt Ideal) b.ga.view (Rect.unit (s := S512x1024) ![48, 0] S16x1024.size inb_S512x1024_S16x1024_48_0).toLoadRect (h.ga.unread x.ga)) (run.sl.v2387 c b h x) (ix2 p q)
      = (argsOf x).dya ⟨48 + p.val, by omega⟩ q := by
  unfold_payloads
  pointwise
  simp only [run.sl.v2387, read_slab, cov_slab _ (canon_dmer c b h x), cov_slab _ (canon_ya c b h x), cov_slab _ (canon_yb c b h x), Nat.zero_add]
  rfl

theorem dya_4 (p : Fin 16) (q : Fin 1024) :
    k0_pay365 (View.readAt (Elt Ideal) b.ga.view (Rect.unit (s := S512x1024) ![64, 0] S16x1024.size inb_S512x1024_S16x1024_64_0).toLoadRect (h.ga.unread x.ga)) (run.sl.v2430 c b h x) (ix2 p q)
      = (argsOf x).dya ⟨64 + p.val, by omega⟩ q := by
  unfold_payloads
  pointwise
  simp only [run.sl.v2430, read_slab, cov_slab _ (canon_dmer c b h x), cov_slab _ (canon_ya c b h x), cov_slab _ (canon_yb c b h x), Nat.zero_add]
  rfl

theorem dya_5 (p : Fin 16) (q : Fin 1024) :
    k0_pay374 (run.sl.r_189 c b h x) (run.sl.v2473 c b h x) (ix2 p q)
      = (argsOf x).dya ⟨80 + p.val, by omega⟩ q := by
  unfold run.sl.r_189
  unfold_payloads
  pointwise
  simp only [run.sl.v2473, read_slab, cov_slab _ (canon_dmer c b h x), cov_slab _ (canon_ya c b h x), cov_slab _ (canon_yb c b h x), Nat.zero_add]
  rfl

theorem dya_6 (p : Fin 16) (q : Fin 1024) :
    k0_pay382 (run.sl.r_191 c b h x) (run.sl.v2516 c b h x) (ix2 p q)
      = (argsOf x).dya ⟨96 + p.val, by omega⟩ q := by
  unfold run.sl.r_191
  unfold_payloads
  pointwise
  simp only [run.sl.v2516, read_slab, cov_slab _ (canon_dmer c b h x), cov_slab _ (canon_ya c b h x), cov_slab _ (canon_yb c b h x), Nat.zero_add]
  rfl

theorem dya_7 (p : Fin 16) (q : Fin 1024) :
    k0_pay390 (run.sl.r_192 c b h x) (run.sl.v2559 c b h x) (ix2 p q)
      = (argsOf x).dya ⟨112 + p.val, by omega⟩ q := by
  unfold run.sl.r_192
  unfold_payloads
  pointwise
  simp only [run.sl.v2559, read_slab, cov_slab _ (canon_dmer c b h x), cov_slab _ (canon_ya c b h x), cov_slab _ (canon_yb c b h x), Nat.zero_add]
  rfl

theorem dya_8 (p : Fin 16) (q : Fin 1024) :
    k0_pay398 (View.readAt (Elt Ideal) b.ga.view (Rect.unit (s := S512x1024) ![128, 0] S16x1024.size inb_S512x1024_S16x1024_128_0).toLoadRect (h.ga.unread x.ga)) (run.sl.v2602 c b h x) (ix2 p q)
      = (argsOf x).dya ⟨128 + p.val, by omega⟩ q := by
  unfold_payloads
  pointwise
  simp only [run.sl.v2602, read_slab, cov_slab _ (canon_dmer c b h x), cov_slab _ (canon_ya c b h x), cov_slab _ (canon_yb c b h x), Nat.zero_add]
  rfl

theorem dya_9 (p : Fin 16) (q : Fin 1024) :
    k0_pay407 (run.sl.r_203 c b h x) (ix2 p q)
      = (argsOf x).dya ⟨144 + p.val, by omega⟩ q := by
  unfold run.sl.r_203
  unfold_payloads
  pointwise
  simp only [run.sl.v2645, read_slab, cov_slab _ (canon_dmer c b h x), cov_slab _ (canon_ya c b h x), cov_slab _ (canon_yb c b h x), Nat.zero_add]
  rfl

theorem dya_10 (p : Fin 16) (q : Fin 1024) :
    k0_pay417 (run.sl.r_204 c b h x) (run.sl.v2688 c b h x) (ix2 p q)
      = (argsOf x).dya ⟨160 + p.val, by omega⟩ q := by
  unfold run.sl.r_204
  unfold_payloads
  pointwise
  simp only [run.sl.v2688, read_slab, cov_slab _ (canon_dmer c b h x), cov_slab _ (canon_ya c b h x), cov_slab _ (canon_yb c b h x), Nat.zero_add]
  rfl

theorem dya_11 (p : Fin 16) (q : Fin 1024) :
    k0_pay426 (run.sl.r_206 c b h x) (run.sl.v2731 c b h x) (ix2 p q)
      = (argsOf x).dya ⟨176 + p.val, by omega⟩ q := by
  unfold run.sl.r_206
  unfold_payloads
  pointwise
  simp only [run.sl.v2731, read_slab, cov_slab _ (canon_dmer c b h x), cov_slab _ (canon_ya c b h x), cov_slab _ (canon_yb c b h x), Nat.zero_add]
  rfl

theorem dya_12 (p : Fin 16) (q : Fin 1024) :
    k0_pay434 (View.readAt (Elt Ideal) b.ga.view (Rect.unit (s := S512x1024) ![192, 0] S16x1024.size inb_S512x1024_S16x1024_192_0).toLoadRect (h.ga.unread x.ga)) (run.sl.v2774 c b h x) (ix2 p q)
      = (argsOf x).dya ⟨192 + p.val, by omega⟩ q := by
  unfold_payloads
  pointwise
  simp only [run.sl.v2774, read_slab, cov_slab _ (canon_dmer c b h x), cov_slab _ (canon_ya c b h x), cov_slab _ (canon_yb c b h x), Nat.zero_add]
  rfl

theorem dya_13 (p : Fin 16) (q : Fin 1024) :
    k0_pay442 (View.readAt (Elt Ideal) b.ga.view (Rect.unit (s := S512x1024) ![208, 0] S16x1024.size inb_S512x1024_S16x1024_208_0).toLoadRect (h.ga.unread x.ga)) (run.sl.v2817 c b h x) (ix2 p q)
      = (argsOf x).dya ⟨208 + p.val, by omega⟩ q := by
  unfold_payloads
  pointwise
  simp only [run.sl.v2817, read_slab, cov_slab _ (canon_dmer c b h x), cov_slab _ (canon_ya c b h x), cov_slab _ (canon_yb c b h x), Nat.zero_add]
  rfl

theorem dya_14 (p : Fin 16) (q : Fin 1024) :
    k0_pay451 (run.sl.r_218 c b h x) (ix2 p q)
      = (argsOf x).dya ⟨224 + p.val, by omega⟩ q := by
  unfold run.sl.r_218
  unfold_payloads
  pointwise
  simp only [run.sl.v2860, read_slab, cov_slab _ (canon_dmer c b h x), cov_slab _ (canon_ya c b h x), cov_slab _ (canon_yb c b h x), Nat.zero_add]
  rfl

theorem dya_15 (p : Fin 16) (q : Fin 1024) :
    k0_pay460 (run.sl.r_219 c b h x) (run.sl.v2903 c b h x) (ix2 p q)
      = (argsOf x).dya ⟨240 + p.val, by omega⟩ q := by
  unfold run.sl.r_219
  unfold_payloads
  pointwise
  simp only [run.sl.v2903, read_slab, cov_slab _ (canon_dmer c b h x), cov_slab _ (canon_ya c b h x), cov_slab _ (canon_yb c b h x), Nat.zero_add]
  rfl

theorem dya_16 (p : Fin 16) (q : Fin 1024) :
    k0_pay470 (run.sl.r_221 c b h x) k0_pay465 (run.sl.v2946 c b h x) (ix2 p q)
      = (argsOf x).dya ⟨256 + p.val, by omega⟩ q := by
  unfold run.sl.r_221
  unfold_payloads
  pointwise
  simp only [run.sl.v2946, read_slab, cov_slab _ (canon_dmer c b h x), cov_slab _ (canon_ya c b h x), cov_slab _ (canon_yb c b h x), Nat.zero_add]
  rfl

theorem dya_17 (p : Fin 16) (q : Fin 1024) :
    k0_pay480 (View.readAt (Elt Ideal) b.ga.view (Rect.unit (s := S512x1024) ![272, 0] S16x1024.size inb_S512x1024_S16x1024_272_0).toLoadRect (h.ga.unread x.ga)) (run.sl.v2989 c b h x) (ix2 p q)
      = (argsOf x).dya ⟨272 + p.val, by omega⟩ q := by
  unfold_payloads
  pointwise
  simp only [run.sl.v2989, read_slab, cov_slab _ (canon_dmer c b h x), cov_slab _ (canon_ya c b h x), cov_slab _ (canon_yb c b h x), Nat.zero_add]
  rfl

theorem dya_18 (p : Fin 16) (q : Fin 1024) :
    k0_pay490 (View.readAt (Elt Ideal) b.ga.view (Rect.unit (s := S512x1024) ![288, 0] S16x1024.size inb_S512x1024_S16x1024_288_0).toLoadRect (h.ga.unread x.ga)) (run.sl.v3032 c b h x) (ix2 p q)
      = (argsOf x).dya ⟨288 + p.val, by omega⟩ q := by
  unfold_payloads
  pointwise
  simp only [run.sl.v3032, read_slab, cov_slab _ (canon_dmer c b h x), cov_slab _ (canon_ya c b h x), cov_slab _ (canon_yb c b h x), Nat.zero_add]
  rfl

theorem dya_19 (p : Fin 16) (q : Fin 1024) :
    k0_pay500 (run.sl.r_232 c b h x) (run.sl.v3075 c b h x) (ix2 p q)
      = (argsOf x).dya ⟨304 + p.val, by omega⟩ q := by
  unfold run.sl.r_232
  unfold_payloads
  pointwise
  simp only [run.sl.v3075, read_slab, cov_slab _ (canon_dmer c b h x), cov_slab _ (canon_ya c b h x), cov_slab _ (canon_yb c b h x), Nat.zero_add]
  rfl

theorem dya_20 (p : Fin 16) (q : Fin 1024) :
    k0_pay508 (run.sl.r_234 c b h x) (run.sl.v3118 c b h x) (ix2 p q)
      = (argsOf x).dya ⟨320 + p.val, by omega⟩ q := by
  unfold run.sl.r_234
  unfold_payloads
  pointwise
  simp only [run.sl.v3118, read_slab, cov_slab _ (canon_dmer c b h x), cov_slab _ (canon_ya c b h x), cov_slab _ (canon_yb c b h x), Nat.zero_add]
  rfl

theorem dya_21 (p : Fin 16) (q : Fin 1024) :
    k0_pay516 (View.readAt (Elt Ideal) b.ga.view (Rect.unit (s := S512x1024) ![336, 0] S16x1024.size inb_S512x1024_S16x1024_336_0).toLoadRect (h.ga.unread x.ga)) (run.sl.v3161 c b h x) (ix2 p q)
      = (argsOf x).dya ⟨336 + p.val, by omega⟩ q := by
  unfold_payloads
  pointwise
  simp only [run.sl.v3161, read_slab, cov_slab _ (canon_dmer c b h x), cov_slab _ (canon_ya c b h x), cov_slab _ (canon_yb c b h x), Nat.zero_add]
  rfl

theorem dya_22 (p : Fin 16) (q : Fin 1024) :
    k0_pay524 (View.readAt (Elt Ideal) b.ga.view (Rect.unit (s := S512x1024) ![352, 0] S16x1024.size inb_S512x1024_S16x1024_352_0).toLoadRect (h.ga.unread x.ga)) (run.sl.v3204 c b h x) (ix2 p q)
      = (argsOf x).dya ⟨352 + p.val, by omega⟩ q := by
  unfold_payloads
  pointwise
  simp only [run.sl.v3204, read_slab, cov_slab _ (canon_dmer c b h x), cov_slab _ (canon_ya c b h x), cov_slab _ (canon_yb c b h x), Nat.zero_add]
  rfl

theorem dya_23 (p : Fin 16) (q : Fin 1024) :
    k0_pay533 (run.sl.r_245 c b h x) (ix2 p q)
      = (argsOf x).dya ⟨368 + p.val, by omega⟩ q := by
  unfold run.sl.r_245
  unfold_payloads
  pointwise
  simp only [run.sl.v3247, read_slab, cov_slab _ (canon_dmer c b h x), cov_slab _ (canon_ya c b h x), cov_slab _ (canon_yb c b h x), Nat.zero_add]
  rfl

theorem dya_24 (p : Fin 16) (q : Fin 1024) :
    k0_pay542 (run.sl.r_246 c b h x) (run.sl.v3290 c b h x) (ix2 p q)
      = (argsOf x).dya ⟨384 + p.val, by omega⟩ q := by
  unfold run.sl.r_246
  unfold_payloads
  pointwise
  simp only [run.sl.v3290, read_slab, cov_slab _ (canon_dmer c b h x), cov_slab _ (canon_ya c b h x), cov_slab _ (canon_yb c b h x), Nat.zero_add]
  rfl

theorem dya_25 (p : Fin 16) (q : Fin 1024) :
    k0_pay551 (run.sl.r_248 c b h x) run.sl.cst_124 (run.sl.v3333 c b h x) (ix2 p q)
      = (argsOf x).dya ⟨400 + p.val, by omega⟩ q := by
  unfold run.sl.cst_124 run.sl.r_248
  unfold_payloads
  pointwise
  simp only [run.sl.v3333, read_slab, cov_slab _ (canon_dmer c b h x), cov_slab _ (canon_ya c b h x), cov_slab _ (canon_yb c b h x), Nat.zero_add]
  rfl

theorem dya_26 (p : Fin 16) (q : Fin 1024) :
    k0_pay559 (View.readAt (Elt Ideal) b.ga.view (Rect.unit (s := S512x1024) ![416, 0] S16x1024.size inb_S512x1024_S16x1024_416_0).toLoadRect (h.ga.unread x.ga)) (run.sl.v3376 c b h x) (ix2 p q)
      = (argsOf x).dya ⟨416 + p.val, by omega⟩ q := by
  unfold_payloads
  pointwise
  simp only [run.sl.v3376, read_slab, cov_slab _ (canon_dmer c b h x), cov_slab _ (canon_ya c b h x), cov_slab _ (canon_yb c b h x), Nat.zero_add]
  rfl

theorem dya_27 (p : Fin 16) (q : Fin 1024) :
    k0_pay567 (View.readAt (Elt Ideal) b.ga.view (Rect.unit (s := S512x1024) ![432, 0] S16x1024.size inb_S512x1024_S16x1024_432_0).toLoadRect (h.ga.unread x.ga)) (run.sl.v3419 c b h x) (ix2 p q)
      = (argsOf x).dya ⟨432 + p.val, by omega⟩ q := by
  unfold_payloads
  pointwise
  simp only [run.sl.v3419, read_slab, cov_slab _ (canon_dmer c b h x), cov_slab _ (canon_ya c b h x), cov_slab _ (canon_yb c b h x), Nat.zero_add]
  rfl

theorem dya_28 (p : Fin 16) (q : Fin 1024) :
    k0_pay576 (run.sl.r_258 c b h x) (run.sl.v3462 c b h x) (ix2 p q)
      = (argsOf x).dya ⟨448 + p.val, by omega⟩ q := by
  unfold run.sl.r_258
  unfold_payloads
  pointwise
  simp only [run.sl.v3462, read_slab, cov_slab _ (canon_dmer c b h x), cov_slab _ (canon_ya c b h x), cov_slab _ (canon_yb c b h x), Nat.zero_add]
  rfl

theorem dya_29 (p : Fin 16) (q : Fin 1024) :
    k0_pay584 (run.sl.r_260 c b h x) (run.sl.v3505 c b h x) (ix2 p q)
      = (argsOf x).dya ⟨464 + p.val, by omega⟩ q := by
  unfold run.sl.r_260
  unfold_payloads
  pointwise
  simp only [run.sl.v3505, read_slab, cov_slab _ (canon_dmer c b h x), cov_slab _ (canon_ya c b h x), cov_slab _ (canon_yb c b h x), Nat.zero_add]
  rfl

theorem dya_30 (p : Fin 16) (q : Fin 1024) :
    k0_pay593 (run.sl.r_262 c b h x) (run.sl.v3548 c b h x) (ix2 p q)
      = (argsOf x).dya ⟨480 + p.val, by omega⟩ q := by
  unfold run.sl.r_262
  unfold_payloads
  pointwise
  simp only [run.sl.v3548, read_slab, cov_slab _ (canon_dmer c b h x), cov_slab _ (canon_ya c b h x), cov_slab _ (canon_yb c b h x), Nat.zero_add]
  rfl

theorem dya_31 (p : Fin 16) (q : Fin 1024) :
    k0_pay602 (View.readAt (Elt Ideal) b.ga.view (Rect.unit (s := S512x1024) ![496, 0] S16x1024.size inb_S512x1024_S16x1024_496_0).toLoadRect (h.ga.unread x.ga)) (run.sl.v3591 c b h x) (ix2 p q)
      = (argsOf x).dya ⟨496 + p.val, by omega⟩ q := by
  unfold_payloads
  pointwise
  simp only [run.sl.v3591, read_slab, cov_slab _ (canon_dmer c b h x), cov_slab _ (canon_ya c b h x), cov_slab _ (canon_yb c b h x), Nat.zero_add]
  rfl

theorem dyb_0 (p : Fin 16) (q : Fin 1024) :
    k0_pay330 (run.sl.r_175 c b h x) (ix2 p q)
      = (argsOf x).dyb ⟨0 + p.val, by omega⟩ q := by
  unfold run.sl.r_175
  unfold_payloads
  pointwise
  simp only [run.sl.v2258, read_slab, cov_slab _ (canon_dmer c b h x), cov_slab _ (canon_ya c b h x), cov_slab _ (canon_yb c b h x), Nat.zero_add]
  rfl

theorem dyb_1 (p : Fin 16) (q : Fin 1024) :
    k0_pay339 (run.sl.r_178 c b h x) (run.sl.v2301 c b h x) (ix2 p q)
      = (argsOf x).dyb ⟨16 + p.val, by omega⟩ q := by
  unfold run.sl.r_178
  unfold_payloads
  pointwise
  simp only [run.sl.v2301, read_slab, cov_slab _ (canon_dmer c b h x), cov_slab _ (canon_ya c b h x), cov_slab _ (canon_yb c b h x), Nat.zero_add]
  rfl

theorem dyb_2 (p : Fin 16) (q : Fin 1024) :
    k0_pay348 (View.readAt (Elt Ideal) b.gb.view (Rect.unit (s := S512x1024) ![32, 0] S16x1024.size inb_S512x1024_S16x1024_32_0).toLoadRect (h.gb.unread x.gb)) (run.sl.v2344 c b h x) (ix2 p q)
      = (argsOf x).dyb ⟨32 + p.val, by omega⟩ q := by
  unfold_payloads
  pointwise
  simp only [run.sl.v2344, read_slab, cov_slab _ (canon_dmer c b h x), cov_slab _ (canon_ya c b h x), cov_slab _ (canon_yb c b h x), Nat.zero_add]
  rfl

theorem dyb_3 (p : Fin 16) (q : Fin 1024) :
    k0_pay357 (View.readAt (Elt Ideal) b.gb.view (Rect.unit (s := S512x1024) ![48, 0] S16x1024.size inb_S512x1024_S16x1024_48_0).toLoadRect (h.gb.unread x.gb)) (run.sl.v2387 c b h x) (ix2 p q)
      = (argsOf x).dyb ⟨48 + p.val, by omega⟩ q := by
  unfold_payloads
  pointwise
  simp only [run.sl.v2387, read_slab, cov_slab _ (canon_dmer c b h x), cov_slab _ (canon_ya c b h x), cov_slab _ (canon_yb c b h x), Nat.zero_add]
  rfl

theorem dyb_4 (p : Fin 16) (q : Fin 1024) :
    k0_pay367 (run.sl.r_188 c b h x) (ix2 p q)
      = (argsOf x).dyb ⟨64 + p.val, by omega⟩ q := by
  unfold run.sl.r_188
  unfold_payloads
  pointwise
  simp only [run.sl.v2430, read_slab, cov_slab _ (canon_dmer c b h x), cov_slab _ (canon_ya c b h x), cov_slab _ (canon_yb c b h x), Nat.zero_add]
  rfl

theorem dyb_5 (p : Fin 16) (q : Fin 1024) :
    k0_pay375 (run.sl.r_190 c b h x) (run.sl.v2473 c b h x) (ix2 p q)
      = (argsOf x).dyb ⟨80 + p.val, by omega⟩ q := by
  unfold run.sl.r_190
  unfold_payloads
  pointwise
  simp only [run.sl.v2473, read_slab, cov_slab _ (canon_dmer c b h x), cov_slab _ (canon_ya c b h x), cov_slab _ (canon_yb c b h x), Nat.zero_add]
  rfl

theorem dyb_6 (p : Fin 16) (q : Fin 1024) :
    k0_pay383 (View.readAt (Elt Ideal) b.gb.view (Rect.unit (s := S512x1024) ![96, 0] S16x1024.size inb_S512x1024_S16x1024_96_0).toLoadRect (h.gb.unread x.gb)) (run.sl.v2516 c b h x) (ix2 p q)
      = (argsOf x).dyb ⟨96 + p.val, by omega⟩ q := by
  unfold_payloads
  pointwise
  simp only [run.sl.v2516, read_slab, cov_slab _ (canon_dmer c b h x), cov_slab _ (canon_ya c b h x), cov_slab _ (canon_yb c b h x), Nat.zero_add]
  rfl

theorem dyb_7 (p : Fin 16) (q : Fin 1024) :
    k0_pay391 (View.readAt (Elt Ideal) b.gb.view (Rect.unit (s := S512x1024) ![112, 0] S16x1024.size inb_S512x1024_S16x1024_112_0).toLoadRect (h.gb.unread x.gb)) (run.sl.v2559 c b h x) (ix2 p q)
      = (argsOf x).dyb ⟨112 + p.val, by omega⟩ q := by
  unfold_payloads
  pointwise
  simp only [run.sl.v2559, read_slab, cov_slab _ (canon_dmer c b h x), cov_slab _ (canon_ya c b h x), cov_slab _ (canon_yb c b h x), Nat.zero_add]
  rfl

theorem dyb_8 (p : Fin 16) (q : Fin 1024) :
    k0_pay399 (View.readAt (Elt Ideal) b.gb.view (Rect.unit (s := S512x1024) ![128, 0] S16x1024.size inb_S512x1024_S16x1024_128_0).toLoadRect (h.gb.unread x.gb)) (run.sl.v2602 c b h x) (ix2 p q)
      = (argsOf x).dyb ⟨128 + p.val, by omega⟩ q := by
  unfold_payloads
  pointwise
  simp only [run.sl.v2602, read_slab, cov_slab _ (canon_dmer c b h x), cov_slab _ (canon_ya c b h x), cov_slab _ (canon_yb c b h x), Nat.zero_add]
  rfl

theorem dyb_9 (p : Fin 16) (q : Fin 1024) :
    k0_pay408 (run.sl.r_202 c b h x) (ix2 p q)
      = (argsOf x).dyb ⟨144 + p.val, by omega⟩ q := by
  unfold run.sl.r_202
  unfold_payloads
  pointwise
  simp only [run.sl.v2645, read_slab, cov_slab _ (canon_dmer c b h x), cov_slab _ (canon_ya c b h x), cov_slab _ (canon_yb c b h x), Nat.zero_add]
  rfl

theorem dyb_10 (p : Fin 16) (q : Fin 1024) :
    k0_pay418 (run.sl.r_205 c b h x) k0_pay413 (run.sl.v2688 c b h x) (ix2 p q)
      = (argsOf x).dyb ⟨160 + p.val, by omega⟩ q := by
  unfold run.sl.r_205
  unfold_payloads
  pointwise
  simp only [run.sl.v2688, read_slab, cov_slab _ (canon_dmer c b h x), cov_slab _ (canon_ya c b h x), cov_slab _ (canon_yb c b h x), Nat.zero_add]
  rfl

theorem dyb_11 (p : Fin 16) (q : Fin 1024) :
    k0_pay427 (View.readAt (Elt Ideal) b.gb.view (Rect.unit (s := S512x1024) ![176, 0] S16x1024.size inb_S512x1024_S16x1024_176_0).toLoadRect (h.gb.unread x.gb)) (run.sl.v2731 c b h x) (ix2 p q)
      = (argsOf x).dyb ⟨176 + p.val, by omega⟩ q := by
  unfold_payloads
  pointwise
  simp only [run.sl.v2731, read_slab, cov_slab _ (canon_dmer c b h x), cov_slab _ (canon_ya c b h x), cov_slab _ (canon_yb c b h x), Nat.zero_add]
  rfl

theorem dyb_12 (p : Fin 16) (q : Fin 1024) :
    k0_pay435 (View.readAt (Elt Ideal) b.gb.view (Rect.unit (s := S512x1024) ![192, 0] S16x1024.size inb_S512x1024_S16x1024_192_0).toLoadRect (h.gb.unread x.gb)) (run.sl.v2774 c b h x) (ix2 p q)
      = (argsOf x).dyb ⟨192 + p.val, by omega⟩ q := by
  unfold_payloads
  pointwise
  simp only [run.sl.v2774, read_slab, cov_slab _ (canon_dmer c b h x), cov_slab _ (canon_ya c b h x), cov_slab _ (canon_yb c b h x), Nat.zero_add]
  rfl

theorem dyb_13 (p : Fin 16) (q : Fin 1024) :
    k0_pay444 (run.sl.r_215 c b h x) (ix2 p q)
      = (argsOf x).dyb ⟨208 + p.val, by omega⟩ q := by
  unfold run.sl.r_215
  unfold_payloads
  pointwise
  simp only [run.sl.v2817, read_slab, cov_slab _ (canon_dmer c b h x), cov_slab _ (canon_ya c b h x), cov_slab _ (canon_yb c b h x), Nat.zero_add]
  rfl

theorem dyb_14 (p : Fin 16) (q : Fin 1024) :
    k0_pay452 (run.sl.r_217 c b h x) (run.sl.v2860 c b h x) (ix2 p q)
      = (argsOf x).dyb ⟨224 + p.val, by omega⟩ q := by
  unfold run.sl.r_217
  unfold_payloads
  pointwise
  simp only [run.sl.v2860, read_slab, cov_slab _ (canon_dmer c b h x), cov_slab _ (canon_ya c b h x), cov_slab _ (canon_yb c b h x), Nat.zero_add]
  rfl

theorem dyb_15 (p : Fin 16) (q : Fin 1024) :
    k0_pay461 (run.sl.r_220 c b h x) run.sl.cst_124 (run.sl.v2903 c b h x) (ix2 p q)
      = (argsOf x).dyb ⟨240 + p.val, by omega⟩ q := by
  unfold run.sl.cst_124 run.sl.r_220
  unfold_payloads
  pointwise
  simp only [run.sl.v2903, read_slab, cov_slab _ (canon_dmer c b h x), cov_slab _ (canon_ya c b h x), cov_slab _ (canon_yb c b h x), Nat.zero_add]
  rfl

theorem dyb_16 (p : Fin 16) (q : Fin 1024) :
    k0_pay471 (View.readAt (Elt Ideal) b.gb.view (Rect.unit (s := S512x1024) ![256, 0] S16x1024.size inb_S512x1024_S16x1024_256_0).toLoadRect (h.gb.unread x.gb)) (run.sl.v2946 c b h x) (ix2 p q)
      = (argsOf x).dyb ⟨256 + p.val, by omega⟩ q := by
  unfold_payloads
  pointwise
  simp only [run.sl.v2946, read_slab, cov_slab _ (canon_dmer c b h x), cov_slab _ (canon_ya c b h x), cov_slab _ (canon_yb c b h x), Nat.zero_add]
  rfl

theorem dyb_17 (p : Fin 16) (q : Fin 1024) :
    k0_pay481 (View.readAt (Elt Ideal) b.gb.view (Rect.unit (s := S512x1024) ![272, 0] S16x1024.size inb_S512x1024_S16x1024_272_0).toLoadRect (h.gb.unread x.gb)) (run.sl.v2989 c b h x) (ix2 p q)
      = (argsOf x).dyb ⟨272 + p.val, by omega⟩ q := by
  unfold_payloads
  pointwise
  simp only [run.sl.v2989, read_slab, cov_slab _ (canon_dmer c b h x), cov_slab _ (canon_ya c b h x), cov_slab _ (canon_yb c b h x), Nat.zero_add]
  rfl

theorem dyb_18 (p : Fin 16) (q : Fin 1024) :
    k0_pay491 (run.sl.r_231 c b h x) (ix2 p q)
      = (argsOf x).dyb ⟨288 + p.val, by omega⟩ q := by
  unfold run.sl.r_231
  unfold_payloads
  pointwise
  simp only [run.sl.v3032, read_slab, cov_slab _ (canon_dmer c b h x), cov_slab _ (canon_ya c b h x), cov_slab _ (canon_yb c b h x), Nat.zero_add]
  rfl

theorem dyb_19 (p : Fin 16) (q : Fin 1024) :
    k0_pay501 (run.sl.r_233 c b h x) k0_pay496 (run.sl.v3075 c b h x) (ix2 p q)
      = (argsOf x).dyb ⟨304 + p.val, by omega⟩ q := by
  unfold run.sl.r_233
  unfold_payloads
  pointwise
  simp only [run.sl.v3075, read_slab, cov_slab _ (canon_dmer c b h x), cov_slab _ (canon_ya c b h x), cov_slab _ (canon_yb c b h x), Nat.zero_add]
  rfl

theorem dyb_20 (p : Fin 16) (q : Fin 1024) :
    k0_pay509 (View.readAt (Elt Ideal) b.gb.view (Rect.unit (s := S512x1024) ![320, 0] S16x1024.size inb_S512x1024_S16x1024_320_0).toLoadRect (h.gb.unread x.gb)) (run.sl.v3118 c b h x) (ix2 p q)
      = (argsOf x).dyb ⟨320 + p.val, by omega⟩ q := by
  unfold_payloads
  pointwise
  simp only [run.sl.v3118, read_slab, cov_slab _ (canon_dmer c b h x), cov_slab _ (canon_ya c b h x), cov_slab _ (canon_yb c b h x), Nat.zero_add]
  rfl

theorem dyb_21 (p : Fin 16) (q : Fin 1024) :
    k0_pay517 (View.readAt (Elt Ideal) b.gb.view (Rect.unit (s := S512x1024) ![336, 0] S16x1024.size inb_S512x1024_S16x1024_336_0).toLoadRect (h.gb.unread x.gb)) (run.sl.v3161 c b h x) (ix2 p q)
      = (argsOf x).dyb ⟨336 + p.val, by omega⟩ q := by
  unfold_payloads
  pointwise
  simp only [run.sl.v3161, read_slab, cov_slab _ (canon_dmer c b h x), cov_slab _ (canon_ya c b h x), cov_slab _ (canon_yb c b h x), Nat.zero_add]
  rfl

theorem dyb_22 (p : Fin 16) (q : Fin 1024) :
    k0_pay525 (View.readAt (Elt Ideal) b.gb.view (Rect.unit (s := S512x1024) ![352, 0] S16x1024.size inb_S512x1024_S16x1024_352_0).toLoadRect (h.gb.unread x.gb)) (run.sl.v3204 c b h x) (ix2 p q)
      = (argsOf x).dyb ⟨352 + p.val, by omega⟩ q := by
  unfold_payloads
  pointwise
  simp only [run.sl.v3204, read_slab, cov_slab _ (canon_dmer c b h x), cov_slab _ (canon_ya c b h x), cov_slab _ (canon_yb c b h x), Nat.zero_add]
  rfl

theorem dyb_23 (p : Fin 16) (q : Fin 1024) :
    k0_pay534 (run.sl.r_244 c b h x) (ix2 p q)
      = (argsOf x).dyb ⟨368 + p.val, by omega⟩ q := by
  unfold run.sl.r_244
  unfold_payloads
  pointwise
  simp only [run.sl.v3247, read_slab, cov_slab _ (canon_dmer c b h x), cov_slab _ (canon_ya c b h x), cov_slab _ (canon_yb c b h x), Nat.zero_add]
  rfl

theorem dyb_24 (p : Fin 16) (q : Fin 1024) :
    k0_pay543 (run.sl.r_247 c b h x) (run.sl.v3290 c b h x) (ix2 p q)
      = (argsOf x).dyb ⟨384 + p.val, by omega⟩ q := by
  unfold run.sl.r_247
  unfold_payloads
  pointwise
  simp only [run.sl.v3290, read_slab, cov_slab _ (canon_dmer c b h x), cov_slab _ (canon_ya c b h x), cov_slab _ (canon_yb c b h x), Nat.zero_add]
  rfl

theorem dyb_25 (p : Fin 16) (q : Fin 1024) :
    k0_pay552 (View.readAt (Elt Ideal) b.gb.view (Rect.unit (s := S512x1024) ![400, 0] S16x1024.size inb_S512x1024_S16x1024_400_0).toLoadRect (h.gb.unread x.gb)) (run.sl.v3333 c b h x) (ix2 p q)
      = (argsOf x).dyb ⟨400 + p.val, by omega⟩ q := by
  unfold_payloads
  pointwise
  simp only [run.sl.v3333, read_slab, cov_slab _ (canon_dmer c b h x), cov_slab _ (canon_ya c b h x), cov_slab _ (canon_yb c b h x), Nat.zero_add]
  rfl

theorem dyb_26 (p : Fin 16) (q : Fin 1024) :
    k0_pay560 (View.readAt (Elt Ideal) b.gb.view (Rect.unit (s := S512x1024) ![416, 0] S16x1024.size inb_S512x1024_S16x1024_416_0).toLoadRect (h.gb.unread x.gb)) (run.sl.v3376 c b h x) (ix2 p q)
      = (argsOf x).dyb ⟨416 + p.val, by omega⟩ q := by
  unfold_payloads
  pointwise
  simp only [run.sl.v3376, read_slab, cov_slab _ (canon_dmer c b h x), cov_slab _ (canon_ya c b h x), cov_slab _ (canon_yb c b h x), Nat.zero_add]
  rfl

theorem dyb_27 (p : Fin 16) (q : Fin 1024) :
    k0_pay569 (run.sl.r_257 c b h x) (ix2 p q)
      = (argsOf x).dyb ⟨432 + p.val, by omega⟩ q := by
  unfold run.sl.r_257
  unfold_payloads
  pointwise
  simp only [run.sl.v3419, read_slab, cov_slab _ (canon_dmer c b h x), cov_slab _ (canon_ya c b h x), cov_slab _ (canon_yb c b h x), Nat.zero_add]
  rfl

theorem dyb_28 (p : Fin 16) (q : Fin 1024) :
    k0_pay577 (run.sl.r_259 c b h x) (run.sl.v3462 c b h x) (ix2 p q)
      = (argsOf x).dyb ⟨448 + p.val, by omega⟩ q := by
  unfold run.sl.r_259
  unfold_payloads
  pointwise
  simp only [run.sl.v3462, read_slab, cov_slab _ (canon_dmer c b h x), cov_slab _ (canon_ya c b h x), cov_slab _ (canon_yb c b h x), Nat.zero_add]
  rfl

theorem dyb_29 (p : Fin 16) (q : Fin 1024) :
    k0_pay585 (run.sl.r_261 c b h x) (run.sl.v3505 c b h x) (ix2 p q)
      = (argsOf x).dyb ⟨464 + p.val, by omega⟩ q := by
  unfold run.sl.r_261
  unfold_payloads
  pointwise
  simp only [run.sl.v3505, read_slab, cov_slab _ (canon_dmer c b h x), cov_slab _ (canon_ya c b h x), cov_slab _ (canon_yb c b h x), Nat.zero_add]
  rfl

theorem dyb_30 (p : Fin 16) (q : Fin 1024) :
    k0_pay594 (View.readAt (Elt Ideal) b.gb.view (Rect.unit (s := S512x1024) ![480, 0] S16x1024.size inb_S512x1024_S16x1024_480_0).toLoadRect (h.gb.unread x.gb)) (run.sl.v3548 c b h x) (ix2 p q)
      = (argsOf x).dyb ⟨480 + p.val, by omega⟩ q := by
  unfold_payloads
  pointwise
  simp only [run.sl.v3548, read_slab, cov_slab _ (canon_dmer c b h x), cov_slab _ (canon_ya c b h x), cov_slab _ (canon_yb c b h x), Nat.zero_add]
  rfl

theorem dyb_31 (p : Fin 16) (q : Fin 1024) :
    k0_pay603 (View.readAt (Elt Ideal) b.gb.view (Rect.unit (s := S512x1024) ![496, 0] S16x1024.size inb_S512x1024_S16x1024_496_0).toLoadRect (h.gb.unread x.gb)) (run.sl.v3591 c b h x) (ix2 p q)
      = (argsOf x).dyb ⟨496 + p.val, by omega⟩ q := by
  unfold_payloads
  pointwise
  simp only [run.sl.v3591, read_slab, cov_slab _ (canon_dmer c b h x), cov_slab _ (canon_ya c b h x), cov_slab _ (canon_yb c b h x), Nat.zero_add]
  rfl

theorem dga_0 (p : Fin 16) (q : Fin 1024) :
    k0_pay331 (run.sl.r_172 c b h x) (run.sl.r_174 c b h x) (run.sl.v33 c b h x) (ix2 p q)
      = (argsOf x).dga ⟨0 + p.val, by omega⟩ q := by
  unfold run.sl.r_174 run.sl.r_172
  unfold_payloads
  pointwise
  simp only [run.sl.v33, run.sl.v2258, read_slab, cov_slab _ (canon_dmer c b h x), cov_slab _ (canon_ya c b h x), cov_slab _ (canon_yb c b h x), Nat.zero_add]
  rfl

theorem dga_1 (p : Fin 16) (q : Fin 1024) :
    k0_pay340 (run.sl.r_177 c b h x) (run.sl.v2301 c b h x) (run.sl.v60 c b h x) (ix2 p q)
      = (argsOf x).dga ⟨16 + p.val, by omega⟩ q := by
  unfold run.sl.r_177
  unfold_payloads
  pointwise
  simp only [run.sl.v2301, run.sl.v60, read_slab, cov_slab _ (canon_dmer c b h x), cov_slab _ (canon_ya c b h x), cov_slab _ (canon_yb c b h x), Nat.zero_add]
  rfl

theorem dga_2 (p : Fin 16) (q : Fin 1024) :
    k0_pay349 (run.sl.r_179 c b h x) (run.sl.v2344 c b h x) (run.sl.v87 c b h x) (ix2 p q)
      = (argsOf x).dga ⟨32 + p.val, by omega⟩ q := by
  unfold run.sl.r_179
  unfold_payloads
  pointwise
  simp only [run.sl.v2344, run.sl.v87, read_slab, cov_slab _ (canon_dmer c b h x), cov_slab _ (canon_ya c b h x), cov_slab _ (canon_yb c b h x), Nat.zero_add]
  rfl

theorem dga_3 (p : Fin 16) (q : Fin 1024) :
    k0_pay359 (run.sl.r_183 c b h x) (ix2 p q)
      = (argsOf x).dga ⟨48 + p.val, by omega⟩ q := by
  unfold run.sl.r_183
  unfold_payloads
  pointwise
  simp only [run.sl.v2387, run.sl.v114, read_slab, cov_slab _ (canon_dmer c b h x), cov_slab _ (canon_ya c b h x), cov_slab _ (canon_yb c b h x), Nat.zero_add]
  rfl

theorem dga_4 (p : Fin 16) (q : Fin 1024) :
    k0_pay368 (run.sl.r_184 c b h x) (run.sl.r_186 c b h x) (run.sl.v141 c b h x) (ix2 p q)
      = (argsOf x).dga ⟨64 + p.val, by omega⟩ q := by
  unfold run.sl.r_186 run.sl.r_184
  unfold_payloads
  pointwise
  simp only [run.sl.v141, run.sl.v2430, read_slab, cov_slab _ (canon_dmer c b h x), cov_slab _ (canon_ya c b h x), cov_slab _ (canon_yb c b h x), Nat.zero_add]
  rfl

theorem dga_5 (p : Fin 16) (q : Fin 1024) :
    k0_pay376 (run.sl.r_189 c b h x) (run.sl.v2473 c b h x) (run.sl.v168 c b h x) (ix2 p q)
      = (argsOf x).dga ⟨80 + p.val, by omega⟩ q := by
  unfold run.sl.r_189
  unfold_payloads
  pointwise
  simp only [run.sl.v2473, run.sl.v168, read_slab, cov_slab _ (canon_dmer c b h x), cov_slab _ (canon_ya c b h x), cov_slab _ (canon_yb c b h x), Nat.zero_add]
  rfl

theorem dga_6 (p : Fin 16) (q : Fin 1024) :
    k0_pay384 (run.sl.r_191 c b h x) (run.sl.v2516 c b h x) (run.sl.v195 c b h x) (ix2 p q)
      = (argsOf x).dga ⟨96 + p.val, by omega⟩ q := by
  unfold run.sl.r_191
  unfold_payloads
  pointwise
  simp only [run.sl.v2516, run.sl.v195, read_slab, cov_slab _ (canon_dmer c b h x), cov_slab _ (canon_ya c b h x), cov_slab _ (canon_yb c b h x), Nat.zero_add]
  rfl

theorem dga_7 (p : Fin 16) (q : Fin 1024) :
    k0_pay392 (run.sl.r_192 c b h x) (run.sl.v2559 c b h x) (run.sl.v222 c b h x) (ix2 p q)
      = (argsOf x).dga ⟨112 + p.val, by omega⟩ q := by
  unfold run.sl.r_192
  unfold_payloads
  pointwise
  simp only [run.sl.v2559, run.sl.v222, read_slab, cov_slab _ (canon_dmer c b h x), cov_slab _ (canon_ya c b h x), cov_slab _ (canon_yb c b h x), Nat.zero_add]
  rfl

theorem dga_8 (p : Fin 16) (q : Fin 1024) :
    k0_pay400 (run.sl.r_195 c b h x) (run.sl.r_197 c b h x) (run.sl.v249 c b h x) (ix2 p q)
      = (argsOf x).dga ⟨128 + p.val, by omega⟩ q := by
  unfold run.sl.r_197 run.sl.r_195
  unfold_payloads
  pointwise
  simp only [run.sl.v249, run.sl.v2602, read_slab, cov_slab _ (canon_dmer c b h x), cov_slab _ (canon_ya c b h x), cov_slab _ (canon_yb c b h x), Nat.zero_add]
  rfl

theorem dga_9 (p : Fin 16) (q : Fin 1024) :
    k0_pay409 (run.sl.r_199 c b h x) (run.sl.r_201 c b h x) (run.sl.v276 c b h x) (ix2 p q)
      = (argsOf x).dga ⟨144 + p.val, by omega⟩ q := by
  unfold run.sl.r_201 run.sl.r_199
  unfold_payloads
  pointwise
  simp only [run.sl.v276, run.sl.v2645, read_slab, cov_slab _ (canon_dmer c b h x), cov_slab _ (canon_ya c b h x), cov_slab _ (canon_yb c b h x), Nat.zero_add]
  rfl

theorem dga_10 (p : Fin 16) (q : Fin 1024) :
    k0_pay419 (run.sl.r_204 c b h x) (run.sl.v2688 c b h x) (run.sl.v303 c b h x) (ix2 p q)
      = (argsOf x).dga ⟨160 + p.val, by omega⟩ q := by
  unfold run.sl.r_204
  unfold_payloads
  pointwise
  simp only [run.sl.v2688, run.sl.v303, read_slab, cov_slab _ (canon_dmer c b h x), cov_slab _ (canon_ya c b h x), cov_slab _ (canon_yb c b h x), Nat.zero_add]
  rfl

theorem dga_11 (p : Fin 16) (q : Fin 1024) :
    k0_pay428 (run.sl.r_206 c b h x) (run.sl.v2731 c b h x) (run.sl.v330 c b h x) (ix2 p q)
      = (argsOf x).dga ⟨176 + p.val, by omega⟩ q := by
  unfold run.sl.r_206
  unfold_payloads
  pointwise
  simp only [run.sl.v2731, run.sl.v330, read_slab, cov_slab _ (canon_dmer c b h x), cov_slab _ (canon_ya c b h x), cov_slab _ (canon_yb c b h x), Nat.zero_add]
  rfl

theorem dga_12 (p : Fin 16) (q : Fin 1024) :
    run.sl.r_210 c b h x (ix2 p q)
      = (argsOf x).dga ⟨192 + p.val, by omega⟩ q := by
  unfold run.sl.r_210
  unfold_payloads
  pointwise
  simp only [run.sl.v2774, run.sl.v357, read_slab, cov_slab _ (canon_dmer c b h x), cov_slab _ (canon_ya c b h x), cov_slab _ (canon_yb c b h x), Nat.zero_add]
  rfl

theorem dga_13 (p : Fin 16) (q : Fin 1024) :
    k0_pay445 (run.sl.r_211 c b h x) (run.sl.r_213 c b h x) (run.sl.v384 c b h x) (ix2 p q)
      = (argsOf x).dga ⟨208 + p.val, by omega⟩ q := by
  unfold run.sl.r_213 run.sl.r_211
  unfold_payloads
  pointwise
  simp only [run.sl.v384, run.sl.v2817, read_slab, cov_slab _ (canon_dmer c b h x), cov_slab _ (canon_ya c b h x), cov_slab _ (canon_yb c b h x), Nat.zero_add]
  rfl

theorem dga_14 (p : Fin 16) (q : Fin 1024) :
    k0_pay453 (run.sl.r_216 c b h x) (run.sl.r_218 c b h x) (run.sl.v411 c b h x) (ix2 p q)
      = (argsOf x).dga ⟨224 + p.val, by omega⟩ q := by
  unfold run.sl.r_218 run.sl.r_216
  unfold_payloads
  pointwise
  simp only [run.sl.v411, run.sl.v2860, read_slab, cov_slab _ (canon_dmer c b h x), cov_slab _ (canon_ya c b h x), cov_slab _ (canon_yb c b h x), Nat.zero_add]
  rfl

theorem dga_15 (p : Fin 16) (q : Fin 1024) :
    k0_pay462 (run.sl.r_219 c b h x) (run.sl.v2903 c b h x) (run.sl.v438 c b h x) (ix2 p q)
      = (argsOf x).dga ⟨240 + p.val, by omega⟩ q := by
  unfold run.sl.r_219
  unfold_payloads
  pointwise
  simp only [run.sl.v2903, run.sl.v438, read_slab, cov_slab _ (canon_dmer c b h x), cov_slab _ (canon_ya c b h x), cov_slab _ (canon_yb c b h x), Nat.zero_add]
  rfl

theorem dga_16 (p : Fin 16) (q : Fin 1024) :
    k0_pay472 (run.sl.r_221 c b h x) k0_pay465 (run.sl.v2946 c b h x) (run.sl.v465 c b h x) (ix2 p q)
      = (argsOf x).dga ⟨256 + p.val, by omega⟩ q := by
  unfold run.sl.r_221
  unfold_payloads
  pointwise
  simp only [run.sl.v2946, run.sl.v465, read_slab, cov_slab _ (canon_dmer c b h x), cov_slab _ (canon_ya c b h x), cov_slab _ (canon_yb c b h x), Nat.zero_add]
  rfl

theorem dga_17 (p : Fin 16) (q : Fin 1024) :
    k0_pay484 (run.sl.r_224 c b h x) (run.sl.r_227 c b h x) k0_pay483 (ix2 p q)
      = (argsOf x).dga ⟨272 + p.val, by omega⟩ q := by
  unfold run.sl.r_227 run.sl.r_224
  unfold_payloads
  pointwise
  simp only [run.sl.v2989, run.sl.v492, read_slab, cov_slab _ (canon_dmer c b h x), cov_slab _ (canon_ya c b h x), cov_slab _ (canon_yb c b h x), Nat.zero_add]
  rfl

theorem dga_18 (p : Fin 16) (q : Fin 1024) :
    k0_pay492 (run.sl.r_228 c b h x) (run.sl.r_230 c b h x) (run.sl.v519 c b h x) (ix2 p q)
      = (argsOf x).dga ⟨288 + p.val, by omega⟩ q := by
  unfold run.sl.r_230 run.sl.r_228
  unfold_payloads
  pointwise
  simp only [run.sl.v519, run.sl.v3032, read_slab, cov_slab _ (canon_dmer c b h x), cov_slab _ (canon_ya c b h x), cov_slab _ (canon_yb c b h x), Nat.zero_add]
  rfl

theorem dga_19 (p : Fin 16) (q : Fin 1024) :
    k0_pay502 (run.sl.r_232 c b h x) (run.sl.v3075 c b h x) (run.sl.v546 c b h x) (ix2 p q)
      = (argsOf x).dga ⟨304 + p.val, by omega⟩ q := by
  unfold run.sl.r_232
  unfold_payloads
  pointwise
  simp only [run.sl.v3075, run.sl.v546, read_slab, cov_slab _ (canon_dmer c b h x), cov_slab _ (canon_ya c b h x), cov_slab _ (canon_yb c b h x), Nat.zero_add]
  rfl

theorem dga_20 (p : Fin 16) (q : Fin 1024) :
    k0_pay510 (run.sl.r_234 c b h x) (run.sl.v3118 c b h x) (run.sl.v573 c b h x) (ix2 p q)
      = (argsOf x).dga ⟨320 + p.val, by omega⟩ q := by
  unfold run.sl.r_234
  unfold_payloads
  pointwise
  simp only [run.sl.v3118, run.sl.v573, read_slab, cov_slab _ (canon_dmer c b h x), cov_slab _ (canon_ya c b h x), cov_slab _ (canon_yb c b h x), Nat.zero_add]
  rfl

theorem dga_21 (p : Fin 16) (q : Fin 1024) :
    k0_pay518 (View.readAt (Elt Ideal) b.ga.view (Rect.unit (s := S512x1024) ![336, 0] S16x1024.size inb_S512x1024_S16x1024_336_0).toLoadRect (h.ga.unread x.ga)) (run.sl.v3161 c b h x) (run.sl.v600 c b h x) (ix2 p q)
      = (argsOf x).dga ⟨336 + p.val, by omega⟩ q := by
  unfold_payloads
  pointwise
  simp only [run.sl.v3161, run.sl.v600, read_slab, cov_slab _ (canon_dmer c b h x), cov_slab _ (canon_ya c b h x), cov_slab _ (canon_yb c b h x), Nat.zero_add]
  rfl

theorem dga_22 (p : Fin 16) (q : Fin 1024) :
    k0_pay526 (run.sl.r_237 c b h x) (run.sl.r_239 c b h x) (run.sl.v627 c b h x) (ix2 p q)
      = (argsOf x).dga ⟨352 + p.val, by omega⟩ q := by
  unfold run.sl.r_239 run.sl.r_237
  unfold_payloads
  pointwise
  simp only [run.sl.v627, run.sl.v3204, read_slab, cov_slab _ (canon_dmer c b h x), cov_slab _ (canon_ya c b h x), cov_slab _ (canon_yb c b h x), Nat.zero_add]
  rfl

theorem dga_23 (p : Fin 16) (q : Fin 1024) :
    k0_pay535 (run.sl.r_241 c b h x) (run.sl.r_243 c b h x) (run.sl.v654 c b h x) (ix2 p q)
      = (argsOf x).dga ⟨368 + p.val, by omega⟩ q := by
  unfold run.sl.r_243 run.sl.r_241
  unfold_payloads
  pointwise
  simp only [run.sl.v654, run.sl.v3247, read_slab, cov_slab _ (canon_dmer c b h x), cov_slab _ (canon_ya c b h x), cov_slab _ (canon_yb c b h x), Nat.zero_add]
  rfl

theorem dga_24 (p : Fin 16) (q : Fin 1024) :
    k0_pay544 (run.sl.r_246 c b h x) (run.sl.v3290 c b h x) (run.sl.v681 c b h x) (ix2 p q)
      = (argsOf x).dga ⟨384 + p.val, by omega⟩ q := by
  unfold run.sl.r_246
  unfold_payloads
  pointwise
  simp only [run.sl.v3290, run.sl.v681, read_slab, cov_slab _ (canon_dmer c b h x), cov_slab _ (canon_ya c b h x), cov_slab _ (canon_yb c b h x), Nat.zero_add]
  rfl

theorem dga_25 (p : Fin 16) (q : Fin 1024) :
    k0_pay553 (run.sl.r_248 c b h x) run.sl.cst_124 (run.sl.v3333 c b h x) (run.sl.v708 c b h x) (ix2 p q)
      = (argsOf x).dga ⟨400 + p.val, by omega⟩ q := by
  unfold run.sl.cst_124 run.sl.r_248
  unfold_payloads
  pointwise
  simp only [run.sl.v3333, run.sl.v708, read_slab, cov_slab _ (canon_dmer c b h x), cov_slab _ (canon_ya c b h x), cov_slab _ (canon_yb c b h x), Nat.zero_add]
  rfl

theorem dga_26 (p : Fin 16) (q : Fin 1024) :
    run.sl.r_252 c b h x (ix2 p q)
      = (argsOf x).dga ⟨416 + p.val, by omega⟩ q := by
  unfold run.sl.r_252
  unfold_payloads
  pointwise
  simp only [run.sl.v3376, run.sl.v735, read_slab, cov_slab _ (canon_dmer c b h x), cov_slab _ (canon_ya c b h x), cov_slab _ (canon_yb c b h x), Nat.zero_add]
  rfl

theorem dga_27 (p : Fin 16) (q : Fin 1024) :
    k0_pay570 (run.sl.r_253 c b h x) (run.sl.r_255 c b h x) (run.sl.v762 c b h x) (ix2 p q)
      = (argsOf x).dga ⟨432 + p.val, by omega⟩ q := by
  unfold run.sl.r_255 run.sl.r_253
  unfold_payloads
  pointwise
  simp only [run.sl.v762, run.sl.v3419, read_slab, cov_slab _ (canon_dmer c b h x), cov_slab _ (canon_ya c b h x), cov_slab _ (canon_yb c b h x), Nat.zero_add]
  rfl

theorem dga_28 (p : Fin 16) (q : Fin 1024) :
    k0_pay578 (run.sl.r_258 c b h x) (run.sl.v3462 c b h x) (run.sl.v789 c b h x) (ix2 p q)
      = (argsOf x).dga ⟨448 + p.val, by omega⟩ q := by
  unfold run.sl.r_258
  unfold_payloads
  pointwise
  simp only [run.sl.v3462, run.sl.v789, read_slab, cov_slab _ (canon_dmer c b h x), cov_slab _ (canon_ya c b h x), cov_slab _ (canon_yb c b h x), Nat.zero_add]
  rfl

theorem dga_29 (p : Fin 16) (q : Fin 1024) :
    k0_pay586 (run.sl.r_260 c b h x) (run.sl.v3505 c b h x) (run.sl.v816 c b h x) (ix2 p q)
      = (argsOf x).dga ⟨464 + p.val, by omega⟩ q := by
  unfold run.sl.r_260
  unfold_payloads
  pointwise
  simp only [run.sl.v3505, run.sl.v816, read_slab, cov_slab _ (canon_dmer c b h x), cov_slab _ (canon_ya c b h x), cov_slab _ (canon_yb c b h x), Nat.zero_add]
  rfl

theorem dga_30 (p : Fin 16) (q : Fin 1024) :
    k0_pay595 (run.sl.r_262 c b h x) (run.sl.v3548 c b h x) (run.sl.v843 c b h x) (ix2 p q)
      = (argsOf x).dga ⟨480 + p.val, by omega⟩ q := by
  unfold run.sl.r_262
  unfold_payloads
  pointwise
  simp only [run.sl.v3548, run.sl.v843, read_slab, cov_slab _ (canon_dmer c b h x), cov_slab _ (canon_ya c b h x), cov_slab _ (canon_yb c b h x), Nat.zero_add]
  rfl

theorem dga_31 (p : Fin 16) (q : Fin 1024) :
    k0_pay605 (run.sl.r_265 c b h x) (run.sl.r_268 c b h x) (ix2 p q)
      = (argsOf x).dga ⟨496 + p.val, by omega⟩ q := by
  unfold run.sl.r_268 run.sl.r_265
  unfold_payloads
  pointwise
  simp only [run.sl.v3591, run.sl.v870, read_slab, cov_slab _ (canon_dmer c b h x), cov_slab _ (canon_ya c b h x), cov_slab _ (canon_yb c b h x), Nat.zero_add]
  rfl

theorem dgb_0 (p : Fin 16) (q : Fin 1024) :
    k0_pay332 (run.sl.r_173 c b h x) (run.sl.r_175 c b h x) (run.sl.v35 c b h x) (ix2 p q)
      = (argsOf x).dgb ⟨0 + p.val, by omega⟩ q := by
  unfold run.sl.r_175 run.sl.r_173
  unfold_payloads
  pointwise
  simp only [run.sl.v35, run.sl.v2258, read_slab, cov_slab _ (canon_dmer c b h x), cov_slab _ (canon_ya c b h x), cov_slab _ (canon_yb c b h x), Nat.zero_add]
  rfl

theorem dgb_1 (p : Fin 16) (q : Fin 1024) :
    k0_pay341 (run.sl.r_178 c b h x) (run.sl.v2301 c b h x) (run.sl.v62 c b h x) (ix2 p q)
      = (argsOf x).dgb ⟨16 + p.val, by omega⟩ q := by
  unfold run.sl.r_178
  unfold_payloads
  pointwise
  simp only [run.sl.v2301, run.sl.v62, read_slab, cov_slab _ (canon_dmer c b h x), cov_slab _ (canon_ya c b h x), cov_slab _ (canon_yb c b h x), Nat.zero_add]
  rfl

theorem dgb_2 (p : Fin 16) (q : Fin 1024) :
    k0_pay351 (run.sl.r_180 c b h x) (ix2 p q)
      = (argsOf x).dgb ⟨32 + p.val, by omega⟩ q := by
  unfold run.sl.r_180
  unfold_payloads
  pointwise
  simp only [run.sl.v2344, run.sl.v89, read_slab, cov_slab _ (canon_dmer c b h x), cov_slab _ (canon_ya c b h x), cov_slab _ (canon_yb c b h x), Nat.zero_add]
  rfl

theorem dgb_3 (p : Fin 16) (q : Fin 1024) :
    k0_pay360 (run.sl.r_181 c b h x) (run.sl.r_182 c b h x) (run.sl.v116 c b h x) (ix2 p q)
      = (argsOf x).dgb ⟨48 + p.val, by omega⟩ q := by
  unfold run.sl.r_182 run.sl.r_181
  unfold_payloads
  pointwise
  simp only [run.sl.v116, run.sl.v2387, read_slab, cov_slab _ (canon_dmer c b h x), cov_slab _ (canon_ya c b h x), cov_slab _ (canon_yb c b h x), Nat.zero_add]
  rfl

theorem dgb_4 (p : Fin 16) (q : Fin 1024) :
    k0_pay369 (run.sl.r_185 c b h x) (run.sl.r_187 c b h x) (run.sl.v143 c b h x) (ix2 p q)
      = (argsOf x).dgb ⟨64 + p.val, by omega⟩ q := by
  unfold run.sl.r_187 run.sl.r_185
  unfold_payloads
  pointwise
  simp only [run.sl.v143, run.sl.v2430, read_slab, cov_slab _ (canon_dmer c b h x), cov_slab _ (canon_ya c b h x), cov_slab _ (canon_yb c b h x), Nat.zero_add]
  rfl

theorem dgb_5 (p : Fin 16) (q : Fin 1024) :
    k0_pay377 (run.sl.r_190 c b h x) (run.sl.v2473 c b h x) (run.sl.v170 c b h x) (ix2 p q)
      = (argsOf x).dgb ⟨80 + p.val, by omega⟩ q := by
  unfold run.sl.r_190
  unfold_payloads
  pointwise
  simp only [run.sl.v2473, run.sl.v170, read_slab, cov_slab _ (canon_dmer c b h x), cov_slab _ (canon_ya c b h x), cov_slab _ (canon_yb c b h x), Nat.zero_add]
  rfl

theorem dgb_6 (p : Fin 16) (q : Fin 1024) :
    k0_pay385 (View.readAt (Elt Ideal) b.gb.view (Rect.unit (s := S512x1024) ![96, 0] S16x1024.size inb_S512x1024_S16x1024_96_0).toLoadRect (h.gb.unread x.gb)) (run.sl.v2516 c b h x) (run.sl.v197 c b h x) (ix2 p q)
      = (argsOf x).dgb ⟨96 + p.val, by omega⟩ q := by
  unfold_payloads
  pointwise
  simp only [run.sl.v2516, run.sl.v197, read_slab, cov_slab _ (canon_dmer c b h x), cov_slab _ (canon_ya c b h x), cov_slab _ (canon_yb c b h x), Nat.zero_add]
  rfl

theorem dgb_7 (p : Fin 16) (q : Fin 1024) :
    k0_pay393 (run.sl.r_193 c b h x) (run.sl.r_194 c b h x) (run.sl.v224 c b h x) (ix2 p q)
      = (argsOf x).dgb ⟨112 + p.val, by omega⟩ q := by
  unfold run.sl.r_194 run.sl.r_193
  unfold_payloads
  pointwise
  simp only [run.sl.v224, run.sl.v2559, read_slab, cov_slab _ (canon_dmer c b h x), cov_slab _ (canon_ya c b h x), cov_slab _ (canon_yb c b h x), Nat.zero_add]
  rfl

theorem dgb_8 (p : Fin 16) (q : Fin 1024) :
    k0_pay401 (run.sl.r_196 c b h x) (run.sl.r_198 c b h x) (run.sl.v251 c b h x) (ix2 p q)
      = (argsOf x).dgb ⟨128 + p.val, by omega⟩ q := by
  unfold run.sl.r_198 run.sl.r_196
  unfold_payloads
  pointwise
  simp only [run.sl.v251, run.sl.v2602, read_slab, cov_slab _ (canon_dmer c b h x), cov_slab _ (canon_ya c b h x), cov_slab _ (canon_yb c b h x), Nat.zero_add]
  rfl

theorem dgb_9 (p : Fin 16) (q : Fin 1024) :
    k0_pay410 (run.sl.r_200 c b h x) (run.sl.r_202 c b h x) (run.sl.v278 c b h x) (ix2 p q)
      = (argsOf x).dgb ⟨144 + p.val, by omega⟩ q := by
  unfold run.sl.r_202 run.sl.r_200
  unfold_payloads
  pointwise
  simp only [run.sl.v278, run.sl.v2645, read_slab, cov_slab _ (canon_dmer c b h x), cov_slab _ (canon_ya c b h x), cov_slab _ (canon_yb c b h x), Nat.zero_add]
  rfl

theorem dgb_10 (p : Fin 16) (q : Fin 1024) :
    k0_pay420 (run.sl.r_205 c b h x) k0_pay413 (run.sl.v2688 c b h x) (run.sl.v305 c b h x) (ix2 p q)
      = (argsOf x).dgb ⟨160 + p.val, by omega⟩ q := by
  unfold run.sl.r_205
  unfold_payloads
  pointwise
  simp only [run.sl.v2688, run.sl.v305, read_slab, cov_slab _ (canon_dmer c b h x), cov_slab _ (canon_ya c b h x), cov_slab _ (canon_yb c b h x), Nat.zero_add]
  rfl

theorem dgb_11 (p : Fin 16) (q : Fin 1024) :
    run.sl.r_207 c b h x (ix2 p q)
      = (argsOf x).dgb ⟨176 + p.val, by omega⟩ q := by
  unfold run.sl.r_207
  unfold_payloads
  pointwise
  simp only [run.sl.v2731, run.sl.v332, read_slab, cov_slab _ (canon_dmer c b h x), cov_slab _ (canon_ya c b h x), cov_slab _ (canon_yb c b h x), Nat.zero_add]
  rfl

theorem dgb_12 (p : Fin 16) (q : Fin 1024) :
    k0_pay437 (run.sl.r_208 c b h x) (run.sl.r_209 c b h x) (run.sl.v359 c b h x) (ix2 p q)
      = (argsOf x).dgb ⟨192 + p.val, by omega⟩ q := by
  unfold run.sl.r_209 run.sl.r_208
  unfold_payloads
  pointwise
  simp only [run.sl.v359, run.sl.v2774, read_slab, cov_slab _ (canon_dmer c b h x), cov_slab _ (canon_ya c b h x), cov_slab _ (canon_yb c b h x), Nat.zero_add]
  rfl

theorem dgb_13 (p : Fin 16) (q : Fin 1024) :
    k0_pay446 (run.sl.r_212 c b h x) (run.sl.r_214 c b h x) (run.sl.v386 c b h x) (ix2 p q)
      = (argsOf x).dgb ⟨208 + p.val, by omega⟩ q := by
  unfold run.sl.r_214 run.sl.r_212
  unfold_payloads
  pointwise
  simp only [run.sl.v386, run.sl.v2817, read_slab, cov_slab _ (canon_dmer c b h x), cov_slab _ (canon_ya c b h x), cov_slab _ (canon_yb c b h x), Nat.zero_add]
  rfl

theorem dgb_14 (p : Fin 16) (q : Fin 1024) :
    k0_pay454 (run.sl.r_217 c b h x) (run.sl.v2860 c b h x) (run.sl.v413 c b h x) (ix2 p q)
      = (argsOf x).dgb ⟨224 + p.val, by omega⟩ q := by
  unfold run.sl.r_217
  unfold_payloads
  pointwise
  simp only [run.sl.v2860, run.sl.v413, read_slab, cov_slab _ (canon_dmer c b h x), cov_slab _ (canon_ya c b h x), cov_slab _ (canon_yb c b h x), Nat.zero_add]
  rfl

theorem dgb_15 (p : Fin 16) (q : Fin 1024) :
    k0_pay463 (run.sl.r_220 c b h x) run.sl.cst_124 (run.sl.v2903 c b h x) (run.sl.v440 c b h x) (ix2 p q)
      = (argsOf x).dgb ⟨240 + p.val, by omega⟩ q := by
  unfold run.sl.cst_124 run.sl.r_220
  unfold_payloads
  pointwise
  simp only [run.sl.v2903, run.sl.v440, read_slab, cov_slab _ (canon_dmer c b h x), cov_slab _ (canon_ya c b h x), cov_slab _ (canon_yb c b h x), Nat.zero_add]
  rfl

theorem dgb_16 (p : Fin 16) (q : Fin 1024) :
    k0_pay475 (run.sl.r_222 c b h x) (run.sl.r_223 c b h x) k0_pay474 (ix2 p q)
      = (argsOf x).dgb ⟨256 + p.val, by omega⟩ q := by
  unfold run.sl.r_223 run.sl.r_222
  unfold_payloads
  pointwise
  simp only [run.sl.v2946, run.sl.v467, read_slab, cov_slab _ (canon_dmer c b h x), cov_slab _ (canon_ya c b h x), cov_slab _ (canon_yb c b h x), Nat.zero_add]
  rfl

theorem dgb_17 (p : Fin 16) (q : Fin 1024) :
    k0_pay485 (run.sl.r_225 c b h x) (run.sl.r_226 c b h x) (run.sl.v494 c b h x) (ix2 p q)
      = (argsOf x).dgb ⟨272 + p.val, by omega⟩ q := by
  unfold run.sl.r_226 run.sl.r_225
  unfold_payloads
  pointwise
  simp only [run.sl.v494, run.sl.v2989, read_slab, cov_slab _ (canon_dmer c b h x), cov_slab _ (canon_ya c b h x), cov_slab _ (canon_yb c b h x), Nat.zero_add]
  rfl

theorem dgb_18 (p : Fin 16) (q : Fin 1024) :
    k0_pay493 (run.sl.r_229 c b h x) (run.sl.r_231 c b h x) (run.sl.v521 c b h x) (ix2 p q)
      = (argsOf x).dgb ⟨288 + p.val, by omega⟩ q := by
  unfold run.sl.r_231 run.sl.r_229
  unfold_payloads
  pointwise
  simp only [run.sl.v521, run.sl.v3032, read_slab, cov_slab _ (canon_dmer c b h x), cov_slab _ (canon_ya c b h x), cov_slab _ (canon_yb c b h x), Nat.zero_add]
  rfl

theorem dgb_19 (p : Fin 16) (q : Fin 1024) :
    k0_pay503 (run.sl.r_233 c b h x) k0_pay496 (run.sl.v3075 c b h x) (run.sl.v548 c b h x) (ix2 p q)
      = (argsOf x).dgb ⟨304 + p.val, by omega⟩ q := by
  unfold run.sl.r_233
  unfold_payloads
  pointwise
  simp only [run.sl.v3075, run.sl.v548, read_slab, cov_slab _ (canon_dmer c b h x), cov_slab _ (canon_ya c b h x), cov_slab _ (canon_yb c b h x), Nat.zero_add]
  rfl

theorem dgb_20 (p : Fin 16) (q : Fin 1024) :
    k0_pay511 (View.readAt (Elt Ideal) b.gb.view (Rect.unit (s := S512x1024) ![320, 0] S16x1024.size inb_S512x1024_S16x1024_320_0).toLoadRect (h.gb.unread x.gb)) (run.sl.v3118 c b h x) (run.sl.v575 c b h x) (ix2 p q)
      = (argsOf x).dgb ⟨320 + p.val, by omega⟩ q := by
  unfold_payloads
  pointwise
  simp only [run.sl.v3118, run.sl.v575, read_slab, cov_slab _ (canon_dmer c b h x), cov_slab _ (canon_ya c b h x), cov_slab _ (canon_yb c b h x), Nat.zero_add]
  rfl

theorem dgb_21 (p : Fin 16) (q : Fin 1024) :
    k0_pay519 (run.sl.r_235 c b h x) (run.sl.r_236 c b h x) (run.sl.v602 c b h x) (ix2 p q)
      = (argsOf x).dgb ⟨336 + p.val, by omega⟩ q := by
  unfold run.sl.r_236 run.sl.r_235
  unfold_payloads
  pointwise
  simp only [run.sl.v602, run.sl.v3161, read_slab, cov_slab _ (canon_dmer c b h x), cov_slab _ (canon_ya c b h x), cov_slab _ (canon_yb c b h x), Nat.zero_add]
  rfl

theorem dgb_22 (p : Fin 16) (q : Fin 1024) :
    k0_pay527 (run.sl.r_238 c b h x) (run.sl.r_240 c b h x) (run.sl.v629 c b h x) (ix2 p q)
      = (argsOf x).dgb ⟨352 + p.val, by omega⟩ q := by
  unfold run.sl.r_240 run.sl.r_238
  unfold_payloads
  pointwise
  simp only [run.sl.v629, run.sl.v3204, read_slab, cov_slab _ (canon_dmer c b h x), cov_slab _ (canon_ya c b h x), cov_slab _ (canon_yb c b h x), Nat.zero_add]
  rfl

theorem dgb_23 (p : Fin 16) (q : Fin 1024) :
    k0_pay536 (run.sl.r_242 c b h x) (run.sl.r_244 c b h x) (run.sl.v656 c b h x) (ix2 p q)
      = (argsOf x).dgb ⟨368 + p.val, by omega⟩ q := by
  unfold run.sl.r_244 run.sl.r_242
  unfold_payloads
  pointwise
  simp only [run.sl.v656, run.sl.v3247, read_slab, cov_slab _ (canon_dmer c b h x), cov_slab _ (canon_ya c b h x), cov_slab _ (canon_yb c b h x), Nat.zero_add]
  rfl

theorem dgb_24 (p : Fin 16) (q : Fin 1024) :
    k0_pay545 (run.sl.r_247 c b h x) (run.sl.v3290 c b h x) (run.sl.v683 c b h x) (ix2 p q)
      = (argsOf x).dgb ⟨384 + p.val, by omega⟩ q := by
  unfold run.sl.r_247
  unfold_payloads
  pointwise
  simp only [run.sl.v3290, run.sl.v683, read_slab, cov_slab _ (canon_dmer c b h x), cov_slab _ (canon_ya c b h x), cov_slab _ (canon_yb c b h x), Nat.zero_add]
  rfl

theorem dgb_25 (p : Fin 16) (q : Fin 1024) :
    run.sl.r_249 c b h x (ix2 p q)
      = (argsOf x).dgb ⟨400 + p.val, by omega⟩ q := by
  unfold run.sl.r_249
  unfold_payloads
  pointwise
  simp only [run.sl.v3333, run.sl.v710, read_slab, cov_slab _ (canon_dmer c b h x), cov_slab _ (canon_ya c b h x), cov_slab _ (canon_yb c b h x), Nat.zero_add]
  rfl

theorem dgb_26 (p : Fin 16) (q : Fin 1024) :
    k0_pay562 (run.sl.r_250 c b h x) (run.sl.r_251 c b h x) (run.sl.v737 c b h x) (ix2 p q)
      = (argsOf x).dgb ⟨416 + p.val, by omega⟩ q := by
  unfold run.sl.r_251 run.sl.r_250
  unfold_payloads
  pointwise
  simp only [run.sl.v737, run.sl.v3376, read_slab, cov_slab _ (canon_dmer c b h x), cov_slab _ (canon_ya c b h x), cov_slab _ (canon_yb c b h x), Nat.zero_add]
  rfl

theorem dgb_27 (p : Fin 16) (q : Fin 1024) :
    k0_pay571 (run.sl.r_254 c b h x) (run.sl.r_256 c b h x) (run.sl.v764 c b h x) (ix2 p q)
      = (argsOf x).dgb ⟨432 + p.val, by omega⟩ q := by
  unfold run.sl.r_256 run.sl.r_254
  unfold_payloads
  pointwise
  simp only [run.sl.v764, run.sl.v3419, read_slab, cov_slab _ (canon_dmer c b h x), cov_slab _ (canon_ya c b h x), cov_slab _ (canon_yb c b h x), Nat.zero_add]
  rfl

theorem dgb_28 (p : Fin 16) (q : Fin 1024) :
    k0_pay579 (run.sl.r_259 c b h x) (run.sl.v3462 c b h x) (run.sl.v791 c b h x) (ix2 p q)
      = (argsOf x).dgb ⟨448 + p.val, by omega⟩ q := by
  unfold run.sl.r_259
  unfold_payloads
  pointwise
  simp only [run.sl.v3462, run.sl.v791, read_slab, cov_slab _ (canon_dmer c b h x), cov_slab _ (canon_ya c b h x), cov_slab _ (canon_yb c b h x), Nat.zero_add]
  rfl

theorem dgb_29 (p : Fin 16) (q : Fin 1024) :
    k0_pay587 (run.sl.r_261 c b h x) (run.sl.v3505 c b h x) (run.sl.v818 c b h x) (ix2 p q)
      = (argsOf x).dgb ⟨464 + p.val, by omega⟩ q := by
  unfold run.sl.r_261
  unfold_payloads
  pointwise
  simp only [run.sl.v3505, run.sl.v818, read_slab, cov_slab _ (canon_dmer c b h x), cov_slab _ (canon_ya c b h x), cov_slab _ (canon_yb c b h x), Nat.zero_add]
  rfl

theorem dgb_30 (p : Fin 16) (q : Fin 1024) :
    k0_pay597 (run.sl.r_263 c b h x) (run.sl.r_264 c b h x) (ix2 p q)
      = (argsOf x).dgb ⟨480 + p.val, by omega⟩ q := by
  unfold run.sl.r_264 run.sl.r_263
  unfold_payloads
  pointwise
  simp only [run.sl.v3548, run.sl.v845, read_slab, cov_slab _ (canon_dmer c b h x), cov_slab _ (canon_ya c b h x), cov_slab _ (canon_yb c b h x), Nat.zero_add]
  rfl

theorem dgb_31 (p : Fin 16) (q : Fin 1024) :
    k0_pay606 (run.sl.r_266 c b h x) (run.sl.r_267 c b h x) (run.sl.v872 c b h x) (ix2 p q)
      = (argsOf x).dgb ⟨496 + p.val, by omega⟩ q := by
  unfold run.sl.r_267 run.sl.r_266
  unfold_payloads
  pointwise
  simp only [run.sl.v872, run.sl.v3591, read_slab, cov_slab _ (canon_dmer c b h x), cov_slab _ (canon_ya c b h x), cov_slab _ (canon_yb c b h x), Nat.zero_add]
  rfl

theorem canon_dya (i : S512x1024.Idx) : View.canon (run.sl.HdyaS_32 c b h x) i = (argsOf x).dya (i 0) (i 1) := by
  unfold run.sl.HdyaS_32
  canon_tiles y hy
  · exact at_slab (argsOf x).dya 496 (by decide) (dya_31 c b h x) y hy0 hy1
  · exact at_slab (argsOf x).dya 480 (by decide) (dya_30 c b h x) y hy0 hy1
  · exact at_slab (argsOf x).dya 464 (by decide) (dya_29 c b h x) y hy0 hy1
  · exact at_slab (argsOf x).dya 448 (by decide) (dya_28 c b h x) y hy0 hy1
  · exact at_slab (argsOf x).dya 432 (by decide) (dya_27 c b h x) y hy0 hy1
  · exact at_slab (argsOf x).dya 416 (by decide) (dya_26 c b h x) y hy0 hy1
  · exact at_slab (argsOf x).dya 400 (by decide) (dya_25 c b h x) y hy0 hy1
  · exact at_slab (argsOf x).dya 384 (by decide) (dya_24 c b h x) y hy0 hy1
  · exact at_slab (argsOf x).dya 368 (by decide) (dya_23 c b h x) y hy0 hy1
  · exact at_slab (argsOf x).dya 352 (by decide) (dya_22 c b h x) y hy0 hy1
  · exact at_slab (argsOf x).dya 336 (by decide) (dya_21 c b h x) y hy0 hy1
  · exact at_slab (argsOf x).dya 320 (by decide) (dya_20 c b h x) y hy0 hy1
  · exact at_slab (argsOf x).dya 304 (by decide) (dya_19 c b h x) y hy0 hy1
  · exact at_slab (argsOf x).dya 288 (by decide) (dya_18 c b h x) y hy0 hy1
  · exact at_slab (argsOf x).dya 272 (by decide) (dya_17 c b h x) y hy0 hy1
  · exact at_slab (argsOf x).dya 256 (by decide) (dya_16 c b h x) y hy0 hy1
  · exact at_slab (argsOf x).dya 240 (by decide) (dya_15 c b h x) y hy0 hy1
  · exact at_slab (argsOf x).dya 224 (by decide) (dya_14 c b h x) y hy0 hy1
  · exact at_slab (argsOf x).dya 208 (by decide) (dya_13 c b h x) y hy0 hy1
  · exact at_slab (argsOf x).dya 192 (by decide) (dya_12 c b h x) y hy0 hy1
  · exact at_slab (argsOf x).dya 176 (by decide) (dya_11 c b h x) y hy0 hy1
  · exact at_slab (argsOf x).dya 160 (by decide) (dya_10 c b h x) y hy0 hy1
  · exact at_slab (argsOf x).dya 144 (by decide) (dya_9 c b h x) y hy0 hy1
  · exact at_slab (argsOf x).dya 128 (by decide) (dya_8 c b h x) y hy0 hy1
  · exact at_slab (argsOf x).dya 112 (by decide) (dya_7 c b h x) y hy0 hy1
  · exact at_slab (argsOf x).dya 96 (by decide) (dya_6 c b h x) y hy0 hy1
  · exact at_slab (argsOf x).dya 80 (by decide) (dya_5 c b h x) y hy0 hy1
  · exact at_slab (argsOf x).dya 64 (by decide) (dya_4 c b h x) y hy0 hy1
  · exact at_slab (argsOf x).dya 48 (by decide) (dya_3 c b h x) y hy0 hy1
  · exact at_slab (argsOf x).dya 32 (by decide) (dya_2 c b h x) y hy0 hy1
  · exact at_slab (argsOf x).dya 16 (by decide) (dya_1 c b h x) y hy0 hy1
  · exact at_slab (argsOf x).dya 0 (by decide) (dya_0 c b h x) y (hy0.trans (Nat.zero_add _).symm) hy1

theorem canon_dyb (i : S512x1024.Idx) : View.canon (run.sl.HdybS_32 c b h x) i = (argsOf x).dyb (i 0) (i 1) := by
  unfold run.sl.HdybS_32
  canon_tiles y hy
  · exact at_slab (argsOf x).dyb 496 (by decide) (dyb_31 c b h x) y hy0 hy1
  · exact at_slab (argsOf x).dyb 480 (by decide) (dyb_30 c b h x) y hy0 hy1
  · exact at_slab (argsOf x).dyb 464 (by decide) (dyb_29 c b h x) y hy0 hy1
  · exact at_slab (argsOf x).dyb 448 (by decide) (dyb_28 c b h x) y hy0 hy1
  · exact at_slab (argsOf x).dyb 432 (by decide) (dyb_27 c b h x) y hy0 hy1
  · exact at_slab (argsOf x).dyb 416 (by decide) (dyb_26 c b h x) y hy0 hy1
  · exact at_slab (argsOf x).dyb 400 (by decide) (dyb_25 c b h x) y hy0 hy1
  · exact at_slab (argsOf x).dyb 384 (by decide) (dyb_24 c b h x) y hy0 hy1
  · exact at_slab (argsOf x).dyb 368 (by decide) (dyb_23 c b h x) y hy0 hy1
  · exact at_slab (argsOf x).dyb 352 (by decide) (dyb_22 c b h x) y hy0 hy1
  · exact at_slab (argsOf x).dyb 336 (by decide) (dyb_21 c b h x) y hy0 hy1
  · exact at_slab (argsOf x).dyb 320 (by decide) (dyb_20 c b h x) y hy0 hy1
  · exact at_slab (argsOf x).dyb 304 (by decide) (dyb_19 c b h x) y hy0 hy1
  · exact at_slab (argsOf x).dyb 288 (by decide) (dyb_18 c b h x) y hy0 hy1
  · exact at_slab (argsOf x).dyb 272 (by decide) (dyb_17 c b h x) y hy0 hy1
  · exact at_slab (argsOf x).dyb 256 (by decide) (dyb_16 c b h x) y hy0 hy1
  · exact at_slab (argsOf x).dyb 240 (by decide) (dyb_15 c b h x) y hy0 hy1
  · exact at_slab (argsOf x).dyb 224 (by decide) (dyb_14 c b h x) y hy0 hy1
  · exact at_slab (argsOf x).dyb 208 (by decide) (dyb_13 c b h x) y hy0 hy1
  · exact at_slab (argsOf x).dyb 192 (by decide) (dyb_12 c b h x) y hy0 hy1
  · exact at_slab (argsOf x).dyb 176 (by decide) (dyb_11 c b h x) y hy0 hy1
  · exact at_slab (argsOf x).dyb 160 (by decide) (dyb_10 c b h x) y hy0 hy1
  · exact at_slab (argsOf x).dyb 144 (by decide) (dyb_9 c b h x) y hy0 hy1
  · exact at_slab (argsOf x).dyb 128 (by decide) (dyb_8 c b h x) y hy0 hy1
  · exact at_slab (argsOf x).dyb 112 (by decide) (dyb_7 c b h x) y hy0 hy1
  · exact at_slab (argsOf x).dyb 96 (by decide) (dyb_6 c b h x) y hy0 hy1
  · exact at_slab (argsOf x).dyb 80 (by decide) (dyb_5 c b h x) y hy0 hy1
  · exact at_slab (argsOf x).dyb 64 (by decide) (dyb_4 c b h x) y hy0 hy1
  · exact at_slab (argsOf x).dyb 48 (by decide) (dyb_3 c b h x) y hy0 hy1
  · exact at_slab (argsOf x).dyb 32 (by decide) (dyb_2 c b h x) y hy0 hy1
  · exact at_slab (argsOf x).dyb 16 (by decide) (dyb_1 c b h x) y hy0 hy1
  · exact at_slab (argsOf x).dyb 0 (by decide) (dyb_0 c b h x) y (hy0.trans (Nat.zero_add _).symm) hy1

end Cert.KernelIdeal.Merge

end
-- ==== Proof.MergeFrame.lean ====
/- The merge-and-loss kernel's launch: what each grid point leaves in the output blocks, the proof data of the pipeline,
   the body's triple at every point, and the run of the whole program.

   An accumulator's first use is a choice between zero and whatever its buffer holds; at the first point the choice is
   zero, so what is left there does not depend on the unknown contents (`dwa_eq` and its siblings). -/

module

public import proofs.«01_k».proof.Proof.MergeRun
public import Idealize.ShloMosaic.Lib.Claim

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- At the first point the bit that chooses zero is set. -/
theorem first_bit {i : grid0.Coords} (hi : (i 0).val = 0) : run.sl.v0 i = 1#1 := by unfold run.sl.v0; rw [hi]; rfl

/-- The stores into `dh` reach every element of its block. -/
theorem cover_dh (c : Dev nD) (i : grid0.Coords) (b : Bufs) (h : Whole b) (x : Ins F) (o : Accs F) (y : S512x1024.Idx) :
    ∃ pc ∈ (run c i b h x o).1, y ∈ pc.1.set :=
  View.cover_of_tiledL (run c i b h x o).1 S16x1024.size (by sl_kernel_rfl) y
/-- What the body leaves in `dh`. -/
def out_dh (c : Dev nD) (i : grid0.Coords) (b : Bufs) (h : Whole b) (x : Ins F) (o : Accs F) : Vec F S512x1024 .bf16 :=
  View.canon (run c i b h x o).1

/-- The stores into `doa` reach every element of its block. -/
theorem cover_doa (c : Dev nD) (i : grid0.Coords) (b : Bufs) (h : Whole b) (x : Ins F) (o : Accs F) (y : S512x512.Idx) :
    ∃ pc ∈ (run c i b h x o).2.1, y ∈ pc.1.set :=
  View.cover_of_tiledL (run c i b h x o).2.1 S512x512.size (by sl_kernel_rfl) y
/-- What the body leaves in `doa`. -/
def out_doa (c : Dev nD) (i : grid0.Coords) (b : Bufs) (h : Whole b) (x : Ins F) (o : Accs F) : Vec F S512x512 .bf16 :=
  View.canon (run c i b h x o).2.1

/-- The stores into `dob` reach every element of its block. -/
theorem cover_dob (c : Dev nD) (i : grid0.Coords) (b : Bufs) (h : Whole b) (x : Ins F) (o : Accs F) (y : S512x512.Idx) :
    ∃ pc ∈ (run c i b h x o).2.2.1, y ∈ pc.1.set :=
  View.cover_of_tiledL (run c i b h x o).2.2.1 S512x512.size (by sl_kernel_rfl) y
/-- What the body leaves in `dob`. -/
def out_dob (c : Dev nD) (i : grid0.Coords) (b : Bufs) (h : Whole b) (x : Ins F) (o : Accs F) : Vec F S512x512 .bf16 :=
  View.canon (run c i b h x o).2.2.1

/-- The stores into `dga` reach every element of its block. -/
theorem cover_dga (c : Dev nD) (i : grid0.Coords) (b : Bufs) (h : Whole b) (x : Ins F) (o : Accs F) (y : S512x1024.Idx) :
    ∃ pc ∈ (run c i b h x o).2.2.2.1, y ∈ pc.1.set :=
  View.cover_of_tiledL (run c i b h x o).2.2.2.1 S16x1024.size (by sl_kernel_rfl) y
/-- What the body leaves in `dga`. -/
def out_dga (c : Dev nD) (i : grid0.Coords) (b : Bufs) (h : Whole b) (x : Ins F) (o : Accs F) : Vec F S512x1024 .bf16 :=
  View.canon (run c i b h x o).2.2.2.1

/-- The stores into `dgb` reach every element of its block. -/
theorem cover_dgb (c : Dev nD) (i : grid0.Coords) (b : Bufs) (h : Whole b) (x : Ins F) (o : Accs F) (y : S512x1024.Idx) :
    ∃ pc ∈ (run c i b h x o).2.2.2.2.1, y ∈ pc.1.set :=
  View.cover_of_tiledL (run c i b h x o).2.2.2.2.1 S16x1024.size (by sl_kernel_rfl) y
/-- What the body leaves in `dgb`. -/
def out_dgb (c : Dev nD) (i : grid0.Coords) (b : Bufs) (h : Whole b) (x : Ins F) (o : Accs F) : Vec F S512x1024 .bf16 :=
  View.canon (run c i b h x o).2.2.2.2.1

/-- The stores into `dwa` reach every element of its block. -/
theorem cover_dwa (c : Dev nD) (i : grid0.Coords) (b : Bufs) (h : Whole b) (x : Ins F) (o : Accs F) (y : S512x1024.Idx) :
    ∃ pc ∈ (run c i b h x o).2.2.2.2.2.1, y ∈ pc.1.set :=
  View.cover_of_tiledL (run c i b h x o).2.2.2.2.2.1 S512x1024.size (by sl_kernel_rfl) y
/-- What the body leaves in `dwa`. -/
def out_dwa (c : Dev nD) (i : grid0.Coords) (b : Bufs) (h : Whole b) (x : Ins F) (o : Accs F) : Vec F S512x1024 .f32 :=
  View.canon (run c i b h x o).2.2.2.2.2.1

/-- The stores into `dwb` reach every element of its block. -/
theorem cover_dwb (c : Dev nD) (i : grid0.Coords) (b : Bufs) (h : Whole b) (x : Ins F) (o : Accs F) (y : S512x1024.Idx) :
    ∃ pc ∈ (run c i b h x o).2.2.2.2.2.2.1, y ∈ pc.1.set :=
  View.cover_of_tiledL (run c i b h x o).2.2.2.2.2.2.1 S512x1024.size (by sl_kernel_rfl) y
/-- What the body leaves in `dwb`. -/
def out_dwb (c : Dev nD) (i : grid0.Coords) (b : Bufs) (h : Whole b) (x : Ins F) (o : Accs F) : Vec F S512x1024 .f32 :=
  View.canon (run c i b h x o).2.2.2.2.2.2.1

/-- The stores into `dwo` reach every element of its block. -/
theorem cover_dwo (c : Dev nD) (i : grid0.Coords) (b : Bufs) (h : Whole b) (x : Ins F) (o : Accs F) (y : S1024x1024.Idx) :
    ∃ pc ∈ (run c i b h x o).2.2.2.2.2.2.2.1, y ∈ pc.1.set :=
  View.cover_of_tiledL (run c i b h x o).2.2.2.2.2.2.2.1 S1024x1024.size (by sl_kernel_rfl) y
/-- What the body leaves in `dwo`. -/
def out_dwo (c : Dev nD) (i : grid0.Coords) (b : Bufs) (h : Whole b) (x : Ins F) (o : Accs F) : Vec F S1024x1024 .f32 :=
  View.canon (run c i b h x o).2.2.2.2.2.2.2.1

/-- The stores into `dgf` reach every element of its block. -/
theorem cover_dgf (c : Dev nD) (i : grid0.Coords) (b : Bufs) (h : Whole b) (x : Ins F) (o : Accs F) (y : S1x1024.Idx) :
    ∃ pc ∈ (run c i b h x o).2.2.2.2.2.2.2.2.1, y ∈ pc.1.set :=
  View.cover_of_tiledL (run c i b h x o).2.2.2.2.2.2.2.2.1 S1x1024.size (by sl_kernel_rfl) y
/-- What the body leaves in `dgf`. -/
def out_dgf (c : Dev nD) (i : grid0.Coords) (b : Bufs) (h : Whole b) (x : Ins F) (o : Accs F) : Vec F S1x1024 .f32 :=
  View.canon (run c i b h x o).2.2.2.2.2.2.2.2.1

/-- The stores into `loss` reach every element of its block. -/
theorem cover_loss (c : Dev nD) (i : grid0.Coords) (b : Bufs) (h : Whole b) (x : Ins F) (o : Accs F) (y : S1x1024.Idx) :
    ∃ pc ∈ (run c i b h x o).2.2.2.2.2.2.2.2.2.1, y ∈ pc.1.set :=
  View.cover_of_tiledL (run c i b h x o).2.2.2.2.2.2.2.2.2.1 S1x1024.size (by sl_kernel_rfl) y
/-- What the body leaves in `loss`. -/
def out_loss (c : Dev nD) (i : grid0.Coords) (b : Bufs) (h : Whole b) (x : Ins F) (o : Accs F) : Vec F S1x1024 .f32 :=
  View.canon (run c i b h x o).2.2.2.2.2.2.2.2.2.1

section
variable (c : Dev nD) {i : grid0.Coords} (b : Bufs) (h : Whole b) (x : Ins F) {o o' : Accs F}

theorem dh_eq : out_dh c i b h x o = out_dh c i b h x o' := rfl
theorem doa_eq : out_doa c i b h x o = out_doa c i b h x o' := rfl
theorem dob_eq : out_dob c i b h x o = out_dob c i b h x o' := rfl
theorem dga_eq : out_dga c i b h x o = out_dga c i b h x o' := rfl
theorem dgb_eq : out_dgb c i b h x o = out_dgb c i b h x o' := rfl
/-- `dwa` ends with one whole store. -/
theorem pieces_dwa (o : Accs F) : (run c i b h x o).2.2.2.2.2.1
    = [⟨Rect.unit ![0, 0] S512x1024.size inb_S512x1024_S512x1024_0_0, k0_pay610 (run.sl.r_269 c i b h o) (run.sl.r_270 c b h x) (run.sl.v3616 c b h x)⟩] := rfl
theorem dwa_eq (hi : (i 0).val = 0 ∨ o = o') : out_dwa c i b h x o = out_dwa c i b h x o' := by
  rcases hi with hi | rfl
  · exact congrArg View.canon ((pieces_dwa c b h x o).trans (Eq.trans (by unfold run.sl.r_269 k0_pay609; rw [first_bit hi]; rfl) (pieces_dwa c b h x o').symm))
  · rfl
/-- `dwb` ends with one whole store. -/
theorem pieces_dwb (o : Accs F) : (run c i b h x o).2.2.2.2.2.2.1
    = [⟨Rect.unit ![0, 0] S512x1024.size inb_S512x1024_S512x1024_0_0, run.sl.r_271 c i b h x o⟩] := rfl
theorem dwb_eq (hi : (i 0).val = 0 ∨ o = o') : out_dwb c i b h x o = out_dwb c i b h x o' := by
  rcases hi with hi | rfl
  · exact congrArg View.canon ((pieces_dwb c b h x o).trans (Eq.trans (by unfold run.sl.r_271 k0_pay611; rw [first_bit hi]; rfl) (pieces_dwb c b h x o').symm))
  · rfl
/-- `dwo` ends with one whole store. -/
theorem pieces_dwo (o : Accs F) : (run c i b h x o).2.2.2.2.2.2.2.1
    = [⟨Rect.unit ![0, 0] S1024x1024.size inb_S1024x1024_S1024x1024_0_0, k0_pay323 (run.sl.v0 i) (View.readAt (Elt F) b.dwo.view (Rect.unit ![0, 0] S1024x1024.size inb_S1024x1024_S1024x1024_0_0).toLoadRect (h.dwo.unread o.dwo)) (run.sl.v880 c b h x) (run.sl.v2222 c b h x)⟩] := rfl
theorem dwo_eq (hi : (i 0).val = 0 ∨ o = o') : out_dwo c i b h x o = out_dwo c i b h x o' := by
  rcases hi with hi | rfl
  · exact congrArg View.canon ((pieces_dwo c b h x o).trans (Eq.trans (by unfold k0_pay323; rw [first_bit hi]; rfl) (pieces_dwo c b h x o').symm))
  · rfl
/-- `dgf` ends with one whole store. -/
theorem pieces_dgf (o : Accs F) : (run c i b h x o).2.2.2.2.2.2.2.2.1
    = [⟨Rect.unit ![0, 0] S1x1024.size inb_S1x1024_S1x1024_0_0, k0_pay320 (run.sl.v0 i) (run.sl.r_168 c b h x) (View.readAt (Elt F) b.dgf.view (Rect.unit ![0, 0] S1x1024.size inb_S1x1024_S1x1024_0_0).toLoadRect (h.dgf.unread o.dgf))⟩] := rfl
theorem dgf_eq (hi : (i 0).val = 0 ∨ o = o') : out_dgf c i b h x o = out_dgf c i b h x o' := by
  rcases hi with hi | rfl
  · exact congrArg View.canon ((pieces_dgf c b h x o).trans (Eq.trans (by unfold k0_pay320; rw [first_bit hi]; rfl) (pieces_dgf c b h x o').symm))
  · rfl
/-- `loss` ends with one whole store. -/
theorem pieces_loss (o : Accs F) : (run c i b h x o).2.2.2.2.2.2.2.2.2.1
    = [⟨Rect.unit ![0, 0] S1x1024.size inb_S1x1024_S1x1024_0_0, k0_pay319 (run.sl.v0 i) (run.sl.r_167 c b h x) (View.readAt (Elt F) b.loss.view (Rect.unit ![0, 0] S1x1024.size inb_S1x1024_S1x1024_0_0).toLoadRect (h.loss.unread o.loss))⟩] := rfl
theorem loss_eq (hi : (i 0).val = 0 ∨ o = o') : out_loss c i b h x o = out_loss c i b h x o' := by
  rcases hi with hi | rfl
  · exact congrArg View.canon ((pieces_loss c b h x o).trans (Eq.trans (by unfold k0_pay319; rw [first_bit hi]; rfl) (pieces_loss c b h x o').symm))
  · rfl
end

/-- The buffers of point `t`. -/
def bufs (t : Fin cfg0.N) : Bufs := ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), win0_12.stage (cfg0.slots t 12), win0_13.stage (cfg0.slots t 13), win0_14.stage (cfg0.slots t 14), win0_15.stage (cfg0.slots t 15), win0_16.stage (cfg0.slots t 16), win0_17.stage (cfg0.slots t 17), win0_18.stage (cfg0.slots t 18), win0_19.stage (cfg0.slots t 19), Memref.whole cc0_scratch0, Memref.whole cc0_scratch1, Memref.whole cc0_scratch2, Memref.whole cc0_scratch3, Memref.whole cc0_scratch4, Memref.whole cc0_scratch5, Memref.whole cc0_scratch6⟩
/-- They are whole. -/
theorem whole (t : Fin cfg0.N) : Whole (bufs t) := ⟨hstage0_0 ((cfg0.slots t 0).cast nbuf0_0), hstage0_1 ((cfg0.slots t 1).cast nbuf0_1), hstage0_2 ((cfg0.slots t 2).cast nbuf0_2), hstage0_3 ((cfg0.slots t 3).cast nbuf0_3), hstage0_4 ((cfg0.slots t 4).cast nbuf0_4), hstage0_5 ((cfg0.slots t 5).cast nbuf0_5), hstage0_6 ((cfg0.slots t 6).cast nbuf0_6), hstage0_7 ((cfg0.slots t 7).cast nbuf0_7), hstage0_8 ((cfg0.slots t 8).cast nbuf0_8), hstage0_9 ((cfg0.slots t 9).cast nbuf0_9), hstage0_10 ((cfg0.slots t 10).cast nbuf0_10), hstage0_11 ((cfg0.slots t 11).cast nbuf0_11), hstage0_12 ((cfg0.slots t 12).cast nbuf0_12), hstage0_13 ((cfg0.slots t 13).cast nbuf0_13), hstage0_14 ((cfg0.slots t 14).cast nbuf0_14), hstage0_15 ((cfg0.slots t 15).cast nbuf0_15), hstage0_16 ((cfg0.slots t 16).cast nbuf0_16), hstage0_17 ((cfg0.slots t 17).cast nbuf0_17), hstage0_18 ((cfg0.slots t 18).cast nbuf0_18), hstage0_19 ((cfg0.slots t 19).cast nbuf0_19), Memref.isWhole_whole _, Memref.isWhole_whole _, Memref.isWhole_whole _, Memref.isWhole_whole _, Memref.isWhole_whole _, Memref.isWhole_whole _, Memref.isWhole_whole _⟩

variable (m : (ℓ : Loc nD τ sig) → Buf (Elt F) ℓ) (ρ : Dev nD → PrngReg)

/-- The input blocks of point `t`. -/
def ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t⟩
/-- The accumulators after one point, from what they held before it. -/
def step (c : Dev nD) (t : Fin cfg0.N) (o : Accs F) : Accs F := ⟨out_dwa c (grid0.coords t) (bufs t) (whole t) (ins m c t) o, out_dwb c (grid0.coords t) (bufs t) (whole t) (ins m c t) o, out_dwo c (grid0.coords t) (bufs t) (whole t) (ins m c t) o, out_dgf c (grid0.coords t) (bufs t) (whole t) (ins m c t) o, out_loss c (grid0.coords t) (bufs t) (whole t) (ins m c t) o⟩
/-- Five accumulators of zeros. -/
def zeros : Accs F := ⟨fun _ => Scalar.ofBits .f32 0x00000000#32, fun _ => Scalar.ofBits .f32 0x00000000#32, fun _ => Scalar.ofBits .f32 0x00000000#32, fun _ => Scalar.ofBits .f32 0x00000000#32, fun _ => Scalar.ofBits .f32 0x00000000#32⟩
/-- The accumulators after point `n`. -/
def accsAt (c : Dev nD) : (n : ℕ) → n < cfg0.N → Accs F
  | 0, h => step m c ⟨0, h⟩ zeros
  | n + 1, h => step m c ⟨n + 1, h⟩ (accsAt c n (Nat.lt_of_succ_lt h))
/-- The accumulators before point `n`: what the point before left, zeros before the first. -/
def prevAt (c : Dev nD) : (n : ℕ) → n < cfg0.N → Accs F
  | 0, _ => zeros
  | n + 1, h => accsAt m c n (Nat.lt_of_succ_lt h)
theorem accsAt_eq (c : Dev nD) (n : ℕ) (h : n < cfg0.N) : accsAt m c n h = step m c ⟨n, h⟩ (prevAt m c n h) := by
  cases n <;> rfl

/-- What point `t` leaves in `dh`. -/
def at_dh (c : Dev nD) (t : Fin cfg0.N) : Vec F S512x1024 .bf16 :=
  out_dh c (grid0.coords t) (bufs t) (whole t) (ins m c t) (prevAt m c t.val t.isLt)
/-- What point `t` leaves in `doa`. -/
def at_doa (c : Dev nD) (t : Fin cfg0.N) : Vec F S512x512 .bf16 :=
  out_doa c (grid0.coords t) (bufs t) (whole t) (ins m c t) (prevAt m c t.val t.isLt)
/-- What point `t` leaves in `dob`. -/
def at_dob (c : Dev nD) (t : Fin cfg0.N) : Vec F S512x512 .bf16 :=
  out_dob c (grid0.coords t) (bufs t) (whole t) (ins m c t) (prevAt m c t.val t.isLt)
/-- What point `t` leaves in `dga`. -/
def at_dga (c : Dev nD) (t : Fin cfg0.N) : Vec F S512x1024 .bf16 :=
  out_dga c (grid0.coords t) (bufs t) (whole t) (ins m c t) (prevAt m c t.val t.isLt)
/-- What point `t` leaves in `dgb`. -/
def at_dgb (c : Dev nD) (t : Fin cfg0.N) : Vec F S512x1024 .bf16 :=
  out_dgb c (grid0.coords t) (bufs t) (whole t) (ins m c t) (prevAt m c t.val t.isLt)
/-- What point `t` leaves in `dwa`. -/
def at_dwa (c : Dev nD) (t : Fin cfg0.N) : Vec F S512x1024 .f32 :=
  out_dwa c (grid0.coords t) (bufs t) (whole t) (ins m c t) (prevAt m c t.val t.isLt)
/-- What point `t` leaves in `dwb`. -/
def at_dwb (c : Dev nD) (t : Fin cfg0.N) : Vec F S512x1024 .f32 :=
  out_dwb c (grid0.coords t) (bufs t) (whole t) (ins m c t) (prevAt m c t.val t.isLt)
/-- What point `t` leaves in `dwo`. -/
def at_dwo (c : Dev nD) (t : Fin cfg0.N) : Vec F S1024x1024 .f32 :=
  out_dwo c (grid0.coords t) (bufs t) (whole t) (ins m c t) (prevAt m c t.val t.isLt)
/-- What point `t` leaves in `dgf`. -/
def at_dgf (c : Dev nD) (t : Fin cfg0.N) : Vec F S1x1024 .f32 :=
  out_dgf c (grid0.coords t) (bufs t) (whole t) (ins m c t) (prevAt m c t.val t.isLt)
/-- What point `t` leaves in `loss`. -/
def at_loss (c : Dev nD) (t : Fin cfg0.N) : Vec F S1x1024 .f32 :=
  out_loss c (grid0.coords t) (bufs t) (whole t) (ins m c t) (prevAt m c t.val t.isLt)
theorem accsAt_dwa (c : Dev nD) (n : ℕ) (h : n < cfg0.N) : (accsAt m c n h).dwa = at_dwa m c ⟨n, h⟩ := by
  rw [accsAt_eq]; unfold step at_dwa; dsimp only
theorem accsAt_dwb (c : Dev nD) (n : ℕ) (h : n < cfg0.N) : (accsAt m c n h).dwb = at_dwb m c ⟨n, h⟩ := by
  rw [accsAt_eq]; unfold step at_dwb; dsimp only
theorem accsAt_dwo (c : Dev nD) (n : ℕ) (h : n < cfg0.N) : (accsAt m c n h).dwo = at_dwo m c ⟨n, h⟩ := by
  rw [accsAt_eq]; unfold step at_dwo; dsimp only
theorem accsAt_dgf (c : Dev nD) (n : ℕ) (h : n < cfg0.N) : (accsAt m c n h).dgf = at_dgf m c ⟨n, h⟩ := by
  rw [accsAt_eq]; unfold step at_dgf; dsimp only
theorem accsAt_loss (c : Dev nD) (n : ℕ) (h : n < cfg0.N) : (accsAt m c n h).loss = at_loss m c ⟨n, h⟩ := by
  rw [accsAt_eq]; unfold step at_loss; dsimp only

/-- The proof data: each array as the region finds it, each input block left in place, each output block what the body
    leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => at_dh m c t
    | ⟨11, _⟩ => at_doa m c t
    | ⟨12, _⟩ => at_dob m c t
    | ⟨13, _⟩ => at_dga m c t
    | ⟨14, _⟩ => at_dgb m c t
    | ⟨15, _⟩ => at_dwa m c t
    | ⟨16, _⟩ => at_dwb m c t
    | ⟨17, _⟩ => at_dwo m c t
    | ⟨18, _⟩ => at_dgf m c t
    | ⟨19, _⟩ => at_loss m c t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = at_dh m c t := by dsimp only [dats]
theorem after_11 (c : Dev nD) (t : Fin cfg0.N) : (dats m 0 c).after 11 t = at_doa m c t := by dsimp only [dats]
theorem after_12 (c : Dev nD) (t : Fin cfg0.N) : (dats m 0 c).after 12 t = at_dob m c t := by dsimp only [dats]
theorem after_13 (c : Dev nD) (t : Fin cfg0.N) : (dats m 0 c).after 13 t = at_dga m c t := by dsimp only [dats]
theorem after_14 (c : Dev nD) (t : Fin cfg0.N) : (dats m 0 c).after 14 t = at_dgb m c t := by dsimp only [dats]
theorem after_15 (c : Dev nD) (t : Fin cfg0.N) : (dats m 0 c).after 15 t = at_dwa m c t := by dsimp only [dats]
theorem after_16 (c : Dev nD) (t : Fin cfg0.N) : (dats m 0 c).after 16 t = at_dwb m c t := by dsimp only [dats]
theorem after_17 (c : Dev nD) (t : Fin cfg0.N) : (dats m 0 c).after 17 t = at_dwo m c t := by dsimp only [dats]
theorem after_18 (c : Dev nD) (t : Fin cfg0.N) : (dats m 0 c).after 18 t = at_dgf m c t := by dsimp only [dats]
theorem after_19 (c : Dev nD) (t : Fin cfg0.N) : (dats m 0 c).after 19 t = at_loss m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem prevAt_pos (c : Dev nD) (t : Fin cfg0.N) (h0 : ¬t.val = 0) :
    prevAt m c t.val t.isLt = accsAt m c (t.val - 1) (Nat.lt_of_le_of_lt (Nat.sub_le _ _) t.isLt) := by
  obtain ⟨n, h⟩ := t
  cases n
  · exact absurd rfl h0
  · rfl

/-- After the first point `dwa`'s buffer holds what the point before left. -/
theorem before_15 (c : Dev nD) (t : Fin cfg0.N) (h0 : ¬t.val = 0) (d) :
    (dats m 0 c).before 15 t d = (prevAt m c t.val t.isLt).dwa := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl), after_15, prevAt_pos m c t h0, accsAt_dwa]
/-- After the first point `dwb`'s buffer holds what the point before left. -/
theorem before_16 (c : Dev nD) (t : Fin cfg0.N) (h0 : ¬t.val = 0) (d) :
    (dats m 0 c).before 16 t d = (prevAt m c t.val t.isLt).dwb := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl), after_16, prevAt_pos m c t h0, accsAt_dwb]
/-- After the first point `dwo`'s buffer holds what the point before left. -/
theorem before_17 (c : Dev nD) (t : Fin cfg0.N) (h0 : ¬t.val = 0) (d) :
    (dats m 0 c).before 17 t d = (prevAt m c t.val t.isLt).dwo := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl), after_17, prevAt_pos m c t h0, accsAt_dwo]
/-- After the first point `dgf`'s buffer holds what the point before left. -/
theorem before_18 (c : Dev nD) (t : Fin cfg0.N) (h0 : ¬t.val = 0) (d) :
    (dats m 0 c).before 18 t d = (prevAt m c t.val t.isLt).dgf := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl), after_18, prevAt_pos m c t h0, accsAt_dgf]
/-- After the first point `loss`'s buffer holds what the point before left. -/
theorem before_19 (c : Dev nD) (t : Fin cfg0.N) (h0 : ¬t.val = 0) (d) :
    (dats m 0 c).before 19 t d = (prevAt m c t.val t.isLt).loss := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl), after_19, prevAt_pos m c t h0, accsAt_loss]

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d)))
/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t))

theorem coords_zero (t : Fin cfg0.N) (h0 : t.val = 0) : (grid0.coords t 0).val = 0 := by
  have e : (grid0.coords t 0).val = t.val / 1 % 16 := Pipeline.Grid.coords_val t 0 (by decide) rfl
  omega

set_option maxHeartbeats 4000000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.castSucc = Pipeline.ΦA spec0 c from rfl, PhiA_eq]
  unfold at_dh at_doa at_dob at_dga at_dgb at_dwa at_dwb at_dwo at_dgf at_loss
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have ho : (grid0.coords t 0).val = 0 ∨ (⟨(dats m 0 c).before 15 t d15, (dats m 0 c).before 16 t d16, (dats m 0 c).before 17 t d17, (dats m 0 c).before 18 t d18, (dats m 0 c).before 19 t d19⟩ : Accs F) = prevAt m c t.val t.isLt := by
    by_cases h0 : t.val = 0
    · exact Or.inl (coords_zero t h0)
    · refine Or.inr ?_
      rw [before_15 m c t h0, before_16 m c t h0, before_17 m c t h0, before_18 m c t h0, before_19 m c t h0]
  iapply ((run c (grid0.coords t) (bufs t) (whole t) (ins m c t) ⟨(dats m 0 c).before 15 t d15, (dats m 0 c).before 16 t d16, (dats m 0 c).before 17 t d17, (dats m 0 c).before 18 t d18, (dats m 0 c).before 19 t d19⟩).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact (View.read_writes_eq_canon _ _ _ (cover_dh c _ _ _ _ _)).trans (dh_eq c (bufs t) (whole t) (ins m c t))
  isplitl [H11]
  · unfold owns; iexists _; isplitr
    swap; · iexact H11
    ipureintro; exact (View.read_writes_eq_canon _ _ _ (cover_doa c _ _ _ _ _)).trans (doa_eq c (bufs t) (whole t) (ins m c t))
  isplitl [H12]
  · unfold owns; iexists _; isplitr
    swap; · iexact H12
    ipureintro; exact (View.read_writes_eq_canon _ _ _ (cover_dob c _ _ _ _ _)).trans (dob_eq c (bufs t) (whole t) (ins m c t))
  isplitl [H13]
  · unfold owns; iexists _; isplitr
    swap; · iexact H13
    ipureintro; exact (View.read_writes_eq_canon _ _ _ (cover_dga c _ _ _ _ _)).trans (dga_eq c (bufs t) (whole t) (ins m c t))
  isplitl [H14]
  · unfold owns; iexists _; isplitr
    swap; · iexact H14
    ipureintro; exact (View.read_writes_eq_canon _ _ _ (cover_dgb c _ _ _ _ _)).trans (dgb_eq c (bufs t) (whole t) (ins m c t))
  isplitl [H15]
  · unfold owns; iexists _; isplitr
    swap; · iexact H15
    ipureintro; exact (View.read_writes_eq_canon _ _ _ (cover_dwa c _ _ _ _ _)).trans (dwa_eq c (bufs t) (whole t) (ins m c t) ho)
  isplitl [H16]
  · unfold owns; iexists _; isplitr
    swap; · iexact H16
    ipureintro; exact (View.read_writes_eq_canon _ _ _ (cover_dwb c _ _ _ _ _)).trans (dwb_eq c (bufs t) (whole t) (ins m c t) ho)
  isplitl [H17]
  · unfold owns; iexists _; isplitr
    swap; · iexact H17
    ipureintro; exact (View.read_writes_eq_canon _ _ _ (cover_dwo c _ _ _ _ _)).trans (dwo_eq c (bufs t) (whole t) (ins m c t) ho)
  isplitl [H18]
  · unfold owns; iexists _; isplitr
    swap; · iexact H18
    ipureintro; exact (View.read_writes_eq_canon _ _ _ (cover_dgf c _ _ _ _ _)).trans (dgf_eq c (bufs t) (whole t) (ins m c t) ho)
  unfold owns; iexists _; isplitr
  swap; · iexact H19
  ipureintro; exact (View.read_writes_eq_canon _ _ _ (cover_loss c _ _ _ _ _)).trans (loss_eq c (bufs t) (whole t) (ins m c t) ho)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every fair execution ends with the arrays at what the proof data say and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as launched, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Merge

end
-- ==== Proof.MergeBody.lean ====
/- What one grid point leaves in every output block: the rows of the results, and the accumulators with that point's
   rows added. -/

module

public import proofs.«01_k».proof.Proof.MergeBack
public import proofs.«01_k».proof.Proof.MergeFrame
public import Idealize.ShloMosaic.Lib.Pipeline.ValueKit
public import Idealize.ShloMosaic.Lib.Pointwise

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- The running sum, as a sum. -/
theorem part_eq (f : Fin 512 → EReal) (k : ℕ) (p : Fin 8) : part f k p = ∑ i ∈ Finset.range (k + 1), fold f i p := by
  induction k with
  | zero => rw [Finset.sum_range_one, part]
  | succ k ih => rw [Finset.sum_range_succ, part, ih]

/-- The eight folded rows sum to all of them. -/
theorem sum_part (f : Fin 512 → EReal) : ∑ p : Fin 8, part f 31 p = ∑ R : Fin 512, f R := by
  simp only [part_eq]
  rw [Finset.sum_comm, Sums.tiles 32 16 rfl f]
  refine Finset.sum_congr rfl fun k _ => ?_
  rw [Sums.cut 8 8 rfl]
  rw [← Finset.sum_add_distrib]
  rfl

/-- After the first point the bit that chooses zero is clear. -/
theorem later_bit (i : grid0.Coords) (hi : (i 0).val ≠ 0) : run.sl.v0 i = 0#1 := by
  have h : ∀ n : Fin 16, n.val ≠ 0 → Scalar.cmpi CmpIPredicate.eq (BitVec.ofNat 32 n.val) 0#32 = 0#1 := by decide
  exact h (i 0) hi

variable (c : Dev nD) (b : Bufs) (h : Whole b) (x : Ins Ideal) (i : grid0.Coords) (o : Accs Ideal)

theorem body_dh (y : S512x1024.Idx) : out_dh c i b h x o y = (argsOf x).dh (y 0) (y 1) := canon_dh c b h x y

section
variable (p : Fin 512) (q : Fin 512)

theorem body_doa : out_doa c i b h x o (ix2 p q) = (argsOf x).doa p q := by
  have e : (run c i b h x o).2.1 = [⟨Rect.unit ![0, 0] S512x512.size inb_S512x512_S512x512_0_0, k0_pay607 (run.sl.v3616 c b h x) (View.readAt (Elt Ideal) b.wa.view (Rect.unit (s := S512x1024) ![0, 0] S512x1024.size inb_S512x1024_S512x1024_0_0).toLoadRect (h.wa.unread x.wa))⟩] := rfl
  unfold out_doa
  rw [e]
  refine (congrFun (View.canon_cons_unit_lit' _ _ _ (by decide)) _).trans ?_
  unfold_payloads
  pointwise
  simp only [read_S512x1024, run.sl.v3616, cov_whole _ (canon_dya c b h x)]
  rfl

theorem body_dob : out_dob c i b h x o (ix2 p q) = (argsOf x).dob p q := by
  have e : (run c i b h x o).2.2.1 = [⟨Rect.unit ![0, 0] S512x512.size inb_S512x512_S512x512_0_0, k0_pay608 (run.sl.v3622 c b h x) (View.readAt (Elt Ideal) b.wb.view (Rect.unit (s := S512x1024) ![0, 0] S512x1024.size inb_S512x1024_S512x1024_0_0).toLoadRect (h.wb.unread x.wb))⟩] := rfl
  unfold out_dob
  rw [e]
  refine (congrFun (View.canon_cons_unit_lit' _ _ _ (by decide)) _).trans ?_
  unfold_payloads
  pointwise
  simp only [read_S512x1024, run.sl.v3622, cov_whole _ (canon_dyb c b h x)]
  rfl

end

theorem body_dga (y : S512x1024.Idx) : out_dga c i b h x o y = (argsOf x).dga (y 0) (y 1) := by
  have e : (run c i b h x o).2.2.2.1 = [
    ⟨Rect.unit ![496, 0] S16x1024.size inb_S512x1024_S16x1024_496_0, k0_pay605 (run.sl.r_265 c b h x) (run.sl.r_268 c b h x)⟩,
    ⟨Rect.unit ![480, 0] S16x1024.size inb_S512x1024_S16x1024_480_0, k0_pay595 (run.sl.r_262 c b h x) (run.sl.v3548 c b h x) (run.sl.v843 c b h x)⟩,
    ⟨Rect.unit ![464, 0] S16x1024.size inb_S512x1024_S16x1024_464_0, k0_pay586 (run.sl.r_260 c b h x) (run.sl.v3505 c b h x) (run.sl.v816 c b h x)⟩,
    ⟨Rect.unit ![448, 0] S16x1024.size inb_S512x1024_S16x1024_448_0, k0_pay578 (run.sl.r_258 c b h x) (run.sl.v3462 c b h x) (run.sl.v789 c b h x)⟩,
    ⟨Rect.unit ![432, 0] S16x1024.size inb_S512x1024_S16x1024_432_0, k0_pay570 (run.sl.r_253 c b h x) (run.sl.r_255 c b h x) (run.sl.v762 c b h x)⟩,
    ⟨Rect.unit ![416, 0] S16x1024.size inb_S512x1024_S16x1024_416_0, run.sl.r_252 c b h x⟩,
    ⟨Rect.unit ![400, 0] S16x1024.size inb_S512x1024_S16x1024_400_0, k0_pay553 (run.sl.r_248 c b h x) run.sl.cst_124 (run.sl.v3333 c b h x) (run.sl.v708 c b h x)⟩,
    ⟨Rect.unit ![384, 0] S16x1024.size inb_S512x1024_S16x1024_384_0, k0_pay544 (run.sl.r_246 c b h x) (run.sl.v3290 c b h x) (run.sl.v681 c b h x)⟩,
    ⟨Rect.unit ![368, 0] S16x1024.size inb_S512x1024_S16x1024_368_0, k0_pay535 (run.sl.r_241 c b h x) (run.sl.r_243 c b h x) (run.sl.v654 c b h x)⟩,
    ⟨Rect.unit ![352, 0] S16x1024.size inb_S512x1024_S16x1024_352_0, k0_pay526 (run.sl.r_237 c b h x) (run.sl.r_239 c b h x) (run.sl.v627 c b h x)⟩,
    ⟨Rect.unit ![336, 0] S16x1024.size inb_S512x1024_S16x1024_336_0, k0_pay518 (View.readAt (Elt Ideal) b.ga.view (Rect.unit (s := S512x1024) ![336, 0] S16x1024.size inb_S512x1024_S16x1024_336_0).toLoadRect (h.ga.unread x.ga)) (run.sl.v3161 c b h x) (run.sl.v600 c b h x)⟩,
    ⟨Rect.unit ![320, 0] S16x1024.size inb_S512x1024_S16x1024_320_0, k0_pay510 (run.sl.r_234 c b h x) (run.sl.v3118 c b h x) (run.sl.v573 c b h x)⟩,
    ⟨Rect.unit ![304, 0] S16x1024.size inb_S512x1024_S16x1024_304_0, k0_pay502 (run.sl.r_232 c b h x) (run.sl.v3075 c b h x) (run.sl.v546 c b h x)⟩,
    ⟨Rect.unit ![288, 0] S16x1024.size inb_S512x1024_S16x1024_288_0, k0_pay492 (run.sl.r_228 c b h x) (run.sl.r_230 c b h x) (run.sl.v519 c b h x)⟩,
    ⟨Rect.unit ![272, 0] S16x1024.size inb_S512x1024_S16x1024_272_0, k0_pay484 (run.sl.r_224 c b h x) (run.sl.r_227 c b h x) k0_pay483⟩,
    ⟨Rect.unit ![256, 0] S16x1024.size inb_S512x1024_S16x1024_256_0, k0_pay472 (run.sl.r_221 c b h x) k0_pay465 (run.sl.v2946 c b h x) (run.sl.v465 c b h x)⟩,
    ⟨Rect.unit ![240, 0] S16x1024.size inb_S512x1024_S16x1024_240_0, k0_pay462 (run.sl.r_219 c b h x) (run.sl.v2903 c b h x) (run.sl.v438 c b h x)⟩,
    ⟨Rect.unit ![224, 0] S16x1024.size inb_S512x1024_S16x1024_224_0, k0_pay453 (run.sl.r_216 c b h x) (run.sl.r_218 c b h x) (run.sl.v411 c b h x)⟩,
    ⟨Rect.unit ![208, 0] S16x1024.size inb_S512x1024_S16x1024_208_0, k0_pay445 (run.sl.r_211 c b h x) (run.sl.r_213 c b h x) (run.sl.v384 c b h x)⟩,
    ⟨Rect.unit ![192, 0] S16x1024.size inb_S512x1024_S16x1024_192_0, run.sl.r_210 c b h x⟩,
    ⟨Rect.unit ![176, 0] S16x1024.size inb_S512x1024_S16x1024_176_0, k0_pay428 (run.sl.r_206 c b h x) (run.sl.v2731 c b h x) (run.sl.v330 c b h x)⟩,
    ⟨Rect.unit ![160, 0] S16x1024.size inb_S512x1024_S16x1024_160_0, k0_pay419 (run.sl.r_204 c b h x) (run.sl.v2688 c b h x) (run.sl.v303 c b h x)⟩,
    ⟨Rect.unit ![144, 0] S16x1024.size inb_S512x1024_S16x1024_144_0, k0_pay409 (run.sl.r_199 c b h x) (run.sl.r_201 c b h x) (run.sl.v276 c b h x)⟩,
    ⟨Rect.unit ![128, 0] S16x1024.size inb_S512x1024_S16x1024_128_0, k0_pay400 (run.sl.r_195 c b h x) (run.sl.r_197 c b h x) (run.sl.v249 c b h x)⟩,
    ⟨Rect.unit ![112, 0] S16x1024.size inb_S512x1024_S16x1024_112_0, k0_pay392 (run.sl.r_192 c b h x) (run.sl.v2559 c b h x) (run.sl.v222 c b h x)⟩,
    ⟨Rect.unit ![96, 0] S16x1024.size inb_S512x1024_S16x1024_96_0, k0_pay384 (run.sl.r_191 c b h x) (run.sl.v2516 c b h x) (run.sl.v195 c b h x)⟩,
    ⟨Rect.unit ![80, 0] S16x1024.size inb_S512x1024_S16x1024_80_0, k0_pay376 (run.sl.r_189 c b h x) (run.sl.v2473 c b h x) (run.sl.v168 c b h x)⟩,
    ⟨Rect.unit ![64, 0] S16x1024.size inb_S512x1024_S16x1024_64_0, k0_pay368 (run.sl.r_184 c b h x) (run.sl.r_186 c b h x) (run.sl.v141 c b h x)⟩,
    ⟨Rect.unit ![48, 0] S16x1024.size inb_S512x1024_S16x1024_48_0, k0_pay359 (run.sl.r_183 c b h x)⟩,
    ⟨Rect.unit ![32, 0] S16x1024.size inb_S512x1024_S16x1024_32_0, k0_pay349 (run.sl.r_179 c b h x) (run.sl.v2344 c b h x) (run.sl.v87 c b h x)⟩,
    ⟨Rect.unit ![16, 0] S16x1024.size inb_S512x1024_S16x1024_16_0, k0_pay340 (run.sl.r_177 c b h x) (run.sl.v2301 c b h x) (run.sl.v60 c b h x)⟩,
    ⟨Rect.unit ![0, 0] S16x1024.size inb_S512x1024_S16x1024_0_0, k0_pay331 (run.sl.r_172 c b h x) (run.sl.r_174 c b h x) (run.sl.v33 c b h x)⟩] := rfl
  unfold out_dga
  rw [e]
  canon_tiles y' hy
  · exact at_slab (argsOf x).dga 496 (by decide) (dga_31 c b h x) y' hy0 hy1
  · exact at_slab (argsOf x).dga 480 (by decide) (dga_30 c b h x) y' hy0 hy1
  · exact at_slab (argsOf x).dga 464 (by decide) (dga_29 c b h x) y' hy0 hy1
  · exact at_slab (argsOf x).dga 448 (by decide) (dga_28 c b h x) y' hy0 hy1
  · exact at_slab (argsOf x).dga 432 (by decide) (dga_27 c b h x) y' hy0 hy1
  · exact at_slab (argsOf x).dga 416 (by decide) (dga_26 c b h x) y' hy0 hy1
  · exact at_slab (argsOf x).dga 400 (by decide) (dga_25 c b h x) y' hy0 hy1
  · exact at_slab (argsOf x).dga 384 (by decide) (dga_24 c b h x) y' hy0 hy1
  · exact at_slab (argsOf x).dga 368 (by decide) (dga_23 c b h x) y' hy0 hy1
  · exact at_slab (argsOf x).dga 352 (by decide) (dga_22 c b h x) y' hy0 hy1
  · exact at_slab (argsOf x).dga 336 (by decide) (dga_21 c b h x) y' hy0 hy1
  · exact at_slab (argsOf x).dga 320 (by decide) (dga_20 c b h x) y' hy0 hy1
  · exact at_slab (argsOf x).dga 304 (by decide) (dga_19 c b h x) y' hy0 hy1
  · exact at_slab (argsOf x).dga 288 (by decide) (dga_18 c b h x) y' hy0 hy1
  · exact at_slab (argsOf x).dga 272 (by decide) (dga_17 c b h x) y' hy0 hy1
  · exact at_slab (argsOf x).dga 256 (by decide) (dga_16 c b h x) y' hy0 hy1
  · exact at_slab (argsOf x).dga 240 (by decide) (dga_15 c b h x) y' hy0 hy1
  · exact at_slab (argsOf x).dga 224 (by decide) (dga_14 c b h x) y' hy0 hy1
  · exact at_slab (argsOf x).dga 208 (by decide) (dga_13 c b h x) y' hy0 hy1
  · exact at_slab (argsOf x).dga 192 (by decide) (dga_12 c b h x) y' hy0 hy1
  · exact at_slab (argsOf x).dga 176 (by decide) (dga_11 c b h x) y' hy0 hy1
  · exact at_slab (argsOf x).dga 160 (by decide) (dga_10 c b h x) y' hy0 hy1
  · exact at_slab (argsOf x).dga 144 (by decide) (dga_9 c b h x) y' hy0 hy1
  · exact at_slab (argsOf x).dga 128 (by decide) (dga_8 c b h x) y' hy0 hy1
  · exact at_slab (argsOf x).dga 112 (by decide) (dga_7 c b h x) y' hy0 hy1
  · exact at_slab (argsOf x).dga 96 (by decide) (dga_6 c b h x) y' hy0 hy1
  · exact at_slab (argsOf x).dga 80 (by decide) (dga_5 c b h x) y' hy0 hy1
  · exact at_slab (argsOf x).dga 64 (by decide) (dga_4 c b h x) y' hy0 hy1
  · exact at_slab (argsOf x).dga 48 (by decide) (dga_3 c b h x) y' hy0 hy1
  · exact at_slab (argsOf x).dga 32 (by decide) (dga_2 c b h x) y' hy0 hy1
  · exact at_slab (argsOf x).dga 16 (by decide) (dga_1 c b h x) y' hy0 hy1
  · exact at_slab (argsOf x).dga 0 (by decide) (dga_0 c b h x) y' (hy0.trans (Nat.zero_add _).symm) hy1

theorem body_dgb (y : S512x1024.Idx) : out_dgb c i b h x o y = (argsOf x).dgb (y 0) (y 1) := by
  have e : (run c i b h x o).2.2.2.2.1 = [
    ⟨Rect.unit ![496, 0] S16x1024.size inb_S512x1024_S16x1024_496_0, k0_pay606 (run.sl.r_266 c b h x) (run.sl.r_267 c b h x) (run.sl.v872 c b h x)⟩,
    ⟨Rect.unit ![480, 0] S16x1024.size inb_S512x1024_S16x1024_480_0, k0_pay597 (run.sl.r_263 c b h x) (run.sl.r_264 c b h x)⟩,
    ⟨Rect.unit ![464, 0] S16x1024.size inb_S512x1024_S16x1024_464_0, k0_pay587 (run.sl.r_261 c b h x) (run.sl.v3505 c b h x) (run.sl.v818 c b h x)⟩,
    ⟨Rect.unit ![448, 0] S16x1024.size inb_S512x1024_S16x1024_448_0, k0_pay579 (run.sl.r_259 c b h x) (run.sl.v3462 c b h x) (run.sl.v791 c b h x)⟩,
    ⟨Rect.unit ![432, 0] S16x1024.size inb_S512x1024_S16x1024_432_0, k0_pay571 (run.sl.r_254 c b h x) (run.sl.r_256 c b h x) (run.sl.v764 c b h x)⟩,
    ⟨Rect.unit ![416, 0] S16x1024.size inb_S512x1024_S16x1024_416_0, k0_pay562 (run.sl.r_250 c b h x) (run.sl.r_251 c b h x) (run.sl.v737 c b h x)⟩,
    ⟨Rect.unit ![400, 0] S16x1024.size inb_S512x1024_S16x1024_400_0, run.sl.r_249 c b h x⟩,
    ⟨Rect.unit ![384, 0] S16x1024.size inb_S512x1024_S16x1024_384_0, k0_pay545 (run.sl.r_247 c b h x) (run.sl.v3290 c b h x) (run.sl.v683 c b h x)⟩,
    ⟨Rect.unit ![368, 0] S16x1024.size inb_S512x1024_S16x1024_368_0, k0_pay536 (run.sl.r_242 c b h x) (run.sl.r_244 c b h x) (run.sl.v656 c b h x)⟩,
    ⟨Rect.unit ![352, 0] S16x1024.size inb_S512x1024_S16x1024_352_0, k0_pay527 (run.sl.r_238 c b h x) (run.sl.r_240 c b h x) (run.sl.v629 c b h x)⟩,
    ⟨Rect.unit ![336, 0] S16x1024.size inb_S512x1024_S16x1024_336_0, k0_pay519 (run.sl.r_235 c b h x) (run.sl.r_236 c b h x) (run.sl.v602 c b h x)⟩,
    ⟨Rect.unit ![320, 0] S16x1024.size inb_S512x1024_S16x1024_320_0, k0_pay511 (View.readAt (Elt Ideal) b.gb.view (Rect.unit (s := S512x1024) ![320, 0] S16x1024.size inb_S512x1024_S16x1024_320_0).toLoadRect (h.gb.unread x.gb)) (run.sl.v3118 c b h x) (run.sl.v575 c b h x)⟩,
    ⟨Rect.unit ![304, 0] S16x1024.size inb_S512x1024_S16x1024_304_0, k0_pay503 (run.sl.r_233 c b h x) k0_pay496 (run.sl.v3075 c b h x) (run.sl.v548 c b h x)⟩,
    ⟨Rect.unit ![288, 0] S16x1024.size inb_S512x1024_S16x1024_288_0, k0_pay493 (run.sl.r_229 c b h x) (run.sl.r_231 c b h x) (run.sl.v521 c b h x)⟩,
    ⟨Rect.unit ![272, 0] S16x1024.size inb_S512x1024_S16x1024_272_0, k0_pay485 (run.sl.r_225 c b h x) (run.sl.r_226 c b h x) (run.sl.v494 c b h x)⟩,
    ⟨Rect.unit ![256, 0] S16x1024.size inb_S512x1024_S16x1024_256_0, k0_pay475 (run.sl.r_222 c b h x) (run.sl.r_223 c b h x) k0_pay474⟩,
    ⟨Rect.unit ![240, 0] S16x1024.size inb_S512x1024_S16x1024_240_0, k0_pay463 (run.sl.r_220 c b h x) run.sl.cst_124 (run.sl.v2903 c b h x) (run.sl.v440 c b h x)⟩,
    ⟨Rect.unit ![224, 0] S16x1024.size inb_S512x1024_S16x1024_224_0, k0_pay454 (run.sl.r_217 c b h x) (run.sl.v2860 c b h x) (run.sl.v413 c b h x)⟩,
    ⟨Rect.unit ![208, 0] S16x1024.size inb_S512x1024_S16x1024_208_0, k0_pay446 (run.sl.r_212 c b h x) (run.sl.r_214 c b h x) (run.sl.v386 c b h x)⟩,
    ⟨Rect.unit ![192, 0] S16x1024.size inb_S512x1024_S16x1024_192_0, k0_pay437 (run.sl.r_208 c b h x) (run.sl.r_209 c b h x) (run.sl.v359 c b h x)⟩,
    ⟨Rect.unit ![176, 0] S16x1024.size inb_S512x1024_S16x1024_176_0, run.sl.r_207 c b h x⟩,
    ⟨Rect.unit ![160, 0] S16x1024.size inb_S512x1024_S16x1024_160_0, k0_pay420 (run.sl.r_205 c b h x) k0_pay413 (run.sl.v2688 c b h x) (run.sl.v305 c b h x)⟩,
    ⟨Rect.unit ![144, 0] S16x1024.size inb_S512x1024_S16x1024_144_0, k0_pay410 (run.sl.r_200 c b h x) (run.sl.r_202 c b h x) (run.sl.v278 c b h x)⟩,
    ⟨Rect.unit ![128, 0] S16x1024.size inb_S512x1024_S16x1024_128_0, k0_pay401 (run.sl.r_196 c b h x) (run.sl.r_198 c b h x) (run.sl.v251 c b h x)⟩,
    ⟨Rect.unit ![112, 0] S16x1024.size inb_S512x1024_S16x1024_112_0, k0_pay393 (run.sl.r_193 c b h x) (run.sl.r_194 c b h x) (run.sl.v224 c b h x)⟩,
    ⟨Rect.unit ![96, 0] S16x1024.size inb_S512x1024_S16x1024_96_0, k0_pay385 (View.readAt (Elt Ideal) b.gb.view (Rect.unit (s := S512x1024) ![96, 0] S16x1024.size inb_S512x1024_S16x1024_96_0).toLoadRect (h.gb.unread x.gb)) (run.sl.v2516 c b h x) (run.sl.v197 c b h x)⟩,
    ⟨Rect.unit ![80, 0] S16x1024.size inb_S512x1024_S16x1024_80_0, k0_pay377 (run.sl.r_190 c b h x) (run.sl.v2473 c b h x) (run.sl.v170 c b h x)⟩,
    ⟨Rect.unit ![64, 0] S16x1024.size inb_S512x1024_S16x1024_64_0, k0_pay369 (run.sl.r_185 c b h x) (run.sl.r_187 c b h x) (run.sl.v143 c b h x)⟩,
    ⟨Rect.unit ![48, 0] S16x1024.size inb_S512x1024_S16x1024_48_0, k0_pay360 (run.sl.r_181 c b h x) (run.sl.r_182 c b h x) (run.sl.v116 c b h x)⟩,
    ⟨Rect.unit ![32, 0] S16x1024.size inb_S512x1024_S16x1024_32_0, k0_pay351 (run.sl.r_180 c b h x)⟩,
    ⟨Rect.unit ![16, 0] S16x1024.size inb_S512x1024_S16x1024_16_0, k0_pay341 (run.sl.r_178 c b h x) (run.sl.v2301 c b h x) (run.sl.v62 c b h x)⟩,
    ⟨Rect.unit ![0, 0] S16x1024.size inb_S512x1024_S16x1024_0_0, k0_pay332 (run.sl.r_173 c b h x) (run.sl.r_175 c b h x) (run.sl.v35 c b h x)⟩] := rfl
  unfold out_dgb
  rw [e]
  canon_tiles y' hy
  · exact at_slab (argsOf x).dgb 496 (by decide) (dgb_31 c b h x) y' hy0 hy1
  · exact at_slab (argsOf x).dgb 480 (by decide) (dgb_30 c b h x) y' hy0 hy1
  · exact at_slab (argsOf x).dgb 464 (by decide) (dgb_29 c b h x) y' hy0 hy1
  · exact at_slab (argsOf x).dgb 448 (by decide) (dgb_28 c b h x) y' hy0 hy1
  · exact at_slab (argsOf x).dgb 432 (by decide) (dgb_27 c b h x) y' hy0 hy1
  · exact at_slab (argsOf x).dgb 416 (by decide) (dgb_26 c b h x) y' hy0 hy1
  · exact at_slab (argsOf x).dgb 400 (by decide) (dgb_25 c b h x) y' hy0 hy1
  · exact at_slab (argsOf x).dgb 384 (by decide) (dgb_24 c b h x) y' hy0 hy1
  · exact at_slab (argsOf x).dgb 368 (by decide) (dgb_23 c b h x) y' hy0 hy1
  · exact at_slab (argsOf x).dgb 352 (by decide) (dgb_22 c b h x) y' hy0 hy1
  · exact at_slab (argsOf x).dgb 336 (by decide) (dgb_21 c b h x) y' hy0 hy1
  · exact at_slab (argsOf x).dgb 320 (by decide) (dgb_20 c b h x) y' hy0 hy1
  · exact at_slab (argsOf x).dgb 304 (by decide) (dgb_19 c b h x) y' hy0 hy1
  · exact at_slab (argsOf x).dgb 288 (by decide) (dgb_18 c b h x) y' hy0 hy1
  · exact at_slab (argsOf x).dgb 272 (by decide) (dgb_17 c b h x) y' hy0 hy1
  · exact at_slab (argsOf x).dgb 256 (by decide) (dgb_16 c b h x) y' hy0 hy1
  · exact at_slab (argsOf x).dgb 240 (by decide) (dgb_15 c b h x) y' hy0 hy1
  · exact at_slab (argsOf x).dgb 224 (by decide) (dgb_14 c b h x) y' hy0 hy1
  · exact at_slab (argsOf x).dgb 208 (by decide) (dgb_13 c b h x) y' hy0 hy1
  · exact at_slab (argsOf x).dgb 192 (by decide) (dgb_12 c b h x) y' hy0 hy1
  · exact at_slab (argsOf x).dgb 176 (by decide) (dgb_11 c b h x) y' hy0 hy1
  · exact at_slab (argsOf x).dgb 160 (by decide) (dgb_10 c b h x) y' hy0 hy1
  · exact at_slab (argsOf x).dgb 144 (by decide) (dgb_9 c b h x) y' hy0 hy1
  · exact at_slab (argsOf x).dgb 128 (by decide) (dgb_8 c b h x) y' hy0 hy1
  · exact at_slab (argsOf x).dgb 112 (by decide) (dgb_7 c b h x) y' hy0 hy1
  · exact at_slab (argsOf x).dgb 96 (by decide) (dgb_6 c b h x) y' hy0 hy1
  · exact at_slab (argsOf x).dgb 80 (by decide) (dgb_5 c b h x) y' hy0 hy1
  · exact at_slab (argsOf x).dgb 64 (by decide) (dgb_4 c b h x) y' hy0 hy1
  · exact at_slab (argsOf x).dgb 48 (by decide) (dgb_3 c b h x) y' hy0 hy1
  · exact at_slab (argsOf x).dgb 32 (by decide) (dgb_2 c b h x) y' hy0 hy1
  · exact at_slab (argsOf x).dgb 16 (by decide) (dgb_1 c b h x) y' hy0 hy1
  · exact at_slab (argsOf x).dgb 0 (by decide) (dgb_0 c b h x) y' (hy0.trans (Nat.zero_add _).symm) hy1

theorem body_dwa_first (hi : (i 0).val = 0) (p : Fin 512) (q : Fin 1024) :
    out_dwa c i b h x o (ix2 p q) = (0 : EReal) + ∑ R : Fin 512, (argsOf x).dwaRow p q R := by
  unfold out_dwa
  rw [congrArg View.canon (pieces_dwa c b h x o)]
  refine (congrFun (View.canon_cons_unit_lit' _ _ _ (by decide)) _).trans ?_
  unfold run.sl.r_269 run.sl.r_270 k0_pay609
  rw [first_bit hi]
  unfold_payloads
  pointwise
  simp only [run.sl.v3616, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dwa_later (hi : (i 0).val ≠ 0) (p : Fin 512) (q : Fin 1024) :
    out_dwa c i b h x o (ix2 p q) = (o.dwa (ix2 p q) : EReal) + ∑ R : Fin 512, (argsOf x).dwaRow p q R := by
  unfold out_dwa
  rw [congrArg View.canon (pieces_dwa c b h x o)]
  refine (congrFun (View.canon_cons_unit_lit' _ _ _ (by decide)) _).trans ?_
  unfold run.sl.r_269 run.sl.r_270 k0_pay609
  rw [later_bit i hi]
  unfold_payloads
  pointwise
  simp only [run.sl.v3616, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dwb_first (hi : (i 0).val = 0) (p : Fin 512) (q : Fin 1024) :
    out_dwb c i b h x o (ix2 p q) = (0 : EReal) + ∑ R : Fin 512, (argsOf x).dwbRow p q R := by
  unfold out_dwb
  rw [congrArg View.canon (pieces_dwb c b h x o)]
  refine (congrFun (View.canon_cons_unit_lit' _ _ _ (by decide)) _).trans ?_
  unfold run.sl.r_271 k0_pay611
  rw [first_bit hi]
  unfold_payloads
  pointwise
  simp only [run.sl.v3622, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dwb_later (hi : (i 0).val ≠ 0) (p : Fin 512) (q : Fin 1024) :
    out_dwb c i b h x o (ix2 p q) = (o.dwb (ix2 p q) : EReal) + ∑ R : Fin 512, (argsOf x).dwbRow p q R := by
  unfold out_dwb
  rw [congrArg View.canon (pieces_dwb c b h x o)]
  refine (congrFun (View.canon_cons_unit_lit' _ _ _ (by decide)) _).trans ?_
  unfold run.sl.r_271 k0_pay611
  rw [later_bit i hi]
  unfold_payloads
  pointwise
  simp only [run.sl.v3622, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dwo_first (hi : (i 0).val = 0) (p : Fin 1024) (q : Fin 1024) :
    out_dwo c i b h x o (ix2 p q) = (0 : EReal) + ∑ R : Fin 512, (argsOf x).dwoRow p q R := by
  unfold out_dwo
  rw [congrArg View.canon (pieces_dwo c b h x o)]
  refine (congrFun (View.canon_cons_unit_lit' _ _ _ (by decide)) _).trans ?_
  unfold k0_pay323
  rw [first_bit hi]
  unfold_payloads
  pointwise
  simp only [run.sl.v880, run.sl.v2222, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dwo_later (hi : (i 0).val ≠ 0) (p : Fin 1024) (q : Fin 1024) :
    out_dwo c i b h x o (ix2 p q) = (o.dwo (ix2 p q) : EReal) + ∑ R : Fin 512, (argsOf x).dwoRow p q R := by
  unfold out_dwo
  rw [congrArg View.canon (pieces_dwo c b h x o)]
  refine (congrFun (View.canon_cons_unit_lit' _ _ _ (by decide)) _).trans ?_
  unfold k0_pay323
  rw [later_bit i hi]
  unfold_payloads
  pointwise
  simp only [run.sl.v880, run.sl.v2222, read_S512x1024, read_S512x512, read_S1024x1024, read_S1x1024, cov_whole _ (canon_dya c b h x), cov_whole _ (canon_dyb c b h x), cov_whole _ (canon_mrg c b h x), cov_whole _ (canon_dh c b h x), Ideal.ofBits_zero]
  rfl

theorem body_dgf_first (hi : (i 0).val = 0) (p : Fin 1) (q : Fin 1024) :
    out_dgf c i b h x o (ix2 p q) = (0 : EReal) + ∑ R : Fin 512, (argsOf x).dgfRow q R := by
  unfold out_dgf
  rw [congrArg View.canon (pieces_dgf c b h x o)]
  refine (congrFun (View.canon_cons_unit_lit' _ _ _ (by decide)) _).trans ?_
  unfold k0_pay320
  rw [first_bit hi]
  unfold_payloads
  pointwise
  simp only [run.sl.v0, read_S512x1024, read_S512x512, read_S1024x1024, read_S1x1024, cov_whole _ (canon_dya c b h x), cov_whole _ (canon_dyb c b h x), cov_whole _ (canon_mrg c b h x), cov_whole _ (canon_dh c b h x), Ideal.ofBits_zero, dgf_31, sum_part]

theorem body_dgf_later (hi : (i 0).val ≠ 0) (p : Fin 1) (q : Fin 1024) :
    out_dgf c i b h x o (ix2 p q) = (o.dgf (ix2 p q) : EReal) + ∑ R : Fin 512, (argsOf x).dgfRow q R := by
  unfold out_dgf
  rw [congrArg View.canon (pieces_dgf c b h x o)]
  refine (congrFun (View.canon_cons_unit_lit' _ _ _ (by decide)) _).trans ?_
  unfold k0_pay320
  rw [later_bit i hi]
  unfold_payloads
  pointwise
  simp only [run.sl.v0, read_S512x1024, read_S512x512, read_S1024x1024, read_S1x1024, cov_whole _ (canon_dya c b h x), cov_whole _ (canon_dyb c b h x), cov_whole _ (canon_mrg c b h x), cov_whole _ (canon_dh c b h x), Ideal.ofBits_zero, dgf_31, sum_part]

theorem body_loss_first (hi : (i 0).val = 0) (p : Fin 1) (q : Fin 1024) :
    out_loss c i b h x o (ix2 p q) = (0 : EReal) + Ideal.ofBits .f32 0x3A000000#32 * (∑ R : Fin 512, (argsOf x).lossRow q R) := by
  unfold out_loss
  rw [congrArg View.canon (pieces_loss c b h x o)]
  refine (congrFun (View.canon_cons_unit_lit' _ _ _ (by decide)) _).trans ?_
  unfold k0_pay319
  rw [first_bit hi]
  unfold_payloads
  pointwise
  simp only [run.sl.v0, read_S512x1024, read_S512x512, read_S1024x1024, read_S1x1024, cov_whole _ (canon_dya c b h x), cov_whole _ (canon_dyb c b h x), cov_whole _ (canon_mrg c b h x), cov_whole _ (canon_dh c b h x), Ideal.ofBits_zero, loss_31, sum_part]

theorem body_loss_later (hi : (i 0).val ≠ 0) (p : Fin 1) (q : Fin 1024) :
    out_loss c i b h x o (ix2 p q) = (o.loss (ix2 p q) : EReal) + Ideal.ofBits .f32 0x3A000000#32 * (∑ R : Fin 512, (argsOf x).lossRow q R) := by
  unfold out_loss
  rw [congrArg View.canon (pieces_loss c b h x o)]
  refine (congrFun (View.canon_cons_unit_lit' _ _ _ (by decide)) _).trans ?_
  unfold k0_pay319
  rw [later_bit i hi]
  unfold_payloads
  pointwise
  simp only [run.sl.v0, read_S512x1024, read_S512x512, read_S1024x1024, read_S1x1024, cov_whole _ (canon_dya c b h x), cov_whole _ (canon_dyb c b h x), cov_whole _ (canon_mrg c b h x), cov_whole _ (canon_dh c b h x), Ideal.ofBits_zero, loss_31, sum_part]

end Cert.KernelIdeal.Merge

end
-- ==== Proof.MergeKernel.lean ====
/- What the merge-and-loss kernel leaves in its ten results.

   The grid has sixteen points, one per tile of 512 rows. `blk_*` read the windows' blocks as elements of the arguments;
   five results are written tile by tile, five are added up over all the points and written after the last, and the host
   sums the last of those, the loss. -/

module

public import proofs.«01_k».proof.Proof.MergeBody
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.KernelVsHost

@[expose] public section

-- a rectangle of a production block is checked coordinate by coordinate along its long axis
set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (c : Dev nD)

/-- The arguments, as the mathematics names them. -/
def args : Cert.Merge.Args 8192 where
  oa := m ((c : Thread nD τ).loc main_arg0)
  ob := m ((c : Thread nD τ).loc main_arg1)
  ga := m ((c : Thread nD τ).loc main_arg2)
  gb := m ((c : Thread nD τ).loc main_arg3)
  x := m ((c : Thread nD τ).loc main_arg4)
  tgt := m ((c : Thread nD τ).loc main_arg5)
  wa := m ((c : Thread nD τ).loc main_arg6)
  wb := m ((c : Thread nD τ).loc main_arg7)
  wo := m ((c : Thread nD τ).loc main_arg8)
  gf := fun i => (m ((c : Thread nD τ).loc main_arg9) : S1024.Idx → EReal) (ix1 (i 1))

/-- Row `r` of the tile of point `t`. -/
def rowOf (t : Fin cfg0.N) (r : Fin 512) : Fin 8192 := ⟨512 * t.val + r.val, by
  have := t.isLt; have hN : cfg0.N = 16 := N_0; omega⟩

/-- Two elements of a matrix are one element if their coordinates are. -/
theorem congr2 {a b : ℕ} {α : Type} (v : (⟨2, ![a, b]⟩ : Shape).Idx → α) {i j : (⟨2, ![a, b]⟩ : Shape).Idx}
    (h0 : (i 0).val = (j 0).val) (h1 : (i 1).val = (j 1).val) : v i = v j :=
  congrArg v (funext fun x => Fin.ext (match x with | ⟨0, _⟩ => h0 | ⟨1, _⟩ => h1))

theorem zero_coord {n : ℕ} (a : Fin n) (h : n = 1) : a.val = 0 := by omega

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel
theorem index_9 : ∀ t : Fin cfg0.N, win0_9.index t = ![0, 0] := by decide +kernel
theorem index_10 : ∀ t : Fin cfg0.N, win0_10.index t = ![t.val, 0] := by decide +kernel
theorem index_11 : ∀ t : Fin cfg0.N, win0_11.index t = ![t.val, 0] := by decide +kernel
theorem index_12 : ∀ t : Fin cfg0.N, win0_12.index t = ![t.val, 0] := by decide +kernel
theorem index_13 : ∀ t : Fin cfg0.N, win0_13.index t = ![t.val, 0] := by decide +kernel
theorem index_14 : ∀ t : Fin cfg0.N, win0_14.index t = ![t.val, 0] := by decide +kernel
theorem index_15 : ∀ t : Fin cfg0.N, win0_15.index t = ![0, 0] := by decide +kernel
theorem index_16 : ∀ t : Fin cfg0.N, win0_16.index t = ![0, 0] := by decide +kernel
theorem index_17 : ∀ t : Fin cfg0.N, win0_17.index t = ![0, 0] := by decide +kernel
theorem index_18 : ∀ t : Fin cfg0.N, win0_18.index t = ![0, 0] := by decide +kernel
theorem index_19 : ∀ t : Fin cfg0.N, win0_19.index t = ![0, 0] := by decide +kernel

theorem blk_0 (t : Fin cfg0.N) (r : Fin 512) (k : Fin 512) : iblk m c 0 t (ix2 r k) = (args m c).oa (ix2 (rowOf t r) k) := by
  unfold iblk
  rw [View.read_apply]
  show V m c main_arg0 _ = _
  rw [V_main_arg0]
  exact congr2 (args m c).oa (by blk_simp [index_0]; simp [rowOf, mul_comm]) (by blk_simp [index_0]; try simp)

theorem blk_1 (t : Fin cfg0.N) (r : Fin 512) (k : Fin 512) : iblk m c 1 t (ix2 r k) = (args m c).ob (ix2 (rowOf t r) k) := by
  unfold iblk
  rw [View.read_apply]
  show V m c main_arg1 _ = _
  rw [V_main_arg1]
  exact congr2 (args m c).ob (by blk_simp [index_1]; simp [rowOf, mul_comm]) (by blk_simp [index_1]; try simp)

theorem blk_2 (t : Fin cfg0.N) (r : Fin 512) (k : Fin 1024) : iblk m c 2 t (ix2 r k) = (args m c).ga (ix2 (rowOf t r) k) := by
  unfold iblk
  rw [View.read_apply]
  show V m c main_arg2 _ = _
  rw [V_main_arg2]
  exact congr2 (args m c).ga (by blk_simp [index_2]; simp [rowOf, mul_comm]) (by blk_simp [index_2]; try simp)

theorem blk_3 (t : Fin cfg0.N) (r : Fin 512) (k : Fin 1024) : iblk m c 3 t (ix2 r k) = (args m c).gb (ix2 (rowOf t r) k) := by
  unfold iblk
  rw [View.read_apply]
  show V m c main_arg3 _ = _
  rw [V_main_arg3]
  exact congr2 (args m c).gb (by blk_simp [index_3]; simp [rowOf, mul_comm]) (by blk_simp [index_3]; try simp)

theorem blk_4 (t : Fin cfg0.N) (r : Fin 512) (k : Fin 1024) : iblk m c 4 t (ix2 r k) = (args m c).x (ix2 (rowOf t r) k) := by
  unfold iblk
  rw [View.read_apply]
  show V m c main_arg4 _ = _
  rw [V_main_arg4]
  exact congr2 (args m c).x (by blk_simp [index_4]; simp [rowOf, mul_comm]) (by blk_simp [index_4]; try simp)

theorem blk_5 (t : Fin cfg0.N) (r : Fin 512) (k : Fin 1024) : iblk m c 5 t (ix2 r k) = (args m c).tgt (ix2 (rowOf t r) k) := by
  unfold iblk
  rw [View.read_apply]
  show V m c main_arg5 _ = _
  rw [V_main_arg5]
  exact congr2 (args m c).tgt (by blk_simp [index_5]; simp [rowOf, mul_comm]) (by blk_simp [index_5]; try simp)

theorem blk_6 (t : Fin cfg0.N) (k : Fin 512) (j : Fin 1024) : iblk m c 6 t (ix2 k j) = (args m c).wa (ix2 k j) := by
  unfold iblk
  rw [View.read_apply]
  show V m c main_v0 _ = _
  unfold V
  have h0 : (((win0_6.blk t).view.emb (ix2 k j)) 0).val = k.val := by blk_simp [index_6]; try simp
  have h1 : (((win0_6.blk t).view.emb (ix2 k j)) 1).val = j.val := by blk_simp [index_6]; try simp
  generalize ((win0_6.blk t).view.emb (ix2 k j)) = i at h0 h1 ⊢
  after_reads_at
  exact congr2 (args m c).wa h0 h1

theorem blk_7 (t : Fin cfg0.N) (k : Fin 512) (j : Fin 1024) : iblk m c 7 t (ix2 k j) = (args m c).wb (ix2 k j) := by
  unfold iblk
  rw [View.read_apply]
  show V m c main_v1 _ = _
  unfold V
  have h0 : (((win0_7.blk t).view.emb (ix2 k j)) 0).val = k.val := by blk_simp [index_7]; try simp
  have h1 : (((win0_7.blk t).view.emb (ix2 k j)) 1).val = j.val := by blk_simp [index_7]; try simp
  generalize ((win0_7.blk t).view.emb (ix2 k j)) = i at h0 h1 ⊢
  after_reads_at
  exact congr2 (args m c).wb h0 h1

theorem blk_8 (t : Fin cfg0.N) (k : Fin 1024) (j : Fin 1024) : iblk m c 8 t (ix2 k j) = (args m c).wo (ix2 k j) := by
  unfold iblk
  rw [View.read_apply]
  show V m c main_v2 _ = _
  unfold V
  have h0 : (((win0_8.blk t).view.emb (ix2 k j)) 0).val = k.val := by blk_simp [index_8]; try simp
  have h1 : (((win0_8.blk t).view.emb (ix2 k j)) 1).val = j.val := by blk_simp [index_8]; try simp
  generalize ((win0_8.blk t).view.emb (ix2 k j)) = i at h0 h1 ⊢
  after_reads_at
  exact congr2 (args m c).wo h0 h1

theorem blk_9 (t : Fin cfg0.N) (k : Fin 1) (j : Fin 1024) : iblk m c 9 t (ix2 k j) = (args m c).gf (ix2 k j) := by
  unfold iblk
  rw [View.read_apply]
  show V m c main_v3 _ = _
  unfold V
  have h0 : (((win0_9.blk t).view.emb (ix2 k j)) 0).val = k.val := by blk_simp [index_9]; try simp
  have h1 : (((win0_9.blk t).view.emb (ix2 k j)) 1).val = j.val := by blk_simp [index_9]; try simp
  generalize ((win0_9.blk t).view.emb (ix2 k j)) = i at h0 h1 ⊢
  after_reads_at
  refine congrArg (m ((c : Thread nD τ).loc main_arg9) : S1024.Idx → EReal) (funext fun x => ?_)
  match x with | ⟨0, _⟩ => exact Fin.ext (by simpa using h1)

/-- A point's blocks are rows of the arguments. -/
theorem tile_sub (t : Fin cfg0.N) : Cert.Merge.Args.Sub (argsOf (ins m c t)) (args m c) (rowOf t) where
  oa := fun k j => blk_0 m c t k j
  ob := fun k j => blk_1 m c t k j
  ga := fun k j => blk_2 m c t k j
  gb := fun k j => blk_3 m c t k j
  x := fun k j => blk_4 m c t k j
  tgt := fun k j => blk_5 m c t k j
  wa := fun k j => blk_6 m c t k j
  wb := fun k j => blk_7 m c t k j
  wo := fun k j => blk_8 m c t k j
  gf := fun j => blk_9 m c t 0 j

theorem point_dh (t : Fin cfg0.N) (p : Fin 512) (q : Fin 1024) :
    at_dh m c t (ix2 p q) = (args m c).dh (rowOf t p) q :=
  Eq.trans (body_dh c (bufs t) (whole t) (ins m c t) (grid0.coords t) (prevAt m c t.val t.isLt) (ix2 p q)) ((tile_sub m c t).dh_eq p q)

/-- The result `dh`. -/
def res_dh : Cert.Proj.Mat 8192 1024 := fun i => (args m c).dh (i 0) (i 1)

theorem final_dh : (dats m 0 c).arrAt 10 cfg0.N = res_dh m c := by
  refine (dats m 0 c).arrAt_eq_of_covers 10 (res_dh m c) (by decide +kernel) fun t hf y => ?_
  have e0 : (((cfg0.win 10).blk t).view.emb y 0).val = 512 * t.val + (y 0).val := by blk_simp [index_10]; simp [mul_comm]
  have e1 : (((cfg0.win 10).blk t).view.emb y 1).val = (y 1).val := by blk_simp [index_10]
  have hr : ∀ (r : Fin 512) (j : Fin 1024) (i : S8192x1024.Idx), (i 0).val = 512 * t.val + r.val → (i 1).val = j.val →
      at_dh m c t (ix2 r j) = res_dh m c i := fun r j i h0 h1 => by
    rw [point_dh]; unfold res_dh
    rw [show i 0 = rowOf t r from Fin.ext h0, show i 1 = j from Fin.ext h1]
  refine Eq.trans ?_ (hr (y 0) (y 1) _ e0 e1)
  rw [after_10]
  refine (cast_eq _ _).trans ?_
  exact congrArg (at_dh m c t) (eq_ix2 _)

theorem point_doa (t : Fin cfg0.N) (p : Fin 512) (q : Fin 512) :
    at_doa m c t (ix2 p q) = (args m c).doa (rowOf t p) q :=
  Eq.trans (body_doa c (bufs t) (whole t) (ins m c t) (grid0.coords t) (prevAt m c t.val t.isLt) p q) ((tile_sub m c t).doa_eq p q)

/-- The result `doa`. -/
def res_doa : Cert.Proj.Mat 8192 512 := fun i => (args m c).doa (i 0) (i 1)

theorem final_doa : (dats m 0 c).arrAt 11 cfg0.N = res_doa m c := by
  refine (dats m 0 c).arrAt_eq_of_covers 11 (res_doa m c) (by decide +kernel) fun t hf y => ?_
  have e0 : (((cfg0.win 11).blk t).view.emb y 0).val = 512 * t.val + (y 0).val := by blk_simp [index_11]; simp [mul_comm]
  have e1 : (((cfg0.win 11).blk t).view.emb y 1).val = (y 1).val := by blk_simp [index_11]
  have hr : ∀ (r : Fin 512) (j : Fin 512) (i : S8192x512.Idx), (i 0).val = 512 * t.val + r.val → (i 1).val = j.val →
      at_doa m c t (ix2 r j) = res_doa m c i := fun r j i h0 h1 => by
    rw [point_doa]; unfold res_doa
    rw [show i 0 = rowOf t r from Fin.ext h0, show i 1 = j from Fin.ext h1]
  refine Eq.trans ?_ (hr (y 0) (y 1) _ e0 e1)
  rw [after_11]
  refine (cast_eq _ _).trans ?_
  exact congrArg (at_doa m c t) (eq_ix2 _)

theorem point_dob (t : Fin cfg0.N) (p : Fin 512) (q : Fin 512) :
    at_dob m c t (ix2 p q) = (args m c).dob (rowOf t p) q :=
  Eq.trans (body_dob c (bufs t) (whole t) (ins m c t) (grid0.coords t) (prevAt m c t.val t.isLt) p q) ((tile_sub m c t).dob_eq p q)

/-- The result `dob`. -/
def res_dob : Cert.Proj.Mat 8192 512 := fun i => (args m c).dob (i 0) (i 1)

theorem final_dob : (dats m 0 c).arrAt 12 cfg0.N = res_dob m c := by
  refine (dats m 0 c).arrAt_eq_of_covers 12 (res_dob m c) (by decide +kernel) fun t hf y => ?_
  have e0 : (((cfg0.win 12).blk t).view.emb y 0).val = 512 * t.val + (y 0).val := by blk_simp [index_12]; simp [mul_comm]
  have e1 : (((cfg0.win 12).blk t).view.emb y 1).val = (y 1).val := by blk_simp [index_12]
  have hr : ∀ (r : Fin 512) (j : Fin 512) (i : S8192x512.Idx), (i 0).val = 512 * t.val + r.val → (i 1).val = j.val →
      at_dob m c t (ix2 r j) = res_dob m c i := fun r j i h0 h1 => by
    rw [point_dob]; unfold res_dob
    rw [show i 0 = rowOf t r from Fin.ext h0, show i 1 = j from Fin.ext h1]
  refine Eq.trans ?_ (hr (y 0) (y 1) _ e0 e1)
  rw [after_12]
  refine (cast_eq _ _).trans ?_
  exact congrArg (at_dob m c t) (eq_ix2 _)

theorem point_dga (t : Fin cfg0.N) (p : Fin 512) (q : Fin 1024) :
    at_dga m c t (ix2 p q) = (args m c).dga (rowOf t p) q :=
  Eq.trans (body_dga c (bufs t) (whole t) (ins m c t) (grid0.coords t) (prevAt m c t.val t.isLt) (ix2 p q)) ((tile_sub m c t).dga_eq p q)

/-- The result `dga`. -/
def res_dga : Cert.Proj.Mat 8192 1024 := fun i => (args m c).dga (i 0) (i 1)

theorem final_dga : (dats m 0 c).arrAt 13 cfg0.N = res_dga m c := by
  refine (dats m 0 c).arrAt_eq_of_covers 13 (res_dga m c) (by decide +kernel) fun t hf y => ?_
  have e0 : (((cfg0.win 13).blk t).view.emb y 0).val = 512 * t.val + (y 0).val := by blk_simp [index_13]; simp [mul_comm]
  have e1 : (((cfg0.win 13).blk t).view.emb y 1).val = (y 1).val := by blk_simp [index_13]
  have hr : ∀ (r : Fin 512) (j : Fin 1024) (i : S8192x1024.Idx), (i 0).val = 512 * t.val + r.val → (i 1).val = j.val →
      at_dga m c t (ix2 r j) = res_dga m c i := fun r j i h0 h1 => by
    rw [point_dga]; unfold res_dga
    rw [show i 0 = rowOf t r from Fin.ext h0, show i 1 = j from Fin.ext h1]
  refine Eq.trans ?_ (hr (y 0) (y 1) _ e0 e1)
  rw [after_13]
  refine (cast_eq _ _).trans ?_
  exact congrArg (at_dga m c t) (eq_ix2 _)

theorem point_dgb (t : Fin cfg0.N) (p : Fin 512) (q : Fin 1024) :
    at_dgb m c t (ix2 p q) = (args m c).dgb (rowOf t p) q :=
  Eq.trans (body_dgb c (bufs t) (whole t) (ins m c t) (grid0.coords t) (prevAt m c t.val t.isLt) (ix2 p q)) ((tile_sub m c t).dgb_eq p q)

/-- The result `dgb`. -/
def res_dgb : Cert.Proj.Mat 8192 1024 := fun i => (args m c).dgb (i 0) (i 1)

theorem final_dgb : (dats m 0 c).arrAt 14 cfg0.N = res_dgb m c := by
  refine (dats m 0 c).arrAt_eq_of_covers 14 (res_dgb m c) (by decide +kernel) fun t hf y => ?_
  have e0 : (((cfg0.win 14).blk t).view.emb y 0).val = 512 * t.val + (y 0).val := by blk_simp [index_14]; simp [mul_comm]
  have e1 : (((cfg0.win 14).blk t).view.emb y 1).val = (y 1).val := by blk_simp [index_14]
  have hr : ∀ (r : Fin 512) (j : Fin 1024) (i : S8192x1024.Idx), (i 0).val = 512 * t.val + r.val → (i 1).val = j.val →
      at_dgb m c t (ix2 r j) = res_dgb m c i := fun r j i h0 h1 => by
    rw [point_dgb]; unfold res_dgb
    rw [show i 0 = rowOf t r from Fin.ext h0, show i 1 = j from Fin.ext h1]
  refine Eq.trans ?_ (hr (y 0) (y 1) _ e0 e1)
  rw [after_14]
  refine (cast_eq _ _).trans ?_
  exact congrArg (at_dgb m c t) (eq_ix2 _)

theorem coords_val (t : Fin cfg0.N) : (grid0.coords t 0).val = t.val := (by decide +kernel : ∀ t : Fin cfg0.N, (grid0.coords t 0).val = t.val) t

/-- What a tile adds to `dwa`. -/
def tile_dwa (t : ℕ) (p : Fin 512) (q : Fin 1024) : EReal :=
  ∑ r : Fin 512, Sums.ext ((args m c).dwaRow p q) (512 * t + r.val)

theorem tile_dwa_eq (t : Fin cfg0.N) (p : Fin 512) (q : Fin 1024) :
    tile_dwa m c t.val p q = ∑ r : Fin 512, (argsOf (ins m c t)).dwaRow p q r := by
  unfold tile_dwa
  refine Finset.sum_congr rfl fun r _ => ?_
  exact (Sums.ext_of_lt _ (rowOf t r).isLt).trans ((tile_sub m c t).dwaRow_eq p q r).symm

theorem first_dwa (t : Fin cfg0.N) (h0 : t.val % 16 = 0) (p : Fin 512) (q : Fin 1024) :
    at_dwa m c t (ix2 p q) = (0 : EReal) + tile_dwa m c t.val p q := by
  have H : (grid0.coords t 0).val = 0 := by rw [coords_val]; have := t.isLt; have hN : cfg0.N = 16 := N_0; omega
  rw [tile_dwa_eq]
  exact (body_dwa_first c (bufs t) (whole t) (ins m c t) (grid0.coords t) (prevAt m c t.val t.isLt) H p q)

theorem next_dwa (t : Fin cfg0.N) (h0 : ¬t.val % 16 = 0) (p : Fin 512) (q : Fin 1024) :
    at_dwa m c t (ix2 p q)
      = (at_dwa m c ⟨t.val - 1, Nat.lt_of_le_of_lt (Nat.sub_le _ _) t.isLt⟩ (ix2 p q) : EReal) + tile_dwa m c t.val p q := by
  have H : (grid0.coords t 0).val ≠ 0 := by rw [coords_val]; omega
  have e : (prevAt m c t.val t.isLt).dwa = at_dwa m c ⟨t.val - 1, Nat.lt_of_le_of_lt (Nat.sub_le _ _) t.isLt⟩ := by
    rw [prevAt_pos m c t (by omega)]; exact accsAt_dwa m c _ _
  rw [tile_dwa_eq, ← e]
  exact (body_dwa_later c (bufs t) (whole t) (ins m c t) (grid0.coords t) (prevAt m c t.val t.isLt) H p q)

theorem point_dwa (t : Fin cfg0.N) (ht : t.val % 16 = 15) (p : Fin 512) (q : Fin 1024) : at_dwa m c t (ix2 p q) = ∑ R : Fin 8192, (args m c).dwaRow p q R := by
  have h := Pipeline.eq_sum_of_reset_step_apply_single_of_mod (M := EReal)
    (fun n (hn : n < cfg0.N) (j : Fin 512 × Fin 1024) => at_dwa m c ⟨n, hn⟩ (ix2 j.1 j.2)) 16 (fun _ => 0)
    (fun n j => tile_dwa m c n j.1 j.2)
    (fun t h0 j => first_dwa m c t h0 j.1 j.2) (fun t h0 j => next_dwa m c t h0 j.1 j.2) (Nat.le_of_eq N_0) t ht (p, q)
  refine h.trans ?_
  rw [zero_add, Sums.tiles 16 512 rfl]
  rfl

/-- The array of `dwa`. -/
def res_dwa : Cert.Proj.Mat 512 1024 := fun i => ∑ R : Fin 8192, (args m c).dwaRow (i 0) (i 1) R

theorem final_dwa : (dats m 0 c).arrAt 15 cfg0.N = res_dwa m c := by
  refine (dats m 0 c).arrAt_eq_of_covers 15 (res_dwa m c) (by decide +kernel) fun t hf y => ?_
  have e0 : (((cfg0.win 15).blk t).view.emb y 0).val = (y 0).val := by blk_simp [index_15]
  have e1 : (((cfg0.win 15).blk t).view.emb y 1).val = (y 1).val := by blk_simp [index_15]
  have hr : ∀ (p : Fin 512) (q : Fin 1024) (i : (⟨2, ![512, 1024]⟩ : Shape).Idx), (i 0).val = p.val → (i 1).val = q.val →
      at_dwa m c t (ix2 p q) = res_dwa m c i := fun p q i h0 h1 => by
    rw [point_dwa m c t ((flush0_15 t).mp hf)]; unfold res_dwa
    rw [show i 0 = p from Fin.ext h0, show i 1 = q from Fin.ext h1]
  refine Eq.trans ?_ (hr (y 0) (y 1) _ e0 e1)
  rw [after_15]
  refine (cast_eq _ _).trans ?_
  exact congrArg (at_dwa m c t) (eq_ix2 _)

/-- What a tile adds to `dwb`. -/
def tile_dwb (t : ℕ) (p : Fin 512) (q : Fin 1024) : EReal :=
  ∑ r : Fin 512, Sums.ext ((args m c).dwbRow p q) (512 * t + r.val)

theorem tile_dwb_eq (t : Fin cfg0.N) (p : Fin 512) (q : Fin 1024) :
    tile_dwb m c t.val p q = ∑ r : Fin 512, (argsOf (ins m c t)).dwbRow p q r := by
  unfold tile_dwb
  refine Finset.sum_congr rfl fun r _ => ?_
  exact (Sums.ext_of_lt _ (rowOf t r).isLt).trans ((tile_sub m c t).dwbRow_eq p q r).symm

theorem first_dwb (t : Fin cfg0.N) (h0 : t.val % 16 = 0) (p : Fin 512) (q : Fin 1024) :
    at_dwb m c t (ix2 p q) = (0 : EReal) + tile_dwb m c t.val p q := by
  have H : (grid0.coords t 0).val = 0 := by rw [coords_val]; have := t.isLt; have hN : cfg0.N = 16 := N_0; omega
  rw [tile_dwb_eq]
  exact (body_dwb_first c (bufs t) (whole t) (ins m c t) (grid0.coords t) (prevAt m c t.val t.isLt) H p q)

theorem next_dwb (t : Fin cfg0.N) (h0 : ¬t.val % 16 = 0) (p : Fin 512) (q : Fin 1024) :
    at_dwb m c t (ix2 p q)
      = (at_dwb m c ⟨t.val - 1, Nat.lt_of_le_of_lt (Nat.sub_le _ _) t.isLt⟩ (ix2 p q) : EReal) + tile_dwb m c t.val p q := by
  have H : (grid0.coords t 0).val ≠ 0 := by rw [coords_val]; omega
  have e : (prevAt m c t.val t.isLt).dwb = at_dwb m c ⟨t.val - 1, Nat.lt_of_le_of_lt (Nat.sub_le _ _) t.isLt⟩ := by
    rw [prevAt_pos m c t (by omega)]; exact accsAt_dwb m c _ _
  rw [tile_dwb_eq, ← e]
  exact (body_dwb_later c (bufs t) (whole t) (ins m c t) (grid0.coords t) (prevAt m c t.val t.isLt) H p q)

theorem point_dwb (t : Fin cfg0.N) (ht : t.val % 16 = 15) (p : Fin 512) (q : Fin 1024) : at_dwb m c t (ix2 p q) = ∑ R : Fin 8192, (args m c).dwbRow p q R := by
  have h := Pipeline.eq_sum_of_reset_step_apply_single_of_mod (M := EReal)
    (fun n (hn : n < cfg0.N) (j : Fin 512 × Fin 1024) => at_dwb m c ⟨n, hn⟩ (ix2 j.1 j.2)) 16 (fun _ => 0)
    (fun n j => tile_dwb m c n j.1 j.2)
    (fun t h0 j => first_dwb m c t h0 j.1 j.2) (fun t h0 j => next_dwb m c t h0 j.1 j.2) (Nat.le_of_eq N_0) t ht (p, q)
  refine h.trans ?_
  rw [zero_add, Sums.tiles 16 512 rfl]
  rfl

/-- The array of `dwb`. -/
def res_dwb : Cert.Proj.Mat 512 1024 := fun i => ∑ R : Fin 8192, (args m c).dwbRow (i 0) (i 1) R

theorem final_dwb : (dats m 0 c).arrAt 16 cfg0.N = res_dwb m c := by
  refine (dats m 0 c).arrAt_eq_of_covers 16 (res_dwb m c) (by decide +kernel) fun t hf y => ?_
  have e0 : (((cfg0.win 16).blk t).view.emb y 0).val = (y 0).val := by blk_simp [index_16]
  have e1 : (((cfg0.win 16).blk t).view.emb y 1).val = (y 1).val := by blk_simp [index_16]
  have hr : ∀ (p : Fin 512) (q : Fin 1024) (i : (⟨2, ![512, 1024]⟩ : Shape).Idx), (i 0).val = p.val → (i 1).val = q.val →
      at_dwb m c t (ix2 p q) = res_dwb m c i := fun p q i h0 h1 => by
    rw [point_dwb m c t ((flush0_16 t).mp hf)]; unfold res_dwb
    rw [show i 0 = p from Fin.ext h0, show i 1 = q from Fin.ext h1]
  refine Eq.trans ?_ (hr (y 0) (y 1) _ e0 e1)
  rw [after_16]
  refine (cast_eq _ _).trans ?_
  exact congrArg (at_dwb m c t) (eq_ix2 _)

/-- What a tile adds to `dwo`. -/
def tile_dwo (t : ℕ) (p : Fin 1024) (q : Fin 1024) : EReal :=
  ∑ r : Fin 512, Sums.ext ((args m c).dwoRow p q) (512 * t + r.val)

theorem tile_dwo_eq (t : Fin cfg0.N) (p : Fin 1024) (q : Fin 1024) :
    tile_dwo m c t.val p q = ∑ r : Fin 512, (argsOf (ins m c t)).dwoRow p q r := by
  unfold tile_dwo
  refine Finset.sum_congr rfl fun r _ => ?_
  exact (Sums.ext_of_lt _ (rowOf t r).isLt).trans ((tile_sub m c t).dwoRow_eq p q r).symm

theorem first_dwo (t : Fin cfg0.N) (h0 : t.val % 16 = 0) (p : Fin 1024) (q : Fin 1024) :
    at_dwo m c t (ix2 p q) = (0 : EReal) + tile_dwo m c t.val p q := by
  have H : (grid0.coords t 0).val = 0 := by rw [coords_val]; have := t.isLt; have hN : cfg0.N = 16 := N_0; omega
  rw [tile_dwo_eq]
  exact (body_dwo_first c (bufs t) (whole t) (ins m c t) (grid0.coords t) (prevAt m c t.val t.isLt) H p q)

theorem next_dwo (t : Fin cfg0.N) (h0 : ¬t.val % 16 = 0) (p : Fin 1024) (q : Fin 1024) :
    at_dwo m c t (ix2 p q)
      = (at_dwo m c ⟨t.val - 1, Nat.lt_of_le_of_lt (Nat.sub_le _ _) t.isLt⟩ (ix2 p q) : EReal) + tile_dwo m c t.val p q := by
  have H : (grid0.coords t 0).val ≠ 0 := by rw [coords_val]; omega
  have e : (prevAt m c t.val t.isLt).dwo = at_dwo m c ⟨t.val - 1, Nat.lt_of_le_of_lt (Nat.sub_le _ _) t.isLt⟩ := by
    rw [prevAt_pos m c t (by omega)]; exact accsAt_dwo m c _ _
  rw [tile_dwo_eq, ← e]
  exact (body_dwo_later c (bufs t) (whole t) (ins m c t) (grid0.coords t) (prevAt m c t.val t.isLt) H p q)

theorem point_dwo (t : Fin cfg0.N) (ht : t.val % 16 = 15) (p : Fin 1024) (q : Fin 1024) : at_dwo m c t (ix2 p q) = ∑ R : Fin 8192, (args m c).dwoRow p q R := by
  have h := Pipeline.eq_sum_of_reset_step_apply_single_of_mod (M := EReal)
    (fun n (hn : n < cfg0.N) (j : Fin 1024 × Fin 1024) => at_dwo m c ⟨n, hn⟩ (ix2 j.1 j.2)) 16 (fun _ => 0)
    (fun n j => tile_dwo m c n j.1 j.2)
    (fun t h0 j => first_dwo m c t h0 j.1 j.2) (fun t h0 j => next_dwo m c t h0 j.1 j.2) (Nat.le_of_eq N_0) t ht (p, q)
  refine h.trans ?_
  rw [zero_add, Sums.tiles 16 512 rfl]
  rfl

/-- The array of `dwo`. -/
def res_dwo : Cert.Proj.Mat 1024 1024 := fun i => ∑ R : Fin 8192, (args m c).dwoRow (i 0) (i 1) R

theorem final_dwo : (dats m 0 c).arrAt 17 cfg0.N = res_dwo m c := by
  refine (dats m 0 c).arrAt_eq_of_covers 17 (res_dwo m c) (by decide +kernel) fun t hf y => ?_
  have e0 : (((cfg0.win 17).blk t).view.emb y 0).val = (y 0).val := by blk_simp [index_17]
  have e1 : (((cfg0.win 17).blk t).view.emb y 1).val = (y 1).val := by blk_simp [index_17]
  have hr : ∀ (p : Fin 1024) (q : Fin 1024) (i : (⟨2, ![1024, 1024]⟩ : Shape).Idx), (i 0).val = p.val → (i 1).val = q.val →
      at_dwo m c t (ix2 p q) = res_dwo m c i := fun p q i h0 h1 => by
    rw [point_dwo m c t ((flush0_17 t).mp hf)]; unfold res_dwo
    rw [show i 0 = p from Fin.ext h0, show i 1 = q from Fin.ext h1]
  refine Eq.trans ?_ (hr (y 0) (y 1) _ e0 e1)
  rw [after_17]
  refine (cast_eq _ _).trans ?_
  exact congrArg (at_dwo m c t) (eq_ix2 _)

/-- What a tile adds to `dgf`. -/
def tile_dgf (t : ℕ) (p : Fin 1) (q : Fin 1024) : EReal :=
  ∑ r : Fin 512, Sums.ext ((args m c).dgfRow q) (512 * t + r.val)

theorem tile_dgf_eq (t : Fin cfg0.N) (p : Fin 1) (q : Fin 1024) :
    tile_dgf m c t.val p q = ∑ r : Fin 512, (argsOf (ins m c t)).dgfRow q r := by
  unfold tile_dgf
  refine Finset.sum_congr rfl fun r _ => ?_
  exact (Sums.ext_of_lt _ (rowOf t r).isLt).trans ((tile_sub m c t).dgfRow_eq q r).symm

theorem first_dgf (t : Fin cfg0.N) (h0 : t.val % 16 = 0) (p : Fin 1) (q : Fin 1024) :
    at_dgf m c t (ix2 p q) = (0 : EReal) + tile_dgf m c t.val p q := by
  have H : (grid0.coords t 0).val = 0 := by rw [coords_val]; have := t.isLt; have hN : cfg0.N = 16 := N_0; omega
  rw [tile_dgf_eq]
  exact (body_dgf_first c (bufs t) (whole t) (ins m c t) (grid0.coords t) (prevAt m c t.val t.isLt) H p q)

theorem next_dgf (t : Fin cfg0.N) (h0 : ¬t.val % 16 = 0) (p : Fin 1) (q : Fin 1024) :
    at_dgf m c t (ix2 p q)
      = (at_dgf m c ⟨t.val - 1, Nat.lt_of_le_of_lt (Nat.sub_le _ _) t.isLt⟩ (ix2 p q) : EReal) + tile_dgf m c t.val p q := by
  have H : (grid0.coords t 0).val ≠ 0 := by rw [coords_val]; omega
  have e : (prevAt m c t.val t.isLt).dgf = at_dgf m c ⟨t.val - 1, Nat.lt_of_le_of_lt (Nat.sub_le _ _) t.isLt⟩ := by
    rw [prevAt_pos m c t (by omega)]; exact accsAt_dgf m c _ _
  rw [tile_dgf_eq, ← e]
  exact (body_dgf_later c (bufs t) (whole t) (ins m c t) (grid0.coords t) (prevAt m c t.val t.isLt) H p q)

theorem point_dgf (t : Fin cfg0.N) (ht : t.val % 16 = 15) (p : Fin 1) (q : Fin 1024) : at_dgf m c t (ix2 p q) = ∑ R : Fin 8192, (args m c).dgfRow q R := by
  have h := Pipeline.eq_sum_of_reset_step_apply_single_of_mod (M := EReal)
    (fun n (hn : n < cfg0.N) (j : Fin 1 × Fin 1024) => at_dgf m c ⟨n, hn⟩ (ix2 j.1 j.2)) 16 (fun _ => 0)
    (fun n j => tile_dgf m c n j.1 j.2)
    (fun t h0 j => first_dgf m c t h0 j.1 j.2) (fun t h0 j => next_dgf m c t h0 j.1 j.2) (Nat.le_of_eq N_0) t ht (p, q)
  refine h.trans ?_
  rw [zero_add, Sums.tiles 16 512 rfl]
  rfl

/-- The array of `dgf`. -/
def res_dgf : Cert.Proj.Mat 1 1024 := fun i => ∑ R : Fin 8192, (args m c).dgfRow (i 1) R

theorem final_dgf : (dats m 0 c).arrAt 18 cfg0.N = res_dgf m c := by
  refine (dats m 0 c).arrAt_eq_of_covers 18 (res_dgf m c) (by decide +kernel) fun t hf y => ?_
  have e0 : (((cfg0.win 18).blk t).view.emb y 0).val = (y 0).val := by blk_simp [index_18]
  have e1 : (((cfg0.win 18).blk t).view.emb y 1).val = (y 1).val := by blk_simp [index_18]
  have hr : ∀ (p : Fin 1) (q : Fin 1024) (i : (⟨2, ![1, 1024]⟩ : Shape).Idx), (i 0).val = p.val → (i 1).val = q.val →
      at_dgf m c t (ix2 p q) = res_dgf m c i := fun p q i h0 h1 => by
    rw [point_dgf m c t ((flush0_18 t).mp hf)]; unfold res_dgf
    rw [show i 1 = q from Fin.ext h1]
  refine Eq.trans ?_ (hr (y 0) (y 1) _ e0 e1)
  rw [after_18]
  refine (cast_eq _ _).trans ?_
  exact congrArg (at_dgf m c t) (eq_ix2 _)

/-- What a tile adds to `loss`. -/
def tile_loss (t : ℕ) (p : Fin 1) (q : Fin 1024) : EReal :=
  Ideal.ofBits .f32 0x3A000000#32 * ∑ r : Fin 512, Sums.ext ((args m c).lossRow q) (512 * t + r.val)

theorem tile_loss_eq (t : Fin cfg0.N) (p : Fin 1) (q : Fin 1024) :
    tile_loss m c t.val p q = Ideal.ofBits .f32 0x3A000000#32 * ∑ r : Fin 512, (argsOf (ins m c t)).lossRow q r := by
  unfold tile_loss
  refine congrArg _ (Finset.sum_congr rfl fun r _ => ?_)
  exact (Sums.ext_of_lt _ (rowOf t r).isLt).trans ((tile_sub m c t).lossRow_eq q r).symm

theorem first_loss (t : Fin cfg0.N) (h0 : t.val % 16 = 0) (p : Fin 1) (q : Fin 1024) :
    at_loss m c t (ix2 p q) = (0 : EReal) + tile_loss m c t.val p q := by
  have H : (grid0.coords t 0).val = 0 := by rw [coords_val]; have := t.isLt; have hN : cfg0.N = 16 := N_0; omega
  rw [tile_loss_eq]
  exact (body_loss_first c (bufs t) (whole t) (ins m c t) (grid0.coords t) (prevAt m c t.val t.isLt) H p q)

theorem next_loss (t : Fin cfg0.N) (h0 : ¬t.val % 16 = 0) (p : Fin 1) (q : Fin 1024) :
    at_loss m c t (ix2 p q)
      = (at_loss m c ⟨t.val - 1, Nat.lt_of_le_of_lt (Nat.sub_le _ _) t.isLt⟩ (ix2 p q) : EReal) + tile_loss m c t.val p q := by
  have H : (grid0.coords t 0).val ≠ 0 := by rw [coords_val]; omega
  have e : (prevAt m c t.val t.isLt).loss = at_loss m c ⟨t.val - 1, Nat.lt_of_le_of_lt (Nat.sub_le _ _) t.isLt⟩ := by
    rw [prevAt_pos m c t (by omega)]; exact accsAt_loss m c _ _
  rw [tile_loss_eq, ← e]
  exact (body_loss_later c (bufs t) (whole t) (ins m c t) (grid0.coords t) (prevAt m c t.val t.isLt) H p q)

theorem point_loss (t : Fin cfg0.N) (ht : t.val % 16 = 15) (p : Fin 1) (q : Fin 1024) : at_loss m c t (ix2 p q) = ∑ t ∈ Finset.range 16, tile_loss m c t p q := by
  have h := Pipeline.eq_sum_of_reset_step_apply_single_of_mod (M := EReal)
    (fun n (hn : n < cfg0.N) (j : Fin 1 × Fin 1024) => at_loss m c ⟨n, hn⟩ (ix2 j.1 j.2)) 16 (fun _ => 0)
    (fun n j => tile_loss m c n j.1 j.2)
    (fun t h0 j => first_loss m c t h0 j.1 j.2) (fun t h0 j => next_loss m c t h0 j.1 j.2) (Nat.le_of_eq N_0) t ht (p, q)
  refine h.trans ?_
  rw [zero_add]

/-- The array of `loss`. -/
def res_loss : Cert.Proj.Mat 1 1024 := fun i => ∑ t ∈ Finset.range 16, tile_loss m c t (i 0) (i 1)

theorem final_loss : (dats m 0 c).arrAt 19 cfg0.N = res_loss m c := by
  refine (dats m 0 c).arrAt_eq_of_covers 19 (res_loss m c) (by decide +kernel) fun t hf y => ?_
  have e0 : (((cfg0.win 19).blk t).view.emb y 0).val = (y 0).val := by blk_simp [index_19]
  have e1 : (((cfg0.win 19).blk t).view.emb y 1).val = (y 1).val := by blk_simp [index_19]
  have hr : ∀ (p : Fin 1) (q : Fin 1024) (i : (⟨2, ![1, 1024]⟩ : Shape).Idx), (i 0).val = p.val → (i 1).val = q.val →
      at_loss m c t (ix2 p q) = res_loss m c i := fun p q i h0 h1 => by
    rw [point_loss m c t ((flush0_19 t).mp hf)]; unfold res_loss
    rw [show i 0 = p from Fin.ext h0, show i 1 = q from Fin.ext h1]
  refine Eq.trans ?_ (hr (y 0) (y 1) _ e0 e1)
  rw [after_19]
  refine (cast_eq _ _).trans ?_
  exact congrArg (at_loss m c t) (eq_ix2 _)

/-! ## The host's sum and the run -/

/-- The loss: the host's sum over the columns. -/
def res_total : Cert.Proj.Mat 1 1 := fun _ => ∑ q : Fin 1024, ∑ t ∈ Finset.range 16, tile_loss m c t 0 q

theorem total_eq : Pipeline.afterTail₀ cfgs (dats m) 0 (V0 m) [hostOps1] c main_v6 = res_total m c := by
  unfold Pipeline.afterTail₀
  have e : Pipeline.withArrays (cfgs 0).spec c (V0 m c) (fun w => (dats m 0 c).arrAt w (cfgs 0).N) (Proc.devRef .tc main_v4_9)
      = res_loss m c := (Pipeline.withArrays_arr spec0 (by decide +kernel) c (V0 m c) (fun w => (dats m 0 c).arrAt w cfg0.N) 19).trans (final_loss m c)
  generalize Pipeline.withArrays (cfgs 0).spec c (V0 m c) (fun w => (dats m 0 c).arrAt w (cfgs 0).N) = W at e ⊢
  funext i
  after_reads_at
  exact Finset.sum_congr rfl fun q _ => congrFun e (ix2 0 q)

variable (ρ : Dev nD → PrngReg)

/-- The program ends with the ten results and the arguments as they were. -/
theorem run_value : θ_run defs (onTc (τ := τ) (main (F := Ideal))) ⟨m, fun _ => 0, ρ⟩ fun r => ∀ c : Dev nD,
      r.2.mem ((c : Thread nD τ).loc main_v6) = res_total m c
      ∧ r.2.mem ((c : Thread nD τ).loc main_v4_0) = res_dh m c
      ∧ r.2.mem ((c : Thread nD τ).loc main_v4_1) = res_doa m c
      ∧ r.2.mem ((c : Thread nD τ).loc main_v4_2) = res_dob m c
      ∧ r.2.mem ((c : Thread nD τ).loc main_v4_3) = res_dga m c
      ∧ r.2.mem ((c : Thread nD τ).loc main_v4_4) = res_dgb m c
      ∧ r.2.mem ((c : Thread nD τ).loc main_v4_5) = res_dwa m c
      ∧ r.2.mem ((c : Thread nD τ).loc main_v4_6) = res_dwb m c
      ∧ r.2.mem ((c : Thread nD τ).loc main_v4_7) = res_dwo m c
      ∧ r.2.mem ((c : Thread nD τ).loc main_v4_8) = res_dgf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h.2 c).2 main_v6 (Pipeline.mem_restRefs_of main_v6 (by decide) (by decide))).trans (total_eq m c),
    ((h.2 c).1 10).trans (final_dh m c),
    ((h.2 c).1 11).trans (final_doa m c),
    ((h.2 c).1 12).trans (final_dob m c),
    ((h.2 c).1 13).trans (final_dga m c),
    ((h.2 c).1 14).trans (final_dgb m c),
    ((h.2 c).1 15).trans (final_dwa m c),
    ((h.2 c).1 16).trans (final_dwb m c),
    ((h.2 c).1 17).trans (final_dwo m c),
    ((h.2 c).1 18).trans (final_dgf m c),
    h.1.1 c⟩) (θ_run_and (frame_run m ρ) (run_main m ρ))

end Cert.KernelIdeal.Merge

end
-- ==== Proof.MergeClaim.lean ====
/- The merge of the branches and the loss: the kernel's ten results are the reference's. -/
module

public import proofs.«01_k».proof.Defs
public import proofs.«01_k».proof.Proof.MergeKernel
public import proofs.«01_k».proof.Proof.MergeReference

@[expose] public section

noncomputable section

namespace Cert.Merge

open Idealize.ShloMosaic Idealize.SL.Sem

/-- From memories that agree on the arguments, both programs end with the loss and its nine derivatives. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => KernelIdeal.Merge.res_total m c, fun c => KernelIdeal.Merge.res_dh m c, fun c => KernelIdeal.Merge.res_doa m c, fun c => KernelIdeal.Merge.res_dob m c, fun c => KernelIdeal.Merge.res_dga m c, fun c => KernelIdeal.Merge.res_dgb m c, fun c => KernelIdeal.Merge.res_dwa m c, fun c => KernelIdeal.Merge.res_dwb m c, fun c => KernelIdeal.Merge.res_dwo m c, fun c => KernelIdeal.Merge.res_dgf m c,
    KernelIdeal.Merge.run_value m ρ,
    (θ_run Cert.ReferenceIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩)
      (Cert.ReferenceIdeal.Value.run m' ρ')⟩
  · rw [Cert.ReferenceIdeal.Read.val_main_v99_eq]
    obtain ⟨h0, h1, h2, h3, h4, h5, h6, h7, h8, h9⟩ := hag c
    rw [h0, h1, h2, h3, h4, h5, h6, h7, h8, h9]
    funext i
    exact ReferenceIdeal.Merge.loss_tiles _ _ _ _ _ _ _ _ _ _ i
  · rw [Cert.ReferenceIdeal.Read.val_main_v100_eq]
    obtain ⟨h0, h1, h2, h3, h4, h5, h6, h7, h8, h9⟩ := hag c
    rw [h0, h1, h2, h3, h4, h5, h6, h7, h8, h9]
    exact ReferenceIdeal.Merge.dh_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v98_eq]
    obtain ⟨h0, h1, h2, h3, h4, h5, h6, h7, h8, h9⟩ := hag c
    rw [h0, h1, h2, h3, h4, h5, h6, h7, h8, h9]
    exact ReferenceIdeal.Merge.doa_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v97_eq]
    obtain ⟨h0, h1, h2, h3, h4, h5, h6, h7, h8, h9⟩ := hag c
    rw [h0, h1, h2, h3, h4, h5, h6, h7, h8, h9]
    exact ReferenceIdeal.Merge.dob_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v96_eq]
    obtain ⟨h0, h1, h2, h3, h4, h5, h6, h7, h8, h9⟩ := hag c
    rw [h0, h1, h2, h3, h4, h5, h6, h7, h8, h9]
    exact ReferenceIdeal.Merge.dga_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v95_eq]
    obtain ⟨h0, h1, h2, h3, h4, h5, h6, h7, h8, h9⟩ := hag c
    rw [h0, h1, h2, h3, h4, h5, h6, h7, h8, h9]
    exact ReferenceIdeal.Merge.dgb_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v93_eq]
    obtain ⟨h0, h1, h2, h3, h4, h5, h6, h7, h8, h9⟩ := hag c
    rw [h0, h1, h2, h3, h4, h5, h6, h7, h8, h9]
    exact ReferenceIdeal.Merge.dwa_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v90_eq]
    obtain ⟨h0, h1, h2, h3, h4, h5, h6, h7, h8, h9⟩ := hag c
    rw [h0, h1, h2, h3, h4, h5, h6, h7, h8, h9]
    exact ReferenceIdeal.Merge.dwb_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v81_eq]
    obtain ⟨h0, h1, h2, h3, h4, h5, h6, h7, h8, h9⟩ := hag c
    rw [h0, h1, h2, h3, h4, h5, h6, h7, h8, h9]
    exact ReferenceIdeal.Merge.dwo_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  · rw [Cert.ReferenceIdeal.Read.val_main_v101_eq]
    obtain ⟨h0, h1, h2, h3, h4, h5, h6, h7, h8, h9⟩ := hag c
    rw [h0, h1, h2, h3, h4, h5, h6, h7, h8, h9]
    exact ReferenceIdeal.Merge.dgf_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

end Cert.Merge

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.ProjClaim
public import proofs.«01_k».proof.Proof.BitsFrame
public import proofs.«01_k».proof.Proof.InClaim
public import proofs.«01_k».proof.Proof.AttnClaim
public import proofs.«01_k».proof.Proof.AdamClaim
public import proofs.«01_k».proof.Proof.SumClaim
public import proofs.«01_k».proof.Proof.MergeClaim
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The first reference runs, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2.2.2, sem_eq_zero_of_no_sems (by decide) r.2⟩)
    (Cert.ReferenceIdeal.Value.run (F := Ideal) m ρ)

/-- The second reference runs, and declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The third reference runs, and declares no semaphore. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2.2.2.2.2.2.2, sem_eq_zero_of_no_sems (by decide) r.2⟩)
    (Cert.Reference3Ideal.Value.run (F := Ideal) m ρ)

/-- The fourth reference runs, and declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The fifth reference runs, and declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

/-- The sixth reference runs, and declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Attn.pre_facts,
  fun m ρ _ => Cert.Kernel.Merge.frame_run m ρ,
  fun m ρ _ => Cert.KernelIdeal.Merge.frame_run m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  frame_reference5,
  fun m ρ _ => Cert.Kernel6.Gen.frame m ρ trivial,
  fun m ρ _ => Cert.Kernel6Ideal.Gen.frame m ρ trivial,
  frame_reference6,
  trivial, Cert.Merge.algebraic, trivial, Cert.Proj.algebraic,
  trivial, Cert.In.algebraic,
  IdealRules.named_const.statement Cert.Kernel4Ideal.κ "mask" .f32 0xF149F2CA#32 ⊥ rfl, Cert.Attn.algebraic,
  trivial, Cert.Adam.algebraic,
  trivial, Cert.Sum.algebraic⟩

end Cert.Proof

end
